-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S288x2x128 Cert.KernelIdeal.S288x1x128
  ∧ IdealRules.bf16_pair.PackStatement Cert.KernelIdeal.S4x128
  ∧ IdealRules.bf16_pair.Statement Cert.KernelIdeal.S4x2x128 Cert.KernelIdeal.S4x1x128
  ∧ IdealRules.bf16_pair.Statement Cert.KernelIdeal.S64x2x128 Cert.KernelIdeal.S64x1x128
  ∧ IdealRules.bf16_pair.Statement Cert.KernelIdeal.S128x128 Cert.KernelIdeal.S64x128

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S2x1024x512 : Shape := ⟨3, ![2, 1024, 512]⟩
abbrev S2x1024 : Shape := ⟨2, ![2, 1024]⟩
abbrev S2x256x8 : Shape := ⟨3, ![2, 256, 8]⟩
abbrev S8x512x640 : Shape := ⟨3, ![8, 512, 640]⟩
abbrev S640 : Shape := ⟨1, ![640]⟩
abbrev S_ : Shape := ⟨0, ![]⟩

class Facts : Prop where
  bcast_S_S2x256x8 : S_.BroadcastsInDim S2x256x8 (![] : Fin 0 → Fin S2x256x8.rank)

variable [Facts]

def fn {F : FTy → Type} [FloatOps F] (main_arg0 : FVec F S2x1024x512 .fp8e4m3) (main_arg1 : FVec F S2x1024 .f32) (main_arg2 : IVec S2x256x8 32) (main_arg3 : FVec F S8x512x640 .fp8e4m3) (main_arg4 : FVec F S640 .f32) (main_arg5 : FVec F S640 .f32) : IVec S2x256x8 1 :=
  let main_c : IVec S_ 32 := constantI S_ 32 4294967295#32
  let main_v0 : IVec S2x256x8 32 := broadcastInDim S2x256x8 ![] bcast_S_S2x256x8 main_c
  let main_v1 : IVec S2x256x8 1 := cmpi .sge main_arg2 main_v0
  let main_c_0 : IVec S_ 32 := constantI S_ 32 1024#32
  let main_v2 : IVec S2x256x8 32 := broadcastInDim S2x256x8 ![] bcast_S_S2x256x8 main_c_0
  let main_v3 : IVec S2x256x8 1 := cmpi .slt main_arg2 main_v2
  let main_v4 : IVec S2x256x8 1 := andi main_v1 main_v3
  main_v4
-- ==== Kernel.lean ====
abbrev S2x1024x512 : Shape := ⟨3, ![2, 1024, 512]⟩
abbrev S2x1024 : Shape := ⟨2, ![2, 1024]⟩
abbrev S2x256x8 : Shape := ⟨3, ![2, 256, 8]⟩
abbrev S8x512x640 : Shape := ⟨3, ![8, 512, 640]⟩
abbrev S640 : Shape := ⟨1, ![640]⟩
abbrev S2x8x256 : Shape := ⟨3, ![2, 8, 256]⟩
abbrev S2x256x640 : Shape := ⟨3, ![2, 256, 640]⟩
abbrev S2x256 : Shape := ⟨2, ![2, 256]⟩
abbrev S4104x128 : Shape := ⟨2, ![4104, 128]⟩
abbrev S288x128 : Shape := ⟨2, ![288, 128]⟩
abbrev S11 : Shape := ⟨1, ![11]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S1x512x640 : Shape := ⟨3, ![1, 512, 640]⟩
abbrev S512x640 : Shape := ⟨2, ![512, 640]⟩
abbrev S8x128 : Shape := ⟨2, ![8, 128]⟩
abbrev S1x128 : Shape := ⟨2, ![1, 128]⟩
abbrev S8x128x1 : Shape := ⟨3, ![8, 128, 1]⟩
abbrev S1x32x128 : Shape := ⟨3, ![1, 32, 128]⟩
abbrev S32x128 : Shape := ⟨2, ![32, 128]⟩
abbrev S1x640 : Shape := ⟨2, ![1, 640]⟩
abbrev S1x1x1 : Shape := ⟨3, ![1, 1, 1]⟩
abbrev S4x128 : Shape := ⟨2, ![4, 128]⟩
abbrev S64x128 : Shape := ⟨2, ![64, 128]⟩
abbrev S128x128 : Shape := ⟨2, ![128, 128]⟩
abbrev S128x512 : Shape := ⟨2, ![128, 512]⟩
abbrev S128x640 : Shape := ⟨2, ![128, 640]⟩
abbrev S128 : Shape := ⟨1, ![128]⟩
abbrev S128x1 : Shape := ⟨2, ![128, 1]⟩
abbrev S128x256 : Shape := ⟨2, ![128, 256]⟩
abbrev S1x128x640 : Shape := ⟨3, ![1, 128, 640]⟩

abbrev nBuf : Space → Nat
  | .hbm => 9
  | .vmem => 13
  | .smem => 1
  | _ => 0

abbrev bufTy : (tb : Table) → Fin (tcTables nBuf tb) → BufTy
  | .hbm, ⟨0, _⟩ => ⟨S2x1024x512, .fp8e4m3⟩
  | .hbm, ⟨1, _⟩ => ⟨S2x1024, .f32⟩
  | .hbm, ⟨2, _⟩ => ⟨S2x256x8, .i32⟩
  | .hbm, ⟨3, _⟩ => ⟨S8x512x640, .fp8e4m3⟩
  | .hbm, ⟨4, _⟩ => ⟨S640, .f32⟩
  | .hbm, ⟨5, _⟩ => ⟨S640, .f32⟩
  | .hbm, ⟨6, _⟩ => ⟨S2x8x256, .i32⟩
  | .hbm, ⟨7, _⟩ => ⟨S2x256x640, .fp8e4m3⟩
  | .hbm, ⟨8, _⟩ => ⟨S2x256, .f32⟩
  | .local _ .vmem, ⟨0, _⟩ => ⟨S2x1024, .f32⟩
  | .local _ .vmem, ⟨1, _⟩ => ⟨S640, .f32⟩
  | .local _ .vmem, ⟨2, _⟩ => ⟨S640, .f32⟩
  | .local _ .vmem, ⟨3, _⟩ => ⟨S2x256x640, .fp8e4m3⟩
  | .local _ .vmem, ⟨4, _⟩ => ⟨S2x256, .f32⟩
  | .local _ .vmem, ⟨5, _⟩ => ⟨S2x1024x512, .fp8e4m3⟩
  | .local _ .vmem, ⟨6, _⟩ => ⟨S8x512x640, .fp8e4m3⟩
  | .local _ .vmem, ⟨7, _⟩ => ⟨S4104x128, .f32⟩
  | .local _ .vmem, ⟨8, _⟩ => ⟨S4104x128, .f32⟩
  | .local _ .vmem, ⟨9, _⟩ => ⟨S288x128, .i32⟩
  | .local _ .vmem, ⟨10, _⟩ => ⟨S288x128, .i32⟩
  | .local _ .vmem, ⟨11, _⟩ => ⟨S288x128, .i32⟩
  | .local _ .vmem, ⟨12, _⟩ => ⟨S288x128, .i32⟩
  | .local _ .smem, ⟨0, _⟩ => ⟨S2x8x256, .i32⟩
  | _, _ => ⟨S2x1024x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [BitOps F]

abbrev grid0 : Pipeline.Grid := .none

@[reducible] def k0_t1_loop : Scf.Loop 32 :=
  let c0_i32_68 : BitVec 32 := 0#32
  let c32_i32 : BitVec 32 := 32#32
  let v73 : BitVec 32 := Scalar.addi c0_i32_68 c32_i32
  let c1_i32_69 : BitVec 32 := 1#32
  ⟨c0_i32_68, v73, c1_i32_69⟩
def k0_mult1 (k0_t1 : Fin k0_t1_loop.trips) : BitVec 32 :=
  let c0_i32_68 : BitVec 32 := 0#32
  let c1_i32_69 : BitVec 32 := 1#32
  let arg18 : BitVec 32 := Scf.iv c0_i32_68 c1_i32_69 k0_t1
  let c32_i32_724 : BitVec 32 := 32#32
  let v808 : BitVec 32 := Scalar.muli arg18 c32_i32_724
  v808
def k0_mult2 (k0_t1 : Fin k0_t1_loop.trips) : BitVec 32 :=
  let c0_i32_68 : BitVec 32 := 0#32
  let c1_i32_69 : BitVec 32 := 1#32
  let arg18 : BitVec 32 := Scf.iv c0_i32_68 c1_i32_69 k0_t1
  let c2_i32_725 : BitVec 32 := 2#32
  let v810 : BitVec 32 := Scalar.shrsi arg18 c2_i32_725
  let c128_i32 : BitVec 32 := 128#32
  let v811 : BitVec 32 := Scalar.muli v810 c128_i32
  v811
def k0_off1 (k0_t1 : Fin k0_t1_loop.trips) : Fin 2 → Nat :=
  let c0_726 : Index := 0#32
  let c0_i32_68 : BitVec 32 := 0#32
  let c1_i32_69 : BitVec 32 := 1#32
  let arg18 : BitVec 32 := Scf.iv c0_i32_68 c1_i32_69 k0_t1
  let c2_i32_725 : BitVec 32 := 2#32
  let v810 : BitVec 32 := Scalar.shrsi arg18 c2_i32_725
  let c128_i32 : BitVec 32 := 128#32
  let v811 : BitVec 32 := Scalar.muli v810 c128_i32
  let v812 : BitVec 32 := v811
  let v813 : Index := Scalar.indexCast v812
  ![0, v813.toNat]
def k0_off2 (k0_t1 : Fin k0_t1_loop.trips) : Fin 3 → Nat :=
  let c0_737 : Index := 0#32
  let c0_i32_68 : BitVec 32 := 0#32
  let c1_i32_69 : BitVec 32 := 1#32
  let arg18 : BitVec 32 := Scf.iv c0_i32_68 c1_i32_69 k0_t1
  let c32_i32_724 : BitVec 32 := 32#32
  let v808 : BitVec 32 := Scalar.muli arg18 c32_i32_724
  let v809 : BitVec 32 := v808
  let v867 : Index := Scalar.indexCast v809
  let c0_738 : Index := 0#32
  ![0, v867.toNat, 0]
def k0_off3 (k0_t1 : Fin k0_t1_loop.trips) (c0_i32_739 : BitVec 32) (c0_i32_742 : BitVec 32) : Fin 2 → Nat :=
  let c8_i32_741 : BitVec 32 := 8#32
  let c4_i32_740 : BitVec 32 := 4#32
  let c0_i32_68 : BitVec 32 := 0#32
  let c1_i32_69 : BitVec 32 := 1#32
  let arg18 : BitVec 32 := Scf.iv c0_i32_68 c1_i32_69 k0_t1
  let c32_i32_724 : BitVec 32 := 32#32
  let v808 : BitVec 32 := Scalar.muli arg18 c32_i32_724
  let v809 : BitVec 32 := v808
  let v871 : BitVec 32 := Scalar.addi v809 c0_i32_739
  let v872 : BitVec 32 := Scalar.muli c4_i32_740 v871
  let v873 : BitVec 32 := Scalar.addi c8_i32_741 v872
  let v874 : BitVec 32 := Scalar.addi v873 c0_i32_742
  let v877 : Index := Scalar.indexCast v874
  let c0_743 : Index := 0#32
  ![v877.toNat, 0]
def k0_off4 (k0_t1 : Fin k0_t1_loop.trips) : Fin 3 → Nat :=
  let c0_759 : Index := 0#32
  let c0_i32_68 : BitVec 32 := 0#32
  let c1_i32_69 : BitVec 32 := 1#32
  let arg18 : BitVec 32 := Scf.iv c0_i32_68 c1_i32_69 k0_t1
  let c32_i32_724 : BitVec 32 := 32#32
  let v808 : BitVec 32 := Scalar.muli arg18 c32_i32_724
  let v809 : BitVec 32 := v808
  let v911 : Index := Scalar.indexCast v809
  let c128_760 : Index := 128#32
  ![0, v911.toNat, 128]
def k0_off5 (k0_t1 : Fin k0_t1_loop.trips) : Fin 3 → Nat :=
  let c0_781 : Index := 0#32
  let c0_i32_68 : BitVec 32 := 0#32
  let c1_i32_69 : BitVec 32 := 1#32
  let arg18 : BitVec 32 := Scf.iv c0_i32_68 c1_i32_69 k0_t1
  let c32_i32_724 : BitVec 32 := 32#32
  let v808 : BitVec 32 := Scalar.muli arg18 c32_i32_724
  let v809 : BitVec 32 := v808
  let v955 : Index := Scalar.indexCast v809
  let c256 : Index := 256#32
  ![0, v955.toNat, 256]
def k0_off6 (k0_t1 : Fin k0_t1_loop.trips) : Fin 3 → Nat :=
  let c0_802 : Index := 0#32
  let c0_i32_68 : BitVec 32 := 0#32
  let c1_i32_69 : BitVec 32 := 1#32
  let arg18 : BitVec 32 := Scf.iv c0_i32_68 c1_i32_69 k0_t1
  let c32_i32_724 : BitVec 32 := 32#32
  let v808 : BitVec 32 := Scalar.muli arg18 c32_i32_724
  let v809 : BitVec 32 := v808
  let v999 : Index := Scalar.indexCast v809
  let c384 : Index := 384#32
  ![0, v999.toNat, 384]
@[reducible] def k0_t2_loop : Scf.Loop 32 :=
  let c0_i32_82 : BitVec 32 := 0#32
  let c32_i32_83 : BitVec 32 := 32#32
  let v87 : BitVec 32 := Scalar.addi c0_i32_82 c32_i32_83
  let c1_i32_84 : BitVec 32 := 1#32
  ⟨c0_i32_82, v87, c1_i32_84⟩
def k0_mult3 (k0_t2 : Fin k0_t2_loop.trips) : BitVec 32 :=
  let c0_i32_82 : BitVec 32 := 0#32
  let c1_i32_84 : BitVec 32 := 1#32
  let arg18 : BitVec 32 := Scf.iv c0_i32_82 c1_i32_84 k0_t2
  let c32_i32_724 : BitVec 32 := 32#32
  let v808 : BitVec 32 := Scalar.muli arg18 c32_i32_724
  v808
def k0_mult4 (k0_t2 : Fin k0_t2_loop.trips) : BitVec 32 :=
  let c0_i32_82 : BitVec 32 := 0#32
  let c1_i32_84 : BitVec 32 := 1#32
  let arg18 : BitVec 32 := Scf.iv c0_i32_82 c1_i32_84 k0_t2
  let c2_i32_725 : BitVec 32 := 2#32
  let v810 : BitVec 32 := Scalar.shrsi arg18 c2_i32_725
  let c128_i32 : BitVec 32 := 128#32
  let v811 : BitVec 32 := Scalar.muli v810 c128_i32
  v811
def k0_off7 (k0_t2 : Fin k0_t2_loop.trips) : Fin 2 → Nat :=
  let c1_726 : Index := 1#32
  let c0_i32_82 : BitVec 32 := 0#32
  let c1_i32_84 : BitVec 32 := 1#32
  let arg18 : BitVec 32 := Scf.iv c0_i32_82 c1_i32_84 k0_t2
  let c2_i32_725 : BitVec 32 := 2#32
  let v810 : BitVec 32 := Scalar.shrsi arg18 c2_i32_725
  let c128_i32 : BitVec 32 := 128#32
  let v811 : BitVec 32 := Scalar.muli v810 c128_i32
  let v812 : BitVec 32 := v811
  let v813 : Index := Scalar.indexCast v812
  ![1, v813.toNat]
def k0_off8 (k0_t2 : Fin k0_t2_loop.trips) : Fin 3 → Nat :=
  let c1_737 : Index := 1#32
  let c0_i32_82 : BitVec 32 := 0#32
  let c1_i32_84 : BitVec 32 := 1#32
  let arg18 : BitVec 32 := Scf.iv c0_i32_82 c1_i32_84 k0_t2
  let c32_i32_724 : BitVec 32 := 32#32
  let v808 : BitVec 32 := Scalar.muli arg18 c32_i32_724
  let v809 : BitVec 32 := v808
  let v867 : Index := Scalar.indexCast v809
  let c0_738 : Index := 0#32
  ![1, v867.toNat, 0]
def k0_off9 (k0_t2 : Fin k0_t2_loop.trips) (c0_i32_739 : BitVec 32) (c0_i32_742 : BitVec 32) : Fin 2 → Nat :=
  let c8_i32_741 : BitVec 32 := 8#32
  let c4_i32_740 : BitVec 32 := 4#32
  let c0_i32_82 : BitVec 32 := 0#32
  let c1_i32_84 : BitVec 32 := 1#32
  let arg18 : BitVec 32 := Scf.iv c0_i32_82 c1_i32_84 k0_t2
  let c32_i32_724 : BitVec 32 := 32#32
  let v808 : BitVec 32 := Scalar.muli arg18 c32_i32_724
  let v809 : BitVec 32 := v808
  let v871 : BitVec 32 := Scalar.addi v809 c0_i32_739
  let v872 : BitVec 32 := Scalar.muli c4_i32_740 v871
  let v873 : BitVec 32 := Scalar.addi c8_i32_741 v872
  let v874 : BitVec 32 := Scalar.addi v873 c0_i32_742
  let v877 : Index := Scalar.indexCast v874
  let c0_743 : Index := 0#32
  ![v877.toNat, 0]
def k0_off10 (k0_t2 : Fin k0_t2_loop.trips) : Fin 3 → Nat :=
  let c1_759 : Index := 1#32
  let c0_i32_82 : BitVec 32 := 0#32
  let c1_i32_84 : BitVec 32 := 1#32
  let arg18 : BitVec 32 := Scf.iv c0_i32_82 c1_i32_84 k0_t2
  let c32_i32_724 : BitVec 32 := 32#32
  let v808 : BitVec 32 := Scalar.muli arg18 c32_i32_724
  let v809 : BitVec 32 := v808
  let v911 : Index := Scalar.indexCast v809
  let c128_760 : Index := 128#32
  ![1, v911.toNat, 128]
def k0_off11 (k0_t2 : Fin k0_t2_loop.trips) : Fin 3 → Nat :=
  let c1_781 : Index := 1#32
  let c0_i32_82 : BitVec 32 := 0#32
  let c1_i32_84 : BitVec 32 := 1#32
  let arg18 : BitVec 32 := Scf.iv c0_i32_82 c1_i32_84 k0_t2
  let c32_i32_724 : BitVec 32 := 32#32
  let v808 : BitVec 32 := Scalar.muli arg18 c32_i32_724
  let v809 : BitVec 32 := v808
  let v955 : Index := Scalar.indexCast v809
  let c256 : Index := 256#32
  ![1, v955.toNat, 256]
def k0_off12 (k0_t2 : Fin k0_t2_loop.trips) : Fin 3 → Nat :=
  let c1_802 : Index := 1#32
  let c0_i32_82 : BitVec 32 := 0#32
  let c1_i32_84 : BitVec 32 := 1#32
  let arg18 : BitVec 32 := Scf.iv c0_i32_82 c1_i32_84 k0_t2
  let c32_i32_724 : BitVec 32 := 32#32
  let v808 : BitVec 32 := Scalar.muli arg18 c32_i32_724
  let v809 : BitVec 32 := v808
  let v999 : Index := Scalar.indexCast v809
  let c384 : Index := 384#32
  ![1, v999.toNat, 384]
@[reducible] def k0_t3_loop : Scf.Loop 32 :=
  let c0_i32_144 : BitVec 32 := 0#32
  let c64_i32 : BitVec 32 := 64#32
  let v140 : BitVec 32 := Scalar.addi c0_i32_144 c64_i32
  let c1_i32_145 : BitVec 32 := 1#32
  ⟨c0_i32_144, v140, c1_i32_145⟩
def k0_off13 (k0_t3 : Fin k0_t3_loop.trips) : Fin 3 → Nat :=
  let c0_727 : Index := 0#32
  let c0_728 : Index := 0#32
  let c0_i32_725 : BitVec 32 := 0#32
  let c2_i32_724 : BitVec 32 := 2#32
  let c0_i32_144 : BitVec 32 := 0#32
  let c1_i32_145 : BitVec 32 := 1#32
  let arg18 : BitVec 32 := Scf.iv c0_i32_144 c1_i32_145 k0_t3
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![0, 0, v811.toNat]
def k0_off14 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk1 (v812 : BitVec 32) : Prop :=
  (∀ a, (k0_off14 v812) a + S4x128.size a ≤ S4104x128.size a)
theorem k0_off14_inb : ∀ (v812 : BitVec 32) (k0_hw1 : k0_chk1 v812), ∀ a, (k0_off14 v812) a + S4x128.size a ≤ S4104x128.size a := fun v812 k0_hw1 => k0_hw1

def k0_off15 (k0_t3 : Fin k0_t3_loop.trips) : Fin 3 → Nat :=
  let c0_735 : Index := 0#32
  let c0_736 : Index := 0#32
  let c0_i32_733 : BitVec 32 := 0#32
  let c2_i32_732 : BitVec 32 := 2#32
  let c0_i32_144 : BitVec 32 := 0#32
  let c1_i32_145 : BitVec 32 := 1#32
  let arg18 : BitVec 32 := Scf.iv c0_i32_144 c1_i32_145 k0_t3
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![0, 0, v820.toNat]
def k0_off16 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk2 (v821 : BitVec 32) : Prop :=
  (∀ a, (k0_off16 v821) a + S4x128.size a ≤ S4104x128.size a)
theorem k0_off16_inb : ∀ (v821 : BitVec 32) (k0_hw2 : k0_chk2 v821), ∀ a, (k0_off16 v821) a + S4x128.size a ≤ S4104x128.size a := fun v821 k0_hw2 => k0_hw2

def k0_off17 (k0_t3 : Fin k0_t3_loop.trips) : Fin 2 → Nat :=
  let c0_i32_144 : BitVec 32 := 0#32
  let c1_i32_145 : BitVec 32 := 1#32
  let arg18 : BitVec 32 := Scf.iv c0_i32_144 c1_i32_145 k0_t3
  let v827 : Index := Scalar.indexCast arg18
  let c0_740 : Index := 0#32
  ![v827.toNat, 0]
@[reducible] def k0_t4_loop : Scf.Loop 32 :=
  let c0_i32_156 : BitVec 32 := 0#32
  let c64_i32_157 : BitVec 32 := 64#32
  let v153 : BitVec 32 := Scalar.addi c0_i32_156 c64_i32_157
  let c1_i32_158 : BitVec 32 := 1#32
  ⟨c0_i32_156, v153, c1_i32_158⟩
def k0_off18 (k0_t4 : Fin k0_t4_loop.trips) : Fin 3 → Nat :=
  let c0_727 : Index := 0#32
  let c1_728 : Index := 1#32
  let c0_i32_725 : BitVec 32 := 0#32
  let c2_i32_724 : BitVec 32 := 2#32
  let c0_i32_156 : BitVec 32 := 0#32
  let c1_i32_158 : BitVec 32 := 1#32
  let arg18 : BitVec 32 := Scf.iv c0_i32_156 c1_i32_158 k0_t4
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![0, 1, v811.toNat]
def k0_off19 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk3 (v812 : BitVec 32) : Prop :=
  (∀ a, (k0_off19 v812) a + S4x128.size a ≤ S4104x128.size a)
theorem k0_off19_inb : ∀ (v812 : BitVec 32) (k0_hw3 : k0_chk3 v812), ∀ a, (k0_off19 v812) a + S4x128.size a ≤ S4104x128.size a := fun v812 k0_hw3 => k0_hw3

def k0_off20 (k0_t4 : Fin k0_t4_loop.trips) : Fin 3 → Nat :=
  let c0_735 : Index := 0#32
  let c1_736 : Index := 1#32
  let c0_i32_733 : BitVec 32 := 0#32
  let c2_i32_732 : BitVec 32 := 2#32
  let c0_i32_156 : BitVec 32 := 0#32
  let c1_i32_158 : BitVec 32 := 1#32
  let arg18 : BitVec 32 := Scf.iv c0_i32_156 c1_i32_158 k0_t4
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![0, 1, v820.toNat]
def k0_off21 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk4 (v821 : BitVec 32) : Prop :=
  (∀ a, (k0_off21 v821) a + S4x128.size a ≤ S4104x128.size a)
theorem k0_off21_inb : ∀ (v821 : BitVec 32) (k0_hw4 : k0_chk4 v821), ∀ a, (k0_off21 v821) a + S4x128.size a ≤ S4104x128.size a := fun v821 k0_hw4 => k0_hw4

def k0_off22 (k0_t4 : Fin k0_t4_loop.trips) : Fin 2 → Nat :=
  let c0_i32_156 : BitVec 32 := 0#32
  let c1_i32_158 : BitVec 32 := 1#32
  let arg18 : BitVec 32 := Scf.iv c0_i32_156 c1_i32_158 k0_t4
  let v827 : Index := Scalar.indexCast arg18
  let c0_740 : Index := 0#32
  ![v827.toNat, 0]
@[reducible] def k0_t5_loop : Scf.Loop 32 :=
  let c0_i32_171 : BitVec 32 := 0#32
  let c64_i32_172 : BitVec 32 := 64#32
  let v167 : BitVec 32 := Scalar.addi c0_i32_171 c64_i32_172
  let c1_i32_173 : BitVec 32 := 1#32
  ⟨c0_i32_171, v167, c1_i32_173⟩
def k0_off23 (k0_t5 : Fin k0_t5_loop.trips) : Fin 3 → Nat :=
  let c0_727 : Index := 0#32
  let c2_728 : Index := 2#32
  let c0_i32_725 : BitVec 32 := 0#32
  let c2_i32_724 : BitVec 32 := 2#32
  let c0_i32_171 : BitVec 32 := 0#32
  let c1_i32_173 : BitVec 32 := 1#32
  let arg18 : BitVec 32 := Scf.iv c0_i32_171 c1_i32_173 k0_t5
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![0, 2, v811.toNat]
def k0_off24 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk5 (v812 : BitVec 32) : Prop :=
  (∀ a, (k0_off24 v812) a + S4x128.size a ≤ S4104x128.size a)
theorem k0_off24_inb : ∀ (v812 : BitVec 32) (k0_hw5 : k0_chk5 v812), ∀ a, (k0_off24 v812) a + S4x128.size a ≤ S4104x128.size a := fun v812 k0_hw5 => k0_hw5

def k0_off25 (k0_t5 : Fin k0_t5_loop.trips) : Fin 3 → Nat :=
  let c0_735 : Index := 0#32
  let c2_736 : Index := 2#32
  let c0_i32_733 : BitVec 32 := 0#32
  let c2_i32_732 : BitVec 32 := 2#32
  let c0_i32_171 : BitVec 32 := 0#32
  let c1_i32_173 : BitVec 32 := 1#32
  let arg18 : BitVec 32 := Scf.iv c0_i32_171 c1_i32_173 k0_t5
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![0, 2, v820.toNat]
def k0_off26 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk6 (v821 : BitVec 32) : Prop :=
  (∀ a, (k0_off26 v821) a + S4x128.size a ≤ S4104x128.size a)
theorem k0_off26_inb : ∀ (v821 : BitVec 32) (k0_hw6 : k0_chk6 v821), ∀ a, (k0_off26 v821) a + S4x128.size a ≤ S4104x128.size a := fun v821 k0_hw6 => k0_hw6

def k0_off27 (k0_t5 : Fin k0_t5_loop.trips) : Fin 2 → Nat :=
  let c0_i32_171 : BitVec 32 := 0#32
  let c1_i32_173 : BitVec 32 := 1#32
  let arg18 : BitVec 32 := Scf.iv c0_i32_171 c1_i32_173 k0_t5
  let v827 : Index := Scalar.indexCast arg18
  let c0_740 : Index := 0#32
  ![v827.toNat, 0]
@[reducible] def k0_t6_loop : Scf.Loop 32 :=
  let c0_i32_186 : BitVec 32 := 0#32
  let c64_i32_187 : BitVec 32 := 64#32
  let v181 : BitVec 32 := Scalar.addi c0_i32_186 c64_i32_187
  let c1_i32_188 : BitVec 32 := 1#32
  ⟨c0_i32_186, v181, c1_i32_188⟩
def k0_off28 (k0_t6 : Fin k0_t6_loop.trips) : Fin 3 → Nat :=
  let c0_727 : Index := 0#32
  let c3_728 : Index := 3#32
  let c0_i32_725 : BitVec 32 := 0#32
  let c2_i32_724 : BitVec 32 := 2#32
  let c0_i32_186 : BitVec 32 := 0#32
  let c1_i32_188 : BitVec 32 := 1#32
  let arg18 : BitVec 32 := Scf.iv c0_i32_186 c1_i32_188 k0_t6
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![0, 3, v811.toNat]
def k0_off29 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk7 (v812 : BitVec 32) : Prop :=
  (∀ a, (k0_off29 v812) a + S4x128.size a ≤ S4104x128.size a)
theorem k0_off29_inb : ∀ (v812 : BitVec 32) (k0_hw7 : k0_chk7 v812), ∀ a, (k0_off29 v812) a + S4x128.size a ≤ S4104x128.size a := fun v812 k0_hw7 => k0_hw7

def k0_off30 (k0_t6 : Fin k0_t6_loop.trips) : Fin 3 → Nat :=
  let c0_735 : Index := 0#32
  let c3_736 : Index := 3#32
  let c0_i32_733 : BitVec 32 := 0#32
  let c2_i32_732 : BitVec 32 := 2#32
  let c0_i32_186 : BitVec 32 := 0#32
  let c1_i32_188 : BitVec 32 := 1#32
  let arg18 : BitVec 32 := Scf.iv c0_i32_186 c1_i32_188 k0_t6
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![0, 3, v820.toNat]
def k0_off31 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk8 (v821 : BitVec 32) : Prop :=
  (∀ a, (k0_off31 v821) a + S4x128.size a ≤ S4104x128.size a)
theorem k0_off31_inb : ∀ (v821 : BitVec 32) (k0_hw8 : k0_chk8 v821), ∀ a, (k0_off31 v821) a + S4x128.size a ≤ S4104x128.size a := fun v821 k0_hw8 => k0_hw8

def k0_off32 (k0_t6 : Fin k0_t6_loop.trips) : Fin 2 → Nat :=
  let c0_i32_186 : BitVec 32 := 0#32
  let c1_i32_188 : BitVec 32 := 1#32
  let arg18 : BitVec 32 := Scf.iv c0_i32_186 c1_i32_188 k0_t6
  let v827 : Index := Scalar.indexCast arg18
  let c0_740 : Index := 0#32
  ![v827.toNat, 0]
@[reducible] def k0_t7_loop : Scf.Loop 32 :=
  let c0_i32_201 : BitVec 32 := 0#32
  let c64_i32_202 : BitVec 32 := 64#32
  let v195 : BitVec 32 := Scalar.addi c0_i32_201 c64_i32_202
  let c1_i32_203 : BitVec 32 := 1#32
  ⟨c0_i32_201, v195, c1_i32_203⟩
def k0_off33 (k0_t7 : Fin k0_t7_loop.trips) : Fin 3 → Nat :=
  let c0_727 : Index := 0#32
  let c4_728 : Index := 4#32
  let c0_i32_725 : BitVec 32 := 0#32
  let c2_i32_724 : BitVec 32 := 2#32
  let c0_i32_201 : BitVec 32 := 0#32
  let c1_i32_203 : BitVec 32 := 1#32
  let arg18 : BitVec 32 := Scf.iv c0_i32_201 c1_i32_203 k0_t7
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![0, 4, v811.toNat]
def k0_off34 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk9 (v812 : BitVec 32) : Prop :=
  (∀ a, (k0_off34 v812) a + S4x128.size a ≤ S4104x128.size a)
theorem k0_off34_inb : ∀ (v812 : BitVec 32) (k0_hw9 : k0_chk9 v812), ∀ a, (k0_off34 v812) a + S4x128.size a ≤ S4104x128.size a := fun v812 k0_hw9 => k0_hw9

def k0_off35 (k0_t7 : Fin k0_t7_loop.trips) : Fin 3 → Nat :=
  let c0_735 : Index := 0#32
  let c4_736 : Index := 4#32
  let c0_i32_733 : BitVec 32 := 0#32
  let c2_i32_732 : BitVec 32 := 2#32
  let c0_i32_201 : BitVec 32 := 0#32
  let c1_i32_203 : BitVec 32 := 1#32
  let arg18 : BitVec 32 := Scf.iv c0_i32_201 c1_i32_203 k0_t7
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![0, 4, v820.toNat]
def k0_off36 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk10 (v821 : BitVec 32) : Prop :=
  (∀ a, (k0_off36 v821) a + S4x128.size a ≤ S4104x128.size a)
theorem k0_off36_inb : ∀ (v821 : BitVec 32) (k0_hw10 : k0_chk10 v821), ∀ a, (k0_off36 v821) a + S4x128.size a ≤ S4104x128.size a := fun v821 k0_hw10 => k0_hw10

def k0_off37 (k0_t7 : Fin k0_t7_loop.trips) : Fin 2 → Nat :=
  let c0_i32_201 : BitVec 32 := 0#32
  let c1_i32_203 : BitVec 32 := 1#32
  let arg18 : BitVec 32 := Scf.iv c0_i32_201 c1_i32_203 k0_t7
  let v827 : Index := Scalar.indexCast arg18
  let c0_740 : Index := 0#32
  ![v827.toNat, 0]
@[reducible] def k0_t8_loop : Scf.Loop 32 :=
  let c0_i32_216 : BitVec 32 := 0#32
  let c64_i32_217 : BitVec 32 := 64#32
  let v209 : BitVec 32 := Scalar.addi c0_i32_216 c64_i32_217
  let c1_i32_218 : BitVec 32 := 1#32
  ⟨c0_i32_216, v209, c1_i32_218⟩
def k0_off38 (k0_t8 : Fin k0_t8_loop.trips) : Fin 3 → Nat :=
  let c0_727 : Index := 0#32
  let c5_728 : Index := 5#32
  let c0_i32_725 : BitVec 32 := 0#32
  let c2_i32_724 : BitVec 32 := 2#32
  let c0_i32_216 : BitVec 32 := 0#32
  let c1_i32_218 : BitVec 32 := 1#32
  let arg18 : BitVec 32 := Scf.iv c0_i32_216 c1_i32_218 k0_t8
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![0, 5, v811.toNat]
def k0_off39 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk11 (v812 : BitVec 32) : Prop :=
  (∀ a, (k0_off39 v812) a + S4x128.size a ≤ S4104x128.size a)
theorem k0_off39_inb : ∀ (v812 : BitVec 32) (k0_hw11 : k0_chk11 v812), ∀ a, (k0_off39 v812) a + S4x128.size a ≤ S4104x128.size a := fun v812 k0_hw11 => k0_hw11

def k0_off40 (k0_t8 : Fin k0_t8_loop.trips) : Fin 3 → Nat :=
  let c0_735 : Index := 0#32
  let c5_736 : Index := 5#32
  let c0_i32_733 : BitVec 32 := 0#32
  let c2_i32_732 : BitVec 32 := 2#32
  let c0_i32_216 : BitVec 32 := 0#32
  let c1_i32_218 : BitVec 32 := 1#32
  let arg18 : BitVec 32 := Scf.iv c0_i32_216 c1_i32_218 k0_t8
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![0, 5, v820.toNat]
def k0_off41 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk12 (v821 : BitVec 32) : Prop :=
  (∀ a, (k0_off41 v821) a + S4x128.size a ≤ S4104x128.size a)
theorem k0_off41_inb : ∀ (v821 : BitVec 32) (k0_hw12 : k0_chk12 v821), ∀ a, (k0_off41 v821) a + S4x128.size a ≤ S4104x128.size a := fun v821 k0_hw12 => k0_hw12

def k0_off42 (k0_t8 : Fin k0_t8_loop.trips) : Fin 2 → Nat :=
  let c0_i32_216 : BitVec 32 := 0#32
  let c1_i32_218 : BitVec 32 := 1#32
  let arg18 : BitVec 32 := Scf.iv c0_i32_216 c1_i32_218 k0_t8
  let v827 : Index := Scalar.indexCast arg18
  let c0_740 : Index := 0#32
  ![v827.toNat, 0]
@[reducible] def k0_t9_loop : Scf.Loop 32 :=
  let c0_i32_231 : BitVec 32 := 0#32
  let c64_i32_232 : BitVec 32 := 64#32
  let v223 : BitVec 32 := Scalar.addi c0_i32_231 c64_i32_232
  let c1_i32_233 : BitVec 32 := 1#32
  ⟨c0_i32_231, v223, c1_i32_233⟩
def k0_off43 (k0_t9 : Fin k0_t9_loop.trips) : Fin 3 → Nat :=
  let c0_727 : Index := 0#32
  let c6_728 : Index := 6#32
  let c0_i32_725 : BitVec 32 := 0#32
  let c2_i32_724 : BitVec 32 := 2#32
  let c0_i32_231 : BitVec 32 := 0#32
  let c1_i32_233 : BitVec 32 := 1#32
  let arg18 : BitVec 32 := Scf.iv c0_i32_231 c1_i32_233 k0_t9
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![0, 6, v811.toNat]
def k0_off44 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk13 (v812 : BitVec 32) : Prop :=
  (∀ a, (k0_off44 v812) a + S4x128.size a ≤ S4104x128.size a)
theorem k0_off44_inb : ∀ (v812 : BitVec 32) (k0_hw13 : k0_chk13 v812), ∀ a, (k0_off44 v812) a + S4x128.size a ≤ S4104x128.size a := fun v812 k0_hw13 => k0_hw13

def k0_off45 (k0_t9 : Fin k0_t9_loop.trips) : Fin 3 → Nat :=
  let c0_735 : Index := 0#32
  let c6_736 : Index := 6#32
  let c0_i32_733 : BitVec 32 := 0#32
  let c2_i32_732 : BitVec 32 := 2#32
  let c0_i32_231 : BitVec 32 := 0#32
  let c1_i32_233 : BitVec 32 := 1#32
  let arg18 : BitVec 32 := Scf.iv c0_i32_231 c1_i32_233 k0_t9
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![0, 6, v820.toNat]
def k0_off46 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk14 (v821 : BitVec 32) : Prop :=
  (∀ a, (k0_off46 v821) a + S4x128.size a ≤ S4104x128.size a)
theorem k0_off46_inb : ∀ (v821 : BitVec 32) (k0_hw14 : k0_chk14 v821), ∀ a, (k0_off46 v821) a + S4x128.size a ≤ S4104x128.size a := fun v821 k0_hw14 => k0_hw14

def k0_off47 (k0_t9 : Fin k0_t9_loop.trips) : Fin 2 → Nat :=
  let c0_i32_231 : BitVec 32 := 0#32
  let c1_i32_233 : BitVec 32 := 1#32
  let arg18 : BitVec 32 := Scf.iv c0_i32_231 c1_i32_233 k0_t9
  let v827 : Index := Scalar.indexCast arg18
  let c0_740 : Index := 0#32
  ![v827.toNat, 0]
@[reducible] def k0_t10_loop : Scf.Loop 32 :=
  let c0_i32_246 : BitVec 32 := 0#32
  let c64_i32_247 : BitVec 32 := 64#32
  let v237 : BitVec 32 := Scalar.addi c0_i32_246 c64_i32_247
  let c1_i32_248 : BitVec 32 := 1#32
  ⟨c0_i32_246, v237, c1_i32_248⟩
def k0_off48 (k0_t10 : Fin k0_t10_loop.trips) : Fin 3 → Nat :=
  let c0_727 : Index := 0#32
  let c7_728 : Index := 7#32
  let c0_i32_725 : BitVec 32 := 0#32
  let c2_i32_724 : BitVec 32 := 2#32
  let c0_i32_246 : BitVec 32 := 0#32
  let c1_i32_248 : BitVec 32 := 1#32
  let arg18 : BitVec 32 := Scf.iv c0_i32_246 c1_i32_248 k0_t10
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![0, 7, v811.toNat]
def k0_off49 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk15 (v812 : BitVec 32) : Prop :=
  (∀ a, (k0_off49 v812) a + S4x128.size a ≤ S4104x128.size a)
theorem k0_off49_inb : ∀ (v812 : BitVec 32) (k0_hw15 : k0_chk15 v812), ∀ a, (k0_off49 v812) a + S4x128.size a ≤ S4104x128.size a := fun v812 k0_hw15 => k0_hw15

def k0_off50 (k0_t10 : Fin k0_t10_loop.trips) : Fin 3 → Nat :=
  let c0_735 : Index := 0#32
  let c7_736 : Index := 7#32
  let c0_i32_733 : BitVec 32 := 0#32
  let c2_i32_732 : BitVec 32 := 2#32
  let c0_i32_246 : BitVec 32 := 0#32
  let c1_i32_248 : BitVec 32 := 1#32
  let arg18 : BitVec 32 := Scf.iv c0_i32_246 c1_i32_248 k0_t10
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![0, 7, v820.toNat]
def k0_off51 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk16 (v821 : BitVec 32) : Prop :=
  (∀ a, (k0_off51 v821) a + S4x128.size a ≤ S4104x128.size a)
theorem k0_off51_inb : ∀ (v821 : BitVec 32) (k0_hw16 : k0_chk16 v821), ∀ a, (k0_off51 v821) a + S4x128.size a ≤ S4104x128.size a := fun v821 k0_hw16 => k0_hw16

def k0_off52 (k0_t10 : Fin k0_t10_loop.trips) : Fin 2 → Nat :=
  let c0_i32_246 : BitVec 32 := 0#32
  let c1_i32_248 : BitVec 32 := 1#32
  let arg18 : BitVec 32 := Scf.iv c0_i32_246 c1_i32_248 k0_t10
  let v827 : Index := Scalar.indexCast arg18
  let c0_740 : Index := 0#32
  ![v827.toNat, 0]
@[reducible] def k0_t11_loop : Scf.Loop 32 :=
  let c0_i32_278 : BitVec 32 := 0#32
  let c64_i32_279 : BitVec 32 := 64#32
  let v307 : BitVec 32 := Scalar.addi c0_i32_278 c64_i32_279
  let c1_i32_280 : BitVec 32 := 1#32
  ⟨c0_i32_278, v307, c1_i32_280⟩
def k0_off53 (k0_t11 : Fin k0_t11_loop.trips) : Fin 3 → Nat :=
  let c0_726 : Index := 0#32
  let c0_727 : Index := 0#32
  let c128_i32 : BitVec 32 := 128#32
  let c2_i32_724 : BitVec 32 := 2#32
  let c0_i32_278 : BitVec 32 := 0#32
  let c1_i32_280 : BitVec 32 := 1#32
  let arg18 : BitVec 32 := Scf.iv c0_i32_278 c1_i32_280 k0_t11
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![0, 0, v811.toNat]
def k0_off54 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk17 (v812 : BitVec 32) : Prop :=
  (∀ a, (k0_off54 v812) a + S4x128.size a ≤ S4104x128.size a)
theorem k0_off54_inb : ∀ (v812 : BitVec 32) (k0_hw17 : k0_chk17 v812), ∀ a, (k0_off54 v812) a + S4x128.size a ≤ S4104x128.size a := fun v812 k0_hw17 => k0_hw17

def k0_off55 (k0_t11 : Fin k0_t11_loop.trips) : Fin 3 → Nat :=
  let c0_734 : Index := 0#32
  let c0_735 : Index := 0#32
  let c128_i32_732 : BitVec 32 := 128#32
  let c2_i32_731 : BitVec 32 := 2#32
  let c0_i32_278 : BitVec 32 := 0#32
  let c1_i32_280 : BitVec 32 := 1#32
  let arg18 : BitVec 32 := Scf.iv c0_i32_278 c1_i32_280 k0_t11
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![0, 0, v820.toNat]
def k0_off56 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk18 (v821 : BitVec 32) : Prop :=
  (∀ a, (k0_off56 v821) a + S4x128.size a ≤ S4104x128.size a)
theorem k0_off56_inb : ∀ (v821 : BitVec 32) (k0_hw18 : k0_chk18 v821), ∀ a, (k0_off56 v821) a + S4x128.size a ≤ S4104x128.size a := fun v821 k0_hw18 => k0_hw18

def k0_off57 (k0_t11 : Fin k0_t11_loop.trips) : Fin 2 → Nat :=
  let c0_i32_278 : BitVec 32 := 0#32
  let c1_i32_280 : BitVec 32 := 1#32
  let arg18 : BitVec 32 := Scf.iv c0_i32_278 c1_i32_280 k0_t11
  let v827 : Index := Scalar.indexCast arg18
  let c0_739 : Index := 0#32
  ![v827.toNat, 0]
@[reducible] def k0_t12_loop : Scf.Loop 32 :=
  let c0_i32_294 : BitVec 32 := 0#32
  let c64_i32_295 : BitVec 32 := 64#32
  let v320 : BitVec 32 := Scalar.addi c0_i32_294 c64_i32_295
  let c1_i32_296 : BitVec 32 := 1#32
  ⟨c0_i32_294, v320, c1_i32_296⟩
def k0_off58 (k0_t12 : Fin k0_t12_loop.trips) : Fin 3 → Nat :=
  let c0_726 : Index := 0#32
  let c1_727 : Index := 1#32
  let c128_i32 : BitVec 32 := 128#32
  let c2_i32_724 : BitVec 32 := 2#32
  let c0_i32_294 : BitVec 32 := 0#32
  let c1_i32_296 : BitVec 32 := 1#32
  let arg18 : BitVec 32 := Scf.iv c0_i32_294 c1_i32_296 k0_t12
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![0, 1, v811.toNat]
def k0_off59 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk19 (v812 : BitVec 32) : Prop :=
  (∀ a, (k0_off59 v812) a + S4x128.size a ≤ S4104x128.size a)
theorem k0_off59_inb : ∀ (v812 : BitVec 32) (k0_hw19 : k0_chk19 v812), ∀ a, (k0_off59 v812) a + S4x128.size a ≤ S4104x128.size a := fun v812 k0_hw19 => k0_hw19

def k0_off60 (k0_t12 : Fin k0_t12_loop.trips) : Fin 3 → Nat :=
  let c0_734 : Index := 0#32
  let c1_735 : Index := 1#32
  let c128_i32_732 : BitVec 32 := 128#32
  let c2_i32_731 : BitVec 32 := 2#32
  let c0_i32_294 : BitVec 32 := 0#32
  let c1_i32_296 : BitVec 32 := 1#32
  let arg18 : BitVec 32 := Scf.iv c0_i32_294 c1_i32_296 k0_t12
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![0, 1, v820.toNat]
def k0_off61 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk20 (v821 : BitVec 32) : Prop :=
  (∀ a, (k0_off61 v821) a + S4x128.size a ≤ S4104x128.size a)
theorem k0_off61_inb : ∀ (v821 : BitVec 32) (k0_hw20 : k0_chk20 v821), ∀ a, (k0_off61 v821) a + S4x128.size a ≤ S4104x128.size a := fun v821 k0_hw20 => k0_hw20

def k0_off62 (k0_t12 : Fin k0_t12_loop.trips) : Fin 2 → Nat :=
  let c0_i32_294 : BitVec 32 := 0#32
  let c1_i32_296 : BitVec 32 := 1#32
  let arg18 : BitVec 32 := Scf.iv c0_i32_294 c1_i32_296 k0_t12
  let v827 : Index := Scalar.indexCast arg18
  let c0_739 : Index := 0#32
  ![v827.toNat, 0]
@[reducible] def k0_t13_loop : Scf.Loop 32 :=
  let c0_i32_310 : BitVec 32 := 0#32
  let c64_i32_311 : BitVec 32 := 64#32
  let v334 : BitVec 32 := Scalar.addi c0_i32_310 c64_i32_311
  let c1_i32_312 : BitVec 32 := 1#32
  ⟨c0_i32_310, v334, c1_i32_312⟩
def k0_off63 (k0_t13 : Fin k0_t13_loop.trips) : Fin 3 → Nat :=
  let c0_726 : Index := 0#32
  let c2_727 : Index := 2#32
  let c128_i32 : BitVec 32 := 128#32
  let c2_i32_724 : BitVec 32 := 2#32
  let c0_i32_310 : BitVec 32 := 0#32
  let c1_i32_312 : BitVec 32 := 1#32
  let arg18 : BitVec 32 := Scf.iv c0_i32_310 c1_i32_312 k0_t13
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![0, 2, v811.toNat]
def k0_off64 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk21 (v812 : BitVec 32) : Prop :=
  (∀ a, (k0_off64 v812) a + S4x128.size a ≤ S4104x128.size a)
theorem k0_off64_inb : ∀ (v812 : BitVec 32) (k0_hw21 : k0_chk21 v812), ∀ a, (k0_off64 v812) a + S4x128.size a ≤ S4104x128.size a := fun v812 k0_hw21 => k0_hw21

def k0_off65 (k0_t13 : Fin k0_t13_loop.trips) : Fin 3 → Nat :=
  let c0_734 : Index := 0#32
  let c2_735 : Index := 2#32
  let c128_i32_732 : BitVec 32 := 128#32
  let c2_i32_731 : BitVec 32 := 2#32
  let c0_i32_310 : BitVec 32 := 0#32
  let c1_i32_312 : BitVec 32 := 1#32
  let arg18 : BitVec 32 := Scf.iv c0_i32_310 c1_i32_312 k0_t13
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![0, 2, v820.toNat]
def k0_off66 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk22 (v821 : BitVec 32) : Prop :=
  (∀ a, (k0_off66 v821) a + S4x128.size a ≤ S4104x128.size a)
theorem k0_off66_inb : ∀ (v821 : BitVec 32) (k0_hw22 : k0_chk22 v821), ∀ a, (k0_off66 v821) a + S4x128.size a ≤ S4104x128.size a := fun v821 k0_hw22 => k0_hw22

def k0_off67 (k0_t13 : Fin k0_t13_loop.trips) : Fin 2 → Nat :=
  let c0_i32_310 : BitVec 32 := 0#32
  let c1_i32_312 : BitVec 32 := 1#32
  let arg18 : BitVec 32 := Scf.iv c0_i32_310 c1_i32_312 k0_t13
  let v827 : Index := Scalar.indexCast arg18
  let c0_739 : Index := 0#32
  ![v827.toNat, 0]
@[reducible] def k0_t14_loop : Scf.Loop 32 :=
  let c0_i32_326 : BitVec 32 := 0#32
  let c64_i32_327 : BitVec 32 := 64#32
  let v348 : BitVec 32 := Scalar.addi c0_i32_326 c64_i32_327
  let c1_i32_328 : BitVec 32 := 1#32
  ⟨c0_i32_326, v348, c1_i32_328⟩
def k0_off68 (k0_t14 : Fin k0_t14_loop.trips) : Fin 3 → Nat :=
  let c0_726 : Index := 0#32
  let c3_727 : Index := 3#32
  let c128_i32 : BitVec 32 := 128#32
  let c2_i32_724 : BitVec 32 := 2#32
  let c0_i32_326 : BitVec 32 := 0#32
  let c1_i32_328 : BitVec 32 := 1#32
  let arg18 : BitVec 32 := Scf.iv c0_i32_326 c1_i32_328 k0_t14
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![0, 3, v811.toNat]
def k0_off69 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk23 (v812 : BitVec 32) : Prop :=
  (∀ a, (k0_off69 v812) a + S4x128.size a ≤ S4104x128.size a)
theorem k0_off69_inb : ∀ (v812 : BitVec 32) (k0_hw23 : k0_chk23 v812), ∀ a, (k0_off69 v812) a + S4x128.size a ≤ S4104x128.size a := fun v812 k0_hw23 => k0_hw23

def k0_off70 (k0_t14 : Fin k0_t14_loop.trips) : Fin 3 → Nat :=
  let c0_734 : Index := 0#32
  let c3_735 : Index := 3#32
  let c128_i32_732 : BitVec 32 := 128#32
  let c2_i32_731 : BitVec 32 := 2#32
  let c0_i32_326 : BitVec 32 := 0#32
  let c1_i32_328 : BitVec 32 := 1#32
  let arg18 : BitVec 32 := Scf.iv c0_i32_326 c1_i32_328 k0_t14
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![0, 3, v820.toNat]
def k0_off71 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk24 (v821 : BitVec 32) : Prop :=
  (∀ a, (k0_off71 v821) a + S4x128.size a ≤ S4104x128.size a)
theorem k0_off71_inb : ∀ (v821 : BitVec 32) (k0_hw24 : k0_chk24 v821), ∀ a, (k0_off71 v821) a + S4x128.size a ≤ S4104x128.size a := fun v821 k0_hw24 => k0_hw24

def k0_off72 (k0_t14 : Fin k0_t14_loop.trips) : Fin 2 → Nat :=
  let c0_i32_326 : BitVec 32 := 0#32
  let c1_i32_328 : BitVec 32 := 1#32
  let arg18 : BitVec 32 := Scf.iv c0_i32_326 c1_i32_328 k0_t14
  let v827 : Index := Scalar.indexCast arg18
  let c0_739 : Index := 0#32
  ![v827.toNat, 0]
@[reducible] def k0_t15_loop : Scf.Loop 32 :=
  let c0_i32_342 : BitVec 32 := 0#32
  let c64_i32_343 : BitVec 32 := 64#32
  let v362 : BitVec 32 := Scalar.addi c0_i32_342 c64_i32_343
  let c1_i32_344 : BitVec 32 := 1#32
  ⟨c0_i32_342, v362, c1_i32_344⟩
def k0_off73 (k0_t15 : Fin k0_t15_loop.trips) : Fin 3 → Nat :=
  let c0_726 : Index := 0#32
  let c4_727 : Index := 4#32
  let c128_i32 : BitVec 32 := 128#32
  let c2_i32_724 : BitVec 32 := 2#32
  let c0_i32_342 : BitVec 32 := 0#32
  let c1_i32_344 : BitVec 32 := 1#32
  let arg18 : BitVec 32 := Scf.iv c0_i32_342 c1_i32_344 k0_t15
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![0, 4, v811.toNat]
def k0_off74 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk25 (v812 : BitVec 32) : Prop :=
  (∀ a, (k0_off74 v812) a + S4x128.size a ≤ S4104x128.size a)
theorem k0_off74_inb : ∀ (v812 : BitVec 32) (k0_hw25 : k0_chk25 v812), ∀ a, (k0_off74 v812) a + S4x128.size a ≤ S4104x128.size a := fun v812 k0_hw25 => k0_hw25

def k0_off75 (k0_t15 : Fin k0_t15_loop.trips) : Fin 3 → Nat :=
  let c0_734 : Index := 0#32
  let c4_735 : Index := 4#32
  let c128_i32_732 : BitVec 32 := 128#32
  let c2_i32_731 : BitVec 32 := 2#32
  let c0_i32_342 : BitVec 32 := 0#32
  let c1_i32_344 : BitVec 32 := 1#32
  let arg18 : BitVec 32 := Scf.iv c0_i32_342 c1_i32_344 k0_t15
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![0, 4, v820.toNat]
def k0_off76 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk26 (v821 : BitVec 32) : Prop :=
  (∀ a, (k0_off76 v821) a + S4x128.size a ≤ S4104x128.size a)
theorem k0_off76_inb : ∀ (v821 : BitVec 32) (k0_hw26 : k0_chk26 v821), ∀ a, (k0_off76 v821) a + S4x128.size a ≤ S4104x128.size a := fun v821 k0_hw26 => k0_hw26

def k0_off77 (k0_t15 : Fin k0_t15_loop.trips) : Fin 2 → Nat :=
  let c0_i32_342 : BitVec 32 := 0#32
  let c1_i32_344 : BitVec 32 := 1#32
  let arg18 : BitVec 32 := Scf.iv c0_i32_342 c1_i32_344 k0_t15
  let v827 : Index := Scalar.indexCast arg18
  let c0_739 : Index := 0#32
  ![v827.toNat, 0]
@[reducible] def k0_t16_loop : Scf.Loop 32 :=
  let c0_i32_358 : BitVec 32 := 0#32
  let c64_i32_359 : BitVec 32 := 64#32
  let v376 : BitVec 32 := Scalar.addi c0_i32_358 c64_i32_359
  let c1_i32_360 : BitVec 32 := 1#32
  ⟨c0_i32_358, v376, c1_i32_360⟩
def k0_off78 (k0_t16 : Fin k0_t16_loop.trips) : Fin 3 → Nat :=
  let c0_726 : Index := 0#32
  let c5_727 : Index := 5#32
  let c128_i32 : BitVec 32 := 128#32
  let c2_i32_724 : BitVec 32 := 2#32
  let c0_i32_358 : BitVec 32 := 0#32
  let c1_i32_360 : BitVec 32 := 1#32
  let arg18 : BitVec 32 := Scf.iv c0_i32_358 c1_i32_360 k0_t16
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![0, 5, v811.toNat]
def k0_off79 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk27 (v812 : BitVec 32) : Prop :=
  (∀ a, (k0_off79 v812) a + S4x128.size a ≤ S4104x128.size a)
theorem k0_off79_inb : ∀ (v812 : BitVec 32) (k0_hw27 : k0_chk27 v812), ∀ a, (k0_off79 v812) a + S4x128.size a ≤ S4104x128.size a := fun v812 k0_hw27 => k0_hw27

def k0_off80 (k0_t16 : Fin k0_t16_loop.trips) : Fin 3 → Nat :=
  let c0_734 : Index := 0#32
  let c5_735 : Index := 5#32
  let c128_i32_732 : BitVec 32 := 128#32
  let c2_i32_731 : BitVec 32 := 2#32
  let c0_i32_358 : BitVec 32 := 0#32
  let c1_i32_360 : BitVec 32 := 1#32
  let arg18 : BitVec 32 := Scf.iv c0_i32_358 c1_i32_360 k0_t16
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![0, 5, v820.toNat]
def k0_off81 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk28 (v821 : BitVec 32) : Prop :=
  (∀ a, (k0_off81 v821) a + S4x128.size a ≤ S4104x128.size a)
theorem k0_off81_inb : ∀ (v821 : BitVec 32) (k0_hw28 : k0_chk28 v821), ∀ a, (k0_off81 v821) a + S4x128.size a ≤ S4104x128.size a := fun v821 k0_hw28 => k0_hw28

def k0_off82 (k0_t16 : Fin k0_t16_loop.trips) : Fin 2 → Nat :=
  let c0_i32_358 : BitVec 32 := 0#32
  let c1_i32_360 : BitVec 32 := 1#32
  let arg18 : BitVec 32 := Scf.iv c0_i32_358 c1_i32_360 k0_t16
  let v827 : Index := Scalar.indexCast arg18
  let c0_739 : Index := 0#32
  ![v827.toNat, 0]
@[reducible] def k0_t17_loop : Scf.Loop 32 :=
  let c0_i32_374 : BitVec 32 := 0#32
  let c64_i32_375 : BitVec 32 := 64#32
  let v390 : BitVec 32 := Scalar.addi c0_i32_374 c64_i32_375
  let c1_i32_376 : BitVec 32 := 1#32
  ⟨c0_i32_374, v390, c1_i32_376⟩
def k0_off83 (k0_t17 : Fin k0_t17_loop.trips) : Fin 3 → Nat :=
  let c0_726 : Index := 0#32
  let c6_727 : Index := 6#32
  let c128_i32 : BitVec 32 := 128#32
  let c2_i32_724 : BitVec 32 := 2#32
  let c0_i32_374 : BitVec 32 := 0#32
  let c1_i32_376 : BitVec 32 := 1#32
  let arg18 : BitVec 32 := Scf.iv c0_i32_374 c1_i32_376 k0_t17
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![0, 6, v811.toNat]
def k0_off84 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk29 (v812 : BitVec 32) : Prop :=
  (∀ a, (k0_off84 v812) a + S4x128.size a ≤ S4104x128.size a)
theorem k0_off84_inb : ∀ (v812 : BitVec 32) (k0_hw29 : k0_chk29 v812), ∀ a, (k0_off84 v812) a + S4x128.size a ≤ S4104x128.size a := fun v812 k0_hw29 => k0_hw29

def k0_off85 (k0_t17 : Fin k0_t17_loop.trips) : Fin 3 → Nat :=
  let c0_734 : Index := 0#32
  let c6_735 : Index := 6#32
  let c128_i32_732 : BitVec 32 := 128#32
  let c2_i32_731 : BitVec 32 := 2#32
  let c0_i32_374 : BitVec 32 := 0#32
  let c1_i32_376 : BitVec 32 := 1#32
  let arg18 : BitVec 32 := Scf.iv c0_i32_374 c1_i32_376 k0_t17
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![0, 6, v820.toNat]
def k0_off86 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk30 (v821 : BitVec 32) : Prop :=
  (∀ a, (k0_off86 v821) a + S4x128.size a ≤ S4104x128.size a)
theorem k0_off86_inb : ∀ (v821 : BitVec 32) (k0_hw30 : k0_chk30 v821), ∀ a, (k0_off86 v821) a + S4x128.size a ≤ S4104x128.size a := fun v821 k0_hw30 => k0_hw30

def k0_off87 (k0_t17 : Fin k0_t17_loop.trips) : Fin 2 → Nat :=
  let c0_i32_374 : BitVec 32 := 0#32
  let c1_i32_376 : BitVec 32 := 1#32
  let arg18 : BitVec 32 := Scf.iv c0_i32_374 c1_i32_376 k0_t17
  let v827 : Index := Scalar.indexCast arg18
  let c0_739 : Index := 0#32
  ![v827.toNat, 0]
@[reducible] def k0_t18_loop : Scf.Loop 32 :=
  let c0_i32_390 : BitVec 32 := 0#32
  let c64_i32_391 : BitVec 32 := 64#32
  let v404 : BitVec 32 := Scalar.addi c0_i32_390 c64_i32_391
  let c1_i32_392 : BitVec 32 := 1#32
  ⟨c0_i32_390, v404, c1_i32_392⟩
def k0_off88 (k0_t18 : Fin k0_t18_loop.trips) : Fin 3 → Nat :=
  let c0_726 : Index := 0#32
  let c7_727 : Index := 7#32
  let c128_i32 : BitVec 32 := 128#32
  let c2_i32_724 : BitVec 32 := 2#32
  let c0_i32_390 : BitVec 32 := 0#32
  let c1_i32_392 : BitVec 32 := 1#32
  let arg18 : BitVec 32 := Scf.iv c0_i32_390 c1_i32_392 k0_t18
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![0, 7, v811.toNat]
def k0_off89 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk31 (v812 : BitVec 32) : Prop :=
  (∀ a, (k0_off89 v812) a + S4x128.size a ≤ S4104x128.size a)
theorem k0_off89_inb : ∀ (v812 : BitVec 32) (k0_hw31 : k0_chk31 v812), ∀ a, (k0_off89 v812) a + S4x128.size a ≤ S4104x128.size a := fun v812 k0_hw31 => k0_hw31

def k0_off90 (k0_t18 : Fin k0_t18_loop.trips) : Fin 3 → Nat :=
  let c0_734 : Index := 0#32
  let c7_735 : Index := 7#32
  let c128_i32_732 : BitVec 32 := 128#32
  let c2_i32_731 : BitVec 32 := 2#32
  let c0_i32_390 : BitVec 32 := 0#32
  let c1_i32_392 : BitVec 32 := 1#32
  let arg18 : BitVec 32 := Scf.iv c0_i32_390 c1_i32_392 k0_t18
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![0, 7, v820.toNat]
def k0_off91 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk32 (v821 : BitVec 32) : Prop :=
  (∀ a, (k0_off91 v821) a + S4x128.size a ≤ S4104x128.size a)
theorem k0_off91_inb : ∀ (v821 : BitVec 32) (k0_hw32 : k0_chk32 v821), ∀ a, (k0_off91 v821) a + S4x128.size a ≤ S4104x128.size a := fun v821 k0_hw32 => k0_hw32

def k0_off92 (k0_t18 : Fin k0_t18_loop.trips) : Fin 2 → Nat :=
  let c0_i32_390 : BitVec 32 := 0#32
  let c1_i32_392 : BitVec 32 := 1#32
  let arg18 : BitVec 32 := Scf.iv c0_i32_390 c1_i32_392 k0_t18
  let v827 : Index := Scalar.indexCast arg18
  let c0_739 : Index := 0#32
  ![v827.toNat, 0]
@[reducible] def k0_t19_loop : Scf.Loop 32 :=
  let c0_i32_426 : BitVec 32 := 0#32
  let c64_i32_427 : BitVec 32 := 64#32
  let v474 : BitVec 32 := Scalar.addi c0_i32_426 c64_i32_427
  let c1_i32_428 : BitVec 32 := 1#32
  ⟨c0_i32_426, v474, c1_i32_428⟩
def k0_off93 (k0_t19 : Fin k0_t19_loop.trips) : Fin 3 → Nat :=
  let c1_727 : Index := 1#32
  let c0_728 : Index := 0#32
  let c0_i32_725 : BitVec 32 := 0#32
  let c2_i32_724 : BitVec 32 := 2#32
  let c0_i32_426 : BitVec 32 := 0#32
  let c1_i32_428 : BitVec 32 := 1#32
  let arg18 : BitVec 32 := Scf.iv c0_i32_426 c1_i32_428 k0_t19
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![1, 0, v811.toNat]
def k0_off94 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk33 (v812 : BitVec 32) : Prop :=
  (∀ a, (k0_off94 v812) a + S4x128.size a ≤ S4104x128.size a)
theorem k0_off94_inb : ∀ (v812 : BitVec 32) (k0_hw33 : k0_chk33 v812), ∀ a, (k0_off94 v812) a + S4x128.size a ≤ S4104x128.size a := fun v812 k0_hw33 => k0_hw33

def k0_off95 (k0_t19 : Fin k0_t19_loop.trips) : Fin 3 → Nat :=
  let c1_735 : Index := 1#32
  let c0_736 : Index := 0#32
  let c0_i32_733 : BitVec 32 := 0#32
  let c2_i32_732 : BitVec 32 := 2#32
  let c0_i32_426 : BitVec 32 := 0#32
  let c1_i32_428 : BitVec 32 := 1#32
  let arg18 : BitVec 32 := Scf.iv c0_i32_426 c1_i32_428 k0_t19
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![1, 0, v820.toNat]
def k0_off96 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk34 (v821 : BitVec 32) : Prop :=
  (∀ a, (k0_off96 v821) a + S4x128.size a ≤ S4104x128.size a)
theorem k0_off96_inb : ∀ (v821 : BitVec 32) (k0_hw34 : k0_chk34 v821), ∀ a, (k0_off96 v821) a + S4x128.size a ≤ S4104x128.size a := fun v821 k0_hw34 => k0_hw34

def k0_off97 (k0_t19 : Fin k0_t19_loop.trips) : Fin 2 → Nat :=
  let c0_i32_426 : BitVec 32 := 0#32
  let c1_i32_428 : BitVec 32 := 1#32
  let arg18 : BitVec 32 := Scf.iv c0_i32_426 c1_i32_428 k0_t19
  let v827 : Index := Scalar.indexCast arg18
  let c0_740 : Index := 0#32
  ![v827.toNat, 0]
@[reducible] def k0_t20_loop : Scf.Loop 32 :=
  let c0_i32_442 : BitVec 32 := 0#32
  let c64_i32_443 : BitVec 32 := 64#32
  let v487 : BitVec 32 := Scalar.addi c0_i32_442 c64_i32_443
  let c1_i32_444 : BitVec 32 := 1#32
  ⟨c0_i32_442, v487, c1_i32_444⟩
def k0_off98 (k0_t20 : Fin k0_t20_loop.trips) : Fin 3 → Nat :=
  let c1_727 : Index := 1#32
  let c1_728 : Index := 1#32
  let c0_i32_725 : BitVec 32 := 0#32
  let c2_i32_724 : BitVec 32 := 2#32
  let c0_i32_442 : BitVec 32 := 0#32
  let c1_i32_444 : BitVec 32 := 1#32
  let arg18 : BitVec 32 := Scf.iv c0_i32_442 c1_i32_444 k0_t20
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![1, 1, v811.toNat]
def k0_off99 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk35 (v812 : BitVec 32) : Prop :=
  (∀ a, (k0_off99 v812) a + S4x128.size a ≤ S4104x128.size a)
theorem k0_off99_inb : ∀ (v812 : BitVec 32) (k0_hw35 : k0_chk35 v812), ∀ a, (k0_off99 v812) a + S4x128.size a ≤ S4104x128.size a := fun v812 k0_hw35 => k0_hw35

def k0_off100 (k0_t20 : Fin k0_t20_loop.trips) : Fin 3 → Nat :=
  let c1_735 : Index := 1#32
  let c1_736 : Index := 1#32
  let c0_i32_733 : BitVec 32 := 0#32
  let c2_i32_732 : BitVec 32 := 2#32
  let c0_i32_442 : BitVec 32 := 0#32
  let c1_i32_444 : BitVec 32 := 1#32
  let arg18 : BitVec 32 := Scf.iv c0_i32_442 c1_i32_444 k0_t20
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![1, 1, v820.toNat]
def k0_off101 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk36 (v821 : BitVec 32) : Prop :=
  (∀ a, (k0_off101 v821) a + S4x128.size a ≤ S4104x128.size a)
theorem k0_off101_inb : ∀ (v821 : BitVec 32) (k0_hw36 : k0_chk36 v821), ∀ a, (k0_off101 v821) a + S4x128.size a ≤ S4104x128.size a := fun v821 k0_hw36 => k0_hw36

def k0_off102 (k0_t20 : Fin k0_t20_loop.trips) : Fin 2 → Nat :=
  let c0_i32_442 : BitVec 32 := 0#32
  let c1_i32_444 : BitVec 32 := 1#32
  let arg18 : BitVec 32 := Scf.iv c0_i32_442 c1_i32_444 k0_t20
  let v827 : Index := Scalar.indexCast arg18
  let c0_740 : Index := 0#32
  ![v827.toNat, 0]
@[reducible] def k0_t21_loop : Scf.Loop 32 :=
  let c0_i32_458 : BitVec 32 := 0#32
  let c64_i32_459 : BitVec 32 := 64#32
  let v501 : BitVec 32 := Scalar.addi c0_i32_458 c64_i32_459
  let c1_i32_460 : BitVec 32 := 1#32
  ⟨c0_i32_458, v501, c1_i32_460⟩
def k0_off103 (k0_t21 : Fin k0_t21_loop.trips) : Fin 3 → Nat :=
  let c1_727 : Index := 1#32
  let c2_728 : Index := 2#32
  let c0_i32_725 : BitVec 32 := 0#32
  let c2_i32_724 : BitVec 32 := 2#32
  let c0_i32_458 : BitVec 32 := 0#32
  let c1_i32_460 : BitVec 32 := 1#32
  let arg18 : BitVec 32 := Scf.iv c0_i32_458 c1_i32_460 k0_t21
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![1, 2, v811.toNat]
def k0_off104 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk37 (v812 : BitVec 32) : Prop :=
  (∀ a, (k0_off104 v812) a + S4x128.size a ≤ S4104x128.size a)
theorem k0_off104_inb : ∀ (v812 : BitVec 32) (k0_hw37 : k0_chk37 v812), ∀ a, (k0_off104 v812) a + S4x128.size a ≤ S4104x128.size a := fun v812 k0_hw37 => k0_hw37

def k0_off105 (k0_t21 : Fin k0_t21_loop.trips) : Fin 3 → Nat :=
  let c1_735 : Index := 1#32
  let c2_736 : Index := 2#32
  let c0_i32_733 : BitVec 32 := 0#32
  let c2_i32_732 : BitVec 32 := 2#32
  let c0_i32_458 : BitVec 32 := 0#32
  let c1_i32_460 : BitVec 32 := 1#32
  let arg18 : BitVec 32 := Scf.iv c0_i32_458 c1_i32_460 k0_t21
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![1, 2, v820.toNat]
def k0_off106 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk38 (v821 : BitVec 32) : Prop :=
  (∀ a, (k0_off106 v821) a + S4x128.size a ≤ S4104x128.size a)
theorem k0_off106_inb : ∀ (v821 : BitVec 32) (k0_hw38 : k0_chk38 v821), ∀ a, (k0_off106 v821) a + S4x128.size a ≤ S4104x128.size a := fun v821 k0_hw38 => k0_hw38

def k0_off107 (k0_t21 : Fin k0_t21_loop.trips) : Fin 2 → Nat :=
  let c0_i32_458 : BitVec 32 := 0#32
  let c1_i32_460 : BitVec 32 := 1#32
  let arg18 : BitVec 32 := Scf.iv c0_i32_458 c1_i32_460 k0_t21
  let v827 : Index := Scalar.indexCast arg18
  let c0_740 : Index := 0#32
  ![v827.toNat, 0]
@[reducible] def k0_t22_loop : Scf.Loop 32 :=
  let c0_i32_474 : BitVec 32 := 0#32
  let c64_i32_475 : BitVec 32 := 64#32
  let v515 : BitVec 32 := Scalar.addi c0_i32_474 c64_i32_475
  let c1_i32_476 : BitVec 32 := 1#32
  ⟨c0_i32_474, v515, c1_i32_476⟩
def k0_off108 (k0_t22 : Fin k0_t22_loop.trips) : Fin 3 → Nat :=
  let c1_727 : Index := 1#32
  let c3_728 : Index := 3#32
  let c0_i32_725 : BitVec 32 := 0#32
  let c2_i32_724 : BitVec 32 := 2#32
  let c0_i32_474 : BitVec 32 := 0#32
  let c1_i32_476 : BitVec 32 := 1#32
  let arg18 : BitVec 32 := Scf.iv c0_i32_474 c1_i32_476 k0_t22
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![1, 3, v811.toNat]
def k0_off109 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk39 (v812 : BitVec 32) : Prop :=
  (∀ a, (k0_off109 v812) a + S4x128.size a ≤ S4104x128.size a)
theorem k0_off109_inb : ∀ (v812 : BitVec 32) (k0_hw39 : k0_chk39 v812), ∀ a, (k0_off109 v812) a + S4x128.size a ≤ S4104x128.size a := fun v812 k0_hw39 => k0_hw39

def k0_off110 (k0_t22 : Fin k0_t22_loop.trips) : Fin 3 → Nat :=
  let c1_735 : Index := 1#32
  let c3_736 : Index := 3#32
  let c0_i32_733 : BitVec 32 := 0#32
  let c2_i32_732 : BitVec 32 := 2#32
  let c0_i32_474 : BitVec 32 := 0#32
  let c1_i32_476 : BitVec 32 := 1#32
  let arg18 : BitVec 32 := Scf.iv c0_i32_474 c1_i32_476 k0_t22
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![1, 3, v820.toNat]
def k0_off111 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk40 (v821 : BitVec 32) : Prop :=
  (∀ a, (k0_off111 v821) a + S4x128.size a ≤ S4104x128.size a)
theorem k0_off111_inb : ∀ (v821 : BitVec 32) (k0_hw40 : k0_chk40 v821), ∀ a, (k0_off111 v821) a + S4x128.size a ≤ S4104x128.size a := fun v821 k0_hw40 => k0_hw40

def k0_off112 (k0_t22 : Fin k0_t22_loop.trips) : Fin 2 → Nat :=
  let c0_i32_474 : BitVec 32 := 0#32
  let c1_i32_476 : BitVec 32 := 1#32
  let arg18 : BitVec 32 := Scf.iv c0_i32_474 c1_i32_476 k0_t22
  let v827 : Index := Scalar.indexCast arg18
  let c0_740 : Index := 0#32
  ![v827.toNat, 0]
@[reducible] def k0_t23_loop : Scf.Loop 32 :=
  let c0_i32_490 : BitVec 32 := 0#32
  let c64_i32_491 : BitVec 32 := 64#32
  let v529 : BitVec 32 := Scalar.addi c0_i32_490 c64_i32_491
  let c1_i32_492 : BitVec 32 := 1#32
  ⟨c0_i32_490, v529, c1_i32_492⟩
def k0_off113 (k0_t23 : Fin k0_t23_loop.trips) : Fin 3 → Nat :=
  let c1_727 : Index := 1#32
  let c4_728 : Index := 4#32
  let c0_i32_725 : BitVec 32 := 0#32
  let c2_i32_724 : BitVec 32 := 2#32
  let c0_i32_490 : BitVec 32 := 0#32
  let c1_i32_492 : BitVec 32 := 1#32
  let arg18 : BitVec 32 := Scf.iv c0_i32_490 c1_i32_492 k0_t23
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![1, 4, v811.toNat]
def k0_off114 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk41 (v812 : BitVec 32) : Prop :=
  (∀ a, (k0_off114 v812) a + S4x128.size a ≤ S4104x128.size a)
theorem k0_off114_inb : ∀ (v812 : BitVec 32) (k0_hw41 : k0_chk41 v812), ∀ a, (k0_off114 v812) a + S4x128.size a ≤ S4104x128.size a := fun v812 k0_hw41 => k0_hw41

def k0_off115 (k0_t23 : Fin k0_t23_loop.trips) : Fin 3 → Nat :=
  let c1_735 : Index := 1#32
  let c4_736 : Index := 4#32
  let c0_i32_733 : BitVec 32 := 0#32
  let c2_i32_732 : BitVec 32 := 2#32
  let c0_i32_490 : BitVec 32 := 0#32
  let c1_i32_492 : BitVec 32 := 1#32
  let arg18 : BitVec 32 := Scf.iv c0_i32_490 c1_i32_492 k0_t23
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![1, 4, v820.toNat]
def k0_off116 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk42 (v821 : BitVec 32) : Prop :=
  (∀ a, (k0_off116 v821) a + S4x128.size a ≤ S4104x128.size a)
theorem k0_off116_inb : ∀ (v821 : BitVec 32) (k0_hw42 : k0_chk42 v821), ∀ a, (k0_off116 v821) a + S4x128.size a ≤ S4104x128.size a := fun v821 k0_hw42 => k0_hw42

def k0_off117 (k0_t23 : Fin k0_t23_loop.trips) : Fin 2 → Nat :=
  let c0_i32_490 : BitVec 32 := 0#32
  let c1_i32_492 : BitVec 32 := 1#32
  let arg18 : BitVec 32 := Scf.iv c0_i32_490 c1_i32_492 k0_t23
  let v827 : Index := Scalar.indexCast arg18
  let c0_740 : Index := 0#32
  ![v827.toNat, 0]
@[reducible] def k0_t24_loop : Scf.Loop 32 :=
  let c0_i32_506 : BitVec 32 := 0#32
  let c64_i32_507 : BitVec 32 := 64#32
  let v543 : BitVec 32 := Scalar.addi c0_i32_506 c64_i32_507
  let c1_i32_508 : BitVec 32 := 1#32
  ⟨c0_i32_506, v543, c1_i32_508⟩
def k0_off118 (k0_t24 : Fin k0_t24_loop.trips) : Fin 3 → Nat :=
  let c1_727 : Index := 1#32
  let c5_728 : Index := 5#32
  let c0_i32_725 : BitVec 32 := 0#32
  let c2_i32_724 : BitVec 32 := 2#32
  let c0_i32_506 : BitVec 32 := 0#32
  let c1_i32_508 : BitVec 32 := 1#32
  let arg18 : BitVec 32 := Scf.iv c0_i32_506 c1_i32_508 k0_t24
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![1, 5, v811.toNat]
def k0_off119 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk43 (v812 : BitVec 32) : Prop :=
  (∀ a, (k0_off119 v812) a + S4x128.size a ≤ S4104x128.size a)
theorem k0_off119_inb : ∀ (v812 : BitVec 32) (k0_hw43 : k0_chk43 v812), ∀ a, (k0_off119 v812) a + S4x128.size a ≤ S4104x128.size a := fun v812 k0_hw43 => k0_hw43

def k0_off120 (k0_t24 : Fin k0_t24_loop.trips) : Fin 3 → Nat :=
  let c1_735 : Index := 1#32
  let c5_736 : Index := 5#32
  let c0_i32_733 : BitVec 32 := 0#32
  let c2_i32_732 : BitVec 32 := 2#32
  let c0_i32_506 : BitVec 32 := 0#32
  let c1_i32_508 : BitVec 32 := 1#32
  let arg18 : BitVec 32 := Scf.iv c0_i32_506 c1_i32_508 k0_t24
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![1, 5, v820.toNat]
def k0_off121 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk44 (v821 : BitVec 32) : Prop :=
  (∀ a, (k0_off121 v821) a + S4x128.size a ≤ S4104x128.size a)
theorem k0_off121_inb : ∀ (v821 : BitVec 32) (k0_hw44 : k0_chk44 v821), ∀ a, (k0_off121 v821) a + S4x128.size a ≤ S4104x128.size a := fun v821 k0_hw44 => k0_hw44

def k0_off122 (k0_t24 : Fin k0_t24_loop.trips) : Fin 2 → Nat :=
  let c0_i32_506 : BitVec 32 := 0#32
  let c1_i32_508 : BitVec 32 := 1#32
  let arg18 : BitVec 32 := Scf.iv c0_i32_506 c1_i32_508 k0_t24
  let v827 : Index := Scalar.indexCast arg18
  let c0_740 : Index := 0#32
  ![v827.toNat, 0]
@[reducible] def k0_t25_loop : Scf.Loop 32 :=
  let c0_i32_522 : BitVec 32 := 0#32
  let c64_i32_523 : BitVec 32 := 64#32
  let v557 : BitVec 32 := Scalar.addi c0_i32_522 c64_i32_523
  let c1_i32_524 : BitVec 32 := 1#32
  ⟨c0_i32_522, v557, c1_i32_524⟩
def k0_off123 (k0_t25 : Fin k0_t25_loop.trips) : Fin 3 → Nat :=
  let c1_727 : Index := 1#32
  let c6_728 : Index := 6#32
  let c0_i32_725 : BitVec 32 := 0#32
  let c2_i32_724 : BitVec 32 := 2#32
  let c0_i32_522 : BitVec 32 := 0#32
  let c1_i32_524 : BitVec 32 := 1#32
  let arg18 : BitVec 32 := Scf.iv c0_i32_522 c1_i32_524 k0_t25
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![1, 6, v811.toNat]
def k0_off124 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk45 (v812 : BitVec 32) : Prop :=
  (∀ a, (k0_off124 v812) a + S4x128.size a ≤ S4104x128.size a)
theorem k0_off124_inb : ∀ (v812 : BitVec 32) (k0_hw45 : k0_chk45 v812), ∀ a, (k0_off124 v812) a + S4x128.size a ≤ S4104x128.size a := fun v812 k0_hw45 => k0_hw45

def k0_off125 (k0_t25 : Fin k0_t25_loop.trips) : Fin 3 → Nat :=
  let c1_735 : Index := 1#32
  let c6_736 : Index := 6#32
  let c0_i32_733 : BitVec 32 := 0#32
  let c2_i32_732 : BitVec 32 := 2#32
  let c0_i32_522 : BitVec 32 := 0#32
  let c1_i32_524 : BitVec 32 := 1#32
  let arg18 : BitVec 32 := Scf.iv c0_i32_522 c1_i32_524 k0_t25
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![1, 6, v820.toNat]
def k0_off126 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk46 (v821 : BitVec 32) : Prop :=
  (∀ a, (k0_off126 v821) a + S4x128.size a ≤ S4104x128.size a)
theorem k0_off126_inb : ∀ (v821 : BitVec 32) (k0_hw46 : k0_chk46 v821), ∀ a, (k0_off126 v821) a + S4x128.size a ≤ S4104x128.size a := fun v821 k0_hw46 => k0_hw46

def k0_off127 (k0_t25 : Fin k0_t25_loop.trips) : Fin 2 → Nat :=
  let c0_i32_522 : BitVec 32 := 0#32
  let c1_i32_524 : BitVec 32 := 1#32
  let arg18 : BitVec 32 := Scf.iv c0_i32_522 c1_i32_524 k0_t25
  let v827 : Index := Scalar.indexCast arg18
  let c0_740 : Index := 0#32
  ![v827.toNat, 0]
@[reducible] def k0_t26_loop : Scf.Loop 32 :=
  let c0_i32_538 : BitVec 32 := 0#32
  let c64_i32_539 : BitVec 32 := 64#32
  let v571 : BitVec 32 := Scalar.addi c0_i32_538 c64_i32_539
  let c1_i32_540 : BitVec 32 := 1#32
  ⟨c0_i32_538, v571, c1_i32_540⟩
def k0_off128 (k0_t26 : Fin k0_t26_loop.trips) : Fin 3 → Nat :=
  let c1_727 : Index := 1#32
  let c7_728 : Index := 7#32
  let c0_i32_725 : BitVec 32 := 0#32
  let c2_i32_724 : BitVec 32 := 2#32
  let c0_i32_538 : BitVec 32 := 0#32
  let c1_i32_540 : BitVec 32 := 1#32
  let arg18 : BitVec 32 := Scf.iv c0_i32_538 c1_i32_540 k0_t26
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![1, 7, v811.toNat]
def k0_off129 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk47 (v812 : BitVec 32) : Prop :=
  (∀ a, (k0_off129 v812) a + S4x128.size a ≤ S4104x128.size a)
theorem k0_off129_inb : ∀ (v812 : BitVec 32) (k0_hw47 : k0_chk47 v812), ∀ a, (k0_off129 v812) a + S4x128.size a ≤ S4104x128.size a := fun v812 k0_hw47 => k0_hw47

def k0_off130 (k0_t26 : Fin k0_t26_loop.trips) : Fin 3 → Nat :=
  let c1_735 : Index := 1#32
  let c7_736 : Index := 7#32
  let c0_i32_733 : BitVec 32 := 0#32
  let c2_i32_732 : BitVec 32 := 2#32
  let c0_i32_538 : BitVec 32 := 0#32
  let c1_i32_540 : BitVec 32 := 1#32
  let arg18 : BitVec 32 := Scf.iv c0_i32_538 c1_i32_540 k0_t26
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![1, 7, v820.toNat]
def k0_off131 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk48 (v821 : BitVec 32) : Prop :=
  (∀ a, (k0_off131 v821) a + S4x128.size a ≤ S4104x128.size a)
theorem k0_off131_inb : ∀ (v821 : BitVec 32) (k0_hw48 : k0_chk48 v821), ∀ a, (k0_off131 v821) a + S4x128.size a ≤ S4104x128.size a := fun v821 k0_hw48 => k0_hw48

def k0_off132 (k0_t26 : Fin k0_t26_loop.trips) : Fin 2 → Nat :=
  let c0_i32_538 : BitVec 32 := 0#32
  let c1_i32_540 : BitVec 32 := 1#32
  let arg18 : BitVec 32 := Scf.iv c0_i32_538 c1_i32_540 k0_t26
  let v827 : Index := Scalar.indexCast arg18
  let c0_740 : Index := 0#32
  ![v827.toNat, 0]
@[reducible] def k0_t27_loop : Scf.Loop 32 :=
  let c0_i32_575 : BitVec 32 := 0#32
  let c64_i32_576 : BitVec 32 := 64#32
  let v641 : BitVec 32 := Scalar.addi c0_i32_575 c64_i32_576
  let c1_i32_577 : BitVec 32 := 1#32
  ⟨c0_i32_575, v641, c1_i32_577⟩
def k0_off133 (k0_t27 : Fin k0_t27_loop.trips) : Fin 3 → Nat :=
  let c1_726 : Index := 1#32
  let c0_727 : Index := 0#32
  let c128_i32 : BitVec 32 := 128#32
  let c2_i32_724 : BitVec 32 := 2#32
  let c0_i32_575 : BitVec 32 := 0#32
  let c1_i32_577 : BitVec 32 := 1#32
  let arg18 : BitVec 32 := Scf.iv c0_i32_575 c1_i32_577 k0_t27
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![1, 0, v811.toNat]
def k0_off134 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk49 (v812 : BitVec 32) : Prop :=
  (∀ a, (k0_off134 v812) a + S4x128.size a ≤ S4104x128.size a)
theorem k0_off134_inb : ∀ (v812 : BitVec 32) (k0_hw49 : k0_chk49 v812), ∀ a, (k0_off134 v812) a + S4x128.size a ≤ S4104x128.size a := fun v812 k0_hw49 => k0_hw49

def k0_off135 (k0_t27 : Fin k0_t27_loop.trips) : Fin 3 → Nat :=
  let c1_734 : Index := 1#32
  let c0_735 : Index := 0#32
  let c128_i32_732 : BitVec 32 := 128#32
  let c2_i32_731 : BitVec 32 := 2#32
  let c0_i32_575 : BitVec 32 := 0#32
  let c1_i32_577 : BitVec 32 := 1#32
  let arg18 : BitVec 32 := Scf.iv c0_i32_575 c1_i32_577 k0_t27
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![1, 0, v820.toNat]
def k0_off136 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk50 (v821 : BitVec 32) : Prop :=
  (∀ a, (k0_off136 v821) a + S4x128.size a ≤ S4104x128.size a)
theorem k0_off136_inb : ∀ (v821 : BitVec 32) (k0_hw50 : k0_chk50 v821), ∀ a, (k0_off136 v821) a + S4x128.size a ≤ S4104x128.size a := fun v821 k0_hw50 => k0_hw50

def k0_off137 (k0_t27 : Fin k0_t27_loop.trips) : Fin 2 → Nat :=
  let c0_i32_575 : BitVec 32 := 0#32
  let c1_i32_577 : BitVec 32 := 1#32
  let arg18 : BitVec 32 := Scf.iv c0_i32_575 c1_i32_577 k0_t27
  let v827 : Index := Scalar.indexCast arg18
  let c0_739 : Index := 0#32
  ![v827.toNat, 0]
@[reducible] def k0_t28_loop : Scf.Loop 32 :=
  let c0_i32_591 : BitVec 32 := 0#32
  let c64_i32_592 : BitVec 32 := 64#32
  let v654 : BitVec 32 := Scalar.addi c0_i32_591 c64_i32_592
  let c1_i32_593 : BitVec 32 := 1#32
  ⟨c0_i32_591, v654, c1_i32_593⟩
def k0_off138 (k0_t28 : Fin k0_t28_loop.trips) : Fin 3 → Nat :=
  let c1_726 : Index := 1#32
  let c1_727 : Index := 1#32
  let c128_i32 : BitVec 32 := 128#32
  let c2_i32_724 : BitVec 32 := 2#32
  let c0_i32_591 : BitVec 32 := 0#32
  let c1_i32_593 : BitVec 32 := 1#32
  let arg18 : BitVec 32 := Scf.iv c0_i32_591 c1_i32_593 k0_t28
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![1, 1, v811.toNat]
def k0_off139 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk51 (v812 : BitVec 32) : Prop :=
  (∀ a, (k0_off139 v812) a + S4x128.size a ≤ S4104x128.size a)
theorem k0_off139_inb : ∀ (v812 : BitVec 32) (k0_hw51 : k0_chk51 v812), ∀ a, (k0_off139 v812) a + S4x128.size a ≤ S4104x128.size a := fun v812 k0_hw51 => k0_hw51

def k0_off140 (k0_t28 : Fin k0_t28_loop.trips) : Fin 3 → Nat :=
  let c1_734 : Index := 1#32
  let c1_735 : Index := 1#32
  let c128_i32_732 : BitVec 32 := 128#32
  let c2_i32_731 : BitVec 32 := 2#32
  let c0_i32_591 : BitVec 32 := 0#32
  let c1_i32_593 : BitVec 32 := 1#32
  let arg18 : BitVec 32 := Scf.iv c0_i32_591 c1_i32_593 k0_t28
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![1, 1, v820.toNat]
def k0_off141 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk52 (v821 : BitVec 32) : Prop :=
  (∀ a, (k0_off141 v821) a + S4x128.size a ≤ S4104x128.size a)
theorem k0_off141_inb : ∀ (v821 : BitVec 32) (k0_hw52 : k0_chk52 v821), ∀ a, (k0_off141 v821) a + S4x128.size a ≤ S4104x128.size a := fun v821 k0_hw52 => k0_hw52

def k0_off142 (k0_t28 : Fin k0_t28_loop.trips) : Fin 2 → Nat :=
  let c0_i32_591 : BitVec 32 := 0#32
  let c1_i32_593 : BitVec 32 := 1#32
  let arg18 : BitVec 32 := Scf.iv c0_i32_591 c1_i32_593 k0_t28
  let v827 : Index := Scalar.indexCast arg18
  let c0_739 : Index := 0#32
  ![v827.toNat, 0]
@[reducible] def k0_t29_loop : Scf.Loop 32 :=
  let c0_i32_607 : BitVec 32 := 0#32
  let c64_i32_608 : BitVec 32 := 64#32
  let v668 : BitVec 32 := Scalar.addi c0_i32_607 c64_i32_608
  let c1_i32_609 : BitVec 32 := 1#32
  ⟨c0_i32_607, v668, c1_i32_609⟩
def k0_off143 (k0_t29 : Fin k0_t29_loop.trips) : Fin 3 → Nat :=
  let c1_726 : Index := 1#32
  let c2_727 : Index := 2#32
  let c128_i32 : BitVec 32 := 128#32
  let c2_i32_724 : BitVec 32 := 2#32
  let c0_i32_607 : BitVec 32 := 0#32
  let c1_i32_609 : BitVec 32 := 1#32
  let arg18 : BitVec 32 := Scf.iv c0_i32_607 c1_i32_609 k0_t29
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![1, 2, v811.toNat]
def k0_off144 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk53 (v812 : BitVec 32) : Prop :=
  (∀ a, (k0_off144 v812) a + S4x128.size a ≤ S4104x128.size a)
theorem k0_off144_inb : ∀ (v812 : BitVec 32) (k0_hw53 : k0_chk53 v812), ∀ a, (k0_off144 v812) a + S4x128.size a ≤ S4104x128.size a := fun v812 k0_hw53 => k0_hw53

def k0_off145 (k0_t29 : Fin k0_t29_loop.trips) : Fin 3 → Nat :=
  let c1_734 : Index := 1#32
  let c2_735 : Index := 2#32
  let c128_i32_732 : BitVec 32 := 128#32
  let c2_i32_731 : BitVec 32 := 2#32
  let c0_i32_607 : BitVec 32 := 0#32
  let c1_i32_609 : BitVec 32 := 1#32
  let arg18 : BitVec 32 := Scf.iv c0_i32_607 c1_i32_609 k0_t29
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![1, 2, v820.toNat]
def k0_off146 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk54 (v821 : BitVec 32) : Prop :=
  (∀ a, (k0_off146 v821) a + S4x128.size a ≤ S4104x128.size a)
theorem k0_off146_inb : ∀ (v821 : BitVec 32) (k0_hw54 : k0_chk54 v821), ∀ a, (k0_off146 v821) a + S4x128.size a ≤ S4104x128.size a := fun v821 k0_hw54 => k0_hw54

def k0_off147 (k0_t29 : Fin k0_t29_loop.trips) : Fin 2 → Nat :=
  let c0_i32_607 : BitVec 32 := 0#32
  let c1_i32_609 : BitVec 32 := 1#32
  let arg18 : BitVec 32 := Scf.iv c0_i32_607 c1_i32_609 k0_t29
  let v827 : Index := Scalar.indexCast arg18
  let c0_739 : Index := 0#32
  ![v827.toNat, 0]
@[reducible] def k0_t30_loop : Scf.Loop 32 :=
  let c0_i32_623 : BitVec 32 := 0#32
  let c64_i32_624 : BitVec 32 := 64#32
  let v682 : BitVec 32 := Scalar.addi c0_i32_623 c64_i32_624
  let c1_i32_625 : BitVec 32 := 1#32
  ⟨c0_i32_623, v682, c1_i32_625⟩
def k0_off148 (k0_t30 : Fin k0_t30_loop.trips) : Fin 3 → Nat :=
  let c1_726 : Index := 1#32
  let c3_727 : Index := 3#32
  let c128_i32 : BitVec 32 := 128#32
  let c2_i32_724 : BitVec 32 := 2#32
  let c0_i32_623 : BitVec 32 := 0#32
  let c1_i32_625 : BitVec 32 := 1#32
  let arg18 : BitVec 32 := Scf.iv c0_i32_623 c1_i32_625 k0_t30
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![1, 3, v811.toNat]
def k0_off149 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk55 (v812 : BitVec 32) : Prop :=
  (∀ a, (k0_off149 v812) a + S4x128.size a ≤ S4104x128.size a)
theorem k0_off149_inb : ∀ (v812 : BitVec 32) (k0_hw55 : k0_chk55 v812), ∀ a, (k0_off149 v812) a + S4x128.size a ≤ S4104x128.size a := fun v812 k0_hw55 => k0_hw55

def k0_off150 (k0_t30 : Fin k0_t30_loop.trips) : Fin 3 → Nat :=
  let c1_734 : Index := 1#32
  let c3_735 : Index := 3#32
  let c128_i32_732 : BitVec 32 := 128#32
  let c2_i32_731 : BitVec 32 := 2#32
  let c0_i32_623 : BitVec 32 := 0#32
  let c1_i32_625 : BitVec 32 := 1#32
  let arg18 : BitVec 32 := Scf.iv c0_i32_623 c1_i32_625 k0_t30
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![1, 3, v820.toNat]
def k0_off151 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk56 (v821 : BitVec 32) : Prop :=
  (∀ a, (k0_off151 v821) a + S4x128.size a ≤ S4104x128.size a)
theorem k0_off151_inb : ∀ (v821 : BitVec 32) (k0_hw56 : k0_chk56 v821), ∀ a, (k0_off151 v821) a + S4x128.size a ≤ S4104x128.size a := fun v821 k0_hw56 => k0_hw56

def k0_off152 (k0_t30 : Fin k0_t30_loop.trips) : Fin 2 → Nat :=
  let c0_i32_623 : BitVec 32 := 0#32
  let c1_i32_625 : BitVec 32 := 1#32
  let arg18 : BitVec 32 := Scf.iv c0_i32_623 c1_i32_625 k0_t30
  let v827 : Index := Scalar.indexCast arg18
  let c0_739 : Index := 0#32
  ![v827.toNat, 0]
@[reducible] def k0_t31_loop : Scf.Loop 32 :=
  let c0_i32_639 : BitVec 32 := 0#32
  let c64_i32_640 : BitVec 32 := 64#32
  let v696 : BitVec 32 := Scalar.addi c0_i32_639 c64_i32_640
  let c1_i32_641 : BitVec 32 := 1#32
  ⟨c0_i32_639, v696, c1_i32_641⟩
def k0_off153 (k0_t31 : Fin k0_t31_loop.trips) : Fin 3 → Nat :=
  let c1_726 : Index := 1#32
  let c4_727 : Index := 4#32
  let c128_i32 : BitVec 32 := 128#32
  let c2_i32_724 : BitVec 32 := 2#32
  let c0_i32_639 : BitVec 32 := 0#32
  let c1_i32_641 : BitVec 32 := 1#32
  let arg18 : BitVec 32 := Scf.iv c0_i32_639 c1_i32_641 k0_t31
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![1, 4, v811.toNat]
def k0_off154 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk57 (v812 : BitVec 32) : Prop :=
  (∀ a, (k0_off154 v812) a + S4x128.size a ≤ S4104x128.size a)
theorem k0_off154_inb : ∀ (v812 : BitVec 32) (k0_hw57 : k0_chk57 v812), ∀ a, (k0_off154 v812) a + S4x128.size a ≤ S4104x128.size a := fun v812 k0_hw57 => k0_hw57

def k0_off155 (k0_t31 : Fin k0_t31_loop.trips) : Fin 3 → Nat :=
  let c1_734 : Index := 1#32
  let c4_735 : Index := 4#32
  let c128_i32_732 : BitVec 32 := 128#32
  let c2_i32_731 : BitVec 32 := 2#32
  let c0_i32_639 : BitVec 32 := 0#32
  let c1_i32_641 : BitVec 32 := 1#32
  let arg18 : BitVec 32 := Scf.iv c0_i32_639 c1_i32_641 k0_t31
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![1, 4, v820.toNat]
def k0_off156 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk58 (v821 : BitVec 32) : Prop :=
  (∀ a, (k0_off156 v821) a + S4x128.size a ≤ S4104x128.size a)
theorem k0_off156_inb : ∀ (v821 : BitVec 32) (k0_hw58 : k0_chk58 v821), ∀ a, (k0_off156 v821) a + S4x128.size a ≤ S4104x128.size a := fun v821 k0_hw58 => k0_hw58

def k0_off157 (k0_t31 : Fin k0_t31_loop.trips) : Fin 2 → Nat :=
  let c0_i32_639 : BitVec 32 := 0#32
  let c1_i32_641 : BitVec 32 := 1#32
  let arg18 : BitVec 32 := Scf.iv c0_i32_639 c1_i32_641 k0_t31
  let v827 : Index := Scalar.indexCast arg18
  let c0_739 : Index := 0#32
  ![v827.toNat, 0]
@[reducible] def k0_t32_loop : Scf.Loop 32 :=
  let c0_i32_655 : BitVec 32 := 0#32
  let c64_i32_656 : BitVec 32 := 64#32
  let v710 : BitVec 32 := Scalar.addi c0_i32_655 c64_i32_656
  let c1_i32_657 : BitVec 32 := 1#32
  ⟨c0_i32_655, v710, c1_i32_657⟩
def k0_off158 (k0_t32 : Fin k0_t32_loop.trips) : Fin 3 → Nat :=
  let c1_726 : Index := 1#32
  let c5_727 : Index := 5#32
  let c128_i32 : BitVec 32 := 128#32
  let c2_i32_724 : BitVec 32 := 2#32
  let c0_i32_655 : BitVec 32 := 0#32
  let c1_i32_657 : BitVec 32 := 1#32
  let arg18 : BitVec 32 := Scf.iv c0_i32_655 c1_i32_657 k0_t32
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![1, 5, v811.toNat]
def k0_off159 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk59 (v812 : BitVec 32) : Prop :=
  (∀ a, (k0_off159 v812) a + S4x128.size a ≤ S4104x128.size a)
theorem k0_off159_inb : ∀ (v812 : BitVec 32) (k0_hw59 : k0_chk59 v812), ∀ a, (k0_off159 v812) a + S4x128.size a ≤ S4104x128.size a := fun v812 k0_hw59 => k0_hw59

def k0_off160 (k0_t32 : Fin k0_t32_loop.trips) : Fin 3 → Nat :=
  let c1_734 : Index := 1#32
  let c5_735 : Index := 5#32
  let c128_i32_732 : BitVec 32 := 128#32
  let c2_i32_731 : BitVec 32 := 2#32
  let c0_i32_655 : BitVec 32 := 0#32
  let c1_i32_657 : BitVec 32 := 1#32
  let arg18 : BitVec 32 := Scf.iv c0_i32_655 c1_i32_657 k0_t32
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![1, 5, v820.toNat]
def k0_off161 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk60 (v821 : BitVec 32) : Prop :=
  (∀ a, (k0_off161 v821) a + S4x128.size a ≤ S4104x128.size a)
theorem k0_off161_inb : ∀ (v821 : BitVec 32) (k0_hw60 : k0_chk60 v821), ∀ a, (k0_off161 v821) a + S4x128.size a ≤ S4104x128.size a := fun v821 k0_hw60 => k0_hw60

def k0_off162 (k0_t32 : Fin k0_t32_loop.trips) : Fin 2 → Nat :=
  let c0_i32_655 : BitVec 32 := 0#32
  let c1_i32_657 : BitVec 32 := 1#32
  let arg18 : BitVec 32 := Scf.iv c0_i32_655 c1_i32_657 k0_t32
  let v827 : Index := Scalar.indexCast arg18
  let c0_739 : Index := 0#32
  ![v827.toNat, 0]
@[reducible] def k0_t33_loop : Scf.Loop 32 :=
  let c0_i32_671 : BitVec 32 := 0#32
  let c64_i32_672 : BitVec 32 := 64#32
  let v724 : BitVec 32 := Scalar.addi c0_i32_671 c64_i32_672
  let c1_i32_673 : BitVec 32 := 1#32
  ⟨c0_i32_671, v724, c1_i32_673⟩
def k0_off163 (k0_t33 : Fin k0_t33_loop.trips) : Fin 3 → Nat :=
  let c1_726 : Index := 1#32
  let c6_727 : Index := 6#32
  let c128_i32 : BitVec 32 := 128#32
  let c2_i32_724 : BitVec 32 := 2#32
  let c0_i32_671 : BitVec 32 := 0#32
  let c1_i32_673 : BitVec 32 := 1#32
  let arg18 : BitVec 32 := Scf.iv c0_i32_671 c1_i32_673 k0_t33
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![1, 6, v811.toNat]
def k0_off164 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk61 (v812 : BitVec 32) : Prop :=
  (∀ a, (k0_off164 v812) a + S4x128.size a ≤ S4104x128.size a)
theorem k0_off164_inb : ∀ (v812 : BitVec 32) (k0_hw61 : k0_chk61 v812), ∀ a, (k0_off164 v812) a + S4x128.size a ≤ S4104x128.size a := fun v812 k0_hw61 => k0_hw61

def k0_off165 (k0_t33 : Fin k0_t33_loop.trips) : Fin 3 → Nat :=
  let c1_734 : Index := 1#32
  let c6_735 : Index := 6#32
  let c128_i32_732 : BitVec 32 := 128#32
  let c2_i32_731 : BitVec 32 := 2#32
  let c0_i32_671 : BitVec 32 := 0#32
  let c1_i32_673 : BitVec 32 := 1#32
  let arg18 : BitVec 32 := Scf.iv c0_i32_671 c1_i32_673 k0_t33
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![1, 6, v820.toNat]
def k0_off166 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk62 (v821 : BitVec 32) : Prop :=
  (∀ a, (k0_off166 v821) a + S4x128.size a ≤ S4104x128.size a)
theorem k0_off166_inb : ∀ (v821 : BitVec 32) (k0_hw62 : k0_chk62 v821), ∀ a, (k0_off166 v821) a + S4x128.size a ≤ S4104x128.size a := fun v821 k0_hw62 => k0_hw62

def k0_off167 (k0_t33 : Fin k0_t33_loop.trips) : Fin 2 → Nat :=
  let c0_i32_671 : BitVec 32 := 0#32
  let c1_i32_673 : BitVec 32 := 1#32
  let arg18 : BitVec 32 := Scf.iv c0_i32_671 c1_i32_673 k0_t33
  let v827 : Index := Scalar.indexCast arg18
  let c0_739 : Index := 0#32
  ![v827.toNat, 0]
@[reducible] def k0_t34_loop : Scf.Loop 32 :=
  let c0_i32_687 : BitVec 32 := 0#32
  let c64_i32_688 : BitVec 32 := 64#32
  let v738 : BitVec 32 := Scalar.addi c0_i32_687 c64_i32_688
  let c1_i32_689 : BitVec 32 := 1#32
  ⟨c0_i32_687, v738, c1_i32_689⟩
def k0_off168 (k0_t34 : Fin k0_t34_loop.trips) : Fin 3 → Nat :=
  let c1_726 : Index := 1#32
  let c7_727 : Index := 7#32
  let c128_i32 : BitVec 32 := 128#32
  let c2_i32_724 : BitVec 32 := 2#32
  let c0_i32_687 : BitVec 32 := 0#32
  let c1_i32_689 : BitVec 32 := 1#32
  let arg18 : BitVec 32 := Scf.iv c0_i32_687 c1_i32_689 k0_t34
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![1, 7, v811.toNat]
def k0_off169 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk63 (v812 : BitVec 32) : Prop :=
  (∀ a, (k0_off169 v812) a + S4x128.size a ≤ S4104x128.size a)
theorem k0_off169_inb : ∀ (v812 : BitVec 32) (k0_hw63 : k0_chk63 v812), ∀ a, (k0_off169 v812) a + S4x128.size a ≤ S4104x128.size a := fun v812 k0_hw63 => k0_hw63

def k0_off170 (k0_t34 : Fin k0_t34_loop.trips) : Fin 3 → Nat :=
  let c1_734 : Index := 1#32
  let c7_735 : Index := 7#32
  let c128_i32_732 : BitVec 32 := 128#32
  let c2_i32_731 : BitVec 32 := 2#32
  let c0_i32_687 : BitVec 32 := 0#32
  let c1_i32_689 : BitVec 32 := 1#32
  let arg18 : BitVec 32 := Scf.iv c0_i32_687 c1_i32_689 k0_t34
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![1, 7, v820.toNat]
def k0_off171 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk64 (v821 : BitVec 32) : Prop :=
  (∀ a, (k0_off171 v821) a + S4x128.size a ≤ S4104x128.size a)
theorem k0_off171_inb : ∀ (v821 : BitVec 32) (k0_hw64 : k0_chk64 v821), ∀ a, (k0_off171 v821) a + S4x128.size a ≤ S4104x128.size a := fun v821 k0_hw64 => k0_hw64

def k0_off172 (k0_t34 : Fin k0_t34_loop.trips) : Fin 2 → Nat :=
  let c0_i32_687 : BitVec 32 := 0#32
  let c1_i32_689 : BitVec 32 := 1#32
  let arg18 : BitVec 32 := Scf.iv c0_i32_687 c1_i32_689 k0_t34
  let v827 : Index := Scalar.indexCast arg18
  let c0_739 : Index := 0#32
  ![v827.toNat, 0]
abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x640 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
abbrev S2x1024x512 : Shape := ⟨3, ![2, 1024, 512]⟩
abbrev S2x1024 : Shape := ⟨2, ![2, 1024]⟩
abbrev S2x256x8 : Shape := ⟨3, ![2, 256, 8]⟩
abbrev S8x512x640 : Shape := ⟨3, ![8, 512, 640]⟩
abbrev S640 : Shape := ⟨1, ![640]⟩
abbrev S2x8x256 : Shape := ⟨3, ![2, 8, 256]⟩
abbrev S2x256x640 : Shape := ⟨3, ![2, 256, 640]⟩
abbrev S2x256 : Shape := ⟨2, ![2, 256]⟩
abbrev S4104x128 : Shape := ⟨2, ![4104, 128]⟩
abbrev S288x128 : Shape := ⟨2, ![288, 128]⟩
abbrev S288x2x128 : Shape := ⟨3, ![288, 2, 128]⟩
abbrev S288x1x128 : Shape := ⟨3, ![288, 1, 128]⟩
abbrev S11 : Shape := ⟨1, ![11]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S1x512x640 : Shape := ⟨3, ![1, 512, 640]⟩
abbrev S512x640 : Shape := ⟨2, ![512, 640]⟩
abbrev S8x128 : Shape := ⟨2, ![8, 128]⟩
abbrev S1x128 : Shape := ⟨2, ![1, 128]⟩
abbrev S8x128x1 : Shape := ⟨3, ![8, 128, 1]⟩
abbrev S1x32x128 : Shape := ⟨3, ![1, 32, 128]⟩
abbrev S32x128 : Shape := ⟨2, ![32, 128]⟩
abbrev S1x640 : Shape := ⟨2, ![1, 640]⟩
abbrev S1x1x1 : Shape := ⟨3, ![1, 1, 1]⟩
abbrev S4x128 : Shape := ⟨2, ![4, 128]⟩
abbrev S4x2x128 : Shape := ⟨3, ![4, 2, 128]⟩
abbrev S4x1x128 : Shape := ⟨3, ![4, 1, 128]⟩
abbrev S64x128 : Shape := ⟨2, ![64, 128]⟩
abbrev S64x2x128 : Shape := ⟨3, ![64, 2, 128]⟩
abbrev S64x1x128 : Shape := ⟨3, ![64, 1, 128]⟩
abbrev S128x128 : Shape := ⟨2, ![128, 128]⟩
abbrev S128x512 : Shape := ⟨2, ![128, 512]⟩
abbrev S128x640 : Shape := ⟨2, ![128, 640]⟩
abbrev S128 : Shape := ⟨1, ![128]⟩
abbrev S128x1 : Shape := ⟨2, ![128, 1]⟩
abbrev S128x256 : Shape := ⟨2, ![128, 256]⟩
abbrev S1x128x640 : Shape := ⟨3, ![1, 128, 640]⟩

abbrev nBuf : Space → Nat
  | .hbm => 9
  | .vmem => 13
  | .smem => 1
  | _ => 0

abbrev bufTy : (tb : Table) → Fin (tcTables nBuf tb) → BufTy
  | .hbm, ⟨0, _⟩ => ⟨S2x1024x512, .fp8e4m3⟩
  | .hbm, ⟨1, _⟩ => ⟨S2x1024, .f32⟩
  | .hbm, ⟨2, _⟩ => ⟨S2x256x8, .i32⟩
  | .hbm, ⟨3, _⟩ => ⟨S8x512x640, .fp8e4m3⟩
  | .hbm, ⟨4, _⟩ => ⟨S640, .f32⟩
  | .hbm, ⟨5, _⟩ => ⟨S640, .f32⟩
  | .hbm, ⟨6, _⟩ => ⟨S2x8x256, .i32⟩
  | .hbm, ⟨7, _⟩ => ⟨S2x256x640, .fp8e4m3⟩
  | .hbm, ⟨8, _⟩ => ⟨S2x256, .f32⟩
  | .local _ .vmem, ⟨0, _⟩ => ⟨S2x1024, .f32⟩
  | .local _ .vmem, ⟨1, _⟩ => ⟨S640, .f32⟩
  | .local _ .vmem, ⟨2, _⟩ => ⟨S640, .f32⟩
  | .local _ .vmem, ⟨3, _⟩ => ⟨S2x256x640, .fp8e4m3⟩
  | .local _ .vmem, ⟨4, _⟩ => ⟨S2x256, .f32⟩
  | .local _ .vmem, ⟨5, _⟩ => ⟨S2x1024x512, .fp8e4m3⟩
  | .local _ .vmem, ⟨6, _⟩ => ⟨S8x512x640, .fp8e4m3⟩
  | .local _ .vmem, ⟨7, _⟩ => ⟨S4104x128, .f32⟩
  | .local _ .vmem, ⟨8, _⟩ => ⟨S4104x128, .f32⟩
  | .local _ .vmem, ⟨9, _⟩ => ⟨S288x2x128, .bf16⟩
  | .local _ .vmem, ⟨10, _⟩ => ⟨S288x2x128, .bf16⟩
  | .local _ .vmem, ⟨11, _⟩ => ⟨S288x2x128, .bf16⟩
  | .local _ .vmem, ⟨12, _⟩ => ⟨S288x2x128, .bf16⟩
  | .local _ .smem, ⟨0, _⟩ => ⟨S2x8x256, .i32⟩
  | _, _ => ⟨S2x1024x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_68 : BitVec 32 := 0#32
  let c32_i32 : BitVec 32 := 32#32
  let v73 : BitVec 32 := Scalar.addi c0_i32_68 c32_i32
  let c1_i32_69 : BitVec 32 := 1#32
  ⟨c0_i32_68, v73, c1_i32_69⟩
def k0_mult1 (k0_t1 : Fin k0_t1_loop.trips) : BitVec 32 :=
  let c0_i32_68 : BitVec 32 := 0#32
  let c1_i32_69 : BitVec 32 := 1#32
  let arg18 : BitVec 32 := Scf.iv c0_i32_68 c1_i32_69 k0_t1
  let c32_i32_724 : BitVec 32 := 32#32
  let v808 : BitVec 32 := Scalar.muli arg18 c32_i32_724
  v808
def k0_mult2 (k0_t1 : Fin k0_t1_loop.trips) : BitVec 32 :=
  let c0_i32_68 : BitVec 32 := 0#32
  let c1_i32_69 : BitVec 32 := 1#32
  let arg18 : BitVec 32 := Scf.iv c0_i32_68 c1_i32_69 k0_t1
  let c2_i32_725 : BitVec 32 := 2#32
  let v810 : BitVec 32 := Scalar.shrsi arg18 c2_i32_725
  let c128_i32 : BitVec 32 := 128#32
  let v811 : BitVec 32 := Scalar.muli v810 c128_i32
  v811
def k0_off1 (k0_t1 : Fin k0_t1_loop.trips) : Fin 2 → Nat :=
  let c0_726 : Index := 0#32
  let c0_i32_68 : BitVec 32 := 0#32
  let c1_i32_69 : BitVec 32 := 1#32
  let arg18 : BitVec 32 := Scf.iv c0_i32_68 c1_i32_69 k0_t1
  let c2_i32_725 : BitVec 32 := 2#32
  let v810 : BitVec 32 := Scalar.shrsi arg18 c2_i32_725
  let c128_i32 : BitVec 32 := 128#32
  let v811 : BitVec 32 := Scalar.muli v810 c128_i32
  let v812 : BitVec 32 := v811
  let v813 : Index := Scalar.indexCast v812
  ![0, v813.toNat]
def k0_off2 (k0_t1 : Fin k0_t1_loop.trips) : Fin 3 → Nat :=
  let c0_737 : Index := 0#32
  let c0_i32_68 : BitVec 32 := 0#32
  let c1_i32_69 : BitVec 32 := 1#32
  let arg18 : BitVec 32 := Scf.iv c0_i32_68 c1_i32_69 k0_t1
  let c32_i32_724 : BitVec 32 := 32#32
  let v808 : BitVec 32 := Scalar.muli arg18 c32_i32_724
  let v809 : BitVec 32 := v808
  let v867 : Index := Scalar.indexCast v809
  let c0_738 : Index := 0#32
  ![0, v867.toNat, 0]
def k0_off3 (k0_t1 : Fin k0_t1_loop.trips) (c0_i32_739 : BitVec 32) (c0_i32_742 : BitVec 32) : Fin 2 → Nat :=
  let c8_i32_741 : BitVec 32 := 8#32
  let c4_i32_740 : BitVec 32 := 4#32
  let c0_i32_68 : BitVec 32 := 0#32
  let c1_i32_69 : BitVec 32 := 1#32
  let arg18 : BitVec 32 := Scf.iv c0_i32_68 c1_i32_69 k0_t1
  let c32_i32_724 : BitVec 32 := 32#32
  let v808 : BitVec 32 := Scalar.muli arg18 c32_i32_724
  let v809 : BitVec 32 := v808
  let v871 : BitVec 32 := Scalar.addi v809 c0_i32_739
  let v872 : BitVec 32 := Scalar.muli c4_i32_740 v871
  let v873 : BitVec 32 := Scalar.addi c8_i32_741 v872
  let v874 : BitVec 32 := Scalar.addi v873 c0_i32_742
  let v877 : Index := Scalar.indexCast v874
  let c0_743 : Index := 0#32
  ![v877.toNat, 0]
def k0_off4 (k0_t1 : Fin k0_t1_loop.trips) : Fin 3 → Nat :=
  let c0_759 : Index := 0#32
  let c0_i32_68 : BitVec 32 := 0#32
  let c1_i32_69 : BitVec 32 := 1#32
  let arg18 : BitVec 32 := Scf.iv c0_i32_68 c1_i32_69 k0_t1
  let c32_i32_724 : BitVec 32 := 32#32
  let v808 : BitVec 32 := Scalar.muli arg18 c32_i32_724
  let v809 : BitVec 32 := v808
  let v911 : Index := Scalar.indexCast v809
  let c128_760 : Index := 128#32
  ![0, v911.toNat, 128]
def k0_off5 (k0_t1 : Fin k0_t1_loop.trips) : Fin 3 → Nat :=
  let c0_781 : Index := 0#32
  let c0_i32_68 : BitVec 32 := 0#32
  let c1_i32_69 : BitVec 32 := 1#32
  let arg18 : BitVec 32 := Scf.iv c0_i32_68 c1_i32_69 k0_t1
  let c32_i32_724 : BitVec 32 := 32#32
  let v808 : BitVec 32 := Scalar.muli arg18 c32_i32_724
  let v809 : BitVec 32 := v808
  let v955 : Index := Scalar.indexCast v809
  let c256 : Index := 256#32
  ![0, v955.toNat, 256]
def k0_off6 (k0_t1 : Fin k0_t1_loop.trips) : Fin 3 → Nat :=
  let c0_802 : Index := 0#32
  let c0_i32_68 : BitVec 32 := 0#32
  let c1_i32_69 : BitVec 32 := 1#32
  let arg18 : BitVec 32 := Scf.iv c0_i32_68 c1_i32_69 k0_t1
  let c32_i32_724 : BitVec 32 := 32#32
  let v808 : BitVec 32 := Scalar.muli arg18 c32_i32_724
  let v809 : BitVec 32 := v808
  let v999 : Index := Scalar.indexCast v809
  let c384 : Index := 384#32
  ![0, v999.toNat, 384]
@[reducible] def k0_t2_loop : Scf.Loop 32 :=
  let c0_i32_82 : BitVec 32 := 0#32
  let c32_i32_83 : BitVec 32 := 32#32
  let v87 : BitVec 32 := Scalar.addi c0_i32_82 c32_i32_83
  let c1_i32_84 : BitVec 32 := 1#32
  ⟨c0_i32_82, v87, c1_i32_84⟩
def k0_mult3 (k0_t2 : Fin k0_t2_loop.trips) : BitVec 32 :=
  let c0_i32_82 : BitVec 32 := 0#32
  let c1_i32_84 : BitVec 32 := 1#32
  let arg18 : BitVec 32 := Scf.iv c0_i32_82 c1_i32_84 k0_t2
  let c32_i32_724 : BitVec 32 := 32#32
  let v808 : BitVec 32 := Scalar.muli arg18 c32_i32_724
  v808
def k0_mult4 (k0_t2 : Fin k0_t2_loop.trips) : BitVec 32 :=
  let c0_i32_82 : BitVec 32 := 0#32
  let c1_i32_84 : BitVec 32 := 1#32
  let arg18 : BitVec 32 := Scf.iv c0_i32_82 c1_i32_84 k0_t2
  let c2_i32_725 : BitVec 32 := 2#32
  let v810 : BitVec 32 := Scalar.shrsi arg18 c2_i32_725
  let c128_i32 : BitVec 32 := 128#32
  let v811 : BitVec 32 := Scalar.muli v810 c128_i32
  v811
def k0_off7 (k0_t2 : Fin k0_t2_loop.trips) : Fin 2 → Nat :=
  let c1_726 : Index := 1#32
  let c0_i32_82 : BitVec 32 := 0#32
  let c1_i32_84 : BitVec 32 := 1#32
  let arg18 : BitVec 32 := Scf.iv c0_i32_82 c1_i32_84 k0_t2
  let c2_i32_725 : BitVec 32 := 2#32
  let v810 : BitVec 32 := Scalar.shrsi arg18 c2_i32_725
  let c128_i32 : BitVec 32 := 128#32
  let v811 : BitVec 32 := Scalar.muli v810 c128_i32
  let v812 : BitVec 32 := v811
  let v813 : Index := Scalar.indexCast v812
  ![1, v813.toNat]
def k0_off8 (k0_t2 : Fin k0_t2_loop.trips) : Fin 3 → Nat :=
  let c1_737 : Index := 1#32
  let c0_i32_82 : BitVec 32 := 0#32
  let c1_i32_84 : BitVec 32 := 1#32
  let arg18 : BitVec 32 := Scf.iv c0_i32_82 c1_i32_84 k0_t2
  let c32_i32_724 : BitVec 32 := 32#32
  let v808 : BitVec 32 := Scalar.muli arg18 c32_i32_724
  let v809 : BitVec 32 := v808
  let v867 : Index := Scalar.indexCast v809
  let c0_738 : Index := 0#32
  ![1, v867.toNat, 0]
def k0_off9 (k0_t2 : Fin k0_t2_loop.trips) (c0_i32_739 : BitVec 32) (c0_i32_742 : BitVec 32) : Fin 2 → Nat :=
  let c8_i32_741 : BitVec 32 := 8#32
  let c4_i32_740 : BitVec 32 := 4#32
  let c0_i32_82 : BitVec 32 := 0#32
  let c1_i32_84 : BitVec 32 := 1#32
  let arg18 : BitVec 32 := Scf.iv c0_i32_82 c1_i32_84 k0_t2
  let c32_i32_724 : BitVec 32 := 32#32
  let v808 : BitVec 32 := Scalar.muli arg18 c32_i32_724
  let v809 : BitVec 32 := v808
  let v871 : BitVec 32 := Scalar.addi v809 c0_i32_739
  let v872 : BitVec 32 := Scalar.muli c4_i32_740 v871
  let v873 : BitVec 32 := Scalar.addi c8_i32_741 v872
  let v874 : BitVec 32 := Scalar.addi v873 c0_i32_742
  let v877 : Index := Scalar.indexCast v874
  let c0_743 : Index := 0#32
  ![v877.toNat, 0]
def k0_off10 (k0_t2 : Fin k0_t2_loop.trips) : Fin 3 → Nat :=
  let c1_759 : Index := 1#32
  let c0_i32_82 : BitVec 32 := 0#32
  let c1_i32_84 : BitVec 32 := 1#32
  let arg18 : BitVec 32 := Scf.iv c0_i32_82 c1_i32_84 k0_t2
  let c32_i32_724 : BitVec 32 := 32#32
  let v808 : BitVec 32 := Scalar.muli arg18 c32_i32_724
  let v809 : BitVec 32 := v808
  let v911 : Index := Scalar.indexCast v809
  let c128_760 : Index := 128#32
  ![1, v911.toNat, 128]
def k0_off11 (k0_t2 : Fin k0_t2_loop.trips) : Fin 3 → Nat :=
  let c1_781 : Index := 1#32
  let c0_i32_82 : BitVec 32 := 0#32
  let c1_i32_84 : BitVec 32 := 1#32
  let arg18 : BitVec 32 := Scf.iv c0_i32_82 c1_i32_84 k0_t2
  let c32_i32_724 : BitVec 32 := 32#32
  let v808 : BitVec 32 := Scalar.muli arg18 c32_i32_724
  let v809 : BitVec 32 := v808
  let v955 : Index := Scalar.indexCast v809
  let c256 : Index := 256#32
  ![1, v955.toNat, 256]
def k0_off12 (k0_t2 : Fin k0_t2_loop.trips) : Fin 3 → Nat :=
  let c1_802 : Index := 1#32
  let c0_i32_82 : BitVec 32 := 0#32
  let c1_i32_84 : BitVec 32 := 1#32
  let arg18 : BitVec 32 := Scf.iv c0_i32_82 c1_i32_84 k0_t2
  let c32_i32_724 : BitVec 32 := 32#32
  let v808 : BitVec 32 := Scalar.muli arg18 c32_i32_724
  let v809 : BitVec 32 := v808
  let v999 : Index := Scalar.indexCast v809
  let c384 : Index := 384#32
  ![1, v999.toNat, 384]
@[reducible] def k0_t3_loop : Scf.Loop 32 :=
  let c0_i32_144 : BitVec 32 := 0#32
  let c64_i32 : BitVec 32 := 64#32
  let v140 : BitVec 32 := Scalar.addi c0_i32_144 c64_i32
  let c1_i32_145 : BitVec 32 := 1#32
  ⟨c0_i32_144, v140, c1_i32_145⟩
def k0_off13 (k0_t3 : Fin k0_t3_loop.trips) : Fin 3 → Nat :=
  let c0_727 : Index := 0#32
  let c0_728 : Index := 0#32
  let c0_i32_725 : BitVec 32 := 0#32
  let c2_i32_724 : BitVec 32 := 2#32
  let c0_i32_144 : BitVec 32 := 0#32
  let c1_i32_145 : BitVec 32 := 1#32
  let arg18 : BitVec 32 := Scf.iv c0_i32_144 c1_i32_145 k0_t3
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![0, 0, v811.toNat]
def k0_off14 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk1 (v812 : BitVec 32) : Prop :=
  (∀ a, (k0_off14 v812) a + S4x128.size a ≤ S4104x128.size a)
theorem k0_off14_inb : ∀ (v812 : BitVec 32) (k0_hw1 : k0_chk1 v812), ∀ a, (k0_off14 v812) a + S4x128.size a ≤ S4104x128.size a := fun v812 k0_hw1 => k0_hw1

def k0_off15 (k0_t3 : Fin k0_t3_loop.trips) : Fin 3 → Nat :=
  let c0_735 : Index := 0#32
  let c0_736 : Index := 0#32
  let c0_i32_733 : BitVec 32 := 0#32
  let c2_i32_732 : BitVec 32 := 2#32
  let c0_i32_144 : BitVec 32 := 0#32
  let c1_i32_145 : BitVec 32 := 1#32
  let arg18 : BitVec 32 := Scf.iv c0_i32_144 c1_i32_145 k0_t3
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![0, 0, v820.toNat]
def k0_off16 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk2 (v821 : BitVec 32) : Prop :=
  (∀ a, (k0_off16 v821) a + S4x128.size a ≤ S4104x128.size a)
theorem k0_off16_inb : ∀ (v821 : BitVec 32) (k0_hw2 : k0_chk2 v821), ∀ a, (k0_off16 v821) a + S4x128.size a ≤ S4104x128.size a := fun v821 k0_hw2 => k0_hw2

def k0_off17 (k0_t3 : Fin k0_t3_loop.trips) : Fin 3 → Nat :=
  let c0_i32_144 : BitVec 32 := 0#32
  let c1_i32_145 : BitVec 32 := 1#32
  let arg18 : BitVec 32 := Scf.iv c0_i32_144 c1_i32_145 k0_t3
  let v827 : Index := Scalar.indexCast arg18
  let c0_740 : Index := 0#32
  ![v827.toNat, 0, 0]
@[reducible] def k0_t4_loop : Scf.Loop 32 :=
  let c0_i32_156 : BitVec 32 := 0#32
  let c64_i32_157 : BitVec 32 := 64#32
  let v153 : BitVec 32 := Scalar.addi c0_i32_156 c64_i32_157
  let c1_i32_158 : BitVec 32 := 1#32
  ⟨c0_i32_156, v153, c1_i32_158⟩
def k0_off18 (k0_t4 : Fin k0_t4_loop.trips) : Fin 3 → Nat :=
  let c0_727 : Index := 0#32
  let c1_728 : Index := 1#32
  let c0_i32_725 : BitVec 32 := 0#32
  let c2_i32_724 : BitVec 32 := 2#32
  let c0_i32_156 : BitVec 32 := 0#32
  let c1_i32_158 : BitVec 32 := 1#32
  let arg18 : BitVec 32 := Scf.iv c0_i32_156 c1_i32_158 k0_t4
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![0, 1, v811.toNat]
def k0_off19 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk3 (v812 : BitVec 32) : Prop :=
  (∀ a, (k0_off19 v812) a + S4x128.size a ≤ S4104x128.size a)
theorem k0_off19_inb : ∀ (v812 : BitVec 32) (k0_hw3 : k0_chk3 v812), ∀ a, (k0_off19 v812) a + S4x128.size a ≤ S4104x128.size a := fun v812 k0_hw3 => k0_hw3

def k0_off20 (k0_t4 : Fin k0_t4_loop.trips) : Fin 3 → Nat :=
  let c0_735 : Index := 0#32
  let c1_736 : Index := 1#32
  let c0_i32_733 : BitVec 32 := 0#32
  let c2_i32_732 : BitVec 32 := 2#32
  let c0_i32_156 : BitVec 32 := 0#32
  let c1_i32_158 : BitVec 32 := 1#32
  let arg18 : BitVec 32 := Scf.iv c0_i32_156 c1_i32_158 k0_t4
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![0, 1, v820.toNat]
def k0_off21 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk4 (v821 : BitVec 32) : Prop :=
  (∀ a, (k0_off21 v821) a + S4x128.size a ≤ S4104x128.size a)
theorem k0_off21_inb : ∀ (v821 : BitVec 32) (k0_hw4 : k0_chk4 v821), ∀ a, (k0_off21 v821) a + S4x128.size a ≤ S4104x128.size a := fun v821 k0_hw4 => k0_hw4

def k0_off22 (k0_t4 : Fin k0_t4_loop.trips) : Fin 3 → Nat :=
  let c0_i32_156 : BitVec 32 := 0#32
  let c1_i32_158 : BitVec 32 := 1#32
  let arg18 : BitVec 32 := Scf.iv c0_i32_156 c1_i32_158 k0_t4
  let v827 : Index := Scalar.indexCast arg18
  let c0_740 : Index := 0#32
  ![v827.toNat, 0, 0]
@[reducible] def k0_t5_loop : Scf.Loop 32 :=
  let c0_i32_171 : BitVec 32 := 0#32
  let c64_i32_172 : BitVec 32 := 64#32
  let v167 : BitVec 32 := Scalar.addi c0_i32_171 c64_i32_172
  let c1_i32_173 : BitVec 32 := 1#32
  ⟨c0_i32_171, v167, c1_i32_173⟩
def k0_off23 (k0_t5 : Fin k0_t5_loop.trips) : Fin 3 → Nat :=
  let c0_727 : Index := 0#32
  let c2_728 : Index := 2#32
  let c0_i32_725 : BitVec 32 := 0#32
  let c2_i32_724 : BitVec 32 := 2#32
  let c0_i32_171 : BitVec 32 := 0#32
  let c1_i32_173 : BitVec 32 := 1#32
  let arg18 : BitVec 32 := Scf.iv c0_i32_171 c1_i32_173 k0_t5
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![0, 2, v811.toNat]
def k0_off24 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk5 (v812 : BitVec 32) : Prop :=
  (∀ a, (k0_off24 v812) a + S4x128.size a ≤ S4104x128.size a)
theorem k0_off24_inb : ∀ (v812 : BitVec 32) (k0_hw5 : k0_chk5 v812), ∀ a, (k0_off24 v812) a + S4x128.size a ≤ S4104x128.size a := fun v812 k0_hw5 => k0_hw5

def k0_off25 (k0_t5 : Fin k0_t5_loop.trips) : Fin 3 → Nat :=
  let c0_735 : Index := 0#32
  let c2_736 : Index := 2#32
  let c0_i32_733 : BitVec 32 := 0#32
  let c2_i32_732 : BitVec 32 := 2#32
  let c0_i32_171 : BitVec 32 := 0#32
  let c1_i32_173 : BitVec 32 := 1#32
  let arg18 : BitVec 32 := Scf.iv c0_i32_171 c1_i32_173 k0_t5
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![0, 2, v820.toNat]
def k0_off26 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk6 (v821 : BitVec 32) : Prop :=
  (∀ a, (k0_off26 v821) a + S4x128.size a ≤ S4104x128.size a)
theorem k0_off26_inb : ∀ (v821 : BitVec 32) (k0_hw6 : k0_chk6 v821), ∀ a, (k0_off26 v821) a + S4x128.size a ≤ S4104x128.size a := fun v821 k0_hw6 => k0_hw6

def k0_off27 (k0_t5 : Fin k0_t5_loop.trips) : Fin 3 → Nat :=
  let c0_i32_171 : BitVec 32 := 0#32
  let c1_i32_173 : BitVec 32 := 1#32
  let arg18 : BitVec 32 := Scf.iv c0_i32_171 c1_i32_173 k0_t5
  let v827 : Index := Scalar.indexCast arg18
  let c0_740 : Index := 0#32
  ![v827.toNat, 0, 0]
@[reducible] def k0_t6_loop : Scf.Loop 32 :=
  let c0_i32_186 : BitVec 32 := 0#32
  let c64_i32_187 : BitVec 32 := 64#32
  let v181 : BitVec 32 := Scalar.addi c0_i32_186 c64_i32_187
  let c1_i32_188 : BitVec 32 := 1#32
  ⟨c0_i32_186, v181, c1_i32_188⟩
def k0_off28 (k0_t6 : Fin k0_t6_loop.trips) : Fin 3 → Nat :=
  let c0_727 : Index := 0#32
  let c3_728 : Index := 3#32
  let c0_i32_725 : BitVec 32 := 0#32
  let c2_i32_724 : BitVec 32 := 2#32
  let c0_i32_186 : BitVec 32 := 0#32
  let c1_i32_188 : BitVec 32 := 1#32
  let arg18 : BitVec 32 := Scf.iv c0_i32_186 c1_i32_188 k0_t6
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![0, 3, v811.toNat]
def k0_off29 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk7 (v812 : BitVec 32) : Prop :=
  (∀ a, (k0_off29 v812) a + S4x128.size a ≤ S4104x128.size a)
theorem k0_off29_inb : ∀ (v812 : BitVec 32) (k0_hw7 : k0_chk7 v812), ∀ a, (k0_off29 v812) a + S4x128.size a ≤ S4104x128.size a := fun v812 k0_hw7 => k0_hw7

def k0_off30 (k0_t6 : Fin k0_t6_loop.trips) : Fin 3 → Nat :=
  let c0_735 : Index := 0#32
  let c3_736 : Index := 3#32
  let c0_i32_733 : BitVec 32 := 0#32
  let c2_i32_732 : BitVec 32 := 2#32
  let c0_i32_186 : BitVec 32 := 0#32
  let c1_i32_188 : BitVec 32 := 1#32
  let arg18 : BitVec 32 := Scf.iv c0_i32_186 c1_i32_188 k0_t6
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![0, 3, v820.toNat]
def k0_off31 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk8 (v821 : BitVec 32) : Prop :=
  (∀ a, (k0_off31 v821) a + S4x128.size a ≤ S4104x128.size a)
theorem k0_off31_inb : ∀ (v821 : BitVec 32) (k0_hw8 : k0_chk8 v821), ∀ a, (k0_off31 v821) a + S4x128.size a ≤ S4104x128.size a := fun v821 k0_hw8 => k0_hw8

def k0_off32 (k0_t6 : Fin k0_t6_loop.trips) : Fin 3 → Nat :=
  let c0_i32_186 : BitVec 32 := 0#32
  let c1_i32_188 : BitVec 32 := 1#32
  let arg18 : BitVec 32 := Scf.iv c0_i32_186 c1_i32_188 k0_t6
  let v827 : Index := Scalar.indexCast arg18
  let c0_740 : Index := 0#32
  ![v827.toNat, 0, 0]
@[reducible] def k0_t7_loop : Scf.Loop 32 :=
  let c0_i32_201 : BitVec 32 := 0#32
  let c64_i32_202 : BitVec 32 := 64#32
  let v195 : BitVec 32 := Scalar.addi c0_i32_201 c64_i32_202
  let c1_i32_203 : BitVec 32 := 1#32
  ⟨c0_i32_201, v195, c1_i32_203⟩
def k0_off33 (k0_t7 : Fin k0_t7_loop.trips) : Fin 3 → Nat :=
  let c0_727 : Index := 0#32
  let c4_728 : Index := 4#32
  let c0_i32_725 : BitVec 32 := 0#32
  let c2_i32_724 : BitVec 32 := 2#32
  let c0_i32_201 : BitVec 32 := 0#32
  let c1_i32_203 : BitVec 32 := 1#32
  let arg18 : BitVec 32 := Scf.iv c0_i32_201 c1_i32_203 k0_t7
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![0, 4, v811.toNat]
def k0_off34 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk9 (v812 : BitVec 32) : Prop :=
  (∀ a, (k0_off34 v812) a + S4x128.size a ≤ S4104x128.size a)
theorem k0_off34_inb : ∀ (v812 : BitVec 32) (k0_hw9 : k0_chk9 v812), ∀ a, (k0_off34 v812) a + S4x128.size a ≤ S4104x128.size a := fun v812 k0_hw9 => k0_hw9

def k0_off35 (k0_t7 : Fin k0_t7_loop.trips) : Fin 3 → Nat :=
  let c0_735 : Index := 0#32
  let c4_736 : Index := 4#32
  let c0_i32_733 : BitVec 32 := 0#32
  let c2_i32_732 : BitVec 32 := 2#32
  let c0_i32_201 : BitVec 32 := 0#32
  let c1_i32_203 : BitVec 32 := 1#32
  let arg18 : BitVec 32 := Scf.iv c0_i32_201 c1_i32_203 k0_t7
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![0, 4, v820.toNat]
def k0_off36 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk10 (v821 : BitVec 32) : Prop :=
  (∀ a, (k0_off36 v821) a + S4x128.size a ≤ S4104x128.size a)
theorem k0_off36_inb : ∀ (v821 : BitVec 32) (k0_hw10 : k0_chk10 v821), ∀ a, (k0_off36 v821) a + S4x128.size a ≤ S4104x128.size a := fun v821 k0_hw10 => k0_hw10

def k0_off37 (k0_t7 : Fin k0_t7_loop.trips) : Fin 3 → Nat :=
  let c0_i32_201 : BitVec 32 := 0#32
  let c1_i32_203 : BitVec 32 := 1#32
  let arg18 : BitVec 32 := Scf.iv c0_i32_201 c1_i32_203 k0_t7
  let v827 : Index := Scalar.indexCast arg18
  let c0_740 : Index := 0#32
  ![v827.toNat, 0, 0]
@[reducible] def k0_t8_loop : Scf.Loop 32 :=
  let c0_i32_216 : BitVec 32 := 0#32
  let c64_i32_217 : BitVec 32 := 64#32
  let v209 : BitVec 32 := Scalar.addi c0_i32_216 c64_i32_217
  let c1_i32_218 : BitVec 32 := 1#32
  ⟨c0_i32_216, v209, c1_i32_218⟩
def k0_off38 (k0_t8 : Fin k0_t8_loop.trips) : Fin 3 → Nat :=
  let c0_727 : Index := 0#32
  let c5_728 : Index := 5#32
  let c0_i32_725 : BitVec 32 := 0#32
  let c2_i32_724 : BitVec 32 := 2#32
  let c0_i32_216 : BitVec 32 := 0#32
  let c1_i32_218 : BitVec 32 := 1#32
  let arg18 : BitVec 32 := Scf.iv c0_i32_216 c1_i32_218 k0_t8
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![0, 5, v811.toNat]
def k0_off39 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk11 (v812 : BitVec 32) : Prop :=
  (∀ a, (k0_off39 v812) a + S4x128.size a ≤ S4104x128.size a)
theorem k0_off39_inb : ∀ (v812 : BitVec 32) (k0_hw11 : k0_chk11 v812), ∀ a, (k0_off39 v812) a + S4x128.size a ≤ S4104x128.size a := fun v812 k0_hw11 => k0_hw11

def k0_off40 (k0_t8 : Fin k0_t8_loop.trips) : Fin 3 → Nat :=
  let c0_735 : Index := 0#32
  let c5_736 : Index := 5#32
  let c0_i32_733 : BitVec 32 := 0#32
  let c2_i32_732 : BitVec 32 := 2#32
  let c0_i32_216 : BitVec 32 := 0#32
  let c1_i32_218 : BitVec 32 := 1#32
  let arg18 : BitVec 32 := Scf.iv c0_i32_216 c1_i32_218 k0_t8
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![0, 5, v820.toNat]
def k0_off41 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk12 (v821 : BitVec 32) : Prop :=
  (∀ a, (k0_off41 v821) a + S4x128.size a ≤ S4104x128.size a)
theorem k0_off41_inb : ∀ (v821 : BitVec 32) (k0_hw12 : k0_chk12 v821), ∀ a, (k0_off41 v821) a + S4x128.size a ≤ S4104x128.size a := fun v821 k0_hw12 => k0_hw12

def k0_off42 (k0_t8 : Fin k0_t8_loop.trips) : Fin 3 → Nat :=
  let c0_i32_216 : BitVec 32 := 0#32
  let c1_i32_218 : BitVec 32 := 1#32
  let arg18 : BitVec 32 := Scf.iv c0_i32_216 c1_i32_218 k0_t8
  let v827 : Index := Scalar.indexCast arg18
  let c0_740 : Index := 0#32
  ![v827.toNat, 0, 0]
@[reducible] def k0_t9_loop : Scf.Loop 32 :=
  let c0_i32_231 : BitVec 32 := 0#32
  let c64_i32_232 : BitVec 32 := 64#32
  let v223 : BitVec 32 := Scalar.addi c0_i32_231 c64_i32_232
  let c1_i32_233 : BitVec 32 := 1#32
  ⟨c0_i32_231, v223, c1_i32_233⟩
def k0_off43 (k0_t9 : Fin k0_t9_loop.trips) : Fin 3 → Nat :=
  let c0_727 : Index := 0#32
  let c6_728 : Index := 6#32
  let c0_i32_725 : BitVec 32 := 0#32
  let c2_i32_724 : BitVec 32 := 2#32
  let c0_i32_231 : BitVec 32 := 0#32
  let c1_i32_233 : BitVec 32 := 1#32
  let arg18 : BitVec 32 := Scf.iv c0_i32_231 c1_i32_233 k0_t9
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![0, 6, v811.toNat]
def k0_off44 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk13 (v812 : BitVec 32) : Prop :=
  (∀ a, (k0_off44 v812) a + S4x128.size a ≤ S4104x128.size a)
theorem k0_off44_inb : ∀ (v812 : BitVec 32) (k0_hw13 : k0_chk13 v812), ∀ a, (k0_off44 v812) a + S4x128.size a ≤ S4104x128.size a := fun v812 k0_hw13 => k0_hw13

def k0_off45 (k0_t9 : Fin k0_t9_loop.trips) : Fin 3 → Nat :=
  let c0_735 : Index := 0#32
  let c6_736 : Index := 6#32
  let c0_i32_733 : BitVec 32 := 0#32
  let c2_i32_732 : BitVec 32 := 2#32
  let c0_i32_231 : BitVec 32 := 0#32
  let c1_i32_233 : BitVec 32 := 1#32
  let arg18 : BitVec 32 := Scf.iv c0_i32_231 c1_i32_233 k0_t9
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![0, 6, v820.toNat]
def k0_off46 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk14 (v821 : BitVec 32) : Prop :=
  (∀ a, (k0_off46 v821) a + S4x128.size a ≤ S4104x128.size a)
theorem k0_off46_inb : ∀ (v821 : BitVec 32) (k0_hw14 : k0_chk14 v821), ∀ a, (k0_off46 v821) a + S4x128.size a ≤ S4104x128.size a := fun v821 k0_hw14 => k0_hw14

def k0_off47 (k0_t9 : Fin k0_t9_loop.trips) : Fin 3 → Nat :=
  let c0_i32_231 : BitVec 32 := 0#32
  let c1_i32_233 : BitVec 32 := 1#32
  let arg18 : BitVec 32 := Scf.iv c0_i32_231 c1_i32_233 k0_t9
  let v827 : Index := Scalar.indexCast arg18
  let c0_740 : Index := 0#32
  ![v827.toNat, 0, 0]
@[reducible] def k0_t10_loop : Scf.Loop 32 :=
  let c0_i32_246 : BitVec 32 := 0#32
  let c64_i32_247 : BitVec 32 := 64#32
  let v237 : BitVec 32 := Scalar.addi c0_i32_246 c64_i32_247
  let c1_i32_248 : BitVec 32 := 1#32
  ⟨c0_i32_246, v237, c1_i32_248⟩
def k0_off48 (k0_t10 : Fin k0_t10_loop.trips) : Fin 3 → Nat :=
  let c0_727 : Index := 0#32
  let c7_728 : Index := 7#32
  let c0_i32_725 : BitVec 32 := 0#32
  let c2_i32_724 : BitVec 32 := 2#32
  let c0_i32_246 : BitVec 32 := 0#32
  let c1_i32_248 : BitVec 32 := 1#32
  let arg18 : BitVec 32 := Scf.iv c0_i32_246 c1_i32_248 k0_t10
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![0, 7, v811.toNat]
def k0_off49 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk15 (v812 : BitVec 32) : Prop :=
  (∀ a, (k0_off49 v812) a + S4x128.size a ≤ S4104x128.size a)
theorem k0_off49_inb : ∀ (v812 : BitVec 32) (k0_hw15 : k0_chk15 v812), ∀ a, (k0_off49 v812) a + S4x128.size a ≤ S4104x128.size a := fun v812 k0_hw15 => k0_hw15

def k0_off50 (k0_t10 : Fin k0_t10_loop.trips) : Fin 3 → Nat :=
  let c0_735 : Index := 0#32
  let c7_736 : Index := 7#32
  let c0_i32_733 : BitVec 32 := 0#32
  let c2_i32_732 : BitVec 32 := 2#32
  let c0_i32_246 : BitVec 32 := 0#32
  let c1_i32_248 : BitVec 32 := 1#32
  let arg18 : BitVec 32 := Scf.iv c0_i32_246 c1_i32_248 k0_t10
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![0, 7, v820.toNat]
def k0_off51 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk16 (v821 : BitVec 32) : Prop :=
  (∀ a, (k0_off51 v821) a + S4x128.size a ≤ S4104x128.size a)
theorem k0_off51_inb : ∀ (v821 : BitVec 32) (k0_hw16 : k0_chk16 v821), ∀ a, (k0_off51 v821) a + S4x128.size a ≤ S4104x128.size a := fun v821 k0_hw16 => k0_hw16

def k0_off52 (k0_t10 : Fin k0_t10_loop.trips) : Fin 3 → Nat :=
  let c0_i32_246 : BitVec 32 := 0#32
  let c1_i32_248 : BitVec 32 := 1#32
  let arg18 : BitVec 32 := Scf.iv c0_i32_246 c1_i32_248 k0_t10
  let v827 : Index := Scalar.indexCast arg18
  let c0_740 : Index := 0#32
  ![v827.toNat, 0, 0]
@[reducible] def k0_t11_loop : Scf.Loop 32 :=
  let c0_i32_278 : BitVec 32 := 0#32
  let c64_i32_279 : BitVec 32 := 64#32
  let v307 : BitVec 32 := Scalar.addi c0_i32_278 c64_i32_279
  let c1_i32_280 : BitVec 32 := 1#32
  ⟨c0_i32_278, v307, c1_i32_280⟩
def k0_off53 (k0_t11 : Fin k0_t11_loop.trips) : Fin 3 → Nat :=
  let c0_726 : Index := 0#32
  let c0_727 : Index := 0#32
  let c128_i32 : BitVec 32 := 128#32
  let c2_i32_724 : BitVec 32 := 2#32
  let c0_i32_278 : BitVec 32 := 0#32
  let c1_i32_280 : BitVec 32 := 1#32
  let arg18 : BitVec 32 := Scf.iv c0_i32_278 c1_i32_280 k0_t11
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![0, 0, v811.toNat]
def k0_off54 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk17 (v812 : BitVec 32) : Prop :=
  (∀ a, (k0_off54 v812) a + S4x128.size a ≤ S4104x128.size a)
theorem k0_off54_inb : ∀ (v812 : BitVec 32) (k0_hw17 : k0_chk17 v812), ∀ a, (k0_off54 v812) a + S4x128.size a ≤ S4104x128.size a := fun v812 k0_hw17 => k0_hw17

def k0_off55 (k0_t11 : Fin k0_t11_loop.trips) : Fin 3 → Nat :=
  let c0_734 : Index := 0#32
  let c0_735 : Index := 0#32
  let c128_i32_732 : BitVec 32 := 128#32
  let c2_i32_731 : BitVec 32 := 2#32
  let c0_i32_278 : BitVec 32 := 0#32
  let c1_i32_280 : BitVec 32 := 1#32
  let arg18 : BitVec 32 := Scf.iv c0_i32_278 c1_i32_280 k0_t11
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![0, 0, v820.toNat]
def k0_off56 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk18 (v821 : BitVec 32) : Prop :=
  (∀ a, (k0_off56 v821) a + S4x128.size a ≤ S4104x128.size a)
theorem k0_off56_inb : ∀ (v821 : BitVec 32) (k0_hw18 : k0_chk18 v821), ∀ a, (k0_off56 v821) a + S4x128.size a ≤ S4104x128.size a := fun v821 k0_hw18 => k0_hw18

def k0_off57 (k0_t11 : Fin k0_t11_loop.trips) : Fin 3 → Nat :=
  let c0_i32_278 : BitVec 32 := 0#32
  let c1_i32_280 : BitVec 32 := 1#32
  let arg18 : BitVec 32 := Scf.iv c0_i32_278 c1_i32_280 k0_t11
  let v827 : Index := Scalar.indexCast arg18
  let c0_739 : Index := 0#32
  ![v827.toNat, 0, 0]
@[reducible] def k0_t12_loop : Scf.Loop 32 :=
  let c0_i32_294 : BitVec 32 := 0#32
  let c64_i32_295 : BitVec 32 := 64#32
  let v320 : BitVec 32 := Scalar.addi c0_i32_294 c64_i32_295
  let c1_i32_296 : BitVec 32 := 1#32
  ⟨c0_i32_294, v320, c1_i32_296⟩
def k0_off58 (k0_t12 : Fin k0_t12_loop.trips) : Fin 3 → Nat :=
  let c0_726 : Index := 0#32
  let c1_727 : Index := 1#32
  let c128_i32 : BitVec 32 := 128#32
  let c2_i32_724 : BitVec 32 := 2#32
  let c0_i32_294 : BitVec 32 := 0#32
  let c1_i32_296 : BitVec 32 := 1#32
  let arg18 : BitVec 32 := Scf.iv c0_i32_294 c1_i32_296 k0_t12
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![0, 1, v811.toNat]
def k0_off59 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk19 (v812 : BitVec 32) : Prop :=
  (∀ a, (k0_off59 v812) a + S4x128.size a ≤ S4104x128.size a)
theorem k0_off59_inb : ∀ (v812 : BitVec 32) (k0_hw19 : k0_chk19 v812), ∀ a, (k0_off59 v812) a + S4x128.size a ≤ S4104x128.size a := fun v812 k0_hw19 => k0_hw19

def k0_off60 (k0_t12 : Fin k0_t12_loop.trips) : Fin 3 → Nat :=
  let c0_734 : Index := 0#32
  let c1_735 : Index := 1#32
  let c128_i32_732 : BitVec 32 := 128#32
  let c2_i32_731 : BitVec 32 := 2#32
  let c0_i32_294 : BitVec 32 := 0#32
  let c1_i32_296 : BitVec 32 := 1#32
  let arg18 : BitVec 32 := Scf.iv c0_i32_294 c1_i32_296 k0_t12
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![0, 1, v820.toNat]
def k0_off61 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk20 (v821 : BitVec 32) : Prop :=
  (∀ a, (k0_off61 v821) a + S4x128.size a ≤ S4104x128.size a)
theorem k0_off61_inb : ∀ (v821 : BitVec 32) (k0_hw20 : k0_chk20 v821), ∀ a, (k0_off61 v821) a + S4x128.size a ≤ S4104x128.size a := fun v821 k0_hw20 => k0_hw20

def k0_off62 (k0_t12 : Fin k0_t12_loop.trips) : Fin 3 → Nat :=
  let c0_i32_294 : BitVec 32 := 0#32
  let c1_i32_296 : BitVec 32 := 1#32
  let arg18 : BitVec 32 := Scf.iv c0_i32_294 c1_i32_296 k0_t12
  let v827 : Index := Scalar.indexCast arg18
  let c0_739 : Index := 0#32
  ![v827.toNat, 0, 0]
@[reducible] def k0_t13_loop : Scf.Loop 32 :=
  let c0_i32_310 : BitVec 32 := 0#32
  let c64_i32_311 : BitVec 32 := 64#32
  let v334 : BitVec 32 := Scalar.addi c0_i32_310 c64_i32_311
  let c1_i32_312 : BitVec 32 := 1#32
  ⟨c0_i32_310, v334, c1_i32_312⟩
def k0_off63 (k0_t13 : Fin k0_t13_loop.trips) : Fin 3 → Nat :=
  let c0_726 : Index := 0#32
  let c2_727 : Index := 2#32
  let c128_i32 : BitVec 32 := 128#32
  let c2_i32_724 : BitVec 32 := 2#32
  let c0_i32_310 : BitVec 32 := 0#32
  let c1_i32_312 : BitVec 32 := 1#32
  let arg18 : BitVec 32 := Scf.iv c0_i32_310 c1_i32_312 k0_t13
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![0, 2, v811.toNat]
def k0_off64 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk21 (v812 : BitVec 32) : Prop :=
  (∀ a, (k0_off64 v812) a + S4x128.size a ≤ S4104x128.size a)
theorem k0_off64_inb : ∀ (v812 : BitVec 32) (k0_hw21 : k0_chk21 v812), ∀ a, (k0_off64 v812) a + S4x128.size a ≤ S4104x128.size a := fun v812 k0_hw21 => k0_hw21

def k0_off65 (k0_t13 : Fin k0_t13_loop.trips) : Fin 3 → Nat :=
  let c0_734 : Index := 0#32
  let c2_735 : Index := 2#32
  let c128_i32_732 : BitVec 32 := 128#32
  let c2_i32_731 : BitVec 32 := 2#32
  let c0_i32_310 : BitVec 32 := 0#32
  let c1_i32_312 : BitVec 32 := 1#32
  let arg18 : BitVec 32 := Scf.iv c0_i32_310 c1_i32_312 k0_t13
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![0, 2, v820.toNat]
def k0_off66 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk22 (v821 : BitVec 32) : Prop :=
  (∀ a, (k0_off66 v821) a + S4x128.size a ≤ S4104x128.size a)
theorem k0_off66_inb : ∀ (v821 : BitVec 32) (k0_hw22 : k0_chk22 v821), ∀ a, (k0_off66 v821) a + S4x128.size a ≤ S4104x128.size a := fun v821 k0_hw22 => k0_hw22

def k0_off67 (k0_t13 : Fin k0_t13_loop.trips) : Fin 3 → Nat :=
  let c0_i32_310 : BitVec 32 := 0#32
  let c1_i32_312 : BitVec 32 := 1#32
  let arg18 : BitVec 32 := Scf.iv c0_i32_310 c1_i32_312 k0_t13
  let v827 : Index := Scalar.indexCast arg18
  let c0_739 : Index := 0#32
  ![v827.toNat, 0, 0]
@[reducible] def k0_t14_loop : Scf.Loop 32 :=
  let c0_i32_326 : BitVec 32 := 0#32
  let c64_i32_327 : BitVec 32 := 64#32
  let v348 : BitVec 32 := Scalar.addi c0_i32_326 c64_i32_327
  let c1_i32_328 : BitVec 32 := 1#32
  ⟨c0_i32_326, v348, c1_i32_328⟩
def k0_off68 (k0_t14 : Fin k0_t14_loop.trips) : Fin 3 → Nat :=
  let c0_726 : Index := 0#32
  let c3_727 : Index := 3#32
  let c128_i32 : BitVec 32 := 128#32
  let c2_i32_724 : BitVec 32 := 2#32
  let c0_i32_326 : BitVec 32 := 0#32
  let c1_i32_328 : BitVec 32 := 1#32
  let arg18 : BitVec 32 := Scf.iv c0_i32_326 c1_i32_328 k0_t14
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![0, 3, v811.toNat]
def k0_off69 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk23 (v812 : BitVec 32) : Prop :=
  (∀ a, (k0_off69 v812) a + S4x128.size a ≤ S4104x128.size a)
theorem k0_off69_inb : ∀ (v812 : BitVec 32) (k0_hw23 : k0_chk23 v812), ∀ a, (k0_off69 v812) a + S4x128.size a ≤ S4104x128.size a := fun v812 k0_hw23 => k0_hw23

def k0_off70 (k0_t14 : Fin k0_t14_loop.trips) : Fin 3 → Nat :=
  let c0_734 : Index := 0#32
  let c3_735 : Index := 3#32
  let c128_i32_732 : BitVec 32 := 128#32
  let c2_i32_731 : BitVec 32 := 2#32
  let c0_i32_326 : BitVec 32 := 0#32
  let c1_i32_328 : BitVec 32 := 1#32
  let arg18 : BitVec 32 := Scf.iv c0_i32_326 c1_i32_328 k0_t14
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![0, 3, v820.toNat]
def k0_off71 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk24 (v821 : BitVec 32) : Prop :=
  (∀ a, (k0_off71 v821) a + S4x128.size a ≤ S4104x128.size a)
theorem k0_off71_inb : ∀ (v821 : BitVec 32) (k0_hw24 : k0_chk24 v821), ∀ a, (k0_off71 v821) a + S4x128.size a ≤ S4104x128.size a := fun v821 k0_hw24 => k0_hw24

def k0_off72 (k0_t14 : Fin k0_t14_loop.trips) : Fin 3 → Nat :=
  let c0_i32_326 : BitVec 32 := 0#32
  let c1_i32_328 : BitVec 32 := 1#32
  let arg18 : BitVec 32 := Scf.iv c0_i32_326 c1_i32_328 k0_t14
  let v827 : Index := Scalar.indexCast arg18
  let c0_739 : Index := 0#32
  ![v827.toNat, 0, 0]
@[reducible] def k0_t15_loop : Scf.Loop 32 :=
  let c0_i32_342 : BitVec 32 := 0#32
  let c64_i32_343 : BitVec 32 := 64#32
  let v362 : BitVec 32 := Scalar.addi c0_i32_342 c64_i32_343
  let c1_i32_344 : BitVec 32 := 1#32
  ⟨c0_i32_342, v362, c1_i32_344⟩
def k0_off73 (k0_t15 : Fin k0_t15_loop.trips) : Fin 3 → Nat :=
  let c0_726 : Index := 0#32
  let c4_727 : Index := 4#32
  let c128_i32 : BitVec 32 := 128#32
  let c2_i32_724 : BitVec 32 := 2#32
  let c0_i32_342 : BitVec 32 := 0#32
  let c1_i32_344 : BitVec 32 := 1#32
  let arg18 : BitVec 32 := Scf.iv c0_i32_342 c1_i32_344 k0_t15
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![0, 4, v811.toNat]
def k0_off74 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk25 (v812 : BitVec 32) : Prop :=
  (∀ a, (k0_off74 v812) a + S4x128.size a ≤ S4104x128.size a)
theorem k0_off74_inb : ∀ (v812 : BitVec 32) (k0_hw25 : k0_chk25 v812), ∀ a, (k0_off74 v812) a + S4x128.size a ≤ S4104x128.size a := fun v812 k0_hw25 => k0_hw25

def k0_off75 (k0_t15 : Fin k0_t15_loop.trips) : Fin 3 → Nat :=
  let c0_734 : Index := 0#32
  let c4_735 : Index := 4#32
  let c128_i32_732 : BitVec 32 := 128#32
  let c2_i32_731 : BitVec 32 := 2#32
  let c0_i32_342 : BitVec 32 := 0#32
  let c1_i32_344 : BitVec 32 := 1#32
  let arg18 : BitVec 32 := Scf.iv c0_i32_342 c1_i32_344 k0_t15
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![0, 4, v820.toNat]
def k0_off76 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk26 (v821 : BitVec 32) : Prop :=
  (∀ a, (k0_off76 v821) a + S4x128.size a ≤ S4104x128.size a)
theorem k0_off76_inb : ∀ (v821 : BitVec 32) (k0_hw26 : k0_chk26 v821), ∀ a, (k0_off76 v821) a + S4x128.size a ≤ S4104x128.size a := fun v821 k0_hw26 => k0_hw26

def k0_off77 (k0_t15 : Fin k0_t15_loop.trips) : Fin 3 → Nat :=
  let c0_i32_342 : BitVec 32 := 0#32
  let c1_i32_344 : BitVec 32 := 1#32
  let arg18 : BitVec 32 := Scf.iv c0_i32_342 c1_i32_344 k0_t15
  let v827 : Index := Scalar.indexCast arg18
  let c0_739 : Index := 0#32
  ![v827.toNat, 0, 0]
@[reducible] def k0_t16_loop : Scf.Loop 32 :=
  let c0_i32_358 : BitVec 32 := 0#32
  let c64_i32_359 : BitVec 32 := 64#32
  let v376 : BitVec 32 := Scalar.addi c0_i32_358 c64_i32_359
  let c1_i32_360 : BitVec 32 := 1#32
  ⟨c0_i32_358, v376, c1_i32_360⟩
def k0_off78 (k0_t16 : Fin k0_t16_loop.trips) : Fin 3 → Nat :=
  let c0_726 : Index := 0#32
  let c5_727 : Index := 5#32
  let c128_i32 : BitVec 32 := 128#32
  let c2_i32_724 : BitVec 32 := 2#32
  let c0_i32_358 : BitVec 32 := 0#32
  let c1_i32_360 : BitVec 32 := 1#32
  let arg18 : BitVec 32 := Scf.iv c0_i32_358 c1_i32_360 k0_t16
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![0, 5, v811.toNat]
def k0_off79 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk27 (v812 : BitVec 32) : Prop :=
  (∀ a, (k0_off79 v812) a + S4x128.size a ≤ S4104x128.size a)
theorem k0_off79_inb : ∀ (v812 : BitVec 32) (k0_hw27 : k0_chk27 v812), ∀ a, (k0_off79 v812) a + S4x128.size a ≤ S4104x128.size a := fun v812 k0_hw27 => k0_hw27

def k0_off80 (k0_t16 : Fin k0_t16_loop.trips) : Fin 3 → Nat :=
  let c0_734 : Index := 0#32
  let c5_735 : Index := 5#32
  let c128_i32_732 : BitVec 32 := 128#32
  let c2_i32_731 : BitVec 32 := 2#32
  let c0_i32_358 : BitVec 32 := 0#32
  let c1_i32_360 : BitVec 32 := 1#32
  let arg18 : BitVec 32 := Scf.iv c0_i32_358 c1_i32_360 k0_t16
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![0, 5, v820.toNat]
def k0_off81 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk28 (v821 : BitVec 32) : Prop :=
  (∀ a, (k0_off81 v821) a + S4x128.size a ≤ S4104x128.size a)
theorem k0_off81_inb : ∀ (v821 : BitVec 32) (k0_hw28 : k0_chk28 v821), ∀ a, (k0_off81 v821) a + S4x128.size a ≤ S4104x128.size a := fun v821 k0_hw28 => k0_hw28

def k0_off82 (k0_t16 : Fin k0_t16_loop.trips) : Fin 3 → Nat :=
  let c0_i32_358 : BitVec 32 := 0#32
  let c1_i32_360 : BitVec 32 := 1#32
  let arg18 : BitVec 32 := Scf.iv c0_i32_358 c1_i32_360 k0_t16
  let v827 : Index := Scalar.indexCast arg18
  let c0_739 : Index := 0#32
  ![v827.toNat, 0, 0]
@[reducible] def k0_t17_loop : Scf.Loop 32 :=
  let c0_i32_374 : BitVec 32 := 0#32
  let c64_i32_375 : BitVec 32 := 64#32
  let v390 : BitVec 32 := Scalar.addi c0_i32_374 c64_i32_375
  let c1_i32_376 : BitVec 32 := 1#32
  ⟨c0_i32_374, v390, c1_i32_376⟩
def k0_off83 (k0_t17 : Fin k0_t17_loop.trips) : Fin 3 → Nat :=
  let c0_726 : Index := 0#32
  let c6_727 : Index := 6#32
  let c128_i32 : BitVec 32 := 128#32
  let c2_i32_724 : BitVec 32 := 2#32
  let c0_i32_374 : BitVec 32 := 0#32
  let c1_i32_376 : BitVec 32 := 1#32
  let arg18 : BitVec 32 := Scf.iv c0_i32_374 c1_i32_376 k0_t17
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![0, 6, v811.toNat]
def k0_off84 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk29 (v812 : BitVec 32) : Prop :=
  (∀ a, (k0_off84 v812) a + S4x128.size a ≤ S4104x128.size a)
theorem k0_off84_inb : ∀ (v812 : BitVec 32) (k0_hw29 : k0_chk29 v812), ∀ a, (k0_off84 v812) a + S4x128.size a ≤ S4104x128.size a := fun v812 k0_hw29 => k0_hw29

def k0_off85 (k0_t17 : Fin k0_t17_loop.trips) : Fin 3 → Nat :=
  let c0_734 : Index := 0#32
  let c6_735 : Index := 6#32
  let c128_i32_732 : BitVec 32 := 128#32
  let c2_i32_731 : BitVec 32 := 2#32
  let c0_i32_374 : BitVec 32 := 0#32
  let c1_i32_376 : BitVec 32 := 1#32
  let arg18 : BitVec 32 := Scf.iv c0_i32_374 c1_i32_376 k0_t17
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![0, 6, v820.toNat]
def k0_off86 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk30 (v821 : BitVec 32) : Prop :=
  (∀ a, (k0_off86 v821) a + S4x128.size a ≤ S4104x128.size a)
theorem k0_off86_inb : ∀ (v821 : BitVec 32) (k0_hw30 : k0_chk30 v821), ∀ a, (k0_off86 v821) a + S4x128.size a ≤ S4104x128.size a := fun v821 k0_hw30 => k0_hw30

def k0_off87 (k0_t17 : Fin k0_t17_loop.trips) : Fin 3 → Nat :=
  let c0_i32_374 : BitVec 32 := 0#32
  let c1_i32_376 : BitVec 32 := 1#32
  let arg18 : BitVec 32 := Scf.iv c0_i32_374 c1_i32_376 k0_t17
  let v827 : Index := Scalar.indexCast arg18
  let c0_739 : Index := 0#32
  ![v827.toNat, 0, 0]
@[reducible] def k0_t18_loop : Scf.Loop 32 :=
  let c0_i32_390 : BitVec 32 := 0#32
  let c64_i32_391 : BitVec 32 := 64#32
  let v404 : BitVec 32 := Scalar.addi c0_i32_390 c64_i32_391
  let c1_i32_392 : BitVec 32 := 1#32
  ⟨c0_i32_390, v404, c1_i32_392⟩
def k0_off88 (k0_t18 : Fin k0_t18_loop.trips) : Fin 3 → Nat :=
  let c0_726 : Index := 0#32
  let c7_727 : Index := 7#32
  let c128_i32 : BitVec 32 := 128#32
  let c2_i32_724 : BitVec 32 := 2#32
  let c0_i32_390 : BitVec 32 := 0#32
  let c1_i32_392 : BitVec 32 := 1#32
  let arg18 : BitVec 32 := Scf.iv c0_i32_390 c1_i32_392 k0_t18
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![0, 7, v811.toNat]
def k0_off89 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk31 (v812 : BitVec 32) : Prop :=
  (∀ a, (k0_off89 v812) a + S4x128.size a ≤ S4104x128.size a)
theorem k0_off89_inb : ∀ (v812 : BitVec 32) (k0_hw31 : k0_chk31 v812), ∀ a, (k0_off89 v812) a + S4x128.size a ≤ S4104x128.size a := fun v812 k0_hw31 => k0_hw31

def k0_off90 (k0_t18 : Fin k0_t18_loop.trips) : Fin 3 → Nat :=
  let c0_734 : Index := 0#32
  let c7_735 : Index := 7#32
  let c128_i32_732 : BitVec 32 := 128#32
  let c2_i32_731 : BitVec 32 := 2#32
  let c0_i32_390 : BitVec 32 := 0#32
  let c1_i32_392 : BitVec 32 := 1#32
  let arg18 : BitVec 32 := Scf.iv c0_i32_390 c1_i32_392 k0_t18
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![0, 7, v820.toNat]
def k0_off91 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk32 (v821 : BitVec 32) : Prop :=
  (∀ a, (k0_off91 v821) a + S4x128.size a ≤ S4104x128.size a)
theorem k0_off91_inb : ∀ (v821 : BitVec 32) (k0_hw32 : k0_chk32 v821), ∀ a, (k0_off91 v821) a + S4x128.size a ≤ S4104x128.size a := fun v821 k0_hw32 => k0_hw32

def k0_off92 (k0_t18 : Fin k0_t18_loop.trips) : Fin 3 → Nat :=
  let c0_i32_390 : BitVec 32 := 0#32
  let c1_i32_392 : BitVec 32 := 1#32
  let arg18 : BitVec 32 := Scf.iv c0_i32_390 c1_i32_392 k0_t18
  let v827 : Index := Scalar.indexCast arg18
  let c0_739 : Index := 0#32
  ![v827.toNat, 0, 0]
@[reducible] def k0_t19_loop : Scf.Loop 32 :=
  let c0_i32_426 : BitVec 32 := 0#32
  let c64_i32_427 : BitVec 32 := 64#32
  let v474 : BitVec 32 := Scalar.addi c0_i32_426 c64_i32_427
  let c1_i32_428 : BitVec 32 := 1#32
  ⟨c0_i32_426, v474, c1_i32_428⟩
def k0_off93 (k0_t19 : Fin k0_t19_loop.trips) : Fin 3 → Nat :=
  let c1_727 : Index := 1#32
  let c0_728 : Index := 0#32
  let c0_i32_725 : BitVec 32 := 0#32
  let c2_i32_724 : BitVec 32 := 2#32
  let c0_i32_426 : BitVec 32 := 0#32
  let c1_i32_428 : BitVec 32 := 1#32
  let arg18 : BitVec 32 := Scf.iv c0_i32_426 c1_i32_428 k0_t19
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![1, 0, v811.toNat]
def k0_off94 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk33 (v812 : BitVec 32) : Prop :=
  (∀ a, (k0_off94 v812) a + S4x128.size a ≤ S4104x128.size a)
theorem k0_off94_inb : ∀ (v812 : BitVec 32) (k0_hw33 : k0_chk33 v812), ∀ a, (k0_off94 v812) a + S4x128.size a ≤ S4104x128.size a := fun v812 k0_hw33 => k0_hw33

def k0_off95 (k0_t19 : Fin k0_t19_loop.trips) : Fin 3 → Nat :=
  let c1_735 : Index := 1#32
  let c0_736 : Index := 0#32
  let c0_i32_733 : BitVec 32 := 0#32
  let c2_i32_732 : BitVec 32 := 2#32
  let c0_i32_426 : BitVec 32 := 0#32
  let c1_i32_428 : BitVec 32 := 1#32
  let arg18 : BitVec 32 := Scf.iv c0_i32_426 c1_i32_428 k0_t19
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![1, 0, v820.toNat]
def k0_off96 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk34 (v821 : BitVec 32) : Prop :=
  (∀ a, (k0_off96 v821) a + S4x128.size a ≤ S4104x128.size a)
theorem k0_off96_inb : ∀ (v821 : BitVec 32) (k0_hw34 : k0_chk34 v821), ∀ a, (k0_off96 v821) a + S4x128.size a ≤ S4104x128.size a := fun v821 k0_hw34 => k0_hw34

def k0_off97 (k0_t19 : Fin k0_t19_loop.trips) : Fin 3 → Nat :=
  let c0_i32_426 : BitVec 32 := 0#32
  let c1_i32_428 : BitVec 32 := 1#32
  let arg18 : BitVec 32 := Scf.iv c0_i32_426 c1_i32_428 k0_t19
  let v827 : Index := Scalar.indexCast arg18
  let c0_740 : Index := 0#32
  ![v827.toNat, 0, 0]
@[reducible] def k0_t20_loop : Scf.Loop 32 :=
  let c0_i32_442 : BitVec 32 := 0#32
  let c64_i32_443 : BitVec 32 := 64#32
  let v487 : BitVec 32 := Scalar.addi c0_i32_442 c64_i32_443
  let c1_i32_444 : BitVec 32 := 1#32
  ⟨c0_i32_442, v487, c1_i32_444⟩
def k0_off98 (k0_t20 : Fin k0_t20_loop.trips) : Fin 3 → Nat :=
  let c1_727 : Index := 1#32
  let c1_728 : Index := 1#32
  let c0_i32_725 : BitVec 32 := 0#32
  let c2_i32_724 : BitVec 32 := 2#32
  let c0_i32_442 : BitVec 32 := 0#32
  let c1_i32_444 : BitVec 32 := 1#32
  let arg18 : BitVec 32 := Scf.iv c0_i32_442 c1_i32_444 k0_t20
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![1, 1, v811.toNat]
def k0_off99 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk35 (v812 : BitVec 32) : Prop :=
  (∀ a, (k0_off99 v812) a + S4x128.size a ≤ S4104x128.size a)
theorem k0_off99_inb : ∀ (v812 : BitVec 32) (k0_hw35 : k0_chk35 v812), ∀ a, (k0_off99 v812) a + S4x128.size a ≤ S4104x128.size a := fun v812 k0_hw35 => k0_hw35

def k0_off100 (k0_t20 : Fin k0_t20_loop.trips) : Fin 3 → Nat :=
  let c1_735 : Index := 1#32
  let c1_736 : Index := 1#32
  let c0_i32_733 : BitVec 32 := 0#32
  let c2_i32_732 : BitVec 32 := 2#32
  let c0_i32_442 : BitVec 32 := 0#32
  let c1_i32_444 : BitVec 32 := 1#32
  let arg18 : BitVec 32 := Scf.iv c0_i32_442 c1_i32_444 k0_t20
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![1, 1, v820.toNat]
def k0_off101 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk36 (v821 : BitVec 32) : Prop :=
  (∀ a, (k0_off101 v821) a + S4x128.size a ≤ S4104x128.size a)
theorem k0_off101_inb : ∀ (v821 : BitVec 32) (k0_hw36 : k0_chk36 v821), ∀ a, (k0_off101 v821) a + S4x128.size a ≤ S4104x128.size a := fun v821 k0_hw36 => k0_hw36

def k0_off102 (k0_t20 : Fin k0_t20_loop.trips) : Fin 3 → Nat :=
  let c0_i32_442 : BitVec 32 := 0#32
  let c1_i32_444 : BitVec 32 := 1#32
  let arg18 : BitVec 32 := Scf.iv c0_i32_442 c1_i32_444 k0_t20
  let v827 : Index := Scalar.indexCast arg18
  let c0_740 : Index := 0#32
  ![v827.toNat, 0, 0]
@[reducible] def k0_t21_loop : Scf.Loop 32 :=
  let c0_i32_458 : BitVec 32 := 0#32
  let c64_i32_459 : BitVec 32 := 64#32
  let v501 : BitVec 32 := Scalar.addi c0_i32_458 c64_i32_459
  let c1_i32_460 : BitVec 32 := 1#32
  ⟨c0_i32_458, v501, c1_i32_460⟩
def k0_off103 (k0_t21 : Fin k0_t21_loop.trips) : Fin 3 → Nat :=
  let c1_727 : Index := 1#32
  let c2_728 : Index := 2#32
  let c0_i32_725 : BitVec 32 := 0#32
  let c2_i32_724 : BitVec 32 := 2#32
  let c0_i32_458 : BitVec 32 := 0#32
  let c1_i32_460 : BitVec 32 := 1#32
  let arg18 : BitVec 32 := Scf.iv c0_i32_458 c1_i32_460 k0_t21
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![1, 2, v811.toNat]
def k0_off104 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk37 (v812 : BitVec 32) : Prop :=
  (∀ a, (k0_off104 v812) a + S4x128.size a ≤ S4104x128.size a)
theorem k0_off104_inb : ∀ (v812 : BitVec 32) (k0_hw37 : k0_chk37 v812), ∀ a, (k0_off104 v812) a + S4x128.size a ≤ S4104x128.size a := fun v812 k0_hw37 => k0_hw37

def k0_off105 (k0_t21 : Fin k0_t21_loop.trips) : Fin 3 → Nat :=
  let c1_735 : Index := 1#32
  let c2_736 : Index := 2#32
  let c0_i32_733 : BitVec 32 := 0#32
  let c2_i32_732 : BitVec 32 := 2#32
  let c0_i32_458 : BitVec 32 := 0#32
  let c1_i32_460 : BitVec 32 := 1#32
  let arg18 : BitVec 32 := Scf.iv c0_i32_458 c1_i32_460 k0_t21
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![1, 2, v820.toNat]
def k0_off106 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk38 (v821 : BitVec 32) : Prop :=
  (∀ a, (k0_off106 v821) a + S4x128.size a ≤ S4104x128.size a)
theorem k0_off106_inb : ∀ (v821 : BitVec 32) (k0_hw38 : k0_chk38 v821), ∀ a, (k0_off106 v821) a + S4x128.size a ≤ S4104x128.size a := fun v821 k0_hw38 => k0_hw38

def k0_off107 (k0_t21 : Fin k0_t21_loop.trips) : Fin 3 → Nat :=
  let c0_i32_458 : BitVec 32 := 0#32
  let c1_i32_460 : BitVec 32 := 1#32
  let arg18 : BitVec 32 := Scf.iv c0_i32_458 c1_i32_460 k0_t21
  let v827 : Index := Scalar.indexCast arg18
  let c0_740 : Index := 0#32
  ![v827.toNat, 0, 0]
@[reducible] def k0_t22_loop : Scf.Loop 32 :=
  let c0_i32_474 : BitVec 32 := 0#32
  let c64_i32_475 : BitVec 32 := 64#32
  let v515 : BitVec 32 := Scalar.addi c0_i32_474 c64_i32_475
  let c1_i32_476 : BitVec 32 := 1#32
  ⟨c0_i32_474, v515, c1_i32_476⟩
def k0_off108 (k0_t22 : Fin k0_t22_loop.trips) : Fin 3 → Nat :=
  let c1_727 : Index := 1#32
  let c3_728 : Index := 3#32
  let c0_i32_725 : BitVec 32 := 0#32
  let c2_i32_724 : BitVec 32 := 2#32
  let c0_i32_474 : BitVec 32 := 0#32
  let c1_i32_476 : BitVec 32 := 1#32
  let arg18 : BitVec 32 := Scf.iv c0_i32_474 c1_i32_476 k0_t22
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![1, 3, v811.toNat]
def k0_off109 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk39 (v812 : BitVec 32) : Prop :=
  (∀ a, (k0_off109 v812) a + S4x128.size a ≤ S4104x128.size a)
theorem k0_off109_inb : ∀ (v812 : BitVec 32) (k0_hw39 : k0_chk39 v812), ∀ a, (k0_off109 v812) a + S4x128.size a ≤ S4104x128.size a := fun v812 k0_hw39 => k0_hw39

def k0_off110 (k0_t22 : Fin k0_t22_loop.trips) : Fin 3 → Nat :=
  let c1_735 : Index := 1#32
  let c3_736 : Index := 3#32
  let c0_i32_733 : BitVec 32 := 0#32
  let c2_i32_732 : BitVec 32 := 2#32
  let c0_i32_474 : BitVec 32 := 0#32
  let c1_i32_476 : BitVec 32 := 1#32
  let arg18 : BitVec 32 := Scf.iv c0_i32_474 c1_i32_476 k0_t22
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![1, 3, v820.toNat]
def k0_off111 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk40 (v821 : BitVec 32) : Prop :=
  (∀ a, (k0_off111 v821) a + S4x128.size a ≤ S4104x128.size a)
theorem k0_off111_inb : ∀ (v821 : BitVec 32) (k0_hw40 : k0_chk40 v821), ∀ a, (k0_off111 v821) a + S4x128.size a ≤ S4104x128.size a := fun v821 k0_hw40 => k0_hw40

def k0_off112 (k0_t22 : Fin k0_t22_loop.trips) : Fin 3 → Nat :=
  let c0_i32_474 : BitVec 32 := 0#32
  let c1_i32_476 : BitVec 32 := 1#32
  let arg18 : BitVec 32 := Scf.iv c0_i32_474 c1_i32_476 k0_t22
  let v827 : Index := Scalar.indexCast arg18
  let c0_740 : Index := 0#32
  ![v827.toNat, 0, 0]
@[reducible] def k0_t23_loop : Scf.Loop 32 :=
  let c0_i32_490 : BitVec 32 := 0#32
  let c64_i32_491 : BitVec 32 := 64#32
  let v529 : BitVec 32 := Scalar.addi c0_i32_490 c64_i32_491
  let c1_i32_492 : BitVec 32 := 1#32
  ⟨c0_i32_490, v529, c1_i32_492⟩
def k0_off113 (k0_t23 : Fin k0_t23_loop.trips) : Fin 3 → Nat :=
  let c1_727 : Index := 1#32
  let c4_728 : Index := 4#32
  let c0_i32_725 : BitVec 32 := 0#32
  let c2_i32_724 : BitVec 32 := 2#32
  let c0_i32_490 : BitVec 32 := 0#32
  let c1_i32_492 : BitVec 32 := 1#32
  let arg18 : BitVec 32 := Scf.iv c0_i32_490 c1_i32_492 k0_t23
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![1, 4, v811.toNat]
def k0_off114 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk41 (v812 : BitVec 32) : Prop :=
  (∀ a, (k0_off114 v812) a + S4x128.size a ≤ S4104x128.size a)
theorem k0_off114_inb : ∀ (v812 : BitVec 32) (k0_hw41 : k0_chk41 v812), ∀ a, (k0_off114 v812) a + S4x128.size a ≤ S4104x128.size a := fun v812 k0_hw41 => k0_hw41

def k0_off115 (k0_t23 : Fin k0_t23_loop.trips) : Fin 3 → Nat :=
  let c1_735 : Index := 1#32
  let c4_736 : Index := 4#32
  let c0_i32_733 : BitVec 32 := 0#32
  let c2_i32_732 : BitVec 32 := 2#32
  let c0_i32_490 : BitVec 32 := 0#32
  let c1_i32_492 : BitVec 32 := 1#32
  let arg18 : BitVec 32 := Scf.iv c0_i32_490 c1_i32_492 k0_t23
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![1, 4, v820.toNat]
def k0_off116 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk42 (v821 : BitVec 32) : Prop :=
  (∀ a, (k0_off116 v821) a + S4x128.size a ≤ S4104x128.size a)
theorem k0_off116_inb : ∀ (v821 : BitVec 32) (k0_hw42 : k0_chk42 v821), ∀ a, (k0_off116 v821) a + S4x128.size a ≤ S4104x128.size a := fun v821 k0_hw42 => k0_hw42

def k0_off117 (k0_t23 : Fin k0_t23_loop.trips) : Fin 3 → Nat :=
  let c0_i32_490 : BitVec 32 := 0#32
  let c1_i32_492 : BitVec 32 := 1#32
  let arg18 : BitVec 32 := Scf.iv c0_i32_490 c1_i32_492 k0_t23
  let v827 : Index := Scalar.indexCast arg18
  let c0_740 : Index := 0#32
  ![v827.toNat, 0, 0]
@[reducible] def k0_t24_loop : Scf.Loop 32 :=
  let c0_i32_506 : BitVec 32 := 0#32
  let c64_i32_507 : BitVec 32 := 64#32
  let v543 : BitVec 32 := Scalar.addi c0_i32_506 c64_i32_507
  let c1_i32_508 : BitVec 32 := 1#32
  ⟨c0_i32_506, v543, c1_i32_508⟩
def k0_off118 (k0_t24 : Fin k0_t24_loop.trips) : Fin 3 → Nat :=
  let c1_727 : Index := 1#32
  let c5_728 : Index := 5#32
  let c0_i32_725 : BitVec 32 := 0#32
  let c2_i32_724 : BitVec 32 := 2#32
  let c0_i32_506 : BitVec 32 := 0#32
  let c1_i32_508 : BitVec 32 := 1#32
  let arg18 : BitVec 32 := Scf.iv c0_i32_506 c1_i32_508 k0_t24
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![1, 5, v811.toNat]
def k0_off119 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk43 (v812 : BitVec 32) : Prop :=
  (∀ a, (k0_off119 v812) a + S4x128.size a ≤ S4104x128.size a)
theorem k0_off119_inb : ∀ (v812 : BitVec 32) (k0_hw43 : k0_chk43 v812), ∀ a, (k0_off119 v812) a + S4x128.size a ≤ S4104x128.size a := fun v812 k0_hw43 => k0_hw43

def k0_off120 (k0_t24 : Fin k0_t24_loop.trips) : Fin 3 → Nat :=
  let c1_735 : Index := 1#32
  let c5_736 : Index := 5#32
  let c0_i32_733 : BitVec 32 := 0#32
  let c2_i32_732 : BitVec 32 := 2#32
  let c0_i32_506 : BitVec 32 := 0#32
  let c1_i32_508 : BitVec 32 := 1#32
  let arg18 : BitVec 32 := Scf.iv c0_i32_506 c1_i32_508 k0_t24
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![1, 5, v820.toNat]
def k0_off121 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk44 (v821 : BitVec 32) : Prop :=
  (∀ a, (k0_off121 v821) a + S4x128.size a ≤ S4104x128.size a)
theorem k0_off121_inb : ∀ (v821 : BitVec 32) (k0_hw44 : k0_chk44 v821), ∀ a, (k0_off121 v821) a + S4x128.size a ≤ S4104x128.size a := fun v821 k0_hw44 => k0_hw44

def k0_off122 (k0_t24 : Fin k0_t24_loop.trips) : Fin 3 → Nat :=
  let c0_i32_506 : BitVec 32 := 0#32
  let c1_i32_508 : BitVec 32 := 1#32
  let arg18 : BitVec 32 := Scf.iv c0_i32_506 c1_i32_508 k0_t24
  let v827 : Index := Scalar.indexCast arg18
  let c0_740 : Index := 0#32
  ![v827.toNat, 0, 0]
@[reducible] def k0_t25_loop : Scf.Loop 32 :=
  let c0_i32_522 : BitVec 32 := 0#32
  let c64_i32_523 : BitVec 32 := 64#32
  let v557 : BitVec 32 := Scalar.addi c0_i32_522 c64_i32_523
  let c1_i32_524 : BitVec 32 := 1#32
  ⟨c0_i32_522, v557, c1_i32_524⟩
def k0_off123 (k0_t25 : Fin k0_t25_loop.trips) : Fin 3 → Nat :=
  let c1_727 : Index := 1#32
  let c6_728 : Index := 6#32
  let c0_i32_725 : BitVec 32 := 0#32
  let c2_i32_724 : BitVec 32 := 2#32
  let c0_i32_522 : BitVec 32 := 0#32
  let c1_i32_524 : BitVec 32 := 1#32
  let arg18 : BitVec 32 := Scf.iv c0_i32_522 c1_i32_524 k0_t25
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![1, 6, v811.toNat]
def k0_off124 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk45 (v812 : BitVec 32) : Prop :=
  (∀ a, (k0_off124 v812) a + S4x128.size a ≤ S4104x128.size a)
theorem k0_off124_inb : ∀ (v812 : BitVec 32) (k0_hw45 : k0_chk45 v812), ∀ a, (k0_off124 v812) a + S4x128.size a ≤ S4104x128.size a := fun v812 k0_hw45 => k0_hw45

def k0_off125 (k0_t25 : Fin k0_t25_loop.trips) : Fin 3 → Nat :=
  let c1_735 : Index := 1#32
  let c6_736 : Index := 6#32
  let c0_i32_733 : BitVec 32 := 0#32
  let c2_i32_732 : BitVec 32 := 2#32
  let c0_i32_522 : BitVec 32 := 0#32
  let c1_i32_524 : BitVec 32 := 1#32
  let arg18 : BitVec 32 := Scf.iv c0_i32_522 c1_i32_524 k0_t25
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![1, 6, v820.toNat]
def k0_off126 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk46 (v821 : BitVec 32) : Prop :=
  (∀ a, (k0_off126 v821) a + S4x128.size a ≤ S4104x128.size a)
theorem k0_off126_inb : ∀ (v821 : BitVec 32) (k0_hw46 : k0_chk46 v821), ∀ a, (k0_off126 v821) a + S4x128.size a ≤ S4104x128.size a := fun v821 k0_hw46 => k0_hw46

def k0_off127 (k0_t25 : Fin k0_t25_loop.trips) : Fin 3 → Nat :=
  let c0_i32_522 : BitVec 32 := 0#32
  let c1_i32_524 : BitVec 32 := 1#32
  let arg18 : BitVec 32 := Scf.iv c0_i32_522 c1_i32_524 k0_t25
  let v827 : Index := Scalar.indexCast arg18
  let c0_740 : Index := 0#32
  ![v827.toNat, 0, 0]
@[reducible] def k0_t26_loop : Scf.Loop 32 :=
  let c0_i32_538 : BitVec 32 := 0#32
  let c64_i32_539 : BitVec 32 := 64#32
  let v571 : BitVec 32 := Scalar.addi c0_i32_538 c64_i32_539
  let c1_i32_540 : BitVec 32 := 1#32
  ⟨c0_i32_538, v571, c1_i32_540⟩
def k0_off128 (k0_t26 : Fin k0_t26_loop.trips) : Fin 3 → Nat :=
  let c1_727 : Index := 1#32
  let c7_728 : Index := 7#32
  let c0_i32_725 : BitVec 32 := 0#32
  let c2_i32_724 : BitVec 32 := 2#32
  let c0_i32_538 : BitVec 32 := 0#32
  let c1_i32_540 : BitVec 32 := 1#32
  let arg18 : BitVec 32 := Scf.iv c0_i32_538 c1_i32_540 k0_t26
  let v808 : BitVec 32 := Scalar.muli c2_i32_724 arg18
  let v809 : BitVec 32 := Scalar.addi c0_i32_725 v808
  let c0_i32_726 : BitVec 32 := 0#32
  let v810 : BitVec 32 := Scalar.addi v809 c0_i32_726
  let v811 : Index := Scalar.indexCast v810
  ![1, 7, v811.toNat]
def k0_off129 (v812 : BitVec 32) : Fin 2 → Nat :=
  let c4_i32_729 : BitVec 32 := 4#32
  let v813 : BitVec 32 := Scalar.muli v812 c4_i32_729
  let c8_i32_730 : BitVec 32 := 8#32
  let v814 : BitVec 32 := Scalar.addi v813 c8_i32_730
  let v815 : Index := Scalar.indexCast v814
  let c0_731 : Index := 0#32
  ![v815.toNat, 0]

def k0_chk47 (v812 : BitVec 32) : Prop :=
  (∀ a, (k0_off129 v812) a + S4x128.size a ≤ S4104x128.size a)
theorem k0_off129_inb : ∀ (v812 : BitVec 32) (k0_hw47 : k0_chk47 v812), ∀ a, (k0_off129 v812) a + S4x128.size a ≤ S4104x128.size a := fun v812 k0_hw47 => k0_hw47

def k0_off130 (k0_t26 : Fin k0_t26_loop.trips) : Fin 3 → Nat :=
  let c1_735 : Index := 1#32
  let c7_736 : Index := 7#32
  let c0_i32_733 : BitVec 32 := 0#32
  let c2_i32_732 : BitVec 32 := 2#32
  let c0_i32_538 : BitVec 32 := 0#32
  let c1_i32_540 : BitVec 32 := 1#32
  let arg18 : BitVec 32 := Scf.iv c0_i32_538 c1_i32_540 k0_t26
  let v817 : BitVec 32 := Scalar.muli c2_i32_732 arg18
  let v818 : BitVec 32 := Scalar.addi c0_i32_733 v817
  let c1_i32_734 : BitVec 32 := 1#32
  let v819 : BitVec 32 := Scalar.addi v818 c1_i32_734
  let v820 : Index := Scalar.indexCast v819
  ![1, 7, v820.toNat]
def k0_off131 (v821 : BitVec 32) : Fin 2 → Nat :=
  let c4_i32_737 : BitVec 32 := 4#32
  let v822 : BitVec 32 := Scalar.muli v821 c4_i32_737
  let c8_i32_738 : BitVec 32 := 8#32
  let v823 : BitVec 32 := Scalar.addi v822 c8_i32_738
  let v824 : Index := Scalar.indexCast v823
  let c0_739 : Index := 0#32
  ![v824.toNat, 0]

def k0_chk48 (v821 : BitVec 32) : Prop :=
  (∀ a, (k0_off131 v821) a + S4x128.size a ≤ S4104x128.size a)
theorem k0_off131_inb : ∀ (v821 : BitVec 32) (k0_hw48 : k0_chk48 v821), ∀ a, (k0_off131 v821) a + S4x128.size a ≤ S4104x128.size a := fun v821 k0_hw48 => k0_hw48

def k0_off132 (k0_t26 : Fin k0_t26_loop.trips) : Fin 3 → Nat :=
  let c0_i32_538 : BitVec 32 := 0#32
  let c1_i32_540 : BitVec 32 := 1#32
  let arg18 : BitVec 32 := Scf.iv c0_i32_538 c1_i32_540 k0_t26
  let v827 : Index := Scalar.indexCast arg18
  let c0_740 : Index := 0#32
  ![v827.toNat, 0, 0]
@[reducible] def k0_t27_loop : Scf.Loop 32 :=
  let c0_i32_575 : BitVec 32 := 0#32
  let c64_i32_576 : BitVec 32 := 64#32
  let v641 : BitVec 32 := Scalar.addi c0_i32_575 c64_i32_576
  let c1_i32_577 : BitVec 32 := 1#32
  ⟨c0_i32_575, v641, c1_i32_577⟩
def k0_off133 (k0_t27 : Fin k0_t27_loop.trips) : Fin 3 → Nat :=
  let c1_726 : Index := 1#32
  let c0_727 : Index := 0#32
  let c128_i32 : BitVec 32 := 128#32
  let c2_i32_724 : BitVec 32 := 2#32
  let c0_i32_575 : BitVec 32 := 0#32
  let c1_i32_577 : BitVec 32 := 1#32
  let arg18 : BitVec 32 := Scf.iv c0_i32_575 c1_i32_577 k0_t27
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![1, 0, v811.toNat]
def k0_off134 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk49 (v812 : BitVec 32) : Prop :=
  (∀ a, (k0_off134 v812) a + S4x128.size a ≤ S4104x128.size a)
theorem k0_off134_inb : ∀ (v812 : BitVec 32) (k0_hw49 : k0_chk49 v812), ∀ a, (k0_off134 v812) a + S4x128.size a ≤ S4104x128.size a := fun v812 k0_hw49 => k0_hw49

def k0_off135 (k0_t27 : Fin k0_t27_loop.trips) : Fin 3 → Nat :=
  let c1_734 : Index := 1#32
  let c0_735 : Index := 0#32
  let c128_i32_732 : BitVec 32 := 128#32
  let c2_i32_731 : BitVec 32 := 2#32
  let c0_i32_575 : BitVec 32 := 0#32
  let c1_i32_577 : BitVec 32 := 1#32
  let arg18 : BitVec 32 := Scf.iv c0_i32_575 c1_i32_577 k0_t27
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![1, 0, v820.toNat]
def k0_off136 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk50 (v821 : BitVec 32) : Prop :=
  (∀ a, (k0_off136 v821) a + S4x128.size a ≤ S4104x128.size a)
theorem k0_off136_inb : ∀ (v821 : BitVec 32) (k0_hw50 : k0_chk50 v821), ∀ a, (k0_off136 v821) a + S4x128.size a ≤ S4104x128.size a := fun v821 k0_hw50 => k0_hw50

def k0_off137 (k0_t27 : Fin k0_t27_loop.trips) : Fin 3 → Nat :=
  let c0_i32_575 : BitVec 32 := 0#32
  let c1_i32_577 : BitVec 32 := 1#32
  let arg18 : BitVec 32 := Scf.iv c0_i32_575 c1_i32_577 k0_t27
  let v827 : Index := Scalar.indexCast arg18
  let c0_739 : Index := 0#32
  ![v827.toNat, 0, 0]
@[reducible] def k0_t28_loop : Scf.Loop 32 :=
  let c0_i32_591 : BitVec 32 := 0#32
  let c64_i32_592 : BitVec 32 := 64#32
  let v654 : BitVec 32 := Scalar.addi c0_i32_591 c64_i32_592
  let c1_i32_593 : BitVec 32 := 1#32
  ⟨c0_i32_591, v654, c1_i32_593⟩
def k0_off138 (k0_t28 : Fin k0_t28_loop.trips) : Fin 3 → Nat :=
  let c1_726 : Index := 1#32
  let c1_727 : Index := 1#32
  let c128_i32 : BitVec 32 := 128#32
  let c2_i32_724 : BitVec 32 := 2#32
  let c0_i32_591 : BitVec 32 := 0#32
  let c1_i32_593 : BitVec 32 := 1#32
  let arg18 : BitVec 32 := Scf.iv c0_i32_591 c1_i32_593 k0_t28
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![1, 1, v811.toNat]
def k0_off139 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk51 (v812 : BitVec 32) : Prop :=
  (∀ a, (k0_off139 v812) a + S4x128.size a ≤ S4104x128.size a)
theorem k0_off139_inb : ∀ (v812 : BitVec 32) (k0_hw51 : k0_chk51 v812), ∀ a, (k0_off139 v812) a + S4x128.size a ≤ S4104x128.size a := fun v812 k0_hw51 => k0_hw51

def k0_off140 (k0_t28 : Fin k0_t28_loop.trips) : Fin 3 → Nat :=
  let c1_734 : Index := 1#32
  let c1_735 : Index := 1#32
  let c128_i32_732 : BitVec 32 := 128#32
  let c2_i32_731 : BitVec 32 := 2#32
  let c0_i32_591 : BitVec 32 := 0#32
  let c1_i32_593 : BitVec 32 := 1#32
  let arg18 : BitVec 32 := Scf.iv c0_i32_591 c1_i32_593 k0_t28
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![1, 1, v820.toNat]
def k0_off141 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk52 (v821 : BitVec 32) : Prop :=
  (∀ a, (k0_off141 v821) a + S4x128.size a ≤ S4104x128.size a)
theorem k0_off141_inb : ∀ (v821 : BitVec 32) (k0_hw52 : k0_chk52 v821), ∀ a, (k0_off141 v821) a + S4x128.size a ≤ S4104x128.size a := fun v821 k0_hw52 => k0_hw52

def k0_off142 (k0_t28 : Fin k0_t28_loop.trips) : Fin 3 → Nat :=
  let c0_i32_591 : BitVec 32 := 0#32
  let c1_i32_593 : BitVec 32 := 1#32
  let arg18 : BitVec 32 := Scf.iv c0_i32_591 c1_i32_593 k0_t28
  let v827 : Index := Scalar.indexCast arg18
  let c0_739 : Index := 0#32
  ![v827.toNat, 0, 0]
@[reducible] def k0_t29_loop : Scf.Loop 32 :=
  let c0_i32_607 : BitVec 32 := 0#32
  let c64_i32_608 : BitVec 32 := 64#32
  let v668 : BitVec 32 := Scalar.addi c0_i32_607 c64_i32_608
  let c1_i32_609 : BitVec 32 := 1#32
  ⟨c0_i32_607, v668, c1_i32_609⟩
def k0_off143 (k0_t29 : Fin k0_t29_loop.trips) : Fin 3 → Nat :=
  let c1_726 : Index := 1#32
  let c2_727 : Index := 2#32
  let c128_i32 : BitVec 32 := 128#32
  let c2_i32_724 : BitVec 32 := 2#32
  let c0_i32_607 : BitVec 32 := 0#32
  let c1_i32_609 : BitVec 32 := 1#32
  let arg18 : BitVec 32 := Scf.iv c0_i32_607 c1_i32_609 k0_t29
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![1, 2, v811.toNat]
def k0_off144 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk53 (v812 : BitVec 32) : Prop :=
  (∀ a, (k0_off144 v812) a + S4x128.size a ≤ S4104x128.size a)
theorem k0_off144_inb : ∀ (v812 : BitVec 32) (k0_hw53 : k0_chk53 v812), ∀ a, (k0_off144 v812) a + S4x128.size a ≤ S4104x128.size a := fun v812 k0_hw53 => k0_hw53

def k0_off145 (k0_t29 : Fin k0_t29_loop.trips) : Fin 3 → Nat :=
  let c1_734 : Index := 1#32
  let c2_735 : Index := 2#32
  let c128_i32_732 : BitVec 32 := 128#32
  let c2_i32_731 : BitVec 32 := 2#32
  let c0_i32_607 : BitVec 32 := 0#32
  let c1_i32_609 : BitVec 32 := 1#32
  let arg18 : BitVec 32 := Scf.iv c0_i32_607 c1_i32_609 k0_t29
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![1, 2, v820.toNat]
def k0_off146 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk54 (v821 : BitVec 32) : Prop :=
  (∀ a, (k0_off146 v821) a + S4x128.size a ≤ S4104x128.size a)
theorem k0_off146_inb : ∀ (v821 : BitVec 32) (k0_hw54 : k0_chk54 v821), ∀ a, (k0_off146 v821) a + S4x128.size a ≤ S4104x128.size a := fun v821 k0_hw54 => k0_hw54

def k0_off147 (k0_t29 : Fin k0_t29_loop.trips) : Fin 3 → Nat :=
  let c0_i32_607 : BitVec 32 := 0#32
  let c1_i32_609 : BitVec 32 := 1#32
  let arg18 : BitVec 32 := Scf.iv c0_i32_607 c1_i32_609 k0_t29
  let v827 : Index := Scalar.indexCast arg18
  let c0_739 : Index := 0#32
  ![v827.toNat, 0, 0]
@[reducible] def k0_t30_loop : Scf.Loop 32 :=
  let c0_i32_623 : BitVec 32 := 0#32
  let c64_i32_624 : BitVec 32 := 64#32
  let v682 : BitVec 32 := Scalar.addi c0_i32_623 c64_i32_624
  let c1_i32_625 : BitVec 32 := 1#32
  ⟨c0_i32_623, v682, c1_i32_625⟩
def k0_off148 (k0_t30 : Fin k0_t30_loop.trips) : Fin 3 → Nat :=
  let c1_726 : Index := 1#32
  let c3_727 : Index := 3#32
  let c128_i32 : BitVec 32 := 128#32
  let c2_i32_724 : BitVec 32 := 2#32
  let c0_i32_623 : BitVec 32 := 0#32
  let c1_i32_625 : BitVec 32 := 1#32
  let arg18 : BitVec 32 := Scf.iv c0_i32_623 c1_i32_625 k0_t30
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![1, 3, v811.toNat]
def k0_off149 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk55 (v812 : BitVec 32) : Prop :=
  (∀ a, (k0_off149 v812) a + S4x128.size a ≤ S4104x128.size a)
theorem k0_off149_inb : ∀ (v812 : BitVec 32) (k0_hw55 : k0_chk55 v812), ∀ a, (k0_off149 v812) a + S4x128.size a ≤ S4104x128.size a := fun v812 k0_hw55 => k0_hw55

def k0_off150 (k0_t30 : Fin k0_t30_loop.trips) : Fin 3 → Nat :=
  let c1_734 : Index := 1#32
  let c3_735 : Index := 3#32
  let c128_i32_732 : BitVec 32 := 128#32
  let c2_i32_731 : BitVec 32 := 2#32
  let c0_i32_623 : BitVec 32 := 0#32
  let c1_i32_625 : BitVec 32 := 1#32
  let arg18 : BitVec 32 := Scf.iv c0_i32_623 c1_i32_625 k0_t30
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![1, 3, v820.toNat]
def k0_off151 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk56 (v821 : BitVec 32) : Prop :=
  (∀ a, (k0_off151 v821) a + S4x128.size a ≤ S4104x128.size a)
theorem k0_off151_inb : ∀ (v821 : BitVec 32) (k0_hw56 : k0_chk56 v821), ∀ a, (k0_off151 v821) a + S4x128.size a ≤ S4104x128.size a := fun v821 k0_hw56 => k0_hw56

def k0_off152 (k0_t30 : Fin k0_t30_loop.trips) : Fin 3 → Nat :=
  let c0_i32_623 : BitVec 32 := 0#32
  let c1_i32_625 : BitVec 32 := 1#32
  let arg18 : BitVec 32 := Scf.iv c0_i32_623 c1_i32_625 k0_t30
  let v827 : Index := Scalar.indexCast arg18
  let c0_739 : Index := 0#32
  ![v827.toNat, 0, 0]
@[reducible] def k0_t31_loop : Scf.Loop 32 :=
  let c0_i32_639 : BitVec 32 := 0#32
  let c64_i32_640 : BitVec 32 := 64#32
  let v696 : BitVec 32 := Scalar.addi c0_i32_639 c64_i32_640
  let c1_i32_641 : BitVec 32 := 1#32
  ⟨c0_i32_639, v696, c1_i32_641⟩
def k0_off153 (k0_t31 : Fin k0_t31_loop.trips) : Fin 3 → Nat :=
  let c1_726 : Index := 1#32
  let c4_727 : Index := 4#32
  let c128_i32 : BitVec 32 := 128#32
  let c2_i32_724 : BitVec 32 := 2#32
  let c0_i32_639 : BitVec 32 := 0#32
  let c1_i32_641 : BitVec 32 := 1#32
  let arg18 : BitVec 32 := Scf.iv c0_i32_639 c1_i32_641 k0_t31
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![1, 4, v811.toNat]
def k0_off154 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk57 (v812 : BitVec 32) : Prop :=
  (∀ a, (k0_off154 v812) a + S4x128.size a ≤ S4104x128.size a)
theorem k0_off154_inb : ∀ (v812 : BitVec 32) (k0_hw57 : k0_chk57 v812), ∀ a, (k0_off154 v812) a + S4x128.size a ≤ S4104x128.size a := fun v812 k0_hw57 => k0_hw57

def k0_off155 (k0_t31 : Fin k0_t31_loop.trips) : Fin 3 → Nat :=
  let c1_734 : Index := 1#32
  let c4_735 : Index := 4#32
  let c128_i32_732 : BitVec 32 := 128#32
  let c2_i32_731 : BitVec 32 := 2#32
  let c0_i32_639 : BitVec 32 := 0#32
  let c1_i32_641 : BitVec 32 := 1#32
  let arg18 : BitVec 32 := Scf.iv c0_i32_639 c1_i32_641 k0_t31
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![1, 4, v820.toNat]
def k0_off156 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk58 (v821 : BitVec 32) : Prop :=
  (∀ a, (k0_off156 v821) a + S4x128.size a ≤ S4104x128.size a)
theorem k0_off156_inb : ∀ (v821 : BitVec 32) (k0_hw58 : k0_chk58 v821), ∀ a, (k0_off156 v821) a + S4x128.size a ≤ S4104x128.size a := fun v821 k0_hw58 => k0_hw58

def k0_off157 (k0_t31 : Fin k0_t31_loop.trips) : Fin 3 → Nat :=
  let c0_i32_639 : BitVec 32 := 0#32
  let c1_i32_641 : BitVec 32 := 1#32
  let arg18 : BitVec 32 := Scf.iv c0_i32_639 c1_i32_641 k0_t31
  let v827 : Index := Scalar.indexCast arg18
  let c0_739 : Index := 0#32
  ![v827.toNat, 0, 0]
@[reducible] def k0_t32_loop : Scf.Loop 32 :=
  let c0_i32_655 : BitVec 32 := 0#32
  let c64_i32_656 : BitVec 32 := 64#32
  let v710 : BitVec 32 := Scalar.addi c0_i32_655 c64_i32_656
  let c1_i32_657 : BitVec 32 := 1#32
  ⟨c0_i32_655, v710, c1_i32_657⟩
def k0_off158 (k0_t32 : Fin k0_t32_loop.trips) : Fin 3 → Nat :=
  let c1_726 : Index := 1#32
  let c5_727 : Index := 5#32
  let c128_i32 : BitVec 32 := 128#32
  let c2_i32_724 : BitVec 32 := 2#32
  let c0_i32_655 : BitVec 32 := 0#32
  let c1_i32_657 : BitVec 32 := 1#32
  let arg18 : BitVec 32 := Scf.iv c0_i32_655 c1_i32_657 k0_t32
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![1, 5, v811.toNat]
def k0_off159 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk59 (v812 : BitVec 32) : Prop :=
  (∀ a, (k0_off159 v812) a + S4x128.size a ≤ S4104x128.size a)
theorem k0_off159_inb : ∀ (v812 : BitVec 32) (k0_hw59 : k0_chk59 v812), ∀ a, (k0_off159 v812) a + S4x128.size a ≤ S4104x128.size a := fun v812 k0_hw59 => k0_hw59

def k0_off160 (k0_t32 : Fin k0_t32_loop.trips) : Fin 3 → Nat :=
  let c1_734 : Index := 1#32
  let c5_735 : Index := 5#32
  let c128_i32_732 : BitVec 32 := 128#32
  let c2_i32_731 : BitVec 32 := 2#32
  let c0_i32_655 : BitVec 32 := 0#32
  let c1_i32_657 : BitVec 32 := 1#32
  let arg18 : BitVec 32 := Scf.iv c0_i32_655 c1_i32_657 k0_t32
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![1, 5, v820.toNat]
def k0_off161 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk60 (v821 : BitVec 32) : Prop :=
  (∀ a, (k0_off161 v821) a + S4x128.size a ≤ S4104x128.size a)
theorem k0_off161_inb : ∀ (v821 : BitVec 32) (k0_hw60 : k0_chk60 v821), ∀ a, (k0_off161 v821) a + S4x128.size a ≤ S4104x128.size a := fun v821 k0_hw60 => k0_hw60

def k0_off162 (k0_t32 : Fin k0_t32_loop.trips) : Fin 3 → Nat :=
  let c0_i32_655 : BitVec 32 := 0#32
  let c1_i32_657 : BitVec 32 := 1#32
  let arg18 : BitVec 32 := Scf.iv c0_i32_655 c1_i32_657 k0_t32
  let v827 : Index := Scalar.indexCast arg18
  let c0_739 : Index := 0#32
  ![v827.toNat, 0, 0]
@[reducible] def k0_t33_loop : Scf.Loop 32 :=
  let c0_i32_671 : BitVec 32 := 0#32
  let c64_i32_672 : BitVec 32 := 64#32
  let v724 : BitVec 32 := Scalar.addi c0_i32_671 c64_i32_672
  let c1_i32_673 : BitVec 32 := 1#32
  ⟨c0_i32_671, v724, c1_i32_673⟩
def k0_off163 (k0_t33 : Fin k0_t33_loop.trips) : Fin 3 → Nat :=
  let c1_726 : Index := 1#32
  let c6_727 : Index := 6#32
  let c128_i32 : BitVec 32 := 128#32
  let c2_i32_724 : BitVec 32 := 2#32
  let c0_i32_671 : BitVec 32 := 0#32
  let c1_i32_673 : BitVec 32 := 1#32
  let arg18 : BitVec 32 := Scf.iv c0_i32_671 c1_i32_673 k0_t33
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![1, 6, v811.toNat]
def k0_off164 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk61 (v812 : BitVec 32) : Prop :=
  (∀ a, (k0_off164 v812) a + S4x128.size a ≤ S4104x128.size a)
theorem k0_off164_inb : ∀ (v812 : BitVec 32) (k0_hw61 : k0_chk61 v812), ∀ a, (k0_off164 v812) a + S4x128.size a ≤ S4104x128.size a := fun v812 k0_hw61 => k0_hw61

def k0_off165 (k0_t33 : Fin k0_t33_loop.trips) : Fin 3 → Nat :=
  let c1_734 : Index := 1#32
  let c6_735 : Index := 6#32
  let c128_i32_732 : BitVec 32 := 128#32
  let c2_i32_731 : BitVec 32 := 2#32
  let c0_i32_671 : BitVec 32 := 0#32
  let c1_i32_673 : BitVec 32 := 1#32
  let arg18 : BitVec 32 := Scf.iv c0_i32_671 c1_i32_673 k0_t33
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![1, 6, v820.toNat]
def k0_off166 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk62 (v821 : BitVec 32) : Prop :=
  (∀ a, (k0_off166 v821) a + S4x128.size a ≤ S4104x128.size a)
theorem k0_off166_inb : ∀ (v821 : BitVec 32) (k0_hw62 : k0_chk62 v821), ∀ a, (k0_off166 v821) a + S4x128.size a ≤ S4104x128.size a := fun v821 k0_hw62 => k0_hw62

def k0_off167 (k0_t33 : Fin k0_t33_loop.trips) : Fin 3 → Nat :=
  let c0_i32_671 : BitVec 32 := 0#32
  let c1_i32_673 : BitVec 32 := 1#32
  let arg18 : BitVec 32 := Scf.iv c0_i32_671 c1_i32_673 k0_t33
  let v827 : Index := Scalar.indexCast arg18
  let c0_739 : Index := 0#32
  ![v827.toNat, 0, 0]
@[reducible] def k0_t34_loop : Scf.Loop 32 :=
  let c0_i32_687 : BitVec 32 := 0#32
  let c64_i32_688 : BitVec 32 := 64#32
  let v738 : BitVec 32 := Scalar.addi c0_i32_687 c64_i32_688
  let c1_i32_689 : BitVec 32 := 1#32
  ⟨c0_i32_687, v738, c1_i32_689⟩
def k0_off168 (k0_t34 : Fin k0_t34_loop.trips) : Fin 3 → Nat :=
  let c1_726 : Index := 1#32
  let c7_727 : Index := 7#32
  let c128_i32 : BitVec 32 := 128#32
  let c2_i32_724 : BitVec 32 := 2#32
  let c0_i32_687 : BitVec 32 := 0#32
  let c1_i32_689 : BitVec 32 := 1#32
  let arg18 : BitVec 32 := Scf.iv c0_i32_687 c1_i32_689 k0_t34
  let v808 : BitVec 32 := Scalar.muli c2_i32_724 arg18
  let v809 : BitVec 32 := Scalar.addi c128_i32 v808
  let c0_i32_725 : BitVec 32 := 0#32
  let v810 : BitVec 32 := Scalar.addi v809 c0_i32_725
  let v811 : Index := Scalar.indexCast v810
  ![1, 7, v811.toNat]
def k0_off169 (v812 : BitVec 32) : Fin 2 → Nat :=
  let c4_i32_728 : BitVec 32 := 4#32
  let v813 : BitVec 32 := Scalar.muli v812 c4_i32_728
  let c8_i32_729 : BitVec 32 := 8#32
  let v814 : BitVec 32 := Scalar.addi v813 c8_i32_729
  let v815 : Index := Scalar.indexCast v814
  let c0_730 : Index := 0#32
  ![v815.toNat, 0]

def k0_chk63 (v812 : BitVec 32) : Prop :=
  (∀ a, (k0_off169 v812) a + S4x128.size a ≤ S4104x128.size a)
theorem k0_off169_inb : ∀ (v812 : BitVec 32) (k0_hw63 : k0_chk63 v812), ∀ a, (k0_off169 v812) a + S4x128.size a ≤ S4104x128.size a := fun v812 k0_hw63 => k0_hw63

def k0_off170 (k0_t34 : Fin k0_t34_loop.trips) : Fin 3 → Nat :=
  let c1_734 : Index := 1#32
  let c7_735 : Index := 7#32
  let c128_i32_732 : BitVec 32 := 128#32
  let c2_i32_731 : BitVec 32 := 2#32
  let c0_i32_687 : BitVec 32 := 0#32
  let c1_i32_689 : BitVec 32 := 1#32
  let arg18 : BitVec 32 := Scf.iv c0_i32_687 c1_i32_689 k0_t34
  let v817 : BitVec 32 := Scalar.muli c2_i32_731 arg18
  let v818 : BitVec 32 := Scalar.addi c128_i32_732 v817
  let c1_i32_733 : BitVec 32 := 1#32
  let v819 : BitVec 32 := Scalar.addi v818 c1_i32_733
  let v820 : Index := Scalar.indexCast v819
  ![1, 7, v820.toNat]
def k0_off171 (v821 : BitVec 32) : Fin 2 → Nat :=
  let c4_i32_736 : BitVec 32 := 4#32
  let v822 : BitVec 32 := Scalar.muli v821 c4_i32_736
  let c8_i32_737 : BitVec 32 := 8#32
  let v823 : BitVec 32 := Scalar.addi v822 c8_i32_737
  let v824 : Index := Scalar.indexCast v823
  let c0_738 : Index := 0#32
  ![v824.toNat, 0]

def k0_chk64 (v821 : BitVec 32) : Prop :=
  (∀ a, (k0_off171 v821) a + S4x128.size a ≤ S4104x128.size a)
theorem k0_off171_inb : ∀ (v821 : BitVec 32) (k0_hw64 : k0_chk64 v821), ∀ a, (k0_off171 v821) a + S4x128.size a ≤ S4104x128.size a := fun v821 k0_hw64 => k0_hw64

def k0_off172 (k0_t34 : Fin k0_t34_loop.trips) : Fin 3 → Nat :=
  let c0_i32_687 : BitVec 32 := 0#32
  let c1_i32_689 : BitVec 32 := 1#32
  let arg18 : BitVec 32 := Scf.iv c0_i32_687 c1_i32_689 k0_t34
  let v827 : Index := Scalar.indexCast arg18
  let c0_739 : Index := 0#32
  ![v827.toNat, 0, 0]
abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x640 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2x1024x512 : Shape := ⟨3, ![2, 1024, 512]⟩
abbrev S2x1024 : Shape := ⟨2, ![2, 1024]⟩
abbrev S2x256x8 : Shape := ⟨3, ![2, 256, 8]⟩
abbrev S8x512x640 : Shape := ⟨3, ![8, 512, 640]⟩
abbrev S640 : Shape := ⟨1, ![640]⟩
abbrev S_ : Shape := ⟨0, ![]⟩
abbrev S2 : Shape := ⟨1, ![2]⟩
abbrev S2x1x1 : Shape := ⟨3, ![2, 1, 1]⟩
abbrev S4096 : Shape := ⟨1, ![4096]⟩
abbrev S2048x512 : Shape := ⟨2, ![2048, 512]⟩
abbrev S4096x1 : Shape := ⟨2, ![4096, 1]⟩
abbrev S4096x512 : Shape := ⟨2, ![4096, 512]⟩
abbrev S2048 : Shape := ⟨1, ![2048]⟩
abbrev S512x4096 : Shape := ⟨2, ![512, 4096]⟩
abbrev S4096x640 : Shape := ⟨2, ![4096, 640]⟩
abbrev S1x640 : Shape := ⟨2, ![1, 640]⟩
abbrev S512x640 : Shape := ⟨2, ![512, 640]⟩
abbrev S512x1 : Shape := ⟨2, ![512, 1]⟩
abbrev S512 : Shape := ⟨1, ![512]⟩
abbrev S512x256 : Shape := ⟨2, ![512, 256]⟩
abbrev S2x256x640 : Shape := ⟨3, ![2, 256, 640]⟩
abbrev S2x256 : Shape := ⟨2, ![2, 256]⟩

abbrev nBuf : Space → Nat
  | .hbm => 41
  | .vmem => 8
  | .smem => 0
  | _ => 0

abbrev bufTy : (tb : Table) → Fin (tcTables nBuf tb) → BufTy
  | .hbm, ⟨0, _⟩ => ⟨S2x1024x512, .fp8e4m3⟩
  | .hbm, ⟨1, _⟩ => ⟨S2x1024, .f32⟩
  | .hbm, ⟨2, _⟩ => ⟨S2x256x8, .i32⟩
  | .hbm, ⟨3, _⟩ => ⟨S8x512x640, .fp8e4m3⟩
  | .hbm, ⟨4, _⟩ => ⟨S640, .f32⟩
  | .hbm, ⟨5, _⟩ => ⟨S640, .f32⟩
  | .hbm, ⟨6, _⟩ => ⟨S_, .i32⟩
  | .hbm, ⟨7, _⟩ => ⟨S2x256x8, .i32⟩
  | .hbm, ⟨8, _⟩ => ⟨S2x256x8, .i32⟩
  | .hbm, ⟨9, _⟩ => ⟨S2, .i32⟩
  | .hbm, ⟨10, _⟩ => ⟨S2x1x1, .i32⟩
  | .hbm, ⟨11, _⟩ => ⟨S_, .i32⟩
  | .hbm, ⟨12, _⟩ => ⟨S2x1x1, .i32⟩
  | .hbm, ⟨13, _⟩ => ⟨S2x1x1, .i32⟩
  | .hbm, ⟨14, _⟩ => ⟨S2x256x8, .i32⟩
  | .hbm, ⟨15, _⟩ => ⟨S2x256x8, .i32⟩
  | .hbm, ⟨16, _⟩ => ⟨S4096, .i32⟩
  | .hbm, ⟨17, _⟩ => ⟨S2048x512, .fp8e4m3⟩
  | .hbm, ⟨18, _⟩ => ⟨S4096x1, .i32⟩
  | .hbm, ⟨19, _⟩ => ⟨S4096x512, .fp8e4m3⟩
  | .hbm, ⟨20, _⟩ => ⟨S2048, .f32⟩
  | .hbm, ⟨21, _⟩ => ⟨S4096x1, .i32⟩
  | .hbm, ⟨22, _⟩ => ⟨S4096, .f32⟩
  | .hbm, ⟨23, _⟩ => ⟨S4096x1, .f32⟩
  | .hbm, ⟨24, _⟩ => ⟨S4096x512, .f32⟩
  | .hbm, ⟨25, _⟩ => ⟨S_, .i32⟩
  | .hbm, ⟨26, _⟩ => ⟨S2x256x8, .i32⟩
  | .hbm, ⟨27, _⟩ => ⟨S2x256x8, .i1⟩
  | .hbm, ⟨28, _⟩ => ⟨S2x256x8, .i32⟩
  | .hbm, ⟨29, _⟩ => ⟨S4096x1, .i32⟩
  | .hbm, ⟨30, _⟩ => ⟨S4096x512, .i32⟩
  | .hbm, ⟨31, _⟩ => ⟨S512x4096, .fp8e4m3⟩
  | .hbm, ⟨32, _⟩ => ⟨S512x4096, .f32⟩
  | .hbm, ⟨33, _⟩ => ⟨S512x4096, .i32⟩
  | .hbm, ⟨34, _⟩ => ⟨S4096x640, .fp8e4m3⟩
  | .hbm, ⟨35, _⟩ => ⟨S1x640, .f32⟩
  | .hbm, ⟨36, _⟩ => ⟨S1x640, .f32⟩
  | .hbm, ⟨37, _⟩ => ⟨S512x640, .fp8e4m3⟩
  | .hbm, ⟨38, _⟩ => ⟨S512x1, .f32⟩
  | .hbm, ⟨39, _⟩ => ⟨S2x256x640, .fp8e4m3⟩
  | .hbm, ⟨40, _⟩ => ⟨S2x256, .f32⟩
  | .local _ .vmem, ⟨0, _⟩ => ⟨S512x4096, .fp8e4m3⟩
  | .local _ .vmem, ⟨1, _⟩ => ⟨S512x4096, .f32⟩
  | .local _ .vmem, ⟨2, _⟩ => ⟨S512x4096, .i32⟩
  | .local _ .vmem, ⟨3, _⟩ => ⟨S4096x640, .fp8e4m3⟩
  | .local _ .vmem, ⟨4, _⟩ => ⟨S1x640, .f32⟩
  | .local _ .vmem, ⟨5, _⟩ => ⟨S1x640, .f32⟩
  | .local _ .vmem, ⟨6, _⟩ => ⟨S512x640, .fp8e4m3⟩
  | .local _ .vmem, ⟨7, _⟩ => ⟨S512x1, .f32⟩
  | _, _ => ⟨S2x1024x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S512x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x640 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x640 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KLoops.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev hbN : Memref sig .tc .hbm S2x8x256 .i32 := Memref.whole main_v0
abbrev hbX : Memref sig .tc .hbm S2x1024x512 .fp8e4m3 := Memref.whole main_arg0
abbrev hbW : Memref sig .tc .hbm S8x512x640 .fp8e4m3 := Memref.whole main_arg3
abbrev scIdx : Memref sig .tc .smem S2x8x256 .i32 := Memref.whole cc0_scratch0
abbrev scX : Memref sig .tc .vmem S2x1024x512 .fp8e4m3 := Memref.whole cc0_scratch1
abbrev scW : Memref sig .tc .vmem S8x512x640 .fp8e4m3 := Memref.whole cc0_scratch2
abbrev scT0 : Memref sig .tc .vmem S4104x128 .f32 := Memref.whole cc0_scratch3
abbrev scT1 : Memref sig .tc .vmem S4104x128 .f32 := Memref.whole cc0_scratch4
abbrev scL0 : Memref sig .tc .vmem S288x2x128 .bf16 := Memref.whole cc0_scratch5
abbrev scL1 : Memref sig .tc .vmem S288x2x128 .bf16 := Memref.whole cc0_scratch6
abbrev scL2 : Memref sig .tc .vmem S288x2x128 .bf16 := Memref.whole cc0_scratch7
abbrev scL3 : Memref sig .tc .vmem S288x2x128 .bf16 := Memref.whole cc0_scratch8

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev mPt (c : Dev nD) {sp : Space} {S : Shape} {e : EltTy} (M : Memref sig .tc sp S e) (f : HbBuf (F := F) c M) : sProp 𝕄 :=
  M.view.loc (c : Thread nD τ) ↦[M.view.set]{fullShare} f

section Gather
variable (tab : Memref sig .tc .vmem S4104x128 .f32) (lhs : Memref sig .tc .vmem S288x2x128 .bf16) (hlhs : lhs.IsWhole)
  (oA oB : Fin 3 → ℕ) (hA : ∀ a, oA a + S1x1x1.size a ≤ S2x8x256.size a) (hB : ∀ a, oB a + S1x1x1.size a ≤ S2x8x256.size a)
  (t : Fin k0_t3_loop.trips)

/-- One trip of a gather loop: the rows of a pair of neighbours read from the table, their pair of rows of the
    left operand written. -/
def gTrip : Prog (TpuEff nD τ sig (Elt F) Λ₀ .tc) Unit := do
  let v812 : Elt F .i32 ← smemLoad scIdx (Rect.unit (s := S2x8x256) oA S1x1x1.size hA) numel1_S1x1x1 rfl
  have k0_hw1 : k0_chk1 v812 := (← Prog.lift (TpuEff.assume (k0_chk1 v812) (k0_chk1.dec v812))).down
  let v816 : Vec F S4x128 .f32 ← Prog.lift (.load tab (Rect.unit (s := S4104x128) (k0_off14 v812) S4x128.size (k0_off14_inb v812 k0_hw1)).toLoadRect (View.loadsAt_vmem h_S4x128))
  let v821 : Elt F .i32 ← smemLoad scIdx (Rect.unit (s := S2x8x256) oB S1x1x1.size hB) numel1_S1x1x1 rfl
  have k0_hw2 : k0_chk1 v821 := (← Prog.lift (TpuEff.assume (k0_chk1 v821) (k0_chk1.dec v821))).down
  let v825 : Vec F S4x128 .f32 ← Prog.lift (.load tab (Rect.unit (s := S4104x128) (k0_off14 v821) S4x128.size (k0_off14_inb v821 k0_hw2)).toLoadRect (View.loadsAt_vmem h_S4x128))
  let v828_raw : Vec F S4x2x128 .bf16 ← Prog.lift (.load lhs (⟨k0_off17 t, S4x2x128.size, ![72, 1, 1], (k0_off17_inb t)⟩ : LoadRect S288x2x128) (View.loadsAt_vmem h_S4x2x128))
  Prog.lift (.store lhs ⟨(⟨k0_off17 t, S4x2x128.size, ![72, 1, 1], (k0_off17_inb t)⟩ : LoadRect S288x2x128), spos_72_1_1⟩ (k0_pay60 v816 v825) Finset.univ (View.stores_vmem h_S4x2x128 ((hlhs.pairWhole rank2_S288x2x128).storeExact_slice rfl _ (Rect.WholeRows.intro rank2_S288x2x128 rfl rfl rfl) pairs_S288x2x128_bf16) (fun _ => rfl)) (.inl rfl))
  pure ⟨⟩

variable (c : Dev nD)

/-- The word a one-element window of the index buffer holds. -/
abbrev idxW (f8 : HbBuf (F := F) c scIdx) (o : Fin 3 → ℕ) (h : ∀ a, o a + S1x1x1.size a ≤ S2x8x256.size a) : BitVec 32 :=
  scIdx.view.readAt (Elt F) (Rect.unit (s := S2x8x256) o S1x1x1.size h).toLoadRect f8 (Shape.Idx.first (numel1_S1x1x1.symm ▸ Nat.one_pos))

/-- Every word of the index buffer names a row of the table. -/
def IdxOK (f8 : HbBuf (F := F) c scIdx) : Prop := ∀ o h, k0_chk1 (idxW c f8 o h)

/-- The four table rows of a neighbour's word (row 0 when the word names none). -/
def tabRow (fT : HbBuf (F := F) c tab) (v : BitVec 32) : Vec F S4x128 .f32 :=
  if h : k0_chk1 v then tab.view.readAt (Elt F) (Rect.unit (s := S4104x128) (k0_off14 v) S4x128.size (k0_off14_inb v h)).toLoadRect fT
  else tab.view.readAt (Elt F) (Rect.unit (s := S4104x128) ![0, 0] S4x128.size (by decide)).toLoadRect fT

theorem tabRow_pos (fT : HbBuf (F := F) c tab) (v : BitVec 32) (h : k0_chk1 v) :
    tabRow tab c fT v = tab.view.readAt (Elt F) (Rect.unit (s := S4104x128) (k0_off14 v) S4x128.size (k0_off14_inb v h)).toLoadRect fT := dif_pos h

/-- The rectangle trip `t` writes. -/
abbrev gRect : Rect S288x2x128 := ⟨(⟨k0_off17 t, S4x2x128.size, ![72, 1, 1], (k0_off17_inb t)⟩ : LoadRect S288x2x128), spos_72_1_1⟩

theorem gTrip_wp (f8 : HbBuf (F := F) c scIdx) (fT : HbBuf (F := F) c tab) (f : HbBuf (F := F) c lhs) (hI : IdxOK c f8) :
      iprop(mPt c scIdx f8 ∗ mPt c tab fT ∗ mPt c lhs f)
      ⊢ wp frame (wpE (defs₀ (F := F)) Variants.none (c : Thread nD τ) none) Set.univ
        (gTrip (F := F) tab lhs hlhs oA oB hA hB t)
        (fun _ => iprop(mPt c scIdx f8 ∗ mPt c tab fT ∗ mPt c lhs (lhs.view.writes (Elt F) f
          [⟨gRect t, k0_pay60 (tabRow tab c fT (idxW c f8 oA hA)) (tabRow tab c fT (idxW c f8 oB hB))⟩]))) := by
  have hcA : k0_chk1 (idxW c f8 oA hA) := hI _ _
  have hcB : k0_chk1 (idxW c f8 oB hB) := hI _ _
  rw [tabRow_pos tab c fT _ hcA, tabRow_pos tab c fT _ hcB]
  iintro ⟨H2, H9, H11⟩
  sl_unfold [gTrip]
  sl_exec
  sl_step
  isplitl [H2]; · iexact H2
  isplitl [H9]; · iexact H9
  iexact H11

/-- The left operand before trip `n` of a gather loop. -/
def gFill (pA pB : Fin k0_t3_loop.trips → Fin 3 → ℕ) (hpA : ∀ t a, pA t a + S1x1x1.size a ≤ S2x8x256.size a) (hpB : ∀ t a, pB t a + S1x1x1.size a ≤ S2x8x256.size a)
    (f8 : HbBuf (F := F) c scIdx) (fT : HbBuf (F := F) c tab) (f : HbBuf (F := F) c lhs) : ℕ → HbBuf (F := F) c lhs
  | 0 => f
  | n + 1 => if h : n < k0_t3_loop.trips then
      lhs.view.writes (Elt F) (gFill pA pB hpA hpB f8 fT f n)
        [⟨gRect ⟨n, h⟩, k0_pay60 (tabRow tab c fT (idxW c f8 (pA ⟨n, h⟩) (hpA _))) (tabRow tab c fT (idxW c f8 (pB ⟨n, h⟩) (hpB _)))⟩]
    else gFill pA pB hpA hpB f8 fT f n

/-- What a gather loop holds before trip `n`. -/
abbrev gInv (pA pB : Fin k0_t3_loop.trips → Fin 3 → ℕ) (hpA : ∀ t a, pA t a + S1x1x1.size a ≤ S2x8x256.size a) (hpB : ∀ t a, pB t a + S1x1x1.size a ≤ S2x8x256.size a)
    (f8 : HbBuf (F := F) c scIdx) (fT : HbBuf (F := F) c tab) (f : HbBuf (F := F) c lhs) (n : ℕ) : sProp 𝕄 :=
  iprop(⌜IdxOK c f8⌝ ∗ mPt c scIdx f8 ∗ mPt c tab fT ∗ mPt c lhs (gFill tab lhs c pA pB hpA hpB f8 fT f n))

theorem gStep (pA pB : Fin k0_t3_loop.trips → Fin 3 → ℕ) (hpA : ∀ t a, pA t a + S1x1x1.size a ≤ S2x8x256.size a) (hpB : ∀ t a, pB t a + S1x1x1.size a ≤ S2x8x256.size a)
    (f8 : HbBuf (F := F) c scIdx) (fT : HbBuf (F := F) c tab) (f : HbBuf (F := F) c lhs) (t : Fin k0_t3_loop.trips) :
    gInv tab lhs c pA pB hpA hpB f8 fT f t.val
      ⊢ wp frame (wpE (defs₀ (F := F)) Variants.none (c : Thread nD τ) none) Set.univ
        (gTrip (F := F) tab lhs hlhs (pA t) (pB t) (hpA t) (hpB t) t)
        (fun _ => gInv tab lhs c pA pB hpA hpB f8 fT f (t.val + 1)) := by
  have e : gFill tab lhs c pA pB hpA hpB f8 fT f (t.val + 1) = lhs.view.writes (Elt F) (gFill tab lhs c pA pB hpA hpB f8 fT f t.val)
        [⟨gRect t, k0_pay60 (tabRow tab c fT (idxW c f8 (pA t) (hpA _))) (tabRow tab c fT (idxW c f8 (pB t) (hpB _)))⟩] := by
    rw [gFill, dif_pos t.isLt]
  unfold gInv
  rw [e]
  iintro ⟨%hI, H⟩
  iapply (wp_wand_r Idealize.ShloMosaic.frame (wpE (defs₀ (F := F)) Variants.none (c : Thread nD τ) none) Set.univ)
  isplitl [H]
  · iapply (gTrip_wp tab lhs hlhs _ _ _ _ t c f8 fT _ hI); iexact H
  · iintro %_ H'
    isplitr; · ipureintro; exact hI
    iexact H'
end Gather

section Inst
variable (c : Dev nD) (arg2 : Memref sig .tc .vmem S2x1024 .f32) (harg2 : arg2.IsWhole) (arg4 : Memref sig .tc .vmem S640 .f32) (harg4 : arg4.IsWhole) (arg5 : Memref sig .tc .vmem S640 .f32) (harg5 : arg5.IsWhole) (arg6 : Memref sig .tc .vmem S2x256x640 .fp8e4m3) (harg6 : arg6.IsWhole) (arg7 : Memref sig .tc .vmem S2x256 .f32) (harg7 : arg7.IsWhole)
    (w0 w1 : BitVec 32)

/-- What a trip of the loop that fills table 0 holds: the scales, slot 0 of the codes (slot 1 is still in flight) and the table. -/
abbrev tPts1 (g2 : HbBuf (F := F) c arg2) (g9 : HbBuf (F := F) c scX) (f : HbBuf (F := F) c scT0) : sProp 𝕄 :=
  iprop(mPt c arg2 g2 ∗ (scX.view.loc (c : Thread nD τ) ↦[Finset.univ \ ((scX.slice (Rect.unit (s := S2x1024x512) ![1, 0, 0] S1x1024x512.size inb_S2x1024x512_S1x1024x512_1_0_0) (fun _ => rfl)).squeeze S1024x512 squeezes_S1x1024x512_S1024x512).view.set]{fullShare} g9) ∗ mPt c scT0 f)

set_option backward.proofsInPublic true in
/-- One trip: thirty-two tokens dequantised into table 0, its contents found by the run. -/
def tTrip1 (v72 : IVec S8x128 32) (w0 w1 : BitVec 32) (k : Fin k0_t1_loop.trips) (g2 : HbBuf (F := F) c arg2) (g9 : HbBuf (F := F) c scX) (f : HbBuf (F := F) c scT0) :
    { f' : HbBuf (F := F) c scT0 //
      tPts1 c arg2 g2 g9 f
      ⊢ wp frame (wpE (defs₀ (F := F)) Variants.none (c : Thread nD τ) none) Set.univ
        (k0_t1_body (F := F) hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 v72 w0 w1 k ())
        (fun _ => tPts1 c arg2 g2 g9 f') } := by
  refine ⟨?_, ?run⟩
  case run =>
    iintro ⟨H2, H9, H11⟩
    sl_unfold [k0_t1_body]
    sl_exec
    sl_step
    isplitl [H2]; · iexact H2
    isplitl [H9]; · iexact H9
    iexact H11

/-- Table 0 before trip `n`. -/
def tFill1 (v72 : IVec S8x128 32) (w0 w1 : BitVec 32) (g2 : HbBuf (F := F) c arg2) (g9 : HbBuf (F := F) c scX) (f : HbBuf (F := F) c scT0) : ℕ → HbBuf (F := F) c scT0
  | 0 => f
  | n + 1 => if h : n < k0_t1_loop.trips then (tTrip1 c arg2 harg2 arg4 harg4 arg5 harg5 arg6 harg6 arg7 harg7 v72 w0 w1 ⟨n, h⟩ g2 g9 (tFill1 v72 w0 w1 g2 g9 f n)).1
    else tFill1 v72 w0 w1 g2 g9 f n

set_option warn.classDefReducibility false in
@[sl_loop] def inv1 (v72 : IVec S8x128 32) (g2 : HbBuf (F := F) c arg2) (g9 : HbBuf (F := F) c scX) (f : HbBuf (F := F) c scT0) :
    LoopInvTy_k0_t1 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 v72 w0 w1 where
  inv n _ := tPts1 c arg2 g2 g9 (tFill1 c arg2 harg2 arg4 harg4 arg5 harg5 arg6 harg6 arg7 harg7 v72 w0 w1 g2 g9 f n)
  step t _ := by
    have e : tFill1 c arg2 harg2 arg4 harg4 arg5 harg5 arg6 harg6 arg7 harg7 v72 w0 w1 g2 g9 f (t.val + 1)
        = (tTrip1 c arg2 harg2 arg4 harg4 arg5 harg5 arg6 harg6 arg7 harg7 v72 w0 w1 t g2 g9 (tFill1 c arg2 harg2 arg4 harg4 arg5 harg5 arg6 harg6 arg7 harg7 v72 w0 w1 g2 g9 f t.val)).1 := by
      rw [tFill1, dif_pos t.isLt]
    rw [e]
    exact (tTrip1 c arg2 harg2 arg4 harg4 arg5 harg5 arg6 harg6 arg7 harg7 v72 w0 w1 t g2 g9 _).2

/-- What a trip of the loop that fills table 1 holds: the scales, the codes and the table. -/
abbrev tPts2 (g2 : HbBuf (F := F) c arg2) (g9 : HbBuf (F := F) c scX) (f : HbBuf (F := F) c scT1) : sProp 𝕄 :=
  iprop(mPt c arg2 g2 ∗ (scX.view.loc (c : Thread nD τ) ↦[Finset.univ]{fullShare} g9) ∗ mPt c scT1 f)

set_option backward.proofsInPublic true in
/-- One trip: thirty-two tokens dequantised into table 1, its contents found by the run. -/
def tTrip2 (v72 : IVec S8x128 32) (w0 w1 : BitVec 32) (k : Fin k0_t2_loop.trips) (g2 : HbBuf (F := F) c arg2) (g9 : HbBuf (F := F) c scX) (f : HbBuf (F := F) c scT1) :
    { f' : HbBuf (F := F) c scT1 //
      tPts2 c arg2 g2 g9 f
      ⊢ wp frame (wpE (defs₀ (F := F)) Variants.none (c : Thread nD τ) none) Set.univ
        (k0_t2_body (F := F) hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 v72 w0 w1 k ())
        (fun _ => tPts2 c arg2 g2 g9 f') } := by
  refine ⟨?_, ?run⟩
  case run =>
    iintro ⟨H2, H9, H11⟩
    sl_unfold [k0_t2_body]
    sl_exec
    sl_step
    isplitl [H2]; · iexact H2
    isplitl [H9]; · iexact H9
    iexact H11

/-- Table 1 before trip `n`. -/
def tFill2 (v72 : IVec S8x128 32) (w0 w1 : BitVec 32) (g2 : HbBuf (F := F) c arg2) (g9 : HbBuf (F := F) c scX) (f : HbBuf (F := F) c scT1) : ℕ → HbBuf (F := F) c scT1
  | 0 => f
  | n + 1 => if h : n < k0_t2_loop.trips then (tTrip2 c arg2 harg2 arg4 harg4 arg5 harg5 arg6 harg6 arg7 harg7 v72 w0 w1 ⟨n, h⟩ g2 g9 (tFill2 v72 w0 w1 g2 g9 f n)).1
    else tFill2 v72 w0 w1 g2 g9 f n

set_option warn.classDefReducibility false in
@[sl_loop] def inv2 (v72 : IVec S8x128 32) (g2 : HbBuf (F := F) c arg2) (g9 : HbBuf (F := F) c scX) (f : HbBuf (F := F) c scT1) :
    LoopInvTy_k0_t2 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 v72 w0 w1 where
  inv n _ := tPts2 c arg2 g2 g9 (tFill2 c arg2 harg2 arg4 harg4 arg5 harg5 arg6 harg6 arg7 harg7 v72 w0 w1 g2 g9 f n)
  step t _ := by
    have e : tFill2 c arg2 harg2 arg4 harg4 arg5 harg5 arg6 harg6 arg7 harg7 v72 w0 w1 g2 g9 f (t.val + 1)
        = (tTrip2 c arg2 harg2 arg4 harg4 arg5 harg5 arg6 harg6 arg7 harg7 v72 w0 w1 t g2 g9 (tFill2 c arg2 harg2 arg4 harg4 arg5 harg5 arg6 harg6 arg7 harg7 v72 w0 w1 g2 g9 f t.val)).1 := by
      rw [tFill2, dif_pos t.isLt]
    rw [e]
    exact (tTrip2 c arg2 harg2 arg4 harg4 arg5 harg5 arg6 harg6 arg7 harg7 v72 w0 w1 t g2 g9 _).2

variable (f8 : HbBuf (F := F) c scIdx)

set_option warn.classDefReducibility false in
@[sl_loop] def inv3 (fT : HbBuf (F := F) c scT0) (f : HbBuf (F := F) c scL0) :
    LoopInvTy_k0_t3 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL0 c k0_off13 k0_off15 k0_off13_inb k0_off15_inb f8 fT f n
  step t _ := gStep scT0 scL0 (Memref.isWhole_whole _) c k0_off13 k0_off15 k0_off13_inb k0_off15_inb f8 fT f t

set_option warn.classDefReducibility false in
@[sl_loop] def inv4 (fT : HbBuf (F := F) c scT0) (f : HbBuf (F := F) c scL1) :
    LoopInvTy_k0_t4 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL1 c k0_off18 k0_off20 k0_off18_inb k0_off20_inb f8 fT f n
  step t _ := gStep scT0 scL1 (Memref.isWhole_whole _) c k0_off18 k0_off20 k0_off18_inb k0_off20_inb f8 fT f t

set_option warn.classDefReducibility false in
@[sl_loop] def inv5 (fT : HbBuf (F := F) c scT0) (f : HbBuf (F := F) c scL2) :
    LoopInvTy_k0_t5 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL2 c k0_off23 k0_off25 k0_off23_inb k0_off25_inb f8 fT f n
  step t _ := gStep scT0 scL2 (Memref.isWhole_whole _) c k0_off23 k0_off25 k0_off23_inb k0_off25_inb f8 fT f t

set_option warn.classDefReducibility false in
@[sl_loop] def inv6 (fT : HbBuf (F := F) c scT0) (f : HbBuf (F := F) c scL3) :
    LoopInvTy_k0_t6 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL3 c k0_off28 k0_off30 k0_off28_inb k0_off30_inb f8 fT f n
  step t _ := gStep scT0 scL3 (Memref.isWhole_whole _) c k0_off28 k0_off30 k0_off28_inb k0_off30_inb f8 fT f t

set_option warn.classDefReducibility false in
@[sl_loop] def inv7 (fT : HbBuf (F := F) c scT0) (f : HbBuf (F := F) c scL0) :
    LoopInvTy_k0_t7 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL0 c k0_off33 k0_off35 k0_off33_inb k0_off35_inb f8 fT f n
  step t _ := gStep scT0 scL0 (Memref.isWhole_whole _) c k0_off33 k0_off35 k0_off33_inb k0_off35_inb f8 fT f t

set_option warn.classDefReducibility false in
@[sl_loop] def inv8 (fT : HbBuf (F := F) c scT0) (f : HbBuf (F := F) c scL1) :
    LoopInvTy_k0_t8 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL1 c k0_off38 k0_off40 k0_off38_inb k0_off40_inb f8 fT f n
  step t _ := gStep scT0 scL1 (Memref.isWhole_whole _) c k0_off38 k0_off40 k0_off38_inb k0_off40_inb f8 fT f t

set_option warn.classDefReducibility false in
@[sl_loop] def inv9 (fT : HbBuf (F := F) c scT0) (f : HbBuf (F := F) c scL2) :
    LoopInvTy_k0_t9 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL2 c k0_off43 k0_off45 k0_off43_inb k0_off45_inb f8 fT f n
  step t _ := gStep scT0 scL2 (Memref.isWhole_whole _) c k0_off43 k0_off45 k0_off43_inb k0_off45_inb f8 fT f t

set_option warn.classDefReducibility false in
@[sl_loop] def inv10 (fT : HbBuf (F := F) c scT0) (f : HbBuf (F := F) c scL3) :
    LoopInvTy_k0_t10 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL3 c k0_off48 k0_off50 k0_off48_inb k0_off50_inb f8 fT f n
  step t _ := gStep scT0 scL3 (Memref.isWhole_whole _) c k0_off48 k0_off50 k0_off48_inb k0_off50_inb f8 fT f t

set_option warn.classDefReducibility false in
@[sl_loop] def inv11 (fT : HbBuf (F := F) c scT0) (f : HbBuf (F := F) c scL0) :
    LoopInvTy_k0_t11 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL0 c k0_off53 k0_off55 k0_off53_inb k0_off55_inb f8 fT f n
  step t _ := gStep scT0 scL0 (Memref.isWhole_whole _) c k0_off53 k0_off55 k0_off53_inb k0_off55_inb f8 fT f t

set_option warn.classDefReducibility false in
@[sl_loop] def inv12 (fT : HbBuf (F := F) c scT0) (f : HbBuf (F := F) c scL1) :
    LoopInvTy_k0_t12 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL1 c k0_off58 k0_off60 k0_off58_inb k0_off60_inb f8 fT f n
  step t _ := gStep scT0 scL1 (Memref.isWhole_whole _) c k0_off58 k0_off60 k0_off58_inb k0_off60_inb f8 fT f t

set_option warn.classDefReducibility false in
@[sl_loop] def inv13 (fT : HbBuf (F := F) c scT0) (f : HbBuf (F := F) c scL2) :
    LoopInvTy_k0_t13 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL2 c k0_off63 k0_off65 k0_off63_inb k0_off65_inb f8 fT f n
  step t _ := gStep scT0 scL2 (Memref.isWhole_whole _) c k0_off63 k0_off65 k0_off63_inb k0_off65_inb f8 fT f t

set_option warn.classDefReducibility false in
@[sl_loop] def inv14 (fT : HbBuf (F := F) c scT0) (f : HbBuf (F := F) c scL3) :
    LoopInvTy_k0_t14 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL3 c k0_off68 k0_off70 k0_off68_inb k0_off70_inb f8 fT f n
  step t _ := gStep scT0 scL3 (Memref.isWhole_whole _) c k0_off68 k0_off70 k0_off68_inb k0_off70_inb f8 fT f t

set_option warn.classDefReducibility false in
@[sl_loop] def inv15 (fT : HbBuf (F := F) c scT0) (f : HbBuf (F := F) c scL0) :
    LoopInvTy_k0_t15 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL0 c k0_off73 k0_off75 k0_off73_inb k0_off75_inb f8 fT f n
  step t _ := gStep scT0 scL0 (Memref.isWhole_whole _) c k0_off73 k0_off75 k0_off73_inb k0_off75_inb f8 fT f t

set_option warn.classDefReducibility false in
@[sl_loop] def inv16 (fT : HbBuf (F := F) c scT0) (f : HbBuf (F := F) c scL1) :
    LoopInvTy_k0_t16 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL1 c k0_off78 k0_off80 k0_off78_inb k0_off80_inb f8 fT f n
  step t _ := gStep scT0 scL1 (Memref.isWhole_whole _) c k0_off78 k0_off80 k0_off78_inb k0_off80_inb f8 fT f t

set_option warn.classDefReducibility false in
@[sl_loop] def inv17 (fT : HbBuf (F := F) c scT0) (f : HbBuf (F := F) c scL2) :
    LoopInvTy_k0_t17 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL2 c k0_off83 k0_off85 k0_off83_inb k0_off85_inb f8 fT f n
  step t _ := gStep scT0 scL2 (Memref.isWhole_whole _) c k0_off83 k0_off85 k0_off83_inb k0_off85_inb f8 fT f t

set_option warn.classDefReducibility false in
@[sl_loop] def inv18 (fT : HbBuf (F := F) c scT0) (f : HbBuf (F := F) c scL3) :
    LoopInvTy_k0_t18 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL3 c k0_off88 k0_off90 k0_off88_inb k0_off90_inb f8 fT f n
  step t _ := gStep scT0 scL3 (Memref.isWhole_whole _) c k0_off88 k0_off90 k0_off88_inb k0_off90_inb f8 fT f t

set_option warn.classDefReducibility false in
@[sl_loop] def inv19 (fT : HbBuf (F := F) c scT1) (f : HbBuf (F := F) c scL0) :
    LoopInvTy_k0_t19 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL0 c k0_off93 k0_off95 k0_off93_inb k0_off95_inb f8 fT f n
  step t _ := gStep scT1 scL0 (Memref.isWhole_whole _) c k0_off93 k0_off95 k0_off93_inb k0_off95_inb f8 fT f t

set_option warn.classDefReducibility false in
@[sl_loop] def inv20 (fT : HbBuf (F := F) c scT1) (f : HbBuf (F := F) c scL1) :
    LoopInvTy_k0_t20 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL1 c k0_off98 k0_off100 k0_off98_inb k0_off100_inb f8 fT f n
  step t _ := gStep scT1 scL1 (Memref.isWhole_whole _) c k0_off98 k0_off100 k0_off98_inb k0_off100_inb f8 fT f t

set_option warn.classDefReducibility false in
@[sl_loop] def inv21 (fT : HbBuf (F := F) c scT1) (f : HbBuf (F := F) c scL2) :
    LoopInvTy_k0_t21 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL2 c k0_off103 k0_off105 k0_off103_inb k0_off105_inb f8 fT f n
  step t _ := gStep scT1 scL2 (Memref.isWhole_whole _) c k0_off103 k0_off105 k0_off103_inb k0_off105_inb f8 fT f t

set_option warn.classDefReducibility false in
@[sl_loop] def inv22 (fT : HbBuf (F := F) c scT1) (f : HbBuf (F := F) c scL3) :
    LoopInvTy_k0_t22 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL3 c k0_off108 k0_off110 k0_off108_inb k0_off110_inb f8 fT f n
  step t _ := gStep scT1 scL3 (Memref.isWhole_whole _) c k0_off108 k0_off110 k0_off108_inb k0_off110_inb f8 fT f t

set_option warn.classDefReducibility false in
@[sl_loop] def inv23 (fT : HbBuf (F := F) c scT1) (f : HbBuf (F := F) c scL0) :
    LoopInvTy_k0_t23 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL0 c k0_off113 k0_off115 k0_off113_inb k0_off115_inb f8 fT f n
  step t _ := gStep scT1 scL0 (Memref.isWhole_whole _) c k0_off113 k0_off115 k0_off113_inb k0_off115_inb f8 fT f t

set_option warn.classDefReducibility false in
@[sl_loop] def inv24 (fT : HbBuf (F := F) c scT1) (f : HbBuf (F := F) c scL1) :
    LoopInvTy_k0_t24 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL1 c k0_off118 k0_off120 k0_off118_inb k0_off120_inb f8 fT f n
  step t _ := gStep scT1 scL1 (Memref.isWhole_whole _) c k0_off118 k0_off120 k0_off118_inb k0_off120_inb f8 fT f t

set_option warn.classDefReducibility false in
@[sl_loop] def inv25 (fT : HbBuf (F := F) c scT1) (f : HbBuf (F := F) c scL2) :
    LoopInvTy_k0_t25 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL2 c k0_off123 k0_off125 k0_off123_inb k0_off125_inb f8 fT f n
  step t _ := gStep scT1 scL2 (Memref.isWhole_whole _) c k0_off123 k0_off125 k0_off123_inb k0_off125_inb f8 fT f t

set_option warn.classDefReducibility false in
@[sl_loop] def inv26 (fT : HbBuf (F := F) c scT1) (f : HbBuf (F := F) c scL3) :
    LoopInvTy_k0_t26 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL3 c k0_off128 k0_off130 k0_off128_inb k0_off130_inb f8 fT f n
  step t _ := gStep scT1 scL3 (Memref.isWhole_whole _) c k0_off128 k0_off130 k0_off128_inb k0_off130_inb f8 fT f t

set_option warn.classDefReducibility false in
@[sl_loop] def inv27 (fT : HbBuf (F := F) c scT1) (f : HbBuf (F := F) c scL0) :
    LoopInvTy_k0_t27 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL0 c k0_off133 k0_off135 k0_off133_inb k0_off135_inb f8 fT f n
  step t _ := gStep scT1 scL0 (Memref.isWhole_whole _) c k0_off133 k0_off135 k0_off133_inb k0_off135_inb f8 fT f t

set_option warn.classDefReducibility false in
@[sl_loop] def inv28 (fT : HbBuf (F := F) c scT1) (f : HbBuf (F := F) c scL1) :
    LoopInvTy_k0_t28 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL1 c k0_off138 k0_off140 k0_off138_inb k0_off140_inb f8 fT f n
  step t _ := gStep scT1 scL1 (Memref.isWhole_whole _) c k0_off138 k0_off140 k0_off138_inb k0_off140_inb f8 fT f t

set_option warn.classDefReducibility false in
@[sl_loop] def inv29 (fT : HbBuf (F := F) c scT1) (f : HbBuf (F := F) c scL2) :
    LoopInvTy_k0_t29 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL2 c k0_off143 k0_off145 k0_off143_inb k0_off145_inb f8 fT f n
  step t _ := gStep scT1 scL2 (Memref.isWhole_whole _) c k0_off143 k0_off145 k0_off143_inb k0_off145_inb f8 fT f t

set_option warn.classDefReducibility false in
@[sl_loop] def inv30 (fT : HbBuf (F := F) c scT1) (f : HbBuf (F := F) c scL3) :
    LoopInvTy_k0_t30 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL3 c k0_off148 k0_off150 k0_off148_inb k0_off150_inb f8 fT f n
  step t _ := gStep scT1 scL3 (Memref.isWhole_whole _) c k0_off148 k0_off150 k0_off148_inb k0_off150_inb f8 fT f t

set_option warn.classDefReducibility false in
@[sl_loop] def inv31 (fT : HbBuf (F := F) c scT1) (f : HbBuf (F := F) c scL0) :
    LoopInvTy_k0_t31 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL0 c k0_off153 k0_off155 k0_off153_inb k0_off155_inb f8 fT f n
  step t _ := gStep scT1 scL0 (Memref.isWhole_whole _) c k0_off153 k0_off155 k0_off153_inb k0_off155_inb f8 fT f t

set_option warn.classDefReducibility false in
@[sl_loop] def inv32 (fT : HbBuf (F := F) c scT1) (f : HbBuf (F := F) c scL1) :
    LoopInvTy_k0_t32 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL1 c k0_off158 k0_off160 k0_off158_inb k0_off160_inb f8 fT f n
  step t _ := gStep scT1 scL1 (Memref.isWhole_whole _) c k0_off158 k0_off160 k0_off158_inb k0_off160_inb f8 fT f t

set_option warn.classDefReducibility false in
@[sl_loop] def inv33 (fT : HbBuf (F := F) c scT1) (f : HbBuf (F := F) c scL2) :
    LoopInvTy_k0_t33 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL2 c k0_off163 k0_off165 k0_off163_inb k0_off165_inb f8 fT f n
  step t _ := gStep scT1 scL2 (Memref.isWhole_whole _) c k0_off163 k0_off165 k0_off163_inb k0_off165_inb f8 fT f t

set_option warn.classDefReducibility false in
@[sl_loop] def inv34 (fT : HbBuf (F := F) c scT1) (f : HbBuf (F := F) c scL3) :
    LoopInvTy_k0_t34 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL3 c k0_off168 k0_off170 k0_off168_inb k0_off170_inb f8 fT f n
  step t _ := gStep scT1 scL3 (Memref.isWhole_whole _) c k0_off168 k0_off170 k0_off168_inb k0_off170_inb f8 fT f t
end Inst

end Cert.KernelIdeal.Hand
end
-- ==== Proof.KCanon.lean ====
module

public import proofs.«01_k».proof.Proof.KLoops
public import Idealize.ShloMosaic.Lib.ValueIdxCore
public import Idealize.ShloMosaic.Lib.Writes

/-! What the loops and the copies leave, in closed form.

Every buffer the body fills is read back as one function of what the operands hold: the two copied operands
are read as the operands themselves, a table as its rows, a left operand as the pairs of table rows its trips
wrote. None of these mentions what the buffer held before. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F]

variable {sp : Space}

/-! ## The copied operands -/

section Copies
variable {sig' : RefSig} {κ κ' : Kind} {sp sp' : Space} {s s' : Shape} {e : EltTy} {Val : EltTy → Type}

/-- A slot copied whole from one array into the same slot of another is one piece of the source. -/
theorem slot_write (M : Memref sig' κ sp s e) (N : Memref sig' κ' sp' s e) (r : Rect s) (h h' : ∀ a, r.stride a = 1)
    (q q' : r.shape.Squeezes s') (g : M.view.ty.Contents Val) (f : N.view.ty.Contents Val) :
    View.write Val ((M.slice r h).squeeze s' q).view g
        (ReadAs.same.apply (View.read Val ((N.slice r h').squeeze s' q').view f)) Finset.univ
      = M.view.writes Val g [⟨r, fun x => N.view.read Val f (r.emb x)⟩] := by
  refine (View.write_reshape_univ (v := (M.slice r h).view) (h := _) g _).trans ?_
  refine congrArg (fun w => (M.view.slice r).write Val g w Finset.univ) (funext fun x => ?_)
  show N.view.read Val f (r.emb _) = _
  congr 2
  exact Equiv.apply_symm_apply _ x

/-- Pieces cut from one function and covering the shape leave that function. -/
theorem read_writes_eq_fn (v : View sig' κ sp s e) (g : v.ty.Contents Val) (G : s.Idx → Val e) (L : List (View.Piece Val s e))
    (hG : ∀ p ∈ L, ∀ x : p.1.shape.Idx, p.2 x = G (p.1.emb x)) (hc : ∀ y, ∃ p ∈ L, y ∈ p.1.set) :
    v.read Val (v.writes Val g L) = G :=
  funext fun y => View.read_writes_apply_of_pieces v g G L hG y (hc y)
end Copies

/-- The index buffer after its copy reads as the copied array. -/
theorem idx_read (c : Dev nD) (f0 : HbBuf (F := F) c hbN) :
    scIdx.view.read (Elt F) (scIdx.view.writes (Elt F) scIdx.view.junk [⟨Rect.whole S2x8x256, ReadAs.same.apply (View.read (Elt F) hbN.view f0)⟩])
      = hbN.view.read (Elt F) f0 := by
  refine read_writes_eq_fn _ _ _ _ ?_ ?_
  · intro p hp x
    obtain rfl := List.mem_singleton.mp hp
    show View.read (Elt F) hbN.view f0 x = _
    congr 1
    exact funext fun a => Fin.ext (by show (x a).val = 0 + 1 * (x a).val; omega)
  · intro y
    exact ⟨_, List.mem_singleton.mpr rfl, by rw [Rect.set_whole]; exact Finset.mem_univ y⟩

/-- Slab `n` of a rank-3 shape holds the indices whose first coordinate is `n`. -/
theorem mem_slab {A B C n : ℕ} (h : ∀ a, (![n, 0, 0] : Fin 3 → ℕ) a + (⟨3, ![1, B, C]⟩ : Shape).size a ≤ (⟨3, ![A, B, C]⟩ : Shape).size a)
    (y : (⟨3, ![A, B, C]⟩ : Shape).Idx) (hy : (y 0).val = n) :
    y ∈ (Rect.unit (s := (⟨3, ![A, B, C]⟩ : Shape)) ![n, 0, 0] (⟨3, ![1, B, C]⟩ : Shape).size h).set := by
  refine Rect.mem_set_unit.mpr fun a => ?_
  have h1 : (y 1).val < B := (y 1).isLt
  have h2 : (y 2).val < C := (y 2).isLt
  match a with
  | ⟨0, _⟩ => exact ⟨le_of_eq hy.symm, by show (y 0).val < n + 1; omega⟩
  | ⟨1, _⟩ => exact ⟨Nat.zero_le _, by show (y 1).val < 0 + B; omega⟩
  | ⟨2, _⟩ => exact ⟨Nat.zero_le _, by show (y 2).val < 0 + C; omega⟩

/-- Slot `n` of the codes. -/
abbrev xSl (M : Memref sig .tc sp S2x1024x512 .fp8e4m3) (n : ℕ) (h : ∀ a, (![n, 0, 0] : Fin 3 → ℕ) a + S1x1024x512.size a ≤ S2x1024x512.size a) :
    Memref sig .tc sp S1024x512 .fp8e4m3 :=
  (M.slice (Rect.unit (s := S2x1024x512) ![n, 0, 0] S1x1024x512.size h) (fun _ => rfl)).squeeze S1024x512 squeezes_S1x1024x512_S1024x512

/-- The codes after slot `n` is copied. -/
abbrev xCp (c : Dev nD) (f1 : HbBuf (F := F) c hbX) (n : ℕ) (h : ∀ a, (![n, 0, 0] : Fin 3 → ℕ) a + S1x1024x512.size a ≤ S2x1024x512.size a)
    (g : HbBuf (F := F) c scX) : HbBuf (F := F) c scX :=
  View.write (Elt F) (xSl scX n h).view g (ReadAs.same.apply (View.read (Elt F) (xSl hbX n h).view f1)) Finset.univ

/-- The codes after their two copies. -/
abbrev xBuf (c : Dev nD) (f1 : HbBuf (F := F) c hbX) (g9 : HbBuf (F := F) c scX) : HbBuf (F := F) c scX :=
  xCp c f1 1 inb_S2x1024x512_S1x1024x512_1_0_0 (xCp c f1 0 inb_S2x1024x512_S1x1024x512_0_0_0 g9)

/-- They read as the copied array. -/
theorem x_read (c : Dev nD) (f1 : HbBuf (F := F) c hbX) (g9 : HbBuf (F := F) c scX) :
    scX.view.read (Elt F) (xBuf c f1 g9) = hbX.view.read (Elt F) f1 := by
  unfold xBuf xCp xSl
  rw [slot_write scX hbX, slot_write scX hbX, ← View.writes_append]
  refine read_writes_eq_fn _ _ _ _ ?_ ?_
  · intro p hp x
    fin_cases hp <;> rfl
  · intro y
    have h0 : (y 0).val < 2 := (y 0).isLt
    by_cases hy : (y 0).val = 0
    · exact ⟨_, List.mem_append_right _ (List.mem_singleton.mpr rfl), mem_slab inb_S2x1024x512_S1x1024x512_0_0_0 y hy⟩
    · exact ⟨_, List.mem_append_left _ (List.mem_singleton.mpr rfl), mem_slab inb_S2x1024x512_S1x1024x512_1_0_0 y (by omega)⟩

/-- Slot `n` of the weights. -/
abbrev wSl (M : Memref sig .tc sp S8x512x640 .fp8e4m3) (n : ℕ) (h : ∀ a, (![n, 0, 0] : Fin 3 → ℕ) a + S1x512x640.size a ≤ S8x512x640.size a) :
    Memref sig .tc sp S512x640 .fp8e4m3 :=
  (M.slice (Rect.unit (s := S8x512x640) ![n, 0, 0] S1x512x640.size h) (fun _ => rfl)).squeeze S512x640 squeezes_S1x512x640_S512x640

/-- The weights after slot `n` is copied. -/
abbrev wCp (c : Dev nD) (f3 : HbBuf (F := F) c hbW) (n : ℕ) (h : ∀ a, (![n, 0, 0] : Fin 3 → ℕ) a + S1x512x640.size a ≤ S8x512x640.size a)
    (g : HbBuf (F := F) c scW) : HbBuf (F := F) c scW :=
  View.write (Elt F) (wSl scW n h).view g (ReadAs.same.apply (View.read (Elt F) (wSl hbW n h).view f3)) Finset.univ

/-- The weights after their eight copies. -/
abbrev wBuf (c : Dev nD) (f3 : HbBuf (F := F) c hbW) (g : HbBuf (F := F) c scW) : HbBuf (F := F) c scW :=
  wCp c f3 7 inb_S8x512x640_S1x512x640_7_0_0 (wCp c f3 6 inb_S8x512x640_S1x512x640_6_0_0 (wCp c f3 5 inb_S8x512x640_S1x512x640_5_0_0
    (wCp c f3 4 inb_S8x512x640_S1x512x640_4_0_0 (wCp c f3 3 inb_S8x512x640_S1x512x640_3_0_0 (wCp c f3 2 inb_S8x512x640_S1x512x640_2_0_0
      (wCp c f3 1 inb_S8x512x640_S1x512x640_1_0_0 (wCp c f3 0 inb_S8x512x640_S1x512x640_0_0_0 g)))))))

/-- They read as the copied array. -/
theorem w_read (c : Dev nD) (f3 : HbBuf (F := F) c hbW) (g : HbBuf (F := F) c scW) :
    scW.view.read (Elt F) (wBuf c f3 g) = hbW.view.read (Elt F) f3 := by
  have e : ∀ n h g, wCp c f3 n h g = scW.view.writes (Elt F) g [⟨Rect.unit (s := S8x512x640) ![n, 0, 0] S1x512x640.size h, fun x => hbW.view.read (Elt F) f3 ((Rect.unit (s := S8x512x640) ![n, 0, 0] S1x512x640.size h).emb x)⟩] :=
    fun n h g => slot_write scW hbW _ _ _ _ _ _ _
  unfold wBuf
  simp only [e, ← View.writes_append]
  refine read_writes_eq_fn _ _ _ _ ?_ ?_
  · intro p hp x
    fin_cases hp <;> rfl
  · intro y
    have h0 : (y 0).val < 8 := (y 0).isLt
    simp only [List.cons_append, List.nil_append, List.exists_mem_cons_iff]
    have : (y 0).val = 0 ∨ (y 0).val = 1 ∨ (y 0).val = 2 ∨ (y 0).val = 3 ∨ (y 0).val = 4 ∨ (y 0).val = 5 ∨ (y 0).val = 6 ∨ (y 0).val = 7 := by omega
    rcases this with h | h | h | h | h | h | h | h <;> simp only [mem_slab _ y h, true_or, or_true]

end Cert.KernelIdeal.Hand
-- ==== Proof.KTab.lean ====
module

public import proofs.«01_k».proof.Proof.KCanon

/-! The tables and the left operands, in closed form.

Row `8 + 4 r + c` of a table is chunk `c` of token `r`, dequantised; rows 0 to 7 are zero. A table's loop writes
sixteen strided pieces a trip; together they are this one function. A gather loop writes a pair of table rows a
trip; read back by chunk they are the rows its words name. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F]

/-! ## The tables -/

/-- The row numbers the token scales are fetched at start from. -/
abbrev rowIota : IVec S8x128 32 := iota .tc S8x128 32 [0] iota_S8x128_d0_w32

/-- Eight tokens of a trip, from the scales' row and the thirty-two tokens' codes of one chunk. -/
def tabPay (k : Fin k0_t1_loop.trips) (q : Fin 4) (row : Vec F S1x128 .f32) (cod : Vec F S1x32x128 .fp8e4m3) : FVec F S8x128 .f32 :=
  match q with
  | 0 => k0_pay9 (k0_pay3 rowIota 0#32 1#32 k row) cod
  | 1 => k0_pay10 (k0_pay4 rowIota 0#32 1#32 k row) cod
  | 2 => k0_pay11 (k0_pay6 (k0_pay2 row) (k0_pay5 rowIota 0#32 1#32 k)) (k0_pay8 cod)
  | 3 => k0_pay12 (k0_pay7 rowIota (Scalar.muli (Scf.iv 0#32 1#32 k) 32#32) (Scalar.muli (Scalar.shrsi (Scf.iv 0#32 1#32 k) 2#32) 128#32) (k0_pay2 row)) (k0_pay8 cod)

/-- The strided rectangle they go to. -/
abbrev tRect (k : Fin k0_t1_loop.trips) (q c : Fin 4) : Rect S4104x128 :=
  ⟨⟨k0_off3 k (BitVec.ofNat 32 (8 * q.val)) (BitVec.ofNat 32 c.val), S8x128.size, ![4, 1], k0_off3_inb k q c⟩, spos_4_1⟩

/-- One piece of a trip. -/
abbrev tPiece (row : Fin k0_t1_loop.trips → Vec F S1x128 .f32) (cod : Fin k0_t1_loop.trips → Fin 4 → Vec F S1x32x128 .fp8e4m3)
    (k : Fin k0_t1_loop.trips) (q c : Fin 4) : View.Piece (Elt F) S4104x128 .f32 := ⟨tRect k q c, tabPay k q (row k) (cod k c)⟩

/-- The order of a trip's sixteen pieces (eight tokens, chunk), the last written first. -/
abbrev tOrder : List (Fin 4 × Fin 4) :=
  [(3, 3), (2, 3), (1, 3), (0, 3), (3, 2), (2, 2), (1, 2), (0, 2), (3, 1), (2, 1), (1, 1), (0, 1), (3, 0), (2, 0), (1, 0), (0, 0)]

/-- A trip's pieces. -/
abbrev tPieces (row : Fin k0_t1_loop.trips → Vec F S1x128 .f32) (cod : Fin k0_t1_loop.trips → Fin 4 → Vec F S1x32x128 .fp8e4m3)
    (k : Fin k0_t1_loop.trips) : List (View.Piece (Elt F) S4104x128 .f32) :=
  tOrder.map fun p => tPiece row cod k p.1 p.2

/-- The eight zero rows. -/
abbrev zPiece : View.Piece (Elt F) S4104x128 .f32 := ⟨Rect.unit ![0, 0] S8x128.size inb_S4104x128_S8x128_0_0, k0_pay56⟩

/-- The pieces written before trip `n`. -/
def tAll (row : Fin k0_t1_loop.trips → Vec F S1x128 .f32) (cod : Fin k0_t1_loop.trips → Fin 4 → Vec F S1x32x128 .fp8e4m3) :
    ℕ → List (View.Piece (Elt F) S4104x128 .f32)
  | 0 => [zPiece]
  | n + 1 => if h : n < k0_t1_loop.trips then tPieces row cod ⟨n, h⟩ ++ tAll row cod n else tAll row cod n

/-- The table: zero rows, then token by token its four chunks. -/
def tabG (row : Fin k0_t1_loop.trips → Vec F S1x128 .f32) (cod : Fin k0_t1_loop.trips → Fin 4 → Vec F S1x32x128 .fp8e4m3) :
    S4104x128.Idx → F .f32 := fun y =>
  if h : (y 0).val < 8 then k0_pay56 (ix2 (n0 := 8) (n1 := 128) ⟨(y 0).val, h⟩ (y 1))
  else tabPay ⟨((y 0).val - 8) / 128, by have : (y 0).val < 4104 := (y 0).isLt; show _ < 32; omega⟩ ⟨((y 0).val - 8) / 4 % 32 / 8, by omega⟩
    (row ⟨((y 0).val - 8) / 128, by have : (y 0).val < 4104 := (y 0).isLt; show _ < 32; omega⟩)
    (cod ⟨((y 0).val - 8) / 128, by have : (y 0).val < 4104 := (y 0).isLt; show _ < 32; omega⟩ ⟨((y 0).val - 8) % 4, by omega⟩)
    (ix2 (n0 := 8) (n1 := 128) ⟨((y 0).val - 8) / 4 % 8, by omega⟩ (y 1))

theorem off3_eq : ∀ (t : Fin k0_t1_loop.trips) (q c : Fin 4),
    k0_off3 t (BitVec.ofNat 32 (8 * q.val)) (BitVec.ofNat 32 c.val) = ![8 + 4 * (32 * t.val + 8 * q.val) + c.val, 0] := by decide

theorem tRect_emb0 (k : Fin k0_t1_loop.trips) (q c : Fin 4) (x : (tRect k q c).shape.Idx) :
    ((tRect k q c).emb x 0).val = 8 + 4 * (32 * k.val + 8 * q.val) + c.val + 4 * (x 0).val := by
  show k0_off3 k (BitVec.ofNat 32 (8 * q.val)) (BitVec.ofNat 32 c.val) 0 + 4 * (x 0).val = _
  rw [off3_eq]; rfl

theorem tRect_emb1 (k : Fin k0_t1_loop.trips) (q c : Fin 4) (x : (tRect k q c).shape.Idx) :
    ((tRect k q c).emb x 1).val = (x 1).val := by
  show k0_off3 k (BitVec.ofNat 32 (8 * q.val)) (BitVec.ofNat 32 c.val) 1 + 1 * (x 1).val = _
  rw [off3_eq]; show 0 + 1 * (x 1).val = _; omega

/-- Each piece of a trip is a piece of the table. -/
theorem tPiece_eq (row : Fin k0_t1_loop.trips → Vec F S1x128 .f32) (cod : Fin k0_t1_loop.trips → Fin 4 → Vec F S1x32x128 .fp8e4m3)
    (k : Fin k0_t1_loop.trips) (q c : Fin 4) (x : (tRect k q c).shape.Idx) :
    tabPay k q (row k) (cod k c) x = tabG row cod ((tRect k q c).emb x) := by
  have h0 := tRect_emb0 k q c x
  have h1 := tRect_emb1 k q c x
  have hx : (x 0).val < 8 := (x 0).isLt
  have hc := c.isLt
  have hq := q.isLt
  unfold tabG
  rw [dif_neg (by omega)]
  have ek : (⟨(((tRect k q c).emb x 0).val - 8) / 128, by have : ((tRect k q c).emb x 0).val < 4104 := ((tRect k q c).emb x 0).isLt; show _ < 32; omega⟩ : Fin k0_t1_loop.trips) = k :=
    Fin.ext (by show (((tRect k q c).emb x 0).val - 8) / 128 = k.val; omega)
  have eq' : (⟨(((tRect k q c).emb x 0).val - 8) / 4 % 32 / 8, by omega⟩ : Fin 4) = q := Fin.ext (by show (((tRect k q c).emb x 0).val - 8) / 4 % 32 / 8 = q.val; omega)
  have ec : (⟨(((tRect k q c).emb x 0).val - 8) % 4, by omega⟩ : Fin 4) = c := Fin.ext (by show (((tRect k q c).emb x 0).val - 8) % 4 = c.val; omega)
  rw [ek, eq', ec]
  congr 1
  funext a
  match a with
  | ⟨0, _⟩ => exact Fin.ext (by show (x 0).val = (((tRect k q c).emb x 0).val - 8) / 4 % 8; omega)
  | ⟨1, _⟩ => exact Fin.ext h1.symm

theorem mem_tPieces (row : Fin k0_t1_loop.trips → Vec F S1x128 .f32) (cod : Fin k0_t1_loop.trips → Fin 4 → Vec F S1x32x128 .fp8e4m3)
    (k : Fin k0_t1_loop.trips) (p : View.Piece (Elt F) S4104x128 .f32) : p ∈ tPieces row cod k ↔ ∃ q c, p = tPiece row cod k q c := by
  have hall : ∀ p : Fin 4 × Fin 4, p ∈ tOrder := by decide
  constructor
  · intro h
    obtain ⟨⟨q, c⟩, -, rfl⟩ := List.mem_map.mp h
    exact ⟨q, c, rfl⟩
  · rintro ⟨q, c, rfl⟩
    exact List.mem_map.mpr ⟨(q, c), hall _, rfl⟩

theorem mem_tAll (row : Fin k0_t1_loop.trips → Vec F S1x128 .f32) (cod : Fin k0_t1_loop.trips → Fin 4 → Vec F S1x32x128 .fp8e4m3)
    (p : View.Piece (Elt F) S4104x128 .f32) : ∀ n ≤ 32, p ∈ tAll row cod n ↔ p = zPiece ∨ ∃ k : Fin k0_t1_loop.trips, k.val < n ∧ p ∈ tPieces row cod k
  | 0, _ => by simp [tAll]
  | n + 1, hn => by
    have hn' : n < k0_t1_loop.trips := hn
    rw [tAll, dif_pos hn', List.mem_append, mem_tAll row cod p n (by omega)]
    constructor
    · rintro (h | h | ⟨k, hk, h⟩)
      · exact .inr ⟨⟨n, hn'⟩, Nat.lt_succ_self n, h⟩
      · exact .inl h
      · exact .inr ⟨k, by omega, h⟩
    · rintro (h | ⟨k, hk, h⟩)
      · exact .inr (.inl h)
      · by_cases e : k.val = n
        · left; rwa [show (⟨n, hn'⟩ : Fin k0_t1_loop.trips) = k from Fin.ext e.symm]
        · exact .inr (.inr ⟨k, by omega, h⟩)

/-- All thirty-two trips' pieces, over anything, leave the table. -/
theorem tAll_read {sig' : RefSig} {κ : Kind} {sp : Space} (v : View sig' κ sp S4104x128 .f32) (g : v.ty.Contents (Elt F))
    (row : Fin k0_t1_loop.trips → Vec F S1x128 .f32) (cod : Fin k0_t1_loop.trips → Fin 4 → Vec F S1x32x128 .fp8e4m3) :
    v.read (Elt F) (v.writes (Elt F) g (tAll row cod 32)) = tabG row cod := by
  refine read_writes_eq_fn _ _ _ _ ?_ ?_
  · intro p hp x
    rcases (mem_tAll row cod p 32 le_rfl).mp hp with rfl | ⟨k, -, hk⟩
    · have h0 : ((zPiece (F := F)).1.emb x 0).val = (x 0).val := by show 0 + 1 * (x 0).val = _; omega
      have h1 : ((zPiece (F := F)).1.emb x 1).val = (x 1).val := by show 0 + 1 * (x 1).val = _; omega
      have hx : (x 0).val < 8 := (x 0).isLt
      unfold tabG
      rw [dif_pos (by omega)]
      show k0_pay56 x = _
      congr 1
      funext a
      match a with
      | ⟨0, _⟩ => exact Fin.ext h0.symm
      | ⟨1, _⟩ => exact Fin.ext h1.symm
    · obtain ⟨q, c, rfl⟩ := (mem_tPieces row cod k p).mp hk
      exact tPiece_eq row cod k q c x
  · intro y
    have hy : (y 0).val < 4104 := (y 0).isLt
    have hy1 : (y 1).val < 128 := (y 1).isLt
    by_cases h : (y 0).val < 8
    · refine ⟨_, (mem_tAll row cod _ 32 le_rfl).mpr (.inl rfl), (Rect.mem_set_unit (inb := inb_S4104x128_S8x128_0_0)).mpr fun a => ?_⟩
      match a with
      | ⟨0, _⟩ => exact ⟨Nat.zero_le _, by show (y 0).val < 0 + 8; omega⟩
      | ⟨1, _⟩ => exact ⟨Nat.zero_le _, by show (y 1).val < 0 + 128; omega⟩
    · let k : Fin k0_t1_loop.trips := ⟨((y 0).val - 8) / 128, by show _ < 32; omega⟩
      let q : Fin 4 := ⟨((y 0).val - 8) / 4 % 32 / 8, by omega⟩
      let c : Fin 4 := ⟨((y 0).val - 8) % 4, by omega⟩
      refine ⟨tPiece row cod k q c, (mem_tAll row cod _ 32 le_rfl).mpr (.inr ⟨k, ?_, (mem_tPieces row cod k _).mpr ⟨q, c, rfl⟩⟩), ?_⟩
      · show ((y 0).val - 8) / 128 < 32; omega
      · refine LoadRect.mem_set _ |>.mpr fun a => ?_
        match a with
        | ⟨0, _⟩ =>
          refine ⟨((y 0).val - 8) / 4 % 8, by show _ < 8; omega, ?_⟩
          show (y 0).val = k0_off3 k (BitVec.ofNat 32 (8 * q.val)) (BitVec.ofNat 32 c.val) 0 + 4 * _
          rw [off3_eq]
          show (y 0).val = 8 + 4 * (32 * (((y 0).val - 8) / 128) + 8 * (((y 0).val - 8) / 4 % 32 / 8)) + ((y 0).val - 8) % 4 + 4 * (((y 0).val - 8) / 4 % 8)
          omega
        | ⟨1, _⟩ =>
          refine ⟨(y 1).val, hy1, ?_⟩
          show (y 1).val = k0_off3 k (BitVec.ofNat 32 (8 * q.val)) (BitVec.ofNat 32 c.val) 1 + 1 * _
          rw [off3_eq]; show (y 1).val = 0 + 1 * (y 1).val; omega

section Fill
variable (c : Dev nD) (arg2 : Memref sig .tc .vmem S2x1024 .f32) (harg2 : arg2.IsWhole) (arg4 : Memref sig .tc .vmem S640 .f32) (harg4 : arg4.IsWhole) (arg5 : Memref sig .tc .vmem S640 .f32) (harg5 : arg5.IsWhole) (arg6 : Memref sig .tc .vmem S2x256x640 .fp8e4m3) (harg6 : arg6.IsWhole) (arg7 : Memref sig .tc .vmem S2x256 .f32) (harg7 : arg7.IsWhole)

/-- What a load of a rectangle reads of a function of the shape. -/
abbrev ld {s : Shape} {α : Type} (X : s.Idx → α) (r : LoadRect s) : r.shape.Idx → α := fun j => X (r.idx j)

/-- The scales' row and the codes' chunks that a trip of table 0 reads. -/
abbrev row1 (sx : S2x1024.Idx → F .f32) (k : Fin k0_t1_loop.trips) : Vec F S1x128 .f32 :=
  ld sx (Rect.unit (s := S2x1024) (k0_off1 k) S1x128.size (k0_off1_inb k)).toLoadRect
abbrev cod1 (X : S2x1024x512.Idx → F .fp8e4m3) (k : Fin k0_t1_loop.trips) (c : Fin 4) : Vec F S1x32x128 .fp8e4m3 :=
  match c with
  | 0 => ld X (Rect.unit (s := S2x1024x512) (k0_off2 k) S1x32x128.size (k0_off2_inb k)).toLoadRect
  | 1 => ld X (Rect.unit (s := S2x1024x512) (k0_off4 k) S1x32x128.size (k0_off4_inb k)).toLoadRect
  | 2 => ld X (Rect.unit (s := S2x1024x512) (k0_off5 k) S1x32x128.size (k0_off5_inb k)).toLoadRect
  | 3 => ld X (Rect.unit (s := S2x1024x512) (k0_off6 k) S1x32x128.size (k0_off6_inb k)).toLoadRect

/-- The same for table 1. -/
abbrev row2 (sx : S2x1024.Idx → F .f32) (k : Fin k0_t1_loop.trips) : Vec F S1x128 .f32 :=
  ld sx (Rect.unit (s := S2x1024) (k0_off7 k) S1x128.size (k0_off7_inb k)).toLoadRect
abbrev cod2 (X : S2x1024x512.Idx → F .fp8e4m3) (k : Fin k0_t1_loop.trips) (c : Fin 4) : Vec F S1x32x128 .fp8e4m3 :=
  match c with
  | 0 => ld X (Rect.unit (s := S2x1024x512) (k0_off8 k) S1x32x128.size (k0_off8_inb k)).toLoadRect
  | 1 => ld X (Rect.unit (s := S2x1024x512) (k0_off10 k) S1x32x128.size (k0_off10_inb k)).toLoadRect
  | 2 => ld X (Rect.unit (s := S2x1024x512) (k0_off11 k) S1x32x128.size (k0_off11_inb k)).toLoadRect
  | 3 => ld X (Rect.unit (s := S2x1024x512) (k0_off12 k) S1x32x128.size (k0_off12_inb k)).toLoadRect

theorem tTrip1_eq (k : Fin k0_t1_loop.trips) (g2 : HbBuf (F := F) c arg2) (g9 : HbBuf (F := F) c scX) (f : HbBuf (F := F) c scT0) :
    (tTrip1 c arg2 harg2 arg4 harg4 arg5 harg5 arg6 harg6 arg7 harg7 rowIota 0#32 1#32 k g2 g9 f).1
      = scT0.view.writes (Elt F) f (tPieces (row1 (arg2.view.read (Elt F) g2)) (cod1 (scX.view.read (Elt F) g9)) k) := rfl

theorem tTrip2_eq (k : Fin k0_t1_loop.trips) (g2 : HbBuf (F := F) c arg2) (g9 : HbBuf (F := F) c scX) (f : HbBuf (F := F) c scT1) :
    (tTrip2 c arg2 harg2 arg4 harg4 arg5 harg5 arg6 harg6 arg7 harg7 rowIota 0#32 1#32 k g2 g9 f).1
      = scT1.view.writes (Elt F) f (tPieces (row2 (arg2.view.read (Elt F) g2)) (cod2 (scX.view.read (Elt F) g9)) k) := rfl

theorem tFill1_eq (g2 : HbBuf (F := F) c arg2) (g9 : HbBuf (F := F) c scX) (g : HbBuf (F := F) c scT0) : ∀ n ≤ 32,
    tFill1 c arg2 harg2 arg4 harg4 arg5 harg5 arg6 harg6 arg7 harg7 rowIota 0#32 1#32 g2 g9 (scT0.view.writes (Elt F) g [zPiece]) n
      = scT0.view.writes (Elt F) g (tAll (row1 (arg2.view.read (Elt F) g2)) (cod1 (scX.view.read (Elt F) g9)) n)
  | 0, _ => rfl
  | n + 1, hn => by
    have hn' : n < k0_t1_loop.trips := hn
    rw [tFill1, tAll, dif_pos hn', dif_pos hn', tTrip1_eq, tFill1_eq g2 g9 g n (by omega), ← View.writes_append]

theorem tFill2_eq (g2 : HbBuf (F := F) c arg2) (g9 : HbBuf (F := F) c scX) (g : HbBuf (F := F) c scT1) : ∀ n ≤ 32,
    tFill2 c arg2 harg2 arg4 harg4 arg5 harg5 arg6 harg6 arg7 harg7 rowIota 0#32 1#32 g2 g9 (scT1.view.writes (Elt F) g [zPiece]) n
      = scT1.view.writes (Elt F) g (tAll (row2 (arg2.view.read (Elt F) g2)) (cod2 (scX.view.read (Elt F) g9)) n)
  | 0, _ => rfl
  | n + 1, hn => by
    have hn' : n < k0_t2_loop.trips := hn
    have hn'' : n < k0_t1_loop.trips := hn
    rw [tFill2, tAll, dif_pos hn', dif_pos hn'', tTrip2_eq, tFill2_eq g2 g9 g n (by omega), ← View.writes_append]

/-- Table 0 after its loop, over anything. -/
theorem t1_read (g2 : HbBuf (F := F) c arg2) (f1 : HbBuf (F := F) c hbX) (g9 : HbBuf (F := F) c scX) (g : HbBuf (F := F) c scT0) :
    scT0.view.read (Elt F) (tFill1 c arg2 harg2 arg4 harg4 arg5 harg5 arg6 harg6 arg7 harg7 rowIota 0#32 1#32 g2 (xBuf c f1 g9) (scT0.view.writes (Elt F) g [zPiece]) 32)
      = tabG (row1 (arg2.view.read (Elt F) g2)) (cod1 (hbX.view.read (Elt F) f1)) := by
  rw [tFill1_eq _ _ _ _ _ _ _ _ _ _ _ _ _ _ 32 le_rfl, tAll_read, x_read]

/-- Table 1 after its loop, over anything. -/
theorem t2_read (g2 : HbBuf (F := F) c arg2) (f1 : HbBuf (F := F) c hbX) (g9 : HbBuf (F := F) c scX) (g : HbBuf (F := F) c scT1) :
    scT1.view.read (Elt F) (tFill2 c arg2 harg2 arg4 harg4 arg5 harg5 arg6 harg6 arg7 harg7 rowIota 0#32 1#32 g2 (xBuf c f1 g9) (scT1.view.writes (Elt F) g [zPiece]) 32)
      = tabG (row2 (arg2.view.read (Elt F) g2)) (cod2 (hbX.view.read (Elt F) f1)) := by
  rw [tFill2_eq _ _ _ _ _ _ _ _ _ _ _ _ _ _ 32 le_rfl, tAll_read, x_read]

end Fill

/-! ## The left operands -/

section Lhs
variable (tab : Memref sig .tc .vmem S4104x128 .f32) (lhs : Memref sig .tc .vmem S288x2x128 .bf16) (c : Dev nD)

/-- The table rows a neighbour's word names. -/
def rowsOf (T : S4104x128.Idx → F .f32) (v : BitVec 32) : Vec F S4x128 .f32 :=
  if h : k0_chk1 v then ld T (Rect.unit (s := S4104x128) (k0_off14 v) S4x128.size (k0_off14_inb v h)).toLoadRect
  else ld T (Rect.unit (s := S4104x128) ![0, 0] S4x128.size (by decide)).toLoadRect

theorem tabRow_eq (fT : HbBuf (F := F) c tab) (v : BitVec 32) : tabRow tab c fT v = rowsOf (tab.view.read (Elt F) fT) v := rfl

/-- The word of a function of the index array's shape at an offset. -/
abbrev wordAt (N : S2x8x256.Idx → BitVec 32) (o : Fin 3 → ℕ) (h : ∀ a, o a + S1x1x1.size a ≤ S2x8x256.size a) : BitVec 32 :=
  ld N (Rect.unit (s := S2x8x256) o S1x1x1.size h).toLoadRect (Shape.Idx.first (numel1_S1x1x1.symm ▸ Nat.one_pos))

/-- Chunk `q` of the sixty-four pairs of rows a gather loop writes. -/
def chunkG (T : S4104x128.Idx → F .f32) (N : S2x8x256.Idx → BitVec 32) (pA pB : Fin k0_t3_loop.trips → Fin 3 → ℕ)
    (hpA : ∀ t a, pA t a + S1x1x1.size a ≤ S2x8x256.size a) (hpB : ∀ t a, pB t a + S1x1x1.size a ≤ S2x8x256.size a) (q : Fin 4) :
    Vec F S64x2x128 .bf16 := fun x =>
  k0_pay60 (rowsOf T (wordAt N (pA (x 0)) (hpA _))) (rowsOf T (wordAt N (pB (x 0)) (hpB _))) (ix3 (n0 := 4) (n1 := 2) (n2 := 128) q (x 1) (x 2))

theorem off17_eq : ∀ t : Fin k0_t3_loop.trips, k0_off17 t = ![t.val, 0, 0] := by decide

theorem gRect_emb0 (t : Fin k0_t3_loop.trips) (x : (gRect t).shape.Idx) : ((gRect t).emb x 0).val = t.val + 72 * (x 0).val := by
  show k0_off17 t 0 + 72 * (x 0).val = _
  rw [off17_eq]; rfl

/-- The left operand before trip `n`, at a row an earlier trip wrote. -/
theorem gFill_emb (pA pB : Fin k0_t3_loop.trips → Fin 3 → ℕ) (hpA : ∀ t a, pA t a + S1x1x1.size a ≤ S2x8x256.size a) (hpB : ∀ t a, pB t a + S1x1x1.size a ≤ S2x8x256.size a)
    (f8 : HbBuf (F := F) c scIdx) (fT : HbBuf (F := F) c tab) (f : HbBuf (F := F) c lhs) :
    ∀ n ≤ 64, ∀ t : Fin k0_t3_loop.trips, t.val < n → ∀ x : (gRect t).shape.Idx,
      lhs.view.read (Elt F) (gFill tab lhs c pA pB hpA hpB f8 fT f n) ((gRect t).emb x)
        = k0_pay60 (tabRow tab c fT (idxW c f8 (pA t) (hpA _))) (tabRow tab c fT (idxW c f8 (pB t) (hpB _))) x
  | 0, _, t, h, x => absurd h (Nat.not_lt_zero _)
  | n + 1, hn, t, h, x => by
    have hn' : n < k0_t3_loop.trips := hn
    rw [gFill, dif_pos hn']
    by_cases e : t.val = n
    · obtain rfl : t = ⟨n, hn'⟩ := Fin.ext e
      exact View.read_writes_cons_emb _ _ _ _ _ x
    · rw [View.read_writes_cons_miss]
      · exact gFill_emb pA pB hpA hpB f8 fT f n (by omega) t (by omega) x
      · intro hm
        obtain ⟨x', hx'⟩ := LoadRect.exists_idx_of_mem _ hm
        have h0 : ((gRect ⟨n, hn'⟩).emb x' 0).val = ((gRect t).emb x 0).val := congrArg (fun y => (y 0).val) hx'
        rw [gRect_emb0, gRect_emb0] at h0
        have := t.isLt
        have h64 : t.val < 64 := t.isLt
        have hnn : n < 64 := hn'
        change n + 72 * (x' 0).val = t.val + 72 * (x 0).val at h0
        omega

/-- A chunk's rows read back after a whole gather loop. -/
theorem chunk_read (o : ℕ) (q : Fin 4) (ho : o = 72 * q.val) (inb : ∀ a, (![o, 0, 0] : Fin 3 → ℕ) a + S64x2x128.size a ≤ S288x2x128.size a)
    (pA pB : Fin k0_t3_loop.trips → Fin 3 → ℕ) (hpA : ∀ t a, pA t a + S1x1x1.size a ≤ S2x8x256.size a) (hpB : ∀ t a, pB t a + S1x1x1.size a ≤ S2x8x256.size a)
    (f8 : HbBuf (F := F) c scIdx) (fT : HbBuf (F := F) c tab) (f : HbBuf (F := F) c lhs) :
    lhs.view.readAt (Elt F) (Rect.unit (s := S288x2x128) ![o, 0, 0] S64x2x128.size inb).toLoadRect (gFill tab lhs c pA pB hpA hpB f8 fT f 64)
      = chunkG (tab.view.read (Elt F) fT) (scIdx.view.read (Elt F) f8) pA pB hpA hpB q := by
  funext x
  have h := gFill_emb tab lhs c pA pB hpA hpB f8 fT f 64 le_rfl (x 0) (x 0).isLt (ix3 (n0 := 4) (n1 := 2) (n2 := 128) q (x 1) (x 2))
  rw [View.readAt_apply]
  refine Eq.trans (congrArg _ ?_) h
  funext a
  have e17 := off17_eq (x 0)
  match a with
  | ⟨0, _⟩ =>
    refine Fin.ext ?_
    show o + 1 * (x 0).val = k0_off17 (x 0) 0 + 72 * q.val
    rw [e17]
    show o + 1 * (x 0).val = (x 0).val + 72 * q.val
    omega
  | ⟨1, _⟩ =>
    refine Fin.ext ?_
    show 0 + 1 * (x 1).val = k0_off17 (x 0) 1 + 1 * (x 1).val
    rw [e17]; rfl
  | ⟨2, _⟩ =>
    refine Fin.ext ?_
    show 0 + 1 * (x 2).val = k0_off17 (x 0) 2 + 1 * (x 2).val
    rw [e17]; rfl

end Lhs
end Cert.KernelIdeal.Hand
-- ==== Proof.KRun.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import proofs.«01_k».proof.Proof.KLoops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The index buffer's contents once the copy of the neighbour table has landed. -/
abbrev idxBuf (c : Dev nD) (f0 : HbBuf (F := F) c hbN) : HbBuf (F := F) c scIdx :=
  scIdx.view.writes (Elt F) scIdx.view.junk [⟨Rect.whole S2x8x256, ReadAs.same.apply (View.read (Elt F) hbN.view f0)⟩]

set_option backward.proofsInPublic true in
set_option maxHeartbeats 0 in
/-- The body run on whole staging memrefs, every scratch buffer at given contents, the cells at zero: it ends with the
    two results written with the pieces the run finds, the operands as they were and the cells at zero again. -/
noncomputable def kernelRun (c : Dev nD) (arg2 : Memref sig .tc .vmem S2x1024 .f32) (harg2 : arg2.IsWhole) (arg4 : Memref sig .tc .vmem S640 .f32) (harg4 : arg4.IsWhole) (arg5 : Memref sig .tc .vmem S640 .f32) (harg5 : arg5.IsWhole) (arg6 : Memref sig .tc .vmem S2x256x640 .fp8e4m3) (harg6 : arg6.IsWhole) (arg7 : Memref sig .tc .vmem S2x256 .f32) (harg7 : arg7.IsWhole)
   (f0 : HbBuf (F := F) c hbN) (f1 : HbBuf (F := F) c hbX) (f3 : HbBuf (F := F) c hbW)
   (g2 : HbBuf (F := F) c arg2) (g4 : HbBuf (F := F) c arg4) (g5 : HbBuf (F := F) c arg5)
   (g9 : HbBuf (F := F) c scX) (g10 : HbBuf (F := F) c scW)
   (g11 : HbBuf (F := F) c scT0) (g12 : HbBuf (F := F) c scT1) (g13 : HbBuf (F := F) c scL0)
   (g14 : HbBuf (F := F) c scL1) (g15 : HbBuf (F := F) c scL2) (g16 : HbBuf (F := F) c scL3)
   (hI : IdxOK c (idxBuf c f0)) :
   { L : List (View.Piece (Elt F) S2x256x640 .fp8e4m3) × List (View.Piece (Elt F) S2x256 .f32) //
   ∀ (W : Waits sig Unit) (g6 : HbBuf (F := F) c arg6) (g7 : HbBuf (F := F) c arg7) (g8 : HbBuf (F := F) c scIdx) (K : PUnit → sProp 𝕄),
   iprop(hbPt c hbN f0 ∗ hbPt c hbX f1 ∗ mPt c arg2 g2 ∗ hbPt c hbW f3 ∗ mPt c arg4 g4 ∗ mPt c arg5 g5 ∗ mPt c arg6 g6 ∗ mPt c arg7 g7
     ∗ mPt c scIdx g8 ∗ hbPt c scX g9 ∗ hbPt c scW g10 ∗ mPt c scT0 g11 ∗ mPt c scT1 g12 ∗ mPt c scL0 g13 ∗ mPt c scL1 g14 ∗ mPt c scL2 g15 ∗ mPt c scL3 g16
     ∗ semVal ((c : Thread nD τ), SemLoc.dma 5) 0 ∗ semVal ((c : Thread nD τ), SemLoc.dma 6) 0 ∗ semVal ((c : Thread nD τ), SemLoc.dma 7) 0
     ∗ semVal ((c : Thread nD τ), SemLoc.dma 8) 0 ∗ semVal ((c : Thread nD τ), SemLoc.dma 9) 0 ∗ semVal ((c : Thread nD τ), SemLoc.dma 10) 0
     ∗ semVal ((c : Thread nD τ), SemLoc.dma 11) 0 ∗ semVal ((c : Thread nD τ), SemLoc.dma 12) 0 ∗ semVal ((c : Thread nD τ), SemLoc.dma 13) 0
     ∗ semVal ((c : Thread nD τ), SemLoc.dma 14) 0 ∗ semVal ((c : Thread nD τ), SemLoc.dma 15) 0
     ∗ owes (c : Thread nD τ) 0 W
     ∗ (iprop(hbPt c hbN f0 ∗ hbPt c hbX f1 ∗ mPt c arg2 g2 ∗ hbPt c hbW f3 ∗ mPt c arg4 g4 ∗ mPt c arg5 g5
         ∗ mPt c arg6 (arg6.view.writes (Elt F) g6 L.1) ∗ mPt c arg7 (arg7.view.writes (Elt F) g7 L.2)
         ∗ (∃ f, mPt c scIdx f) ∗ (∃ f, hbPt c scX f) ∗ (∃ f, hbPt c scW f) ∗ (∃ f, mPt c scT0 f) ∗ (∃ f, mPt c scT1 f)
         ∗ (∃ f, mPt c scL0 f) ∗ (∃ f, mPt c scL1 f) ∗ (∃ f, mPt c scL2 f) ∗ (∃ f, mPt c scL3 f)
         ∗ semVal ((c : Thread nD τ), SemLoc.dma 5) 0 ∗ semVal ((c : Thread nD τ), SemLoc.dma 6) 0 ∗ semVal ((c : Thread nD τ), SemLoc.dma 7) 0
         ∗ semVal ((c : Thread nD τ), SemLoc.dma 8) 0 ∗ semVal ((c : Thread nD τ), SemLoc.dma 9) 0 ∗ semVal ((c : Thread nD τ), SemLoc.dma 10) 0
         ∗ semVal ((c : Thread nD τ), SemLoc.dma 11) 0 ∗ semVal ((c : Thread nD τ), SemLoc.dma 12) 0 ∗ semVal ((c : Thread nD τ), SemLoc.dma 13) 0
         ∗ semVal ((c : Thread nD τ), SemLoc.dma 14) 0 ∗ semVal ((c : Thread nD τ), SemLoc.dma 15) 0
         ∗ (∃ W', owes (c : Thread nD τ) 0 W')) -∗ K ⟨⟩))
   ⊢ wp frame (wpE (defs₀ (F := F)) Variants.none c none) Set.univ
     (cc0__body hbN (Memref.isWhole_whole _) hbX (Memref.isWhole_whole _) arg2 harg2 hbW (Memref.isWhole_whole _) arg4 harg4 arg5 harg5 arg6 harg6 arg7 harg7
       scIdx (Memref.isWhole_whole _) scX (Memref.isWhole_whole _) scW (Memref.isWhole_whole _) scT0 (Memref.isWhole_whole _) scT1 (Memref.isWhole_whole _)
       scL0 (Memref.isWhole_whole _) scL1 (Memref.isWhole_whole _) scL2 (Memref.isWhole_whole _) scL3 (Memref.isWhole_whole _) cc0_scratch9) K } := by
  refine ⟨(?_, ?_), fun W g6 g7 g8 K => ?run⟩
  case run =>
    simp only [cc0__body_eq_skeleton]; unfold cc0__body_skel
    iintro ⟨Hh0, Hh1, H2, Hh3, H4, H5, H6, H7, H8, H9, H10, H11, H12, H13, H14, H15, H16, Hq0, Hq1, Hq2, Hq3, Hq4, Hq5, Hq6, Hq7, Hq8, Hq9, Hq10, HW, Hk⟩
    set_option sl_exec.dmaWindow true in sl_exec
    sl_step
    iapply Hk
    isplitl [Hh0]; · iexact Hh0
    isplitl [Hh1]; · iexact Hh1
    isplitl [H2]; · iexact H2
    isplitl [Hh3]; · iexact Hh3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    iexists _; iexact HW

end Cert.KernelIdeal.Hand
end
-- ==== Proof.KClosed.lean ====
module

public import proofs.«01_k».proof.Proof.KTab
public import proofs.«01_k».proof.Proof.KRun

/-! What the body writes to the two results, in closed form.

The run of the body names every value it reads; here each read of a buffer the body filled is replaced by its
closed form, so that the pieces of the two results are functions of what the six operands hold. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F]

/-- The place of a pair's word in a row of the index array: `t0 + 2 t + d`. -/
def gPos (t0 d : BitVec 32) (t : Fin k0_t3_loop.trips) : ℕ :=
  (Scalar.indexCast (Scalar.addi (Scalar.addi t0 (Scalar.muli 2#32 (Scf.iv 0#32 1#32 t))) d)).toNat

/-- The first token of a half. -/
abbrev half (s : Fin 2) : BitVec 32 := match s with | 0 => 0#32 | 1 => 128#32

theorem gPos_eq : ∀ (s d : Fin 2) (t : Fin k0_t3_loop.trips), gPos (half s) (BitVec.ofNat 32 d.val) t = 128 * s.val + 2 * t.val + d.val := by decide

/-- The offset of a pair's word. -/
abbrev gOff (b : Fin 2) (s : Fin 2) (k : Fin 8) (d : Fin 2) (t : Fin k0_t3_loop.trips) : Fin 3 → ℕ :=
  ![b.val, k.val, gPos (half s) (BitVec.ofNat 32 d.val) t]

theorem gOff_inb (b s : Fin 2) (k : Fin 8) (d : Fin 2) (t : Fin k0_t3_loop.trips) (a : Fin 3) : gOff b s k d t a + S1x1x1.size a ≤ S2x8x256.size a := by
  have e := gPos_eq s d t
  have ht : t.val < 64 := t.isLt
  match a with
  | ⟨0, _⟩ => show b.val + 1 ≤ 2; omega
  | ⟨1, _⟩ => show k.val + 1 ≤ 8; omega
  | ⟨2, _⟩ => show gPos (half s) (BitVec.ofNat 32 d.val) t + 1 ≤ 256; omega

/-- The left operand of tap `k` for one batch and half: chunk `q`. -/
abbrev lhsG (T : S4104x128.Idx → F .f32) (N : S2x8x256.Idx → BitVec 32) (b s : Fin 2) (k : Fin 8) (q : Fin 4) : Vec F S64x2x128 .bf16 :=
  chunkG T N (gOff b s k 0) (gOff b s k 1) (gOff_inb b s k 0) (gOff_inb b s k 1) q

theorem wG_inb (k : Fin 8) : ∀ a, (![k.val, 0, 0] : Fin 3 → ℕ) a + S1x512x640.size a ≤ S8x512x640.size a := by
  revert k; decide

/-- The weights of tap `k`. -/
abbrev wG (W : S8x512x640.Idx → F .fp8e4m3) (k : Fin 8) : Vec F S1x512x640 .fp8e4m3 :=
  ld W (Rect.unit (s := S8x512x640) ![k.val, 0, 0] S1x512x640.size (wG_inb k)).toLoadRect

/-- The sum of the first seven taps' products. -/
def acc7 (L : Fin 8 → Fin 4 → Vec F S64x2x128 .bf16) (w : Fin 8 → Vec F S1x512x640 .fp8e4m3) : FVec F S128x640 .f32 :=
  k0_pay73 (k0_pay71 (k0_pay69 (k0_pay67 (k0_pay65 (k0_pay63 (k0_pay61 (L 0 0) (L 0 1) (L 0 2) (L 0 3) (w 0))
    (L 1 0) (L 1 1) (L 1 2) (L 1 3) (w 1))
    (L 2 0) (L 2 1) (L 2 2) (L 2 3) (w 2))
    (L 3 0) (L 3 1) (L 3 2) (L 3 3) (w 3))
    (L 4 0) (L 4 1) (L 4 2) (L 4 3) (w 4))
    (L 5 0) (L 5 1) (L 5 2) (L 5 3) (w 5))
    (L 6 0) (L 6 1) (L 6 2) (L 6 3) (w 6)

/-- A row of the output channels' constants. -/
abbrev chan (x : S640.Idx → F .f32) : FVec F S1x640 .f32 :=
  shapeCast S1x640 (ld x (Rect.unit (s := S640) ![0] S640.size inb_S640_S640_0).toLoadRect) shapeCasts_S640_S1x640

/-- The block's outputs before quantisation, their scale numbers and which of these are zero. -/
def blkY (L : Fin 8 → Fin 4 → Vec F S64x2x128 .bf16) (w : Fin 8 → Vec F S1x512x640 .fp8e4m3) (sw bi : S640.Idx → F .f32) : FVec F S128x640 .f32 :=
  k0_pay75 (chan sw) (chan bi) (acc7 L w) (L 7 0) (L 7 1) (L 7 2) (L 7 3) (w 7)
def blkS (L : Fin 8 → Fin 4 → Vec F S64x2x128 .bf16) (w : Fin 8 → Vec F S1x512x640 .fp8e4m3) (sw bi : S640.Idx → F .f32) : FVec F S128x1 .f32 :=
  k0_pay76 (chan sw) (chan bi) (acc7 L w) (L 7 0) (L 7 1) (L 7 2) (L 7 3) (w 7)
def blkZ (L : Fin 8 → Fin 4 → Vec F S64x2x128 .bf16) (w : Fin 8 → Vec F S1x512x640 .fp8e4m3) (sw bi : S640.Idx → F .f32) : IVec S128x1 1 :=
  k0_pay77 (chan sw) (chan bi) (acc7 L w) (L 7 0) (L 7 1) (L 7 2) (L 7 3) (w 7)

/-- The lanes' numbers, from which the exponent fields are made. -/
abbrev laneIota : IVec S128x256 32 := iota .tc S128x256 32 [1] iota_S128x256_d1_w32

/-- A block's codes and scales. -/
def blkC (L : Fin 8 → Fin 4 → Vec F S64x2x128 .bf16) (w : Fin 8 → Vec F S1x512x640 .fp8e4m3) (sw bi : S640.Idx → F .f32) : FVec F S1x128x640 .fp8e4m3 :=
  k0_pay82 (blkY L w sw bi) (blkS L w sw bi) (blkZ L w sw bi) laneIota k0_pay78 k0_pay79 k0_pay80
def blkE (L : Fin 8 → Fin 4 → Vec F S64x2x128 .bf16) (w : Fin 8 → Vec F S1x512x640 .fp8e4m3) (sw bi : S640.Idx → F .f32) : FVec F S1x128 .f32 :=
  k0_pay83 (blkS L w sw bi) (blkZ L w sw bi) laneIota k0_pay78 k0_pay79 k0_pay80

section Pieces
variable (N : S2x8x256.Idx → BitVec 32) (X : S2x1024x512.Idx → F .fp8e4m3) (sx : S2x1024.Idx → F .f32) (W : S8x512x640.Idx → F .fp8e4m3) (sw bi : S640.Idx → F .f32)

/-- The two tables. -/
abbrev tabOf (b : Fin 2) : S4104x128.Idx → F .f32 := match b with
  | 0 => tabG (row1 sx) (cod1 X)
  | 1 => tabG (row2 sx) (cod2 X)

/-- The left operands of one batch and half. -/
abbrev lhsOf (b s : Fin 2) : Fin 8 → Fin 4 → Vec F S64x2x128 .bf16 := lhsG (tabOf X sx b) N b s

/-- The pieces of the codes, the last written first. -/
def codeL : List (View.Piece (Elt F) S2x256x640 .fp8e4m3) :=
  [⟨Rect.unit ![1, 128, 0] S1x128x640.size inb_S2x256x640_S1x128x640_1_128_0, blkC (lhsOf N X sx 1 1) (wG W) sw bi⟩,
   ⟨Rect.unit ![1, 0, 0] S1x128x640.size inb_S2x256x640_S1x128x640_1_0_0, blkC (lhsOf N X sx 1 0) (wG W) sw bi⟩,
   ⟨Rect.unit ![0, 128, 0] S1x128x640.size inb_S2x256x640_S1x128x640_0_128_0, blkC (lhsOf N X sx 0 1) (wG W) sw bi⟩,
   ⟨Rect.unit ![0, 0, 0] S1x128x640.size inb_S2x256x640_S1x128x640_0_0_0, blkC (lhsOf N X sx 0 0) (wG W) sw bi⟩]

/-- The pieces of the scales. -/
def scaleL : List (View.Piece (Elt F) S2x256 .f32) :=
  [⟨Rect.unit ![1, 128] S1x128.size inb_S2x256_S1x128_1_128, blkE (lhsOf N X sx 1 1) (wG W) sw bi⟩,
   ⟨Rect.unit ![1, 0] S1x128.size inb_S2x256_S1x128_1_0, blkE (lhsOf N X sx 1 0) (wG W) sw bi⟩,
   ⟨Rect.unit ![0, 128] S1x128.size inb_S2x256_S1x128_0_128, blkE (lhsOf N X sx 0 1) (wG W) sw bi⟩,
   ⟨Rect.unit ![0, 0] S1x128.size inb_S2x256_S1x128_0_0, blkE (lhsOf N X sx 0 0) (wG W) sw bi⟩]
end Pieces

section Reads
variable (tab : Memref sig .tc .vmem S4104x128 .f32) (lhs : Memref sig .tc .vmem S288x2x128 .bf16) (c : Dev nD)
  (pA pB : Fin k0_t3_loop.trips → Fin 3 → ℕ) (hpA : ∀ t a, pA t a + S1x1x1.size a ≤ S2x8x256.size a) (hpB : ∀ t a, pB t a + S1x1x1.size a ≤ S2x8x256.size a)
  (fT : HbBuf (F := F) c tab) (f : HbBuf (F := F) c lhs) (T : S4104x128.Idx → F .f32) (f0 : HbBuf (F := F) c hbN)

/-- A chunk read back after a gather loop, the index buffer and the table in closed form. -/
theorem raw_read (o : ℕ) (q : Fin 4) (ho : o = 72 * q.val) (inb : ∀ a, (![o, 0, 0] : Fin 3 → ℕ) a + S64x2x128.size a ≤ S288x2x128.size a)
    (n : ℕ) (hn : n = 64) (hT : tab.view.read (Elt F) fT = T) :
    lhs.view.readAt (Elt F) (Rect.unit (s := S288x2x128) ![o, 0, 0] S64x2x128.size inb).toLoadRect (gFill tab lhs c pA pB hpA hpB (idxBuf c f0) fT f n)
      = chunkG T (hbN.view.read (Elt F) f0) pA pB hpA hpB q := by
  subst hn hT
  exact (chunk_read tab lhs c o q ho inb pA pB hpA hpB _ fT f).trans (by rw [idx_read])

/-- The weights of a tap read back. -/
theorem wraw_read (f3 : HbBuf (F := F) c hbW) (g : HbBuf (F := F) c scW) (r : LoadRect S8x512x640) :
    scW.view.readAt (Elt F) r (wBuf c f3 g) = ld (hbW.view.read (Elt F) f3) r := by
  funext j; rw [View.readAt_apply, w_read]
end Reads

/-- A block's codes and scales from any values that equal its operands. -/
theorem blk_congr {L : Fin 8 → Fin 4 → Vec F S64x2x128 .bf16} {w : Fin 8 → Vec F S1x512x640 .fp8e4m3} {sw bi : S640.Idx → F .f32}
    {c00 c01 c02 c03 c10 c11 c12 c13 c20 c21 c22 c23 c30 c31 c32 c33 c40 c41 c42 c43 c50 c51 c52 c53 c60 c61 c62 c63 c70 c71 c72 c73 : Vec F S64x2x128 .bf16} {w0 w1 w2 w3 w4 w5 w6 w7 : Vec F S1x512x640 .fp8e4m3}
    {A : FVec F S1x128x640 .fp8e4m3} {E : FVec F S1x128 .f32}
    (h00 : c00 = L 0 0) (h01 : c01 = L 0 1) (h02 : c02 = L 0 2) (h03 : c03 = L 0 3) (g0 : w0 = w 0)
    (h10 : c10 = L 1 0) (h11 : c11 = L 1 1) (h12 : c12 = L 1 2) (h13 : c13 = L 1 3) (g1 : w1 = w 1)
    (h20 : c20 = L 2 0) (h21 : c21 = L 2 1) (h22 : c22 = L 2 2) (h23 : c23 = L 2 3) (g2 : w2 = w 2)
    (h30 : c30 = L 3 0) (h31 : c31 = L 3 1) (h32 : c32 = L 3 2) (h33 : c33 = L 3 3) (g3 : w3 = w 3)
    (h40 : c40 = L 4 0) (h41 : c41 = L 4 1) (h42 : c42 = L 4 2) (h43 : c43 = L 4 3) (g4 : w4 = w 4)
    (h50 : c50 = L 5 0) (h51 : c51 = L 5 1) (h52 : c52 = L 5 2) (h53 : c53 = L 5 3) (g5 : w5 = w 5)
    (h60 : c60 = L 6 0) (h61 : c61 = L 6 1) (h62 : c62 = L 6 2) (h63 : c63 = L 6 3) (g6 : w6 = w 6)
    (h70 : c70 = L 7 0) (h71 : c71 = L 7 1) (h72 : c72 = L 7 2) (h73 : c73 = L 7 3) (g7 : w7 = w 7)
    (hA : A = k0_pay82 (k0_pay75 (chan sw) (chan bi) (k0_pay73 (k0_pay71 (k0_pay69 (k0_pay67 (k0_pay65 (k0_pay63 (k0_pay61 c00 c01 c02 c03 w0) c10 c11 c12 c13 w1) c20 c21 c22 c23 w2) c30 c31 c32 c33 w3) c40 c41 c42 c43 w4) c50 c51 c52 c53 w5) c60 c61 c62 c63 w6) c70 c71 c72 c73 w7) (k0_pay76 (chan sw) (chan bi) (k0_pay73 (k0_pay71 (k0_pay69 (k0_pay67 (k0_pay65 (k0_pay63 (k0_pay61 c00 c01 c02 c03 w0) c10 c11 c12 c13 w1) c20 c21 c22 c23 w2) c30 c31 c32 c33 w3) c40 c41 c42 c43 w4) c50 c51 c52 c53 w5) c60 c61 c62 c63 w6) c70 c71 c72 c73 w7)
      (k0_pay77 (chan sw) (chan bi) (k0_pay73 (k0_pay71 (k0_pay69 (k0_pay67 (k0_pay65 (k0_pay63 (k0_pay61 c00 c01 c02 c03 w0) c10 c11 c12 c13 w1) c20 c21 c22 c23 w2) c30 c31 c32 c33 w3) c40 c41 c42 c43 w4) c50 c51 c52 c53 w5) c60 c61 c62 c63 w6) c70 c71 c72 c73 w7) laneIota k0_pay78 k0_pay79 k0_pay80)
    (hE : E = k0_pay83 (k0_pay76 (chan sw) (chan bi) (k0_pay73 (k0_pay71 (k0_pay69 (k0_pay67 (k0_pay65 (k0_pay63 (k0_pay61 c00 c01 c02 c03 w0) c10 c11 c12 c13 w1) c20 c21 c22 c23 w2) c30 c31 c32 c33 w3) c40 c41 c42 c43 w4) c50 c51 c52 c53 w5) c60 c61 c62 c63 w6) c70 c71 c72 c73 w7)
      (k0_pay77 (chan sw) (chan bi) (k0_pay73 (k0_pay71 (k0_pay69 (k0_pay67 (k0_pay65 (k0_pay63 (k0_pay61 c00 c01 c02 c03 w0) c10 c11 c12 c13 w1) c20 c21 c22 c23 w2) c30 c31 c32 c33 w3) c40 c41 c42 c43 w4) c50 c51 c52 c53 w5) c60 c61 c62 c63 w6) c70 c71 c72 c73 w7) laneIota k0_pay78 k0_pay79 k0_pay80) :
    A = blkC L w sw bi ∧ E = blkE L w sw bi := by
  subst_vars
  exact ⟨rfl, rfl⟩

section Run
variable (c : Dev nD) (arg2 : Memref sig .tc .vmem S2x1024 .f32) (harg2 : arg2.IsWhole) (arg4 : Memref sig .tc .vmem S640 .f32) (harg4 : arg4.IsWhole) (arg5 : Memref sig .tc .vmem S640 .f32) (harg5 : arg5.IsWhole) (arg6 : Memref sig .tc .vmem S2x256x640 .fp8e4m3) (harg6 : arg6.IsWhole) (arg7 : Memref sig .tc .vmem S2x256 .f32) (harg7 : arg7.IsWhole)
    (f0 : HbBuf (F := F) c hbN) (f1 : HbBuf (F := F) c hbX) (f3 : HbBuf (F := F) c hbW)
    (g2 : HbBuf (F := F) c arg2) (g4 : HbBuf (F := F) c arg4) (g5 : HbBuf (F := F) c arg5)
    (g9 : HbBuf (F := F) c scX) (g10 : HbBuf (F := F) c scW)
    (g11 : HbBuf (F := F) c scT0) (g12 : HbBuf (F := F) c scT1) (g13 : HbBuf (F := F) c scL0)
    (g14 : HbBuf (F := F) c scL1) (g15 : HbBuf (F := F) c scL2) (g16 : HbBuf (F := F) c scL3)
    (hI : IdxOK c (idxBuf c f0))

set_option maxHeartbeats 0 in
/-- Block 0 in closed form. -/
theorem block0_eq :
    k0_pay82 (kernelRun.sl.r_7 c arg2 harg2 arg4 harg4 arg5 harg5 arg6 harg6 arg7 harg7 f0 f1 f3 g2 g4 g5 g9 g10 g11 g13 g14 g15 g16) (kernelRun.sl.r_8 c arg2 harg2 arg4 harg4 arg5 harg5 arg6 harg6 arg7 harg7 f0 f1 f3 g2 g4 g5 g9 g10 g11 g13 g14 g15 g16) (kernelRun.sl.r_9 c arg2 harg2 arg4 harg4 arg5 harg5 arg6 harg6 arg7 harg7 f0 f1 f3 g2 g4 g5 g9 g10 g11 g13 g14 g15 g16) kernelRun.sl.v263 k0_pay78 k0_pay79 k0_pay80
      = blkC (lhsOf (hbN.view.read (Elt F) f0) (hbX.view.read (Elt F) f1) (arg2.view.read (Elt F) g2) 0 0) (wG (hbW.view.read (Elt F) f3))
          (arg4.view.read (Elt F) g4) (arg5.view.read (Elt F) g5)
    ∧ k0_pay83 (kernelRun.sl.r_8 c arg2 harg2 arg4 harg4 arg5 harg5 arg6 harg6 arg7 harg7 f0 f1 f3 g2 g4 g5 g9 g10 g11 g13 g14 g15 g16) (kernelRun.sl.r_9 c arg2 harg2 arg4 harg4 arg5 harg5 arg6 harg6 arg7 harg7 f0 f1 f3 g2 g4 g5 g9 g10 g11 g13 g14 g15 g16) kernelRun.sl.v263 k0_pay78 k0_pay79 k0_pay80
      = blkE (lhsOf (hbN.view.read (Elt F) f0) (hbX.view.read (Elt F) f1) (arg2.view.read (Elt F) g2) 0 0) (wG (hbW.view.read (Elt F) f3))
          (arg4.view.read (Elt F) g4) (arg5.view.read (Elt F) g5) := by
  have h1 := t1_read c arg2 harg2 arg4 harg4 arg5 harg5 arg6 harg6 arg7 harg7 g2 f1 g9 g11
  have a0 := fun lhs pA pB hpA hpB (f : HbBuf (F := F) c lhs) n hn => raw_read scT0 lhs c pA pB hpA hpB _ f _ f0 0 0 rfl inb_S288x2x128_S64x2x128_0_0_0 n hn h1
  have a1 := fun lhs pA pB hpA hpB (f : HbBuf (F := F) c lhs) n hn => raw_read scT0 lhs c pA pB hpA hpB _ f _ f0 72 1 rfl inb_S288x2x128_S64x2x128_72_0_0 n hn h1
  have a2 := fun lhs pA pB hpA hpB (f : HbBuf (F := F) c lhs) n hn => raw_read scT0 lhs c pA pB hpA hpB _ f _ f0 144 2 rfl inb_S288x2x128_S64x2x128_144_0_0 n hn h1
  have a3 := fun lhs pA pB hpA hpB (f : HbBuf (F := F) c lhs) n hn => raw_read scT0 lhs c pA pB hpA hpB _ f _ f0 216 3 rfl inb_S288x2x128_S64x2x128_216_0_0 n hn h1
  have hw := wraw_read (F := F) c f3 g10
  apply blk_congr
  case hA => exact rfl
  case hE => exact rfl
  iterate 8
    · exact a0 _ _ _ _ _ _ _ rfl
    · exact a1 _ _ _ _ _ _ _ rfl
    · exact a2 _ _ _ _ _ _ _ rfl
    · exact a3 _ _ _ _ _ _ _ rfl
    · exact hw _

set_option maxHeartbeats 0 in
/-- Block 1 in closed form. -/
theorem block1_eq :
    k0_pay106 (kernelRun.sl.r_17 c arg2 harg2 arg4 harg4 arg5 harg5 arg6 harg6 arg7 harg7 f0 f1 f3 g2 g4 g5 g9 g10 g11 g13 g14 g15 g16) (kernelRun.sl.r_18 c arg2 harg2 arg4 harg4 arg5 harg5 arg6 harg6 arg7 harg7 f0 f1 f3 g2 g4 g5 g9 g10 g11 g13 g14 g15 g16) (kernelRun.sl.r_19 c arg2 harg2 arg4 harg4 arg5 harg5 arg6 harg6 arg7 harg7 f0 f1 f3 g2 g4 g5 g9 g10 g11 g13 g14 g15 g16) kernelRun.sl.v430 k0_pay102 k0_pay103 k0_pay104
      = blkC (lhsOf (hbN.view.read (Elt F) f0) (hbX.view.read (Elt F) f1) (arg2.view.read (Elt F) g2) 0 1) (wG (hbW.view.read (Elt F) f3))
          (arg4.view.read (Elt F) g4) (arg5.view.read (Elt F) g5)
    ∧ k0_pay107 (kernelRun.sl.r_18 c arg2 harg2 arg4 harg4 arg5 harg5 arg6 harg6 arg7 harg7 f0 f1 f3 g2 g4 g5 g9 g10 g11 g13 g14 g15 g16) (kernelRun.sl.r_19 c arg2 harg2 arg4 harg4 arg5 harg5 arg6 harg6 arg7 harg7 f0 f1 f3 g2 g4 g5 g9 g10 g11 g13 g14 g15 g16) kernelRun.sl.v430 k0_pay102 k0_pay103 k0_pay104
      = blkE (lhsOf (hbN.view.read (Elt F) f0) (hbX.view.read (Elt F) f1) (arg2.view.read (Elt F) g2) 0 1) (wG (hbW.view.read (Elt F) f3))
          (arg4.view.read (Elt F) g4) (arg5.view.read (Elt F) g5) := by
  have h1 := t1_read c arg2 harg2 arg4 harg4 arg5 harg5 arg6 harg6 arg7 harg7 g2 f1 g9 g11
  have a0 := fun lhs pA pB hpA hpB (f : HbBuf (F := F) c lhs) n hn => raw_read scT0 lhs c pA pB hpA hpB _ f _ f0 0 0 rfl inb_S288x2x128_S64x2x128_0_0_0 n hn h1
  have a1 := fun lhs pA pB hpA hpB (f : HbBuf (F := F) c lhs) n hn => raw_read scT0 lhs c pA pB hpA hpB _ f _ f0 72 1 rfl inb_S288x2x128_S64x2x128_72_0_0 n hn h1
  have a2 := fun lhs pA pB hpA hpB (f : HbBuf (F := F) c lhs) n hn => raw_read scT0 lhs c pA pB hpA hpB _ f _ f0 144 2 rfl inb_S288x2x128_S64x2x128_144_0_0 n hn h1
  have a3 := fun lhs pA pB hpA hpB (f : HbBuf (F := F) c lhs) n hn => raw_read scT0 lhs c pA pB hpA hpB _ f _ f0 216 3 rfl inb_S288x2x128_S64x2x128_216_0_0 n hn h1
  have hw := wraw_read (F := F) c f3 g10
  apply blk_congr
  case hA => exact rfl
  case hE => exact rfl
  iterate 8
    · exact a0 _ _ _ _ _ _ _ rfl
    · exact a1 _ _ _ _ _ _ _ rfl
    · exact a2 _ _ _ _ _ _ _ rfl
    · exact a3 _ _ _ _ _ _ _ rfl
    · exact hw _

set_option maxHeartbeats 0 in
/-- Block 2 in closed form. -/
theorem block2_eq :
    k0_pay130 (kernelRun.sl.r_27 c arg2 harg2 arg4 harg4 arg5 harg5 arg6 harg6 arg7 harg7 f0 f1 f3 g2 g4 g5 g9 g10 g11 g12 g13 g14 g15 g16) (kernelRun.sl.r_28 c arg2 harg2 arg4 harg4 arg5 harg5 arg6 harg6 arg7 harg7 f0 f1 f3 g2 g4 g5 g9 g10 g11 g12 g13 g14 g15 g16) (kernelRun.sl.r_29 c arg2 harg2 arg4 harg4 arg5 harg5 arg6 harg6 arg7 harg7 f0 f1 f3 g2 g4 g5 g9 g10 g11 g12 g13 g14 g15 g16) kernelRun.sl.v597 k0_pay126 k0_pay127 k0_pay128
      = blkC (lhsOf (hbN.view.read (Elt F) f0) (hbX.view.read (Elt F) f1) (arg2.view.read (Elt F) g2) 1 0) (wG (hbW.view.read (Elt F) f3))
          (arg4.view.read (Elt F) g4) (arg5.view.read (Elt F) g5)
    ∧ k0_pay131 (kernelRun.sl.r_28 c arg2 harg2 arg4 harg4 arg5 harg5 arg6 harg6 arg7 harg7 f0 f1 f3 g2 g4 g5 g9 g10 g11 g12 g13 g14 g15 g16) (kernelRun.sl.r_29 c arg2 harg2 arg4 harg4 arg5 harg5 arg6 harg6 arg7 harg7 f0 f1 f3 g2 g4 g5 g9 g10 g11 g12 g13 g14 g15 g16) kernelRun.sl.v597 k0_pay126 k0_pay127 k0_pay128
      = blkE (lhsOf (hbN.view.read (Elt F) f0) (hbX.view.read (Elt F) f1) (arg2.view.read (Elt F) g2) 1 0) (wG (hbW.view.read (Elt F) f3))
          (arg4.view.read (Elt F) g4) (arg5.view.read (Elt F) g5) := by
  have h2 := t2_read c arg2 harg2 arg4 harg4 arg5 harg5 arg6 harg6 arg7 harg7 g2 f1 g9 g12
  have b0 := fun lhs pA pB hpA hpB (f : HbBuf (F := F) c lhs) n hn => raw_read scT1 lhs c pA pB hpA hpB _ f _ f0 0 0 rfl inb_S288x2x128_S64x2x128_0_0_0 n hn h2
  have b1 := fun lhs pA pB hpA hpB (f : HbBuf (F := F) c lhs) n hn => raw_read scT1 lhs c pA pB hpA hpB _ f _ f0 72 1 rfl inb_S288x2x128_S64x2x128_72_0_0 n hn h2
  have b2 := fun lhs pA pB hpA hpB (f : HbBuf (F := F) c lhs) n hn => raw_read scT1 lhs c pA pB hpA hpB _ f _ f0 144 2 rfl inb_S288x2x128_S64x2x128_144_0_0 n hn h2
  have b3 := fun lhs pA pB hpA hpB (f : HbBuf (F := F) c lhs) n hn => raw_read scT1 lhs c pA pB hpA hpB _ f _ f0 216 3 rfl inb_S288x2x128_S64x2x128_216_0_0 n hn h2
  have hw := wraw_read (F := F) c f3 g10
  apply blk_congr
  case hA => exact rfl
  case hE => exact rfl
  iterate 8
    · exact b0 _ _ _ _ _ _ _ rfl
    · exact b1 _ _ _ _ _ _ _ rfl
    · exact b2 _ _ _ _ _ _ _ rfl
    · exact b3 _ _ _ _ _ _ _ rfl
    · exact hw _

set_option maxHeartbeats 0 in
/-- Block 3 in closed form. -/
theorem block3_eq :
    k0_pay154 (kernelRun.sl.r_37 c arg2 harg2 arg4 harg4 arg5 harg5 arg6 harg6 arg7 harg7 f0 f1 f3 g2 g4 g5 g9 g10 g11 g12 g13 g14 g15 g16) (kernelRun.sl.r_38 c arg2 harg2 arg4 harg4 arg5 harg5 arg6 harg6 arg7 harg7 f0 f1 f3 g2 g4 g5 g9 g10 g11 g12 g13 g14 g15 g16) (kernelRun.sl.r_39 c arg2 harg2 arg4 harg4 arg5 harg5 arg6 harg6 arg7 harg7 f0 f1 f3 g2 g4 g5 g9 g10 g11 g12 g13 g14 g15 g16) kernelRun.sl.v764 k0_pay150 k0_pay151 k0_pay152
      = blkC (lhsOf (hbN.view.read (Elt F) f0) (hbX.view.read (Elt F) f1) (arg2.view.read (Elt F) g2) 1 1) (wG (hbW.view.read (Elt F) f3))
          (arg4.view.read (Elt F) g4) (arg5.view.read (Elt F) g5)
    ∧ k0_pay1 (kernelRun.sl.r_40 c arg2 harg2 arg4 harg4 arg5 harg5 arg6 harg6 arg7 harg7 f0 f1 f3 g2 g4 g5 g9 g10 g11 g12 g13 g14 g15 g16)
      = blkE (lhsOf (hbN.view.read (Elt F) f0) (hbX.view.read (Elt F) f1) (arg2.view.read (Elt F) g2) 1 1) (wG (hbW.view.read (Elt F) f3))
          (arg4.view.read (Elt F) g4) (arg5.view.read (Elt F) g5) := by
  have h2 := t2_read c arg2 harg2 arg4 harg4 arg5 harg5 arg6 harg6 arg7 harg7 g2 f1 g9 g12
  have b0 := fun lhs pA pB hpA hpB (f : HbBuf (F := F) c lhs) n hn => raw_read scT1 lhs c pA pB hpA hpB _ f _ f0 0 0 rfl inb_S288x2x128_S64x2x128_0_0_0 n hn h2
  have b1 := fun lhs pA pB hpA hpB (f : HbBuf (F := F) c lhs) n hn => raw_read scT1 lhs c pA pB hpA hpB _ f _ f0 72 1 rfl inb_S288x2x128_S64x2x128_72_0_0 n hn h2
  have b2 := fun lhs pA pB hpA hpB (f : HbBuf (F := F) c lhs) n hn => raw_read scT1 lhs c pA pB hpA hpB _ f _ f0 144 2 rfl inb_S288x2x128_S64x2x128_144_0_0 n hn h2
  have b3 := fun lhs pA pB hpA hpB (f : HbBuf (F := F) c lhs) n hn => raw_read scT1 lhs c pA pB hpA hpB _ f _ f0 216 3 rfl inb_S288x2x128_S64x2x128_216_0_0 n hn h2
  have hw := wraw_read (F := F) c f3 g10
  apply blk_congr
  case hA => exact rfl
  case hE => exact rfl
  iterate 8
    · exact b0 _ _ _ _ _ _ _ rfl
    · exact b1 _ _ _ _ _ _ _ rfl
    · exact b2 _ _ _ _ _ _ _ rfl
    · exact b3 _ _ _ _ _ _ _ rfl
    · exact hw _

set_option maxHeartbeats 0 in
/-- What the body writes: the pieces of the codes and of the scales, functions of the operands alone. -/
theorem run_eq : (kernelRun c arg2 harg2 arg4 harg4 arg5 harg5 arg6 harg6 arg7 harg7 f0 f1 f3 g2 g4 g5 g9 g10 g11 g12 g13 g14 g15 g16 hI).1
      = (codeL (hbN.view.read (Elt F) f0) (hbX.view.read (Elt F) f1) (arg2.view.read (Elt F) g2) (hbW.view.read (Elt F) f3)
          (arg4.view.read (Elt F) g4) (arg5.view.read (Elt F) g5),
         scaleL (hbN.view.read (Elt F) f0) (hbX.view.read (Elt F) f1) (arg2.view.read (Elt F) g2) (hbW.view.read (Elt F) f3)
          (arg4.view.read (Elt F) g4) (arg5.view.read (Elt F) g5)) := by
  have e0 := block0_eq c arg2 harg2 arg4 harg4 arg5 harg5 arg6 harg6 arg7 harg7 f0 f1 f3 g2 g4 g5 g9 g10 g11 g13 g14 g15 g16
  have e1 := block1_eq c arg2 harg2 arg4 harg4 arg5 harg5 arg6 harg6 arg7 harg7 f0 f1 f3 g2 g4 g5 g9 g10 g11 g13 g14 g15 g16
  have e2 := block2_eq c arg2 harg2 arg4 harg4 arg5 harg5 arg6 harg6 arg7 harg7 f0 f1 f3 g2 g4 g5 g9 g10 g11 g12 g13 g14 g15 g16
  have e3 := block3_eq c arg2 harg2 arg4 harg4 arg5 harg5 arg6 harg6 arg7 harg7 f0 f1 f3 g2 g4 g5 g9 g10 g11 g12 g13 g14 g15 g16
  unfold codeL scaleL
  rw [← e0.1, ← e1.1, ← e2.1, ← e3.1, ← e0.2, ← e1.2, ← e2.2, ← e3.2]
  delta kernelRun
  rfl

end Run
end Cert.KernelIdeal.Hand
-- ==== Proof.KFrame.lean ====
module

public import proofs.«01_k».proof.Proof.KClosed
public import proofs.«01_k».proof.Proof.Gen.KernelIdeal.Frame
public import Idealize.ShloMosaic.Lib.Pipeline.FrameBody
public import Idealize.ShloMosaic.Lib.Ring

/-! The frame run: under in-range indices every execution ends, nothing faults, the arguments end unchanged, every
semaphore is at zero and the two results hold the pieces of the body's closed form. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The operands -/

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The eleven cells of the body's own copies. -/
abbrev osem0 : Fin 11 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15] : Fin 11 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) := by
  rw [Pipeline.ownSems0_eq_of_list c osem0 [0, 1, 2, 3, 4, 5, 6, 7, 8, 9, 10] (by decide) (by decide)]; rfl

/-- The operands left in HBM, which the body's copies read. -/
def H0 : Finset (Ref sig .tc) := {main_v0, main_arg0, main_arg3}
theorem H0_sub : H0 ⊆ Pipeline.restRefs sig spec0 := by decide
theorem hbmPts0_eq (c : Dev nD) :
    (bigSep H0 (fun b => ((c : Thread nD τ).loc b) ↦{fullShare} V m c b) : sProp 𝕄)
      = iprop(hbPt c hbN (V m c main_v0) ∗ hbPt c hbX (V m c main_arg0) ∗ hbPt c hbW (V m c main_arg3)) := by
  rw [BI.bigSep_eq_bigSepL_of_eq [main_v0, main_arg0, main_arg3] (by decide) (by decide)]; rfl

theorem PhiD0_eq (c : Dev nD) :
    (Pipeline.ΦD osem0 spec0 H0 (V m) c : sProp 𝕄)
      = iprop(iprop((∃ f, hbPt c scX f) ∗ (∃ f, hbPt c scW f) ∗ (∃ d, owns (c : Thread nD τ) scT0 fullShare d) ∗ (∃ d, owns (c : Thread nD τ) scT1 fullShare d) ∗ (∃ d, owns (c : Thread nD τ) scL0 fullShare d) ∗ (∃ d, owns (c : Thread nD τ) scL1 fullShare d) ∗ (∃ d, owns (c : Thread nD τ) scL2 fullShare d) ∗ (∃ d, owns (c : Thread nD τ) scL3 fullShare d) ∗ (∃ d, owns (c : Thread nD τ) scIdx fullShare d))
          ∗ (∃ r, prngReg c r)
          ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0)
          ∗ iprop(hbPt c hbN (V m c main_v0) ∗ hbPt c hbX (V m c main_arg0) ∗ hbPt c hbW (V m c main_arg3))) := by
  rw [Pipeline.ΦD_eq, scopedRest0_eq, ownSems00_eq, hbmPts0_eq]
  simp only [scT0, scT1, scL0, scL1, scL2, scL3, scIdx, owns_whole]; try rfl

/-! ## What the results hold -/

section Cover
variable (N : S2x8x256.Idx → BitVec 32) (X : S2x1024x512.Idx → F .fp8e4m3) (sx : S2x1024.Idx → F .f32) (W : S8x512x640.Idx → F .fp8e4m3) (sw bi : S640.Idx → F .f32)
theorem cover_codes (y : S2x256x640.Idx) : ∃ pc ∈ codeL N X sx W sw bi, y ∈ pc.1.set :=
  View.cover_of_tiledL (codeL N X sx W sw bi) S1x128x640.size (by sl_kernel_rfl) y
theorem cover_scales (y : S2x256.Idx) : ∃ pc ∈ scaleL N X sx W sw bi, y ∈ pc.1.set :=
  View.cover_of_tiledL (scaleL N X sx W sw bi) S1x128.size (by sl_kernel_rfl) y

abbrev VO3 : View sig .tc .vmem S2x256x640 .fp8e4m3 := (win0_3.stage 0).view
abbrev VO4 : View sig .tc .vmem S2x256 .f32 := (win0_4.stage 0).view
/-- The two results, from what the operands hold. -/
def codesOf : S2x256x640.Idx → F .fp8e4m3 := VO3.read (Elt F) (VO3.writes (Elt F) VO3.junk (codeL N X sx W sw bi))
def scalesOf : S2x256.Idx → F .f32 := VO4.read (Elt F) (VO4.writes (Elt F) VO4.junk (scaleL N X sx W sw bi))
end Cover

def outC (c : Dev nD) (t : Fin cfg0.N) : S2x256x640.Idx → F .fp8e4m3 :=
  codesOf (hbN.view.read (Elt F) (V m c main_v0)) (hbX.view.read (Elt F) (V m c main_arg0)) (iblk m c 0 t) (hbW.view.read (Elt F) (V m c main_arg3)) (iblk m c 1 t) (iblk m c 2 t)
def outE (c : Dev nD) (t : Fin cfg0.N) : S2x256.Idx → F .f32 :=
  scalesOf (hbN.view.read (Elt F) (V m c main_v0)) (hbX.view.read (Elt F) (V m c main_arg0)) (iblk m c 0 t) (hbW.view.read (Elt F) (V m c main_arg3)) (iblk m c 1 t) (iblk m c 2 t)

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outC m c t
    | ⟨4, _⟩ => outE m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outC m c t := by dsimp only [dats]
theorem after0_4 (c : Dev nD) (t : Fin cfg0.N) : (dats m 0 c).after 4 t = outE m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t))

variable (hN : ∀ c : Dev nD, IdxOK c (idxBuf (F := F) c (V m c main_v0)))
include hN

set_option maxHeartbeats 0 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after0_0 m c), before0_1_of m (dats m 0 c) (A_eq m c 1) (after0_1 m c), before0_2_of m (dats m 0 c) (A_eq m c 2) (after0_2 m c)]
  rw [show (dats m 0 c).Φ t.succ = (dats m 0 c).Φ t.castSucc from rfl, after0_0, after0_1, after0_2, after0_3, after0_4]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outC outE codesOf scalesOf
  unfold owns
  iintro ⟨⟨⟨⟨%g9, H9⟩, ⟨%g10, H10⟩, ⟨%d11, %g11, -, H11⟩, ⟨%d12, %g12, -, H12⟩, ⟨%d13, %g13, -, H13⟩, ⟨%d14, %g14, -, H14⟩, ⟨%d15, %g15, -, H15⟩, ⟨%d16, %g16, -, H16⟩, ⟨%d8, %g8, -, H8⟩⟩, Hg,
    ⟨Hq0, Hq1, Hq2, Hq3, Hq4, Hq5, Hq6, Hq7, Hq8, Hq9, Hq10⟩, ⟨Hh0, Hh1, Hh3⟩⟩, ⟨%W, -, HW⟩, ⟨%d2, %g2, %e2, H2⟩, ⟨%d4, %g4, %e4, H4⟩, ⟨%d5, %g5, %e5, H5⟩, ⟨%d6, %g6, -, H6⟩, ⟨%d7, %g7, -, H7⟩⟩
  rw [← e2, ← e4, ← e5]
  have hr := run_eq c (st0_0 t) (hstage0_0 0) (st0_1 t) (hstage0_1 0) (st0_2 t) (hstage0_2 0) (st0_3 t) (hstage0_3 0) (st0_4 t) (hstage0_4 0)
    (V m c main_v0) (V m c main_arg0) (V m c main_arg3) g2 g4 g5 g9 g10 g11 g12 g13 g14 g15 g16 (hN c)
  iapply ((kernelRun c (st0_0 t) (hstage0_0 0) (st0_1 t) (hstage0_1 0) (st0_2 t) (hstage0_2 0) (st0_3 t) (hstage0_3 0) (st0_4 t) (hstage0_4 0)
    (V m c main_v0) (V m c main_arg0) (V m c main_arg3) g2 g4 g5 g9 g10 g11 g12 g13 g14 g15 g16 (hN c)).2 W g6 g7 g8 _)
  rw [hr]
  isplitl [Hh0]; · iexact Hh0
  isplitl [Hh1]; · iexact Hh1
  isplitl [H2]; · iexact H2
  isplitl [Hh3]; · iexact Hh3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [HW]; · iexact HW
  iintro ⟨Hh0, Hh1, H2, Hh3, H4, H5, H6, H7, H8, H9, H10, H11, H12, H13, H14, H15, H16, Hq0, Hq1, Hq2, Hq3, Hq4, Hq5, Hq6, Hq7, Hq8, Hq9, Hq10, ⟨%W', HW'⟩⟩
  isplitl [H8 H9 H10 H11 H12 H13 H14 H15 H16 Hg Hq0 Hq1 Hq2 Hq3 Hq4 Hq5 Hq6 Hq7 Hq8 Hq9 Hq10 Hh0 Hh1 Hh3]
  · isplitl [H8 H9 H10 H11 H12 H13 H14 H15 H16]
    · isplitl [H9]; · iexact H9
      isplitl [H10]; · iexact H10
      isplitl [H11]
      · icases H11 with ⟨%f, H⟩; iexists _, f; isplitr; swap; · iexact H
        ipureintro; rfl
      isplitl [H12]
      · icases H12 with ⟨%f, H⟩; iexists _, f; isplitr; swap; · iexact H
        ipureintro; rfl
      isplitl [H13]
      · icases H13 with ⟨%f, H⟩; iexists _, f; isplitr; swap; · iexact H
        ipureintro; rfl
      isplitl [H14]
      · icases H14 with ⟨%f, H⟩; iexists _, f; isplitr; swap; · iexact H
        ipureintro; rfl
      isplitl [H15]
      · icases H15 with ⟨%f, H⟩; iexists _, f; isplitr; swap; · iexact H
        ipureintro; rfl
      isplitl [H16]
      · icases H16 with ⟨%f, H⟩; iexists _, f; isplitr; swap; · iexact H
        ipureintro; rfl
      icases H8 with ⟨%f, H⟩; iexists _, f; isplitr; swap; · iexact H
      ipureintro; rfl
    isplitl [Hg]; · iexact Hg
    isplitl [Hq0 Hq1 Hq2 Hq3 Hq4 Hq5 Hq6 Hq7 Hq8 Hq9 Hq10]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      iexact Hq10
    isplitl [Hh0]; · iexact Hh0
    isplitl [Hh1]; · iexact Hh1
    iexact Hh3
  isplitl [HW']
  · iexists W'; isplitr; · ipureintro; exact fun _ _ => Or.inl trivial
    iexact HW'
  isplitl [H2]
  · iexists _; isplitr; swap; · iexact H2
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; exact View.read_writes_of_cover _ _ _ _ _ (cover_codes _ _ _ _ _ _)
  iexists _; isplitr; swap; · iexact H7
  ipureintro; exact View.read_writes_of_cover _ _ _ _ _ (cover_scales _ _ _ _ _ _)

omit hN in
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m hN c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hN c).loose) (hshare := fun c => (dats m 0 c).share_full fun _ => rfl)
    (howed := fun _ _ => rfl) (V := V m) (hmain := hmainD m Variants.none) (hA := A_eq m)
    (hin := fun _ => .rfl) (hout := fun _ => .rfl)

omit hN in
/-- The arguments read off the frame run's post. -/
theorem args_of {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).1 0).trans (((dats m 0 c).arrAt_in 0 rfl _).trans ((A_eq m c 0).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 1).trans (((dats m 0 c).arrAt_in 1 rfl _).trans ((A_eq m c 1).trans (V_main_arg4 m c))),
    ((h c).1 2).trans (((dats m 0 c).arrAt_in 2 rfl _).trans ((A_eq m c 2).trans (V_main_arg5 m c)))⟩

/-- The frame. -/
theorem frameRun : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_of m h.1 c, h.2⟩) (run_main m ρ hN)

end Cert.KernelIdeal.Hand
end
-- ==== Proof.KIdx.lean ====
module

public import proofs.«01_k».proof.Proof.KFrame
public import proofs.«01_k».proof.Pre_in_range

/-! The precondition at the index buffer: a neighbour in range names a row of the table. -/

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-- The index array the region finds: the neighbours transposed. -/
theorem V_main_v0 (c : Dev nD) : V m c main_v0 = transpose S2x8x256 [0, 2, 1] (m ((c : Thread nD τ).loc main_arg2)) transposes_S2x256x8_S2x8x256_0_2_1 :=
  rfl

/-- A word between −1 and 1023: −1, or a number below 1024. -/
theorem word_range (v : BitVec 32) (h : IntOp.andi (IntOp.cmpi .sge v 4294967295#32) (IntOp.cmpi .slt v 1024#32) = 1#1) :
    v = 4294967295#32 ∨ v.toNat < 1024 := by
  have h' : BitVec.ofBool ((4294967295#32).sle v) &&& BitVec.ofBool (v.slt 1024#32) = 1#1 := h
  have h1 : (4294967295#32).sle v = true ∧ v.slt 1024#32 = true := by
    cases ha : (4294967295#32).sle v <;> cases hb : v.slt 1024#32 <;> rw [ha, hb] at h' <;> first | exact ⟨rfl, rfl⟩ | exact absurd h' (by decide)
  rw [BitVec.sle_iff_toInt_le, BitVec.slt_iff_toInt_lt] at h1
  have e1 : (4294967295#32).toInt = -1 := by decide
  have e2 : (1024#32).toInt = 1024 := by decide
  rw [e1, e2, BitVec.toInt_eq_toNat_cond] at h1
  have hl := v.isLt
  by_cases hc : 2 * v.toNat < 2 ^ 32
  · right; rw [if_pos hc] at h1; omega
  · left; rw [if_neg hc] at h1
    apply BitVec.eq_of_toNat_eq
    show v.toNat = 4294967295
    omega

/-- The first of a neighbour's four rows. -/
theorem off14_eq (v : BitVec 32) (h : v = 4294967295#32 ∨ v.toNat < 1024) :
    k0_off14 v 0 = (if v = 4294967295#32 then 4 else 4 * v.toNat + 8) ∧ k0_off14 v 1 = 0 := by
  rcases h with rfl | h
  · decide
  · have hne : v ≠ 4294967295#32 := fun e => by rw [e] at h; exact absurd h (by decide)
    rw [if_neg hne]
    refine ⟨?_, rfl⟩
    show (v * 4#32 + 8#32).toNat = _
    rw [BitVec.toNat_add, BitVec.toNat_mul]
    show (v.toNat * 4 % 2 ^ 32 + 8) % 2 ^ 32 = _
    omega

/-- Such a word names four rows of the table. -/
theorem chk_of_range (v : BitVec 32) (h : v = 4294967295#32 ∨ v.toNat < 1024) : k0_chk1 v := by
  have e := off14_eq v h
  intro a
  match a with
  | ⟨0, _⟩ =>
    show k0_off14 v 0 + 4 ≤ 4104
    rw [e.1]; split
    · omega
    · have := h.resolve_left ‹_›; omega
  | ⟨1, _⟩ =>
    show k0_off14 v 1 + 128 ≤ 128
    rw [e.2]

/-- The precondition at one neighbour. -/
theorem range_of_pre [hP : Cert.Pre_in_range.Facts] (a0 a1) (a2 : IVec S2x256x8 32) (a3 a4 a5)
    (h : Cert.Pre_in_range.fn (F := F) a0 a1 a2 a3 a4 a5 = fun _ => 1#1) (i : S2x256x8.Idx) : a2 i = 4294967295#32 ∨ (a2 i).toNat < 1024 :=
  word_range _ (congrFun h i)

/-- Every word of the index buffer names rows of the table, once every word of the array does. -/
theorem idxOK_of_all (c : Dev nD) (f0 : HbBuf (F := F) c hbN)
    (h : ∀ y, (hbN.view.read (Elt F) f0 y : BitVec 32) = 4294967295#32 ∨ (hbN.view.read (Elt F) f0 y : BitVec 32).toNat < 1024) : IdxOK c (idxBuf c f0) := by
  intro o ho
  refine chk_of_range _ ?_
  have e := congrFun (idx_read c f0) ((Rect.unit (s := S2x8x256) o S1x1x1.size ho).toLoadRect.idx (Shape.Idx.first (numel1_S1x1x1.symm ▸ Nat.one_pos)))
  have e' : idxW c (idxBuf c f0) o ho = hbN.view.read (Elt F) f0 ((Rect.unit (s := S2x8x256) o S1x1x1.size ho).toLoadRect.idx (Shape.Idx.first (numel1_S1x1x1.symm ▸ Nat.one_pos))) := e
  rw [e']
  exact h _

/-- The precondition gives it of the array the region finds. -/
theorem idxOK_of_pre [hP : Cert.Pre_in_range.Facts] (c : Dev nD) (a0 a1 a3 a4 a5)
    (h : Cert.Pre_in_range.fn (F := F) a0 a1 (m ((c : Thread nD τ).loc main_arg2)) a3 a4 a5 = fun _ => 1#1) : IdxOK c (idxBuf (F := F) c (V m c main_v0)) := by
  apply idxOK_of_all
  intro y
  rw [V_main_v0]
  exact range_of_pre a0 a1 _ a3 a4 a5 h (fun a => _)

end Cert.KernelIdeal.Hand
end
-- ==== Proof.BLoops.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

abbrev hbN : Memref sig .tc .hbm S2x8x256 .i32 := Memref.whole main_v0
abbrev hbX : Memref sig .tc .hbm S2x1024x512 .fp8e4m3 := Memref.whole main_arg0
abbrev hbW : Memref sig .tc .hbm S8x512x640 .fp8e4m3 := Memref.whole main_arg3
abbrev scIdx : Memref sig .tc .smem S2x8x256 .i32 := Memref.whole cc0_scratch0
abbrev scX : Memref sig .tc .vmem S2x1024x512 .fp8e4m3 := Memref.whole cc0_scratch1
abbrev scW : Memref sig .tc .vmem S8x512x640 .fp8e4m3 := Memref.whole cc0_scratch2
abbrev scT0 : Memref sig .tc .vmem S4104x128 .f32 := Memref.whole cc0_scratch3
abbrev scT1 : Memref sig .tc .vmem S4104x128 .f32 := Memref.whole cc0_scratch4
abbrev scL0 : Memref sig .tc .vmem S288x128 .i32 := Memref.whole cc0_scratch5
abbrev scL1 : Memref sig .tc .vmem S288x128 .i32 := Memref.whole cc0_scratch6
abbrev scL2 : Memref sig .tc .vmem S288x128 .i32 := Memref.whole cc0_scratch7
abbrev scL3 : Memref sig .tc .vmem S288x128 .i32 := Memref.whole cc0_scratch8

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev mPt (c : Dev nD) {sp : Space} {S : Shape} {e : EltTy} (M : Memref sig .tc sp S e) (f : HbBuf (F := F) c M) : sProp 𝕄 :=
  M.view.loc (c : Thread nD τ) ↦[M.view.set]{fullShare} f

section Gather
variable (tab : Memref sig .tc .vmem S4104x128 .f32) (lhs : Memref sig .tc .vmem S288x128 .i32)
  (oA oB : Fin 3 → ℕ) (hA : ∀ a, oA a + S1x1x1.size a ≤ S2x8x256.size a) (hB : ∀ a, oB a + S1x1x1.size a ≤ S2x8x256.size a)
  (t : Fin k0_t3_loop.trips)

/-- One trip of a gather loop: the rows of a pair of neighbours read from the table, their pair of rows of the
    left operand written. -/
def gTrip : Prog (TpuEff nD τ sig (Elt F) Λ₀ .tc) Unit := do
  let v812 : Elt F .i32 ← smemLoad scIdx (Rect.unit (s := S2x8x256) oA S1x1x1.size hA) numel1_S1x1x1 rfl
  have k0_hw1 : k0_chk1 v812 := (← Prog.lift (TpuEff.assume (k0_chk1 v812) (k0_chk1.dec v812))).down
  let v816 : Vec F S4x128 .f32 ← Prog.lift (.load tab (Rect.unit (s := S4104x128) (k0_off14 v812) S4x128.size (k0_off14_inb v812 k0_hw1)).toLoadRect (View.loadsAt_vmem h_S4x128))
  let v821 : Elt F .i32 ← smemLoad scIdx (Rect.unit (s := S2x8x256) oB S1x1x1.size hB) numel1_S1x1x1 rfl
  have k0_hw2 : k0_chk1 v821 := (← Prog.lift (TpuEff.assume (k0_chk1 v821) (k0_chk1.dec v821))).down
  let v825 : Vec F S4x128 .f32 ← Prog.lift (.load tab (Rect.unit (s := S4104x128) (k0_off14 v821) S4x128.size (k0_off14_inb v821 k0_hw2)).toLoadRect (View.loadsAt_vmem h_S4x128))
  let v828_raw : Vec F S4x128 .i32 ← Prog.lift (.load lhs (⟨k0_off17 t, S4x128.size, ![72, 1], (k0_off17_inb t)⟩ : LoadRect S288x128) (View.loadsAt_vmem h_S4x128))
  Prog.lift (.store lhs ⟨(⟨k0_off17 t, S4x128.size, ![72, 1], (k0_off17_inb t)⟩ : LoadRect S288x128), spos_72_1⟩ (k0_pay59 v816 v825) Finset.univ (View.stores_vmem_bits_univ h_S4x128 rfl) (.inl rfl))
  pure ⟨⟩

variable (c : Dev nD)

/-- The word a one-element window of the index buffer holds. -/
abbrev idxW (f8 : HbBuf (F := F) c scIdx) (o : Fin 3 → ℕ) (h : ∀ a, o a + S1x1x1.size a ≤ S2x8x256.size a) : BitVec 32 :=
  scIdx.view.readAt (Elt F) (Rect.unit (s := S2x8x256) o S1x1x1.size h).toLoadRect f8 (Shape.Idx.first (numel1_S1x1x1.symm ▸ Nat.one_pos))

/-- Every word of the index buffer names a row of the table. -/
def IdxOK (f8 : HbBuf (F := F) c scIdx) : Prop := ∀ o h, k0_chk1 (idxW c f8 o h)

/-- The four table rows of a neighbour's word (row 0 when the word names none). -/
def tabRow (fT : HbBuf (F := F) c tab) (v : BitVec 32) : Vec F S4x128 .f32 :=
  if h : k0_chk1 v then tab.view.readAt (Elt F) (Rect.unit (s := S4104x128) (k0_off14 v) S4x128.size (k0_off14_inb v h)).toLoadRect fT
  else tab.view.readAt (Elt F) (Rect.unit (s := S4104x128) ![0, 0] S4x128.size (by decide)).toLoadRect fT

theorem tabRow_pos (fT : HbBuf (F := F) c tab) (v : BitVec 32) (h : k0_chk1 v) :
    tabRow tab c fT v = tab.view.readAt (Elt F) (Rect.unit (s := S4104x128) (k0_off14 v) S4x128.size (k0_off14_inb v h)).toLoadRect fT := dif_pos h

/-- The rectangle trip `t` writes. -/
abbrev gRect : Rect S288x128 := ⟨(⟨k0_off17 t, S4x128.size, ![72, 1], (k0_off17_inb t)⟩ : LoadRect S288x128), spos_72_1⟩

theorem gTrip_wp (f8 : HbBuf (F := F) c scIdx) (fT : HbBuf (F := F) c tab) (f : HbBuf (F := F) c lhs) (hI : IdxOK c f8) :
      iprop(mPt c scIdx f8 ∗ mPt c tab fT ∗ mPt c lhs f)
      ⊢ wp frame (wpE (defs₀ (F := F)) Variants.none (c : Thread nD τ) none) Set.univ
        (gTrip (F := F) tab lhs oA oB hA hB t)
        (fun _ => iprop(mPt c scIdx f8 ∗ mPt c tab fT ∗ mPt c lhs (lhs.view.writes (Elt F) f
          [⟨gRect t, k0_pay59 (tabRow tab c fT (idxW c f8 oA hA)) (tabRow tab c fT (idxW c f8 oB hB))⟩]))) := by
  have hcA : k0_chk1 (idxW c f8 oA hA) := hI _ _
  have hcB : k0_chk1 (idxW c f8 oB hB) := hI _ _
  rw [tabRow_pos tab c fT _ hcA, tabRow_pos tab c fT _ hcB]
  iintro ⟨H2, H9, H11⟩
  sl_unfold [gTrip]
  sl_exec
  sl_step
  isplitl [H2]; · iexact H2
  isplitl [H9]; · iexact H9
  iexact H11

/-- The left operand before trip `n` of a gather loop. -/
def gFill (pA pB : Fin k0_t3_loop.trips → Fin 3 → ℕ) (hpA : ∀ t a, pA t a + S1x1x1.size a ≤ S2x8x256.size a) (hpB : ∀ t a, pB t a + S1x1x1.size a ≤ S2x8x256.size a)
    (f8 : HbBuf (F := F) c scIdx) (fT : HbBuf (F := F) c tab) (f : HbBuf (F := F) c lhs) : ℕ → HbBuf (F := F) c lhs
  | 0 => f
  | n + 1 => if h : n < k0_t3_loop.trips then
      lhs.view.writes (Elt F) (gFill pA pB hpA hpB f8 fT f n)
        [⟨gRect ⟨n, h⟩, k0_pay59 (tabRow tab c fT (idxW c f8 (pA ⟨n, h⟩) (hpA _))) (tabRow tab c fT (idxW c f8 (pB ⟨n, h⟩) (hpB _)))⟩]
    else gFill pA pB hpA hpB f8 fT f n

/-- What a gather loop holds before trip `n`. -/
abbrev gInv (pA pB : Fin k0_t3_loop.trips → Fin 3 → ℕ) (hpA : ∀ t a, pA t a + S1x1x1.size a ≤ S2x8x256.size a) (hpB : ∀ t a, pB t a + S1x1x1.size a ≤ S2x8x256.size a)
    (f8 : HbBuf (F := F) c scIdx) (fT : HbBuf (F := F) c tab) (f : HbBuf (F := F) c lhs) (n : ℕ) : sProp 𝕄 :=
  iprop(⌜IdxOK c f8⌝ ∗ mPt c scIdx f8 ∗ mPt c tab fT ∗ mPt c lhs (gFill tab lhs c pA pB hpA hpB f8 fT f n))

theorem gStep (pA pB : Fin k0_t3_loop.trips → Fin 3 → ℕ) (hpA : ∀ t a, pA t a + S1x1x1.size a ≤ S2x8x256.size a) (hpB : ∀ t a, pB t a + S1x1x1.size a ≤ S2x8x256.size a)
    (f8 : HbBuf (F := F) c scIdx) (fT : HbBuf (F := F) c tab) (f : HbBuf (F := F) c lhs) (t : Fin k0_t3_loop.trips) :
    gInv tab lhs c pA pB hpA hpB f8 fT f t.val
      ⊢ wp frame (wpE (defs₀ (F := F)) Variants.none (c : Thread nD τ) none) Set.univ
        (gTrip (F := F) tab lhs (pA t) (pB t) (hpA t) (hpB t) t)
        (fun _ => gInv tab lhs c pA pB hpA hpB f8 fT f (t.val + 1)) := by
  have e : gFill tab lhs c pA pB hpA hpB f8 fT f (t.val + 1) = lhs.view.writes (Elt F) (gFill tab lhs c pA pB hpA hpB f8 fT f t.val)
        [⟨gRect t, k0_pay59 (tabRow tab c fT (idxW c f8 (pA t) (hpA _))) (tabRow tab c fT (idxW c f8 (pB t) (hpB _)))⟩] := by
    rw [gFill, dif_pos t.isLt]
  unfold gInv
  rw [e]
  iintro ⟨%hI, H⟩
  iapply (wp_wand_r Idealize.ShloMosaic.frame (wpE (defs₀ (F := F)) Variants.none (c : Thread nD τ) none) Set.univ)
  isplitl [H]
  · iapply (gTrip_wp tab lhs _ _ _ _ t c f8 fT _ hI); iexact H
  · iintro %_ H'
    isplitr; · ipureintro; exact hI
    iexact H'
end Gather

section Inst
variable (c : Dev nD) (arg2 : Memref sig .tc .vmem S2x1024 .f32) (harg2 : arg2.IsWhole) (arg4 : Memref sig .tc .vmem S640 .f32) (harg4 : arg4.IsWhole) (arg5 : Memref sig .tc .vmem S640 .f32) (harg5 : arg5.IsWhole) (arg6 : Memref sig .tc .vmem S2x256x640 .fp8e4m3) (harg6 : arg6.IsWhole) (arg7 : Memref sig .tc .vmem S2x256 .f32) (harg7 : arg7.IsWhole)
    (w0 w1 : BitVec 32)

/-- What a trip of the loop that fills table 0 holds: the scales, slot 0 of the codes (slot 1 is still in flight) and the table. -/
abbrev tPts1 (g2 : HbBuf (F := F) c arg2) (g9 : HbBuf (F := F) c scX) (f : HbBuf (F := F) c scT0) : sProp 𝕄 :=
  iprop(mPt c arg2 g2 ∗ (scX.view.loc (c : Thread nD τ) ↦[Finset.univ \ ((scX.slice (Rect.unit (s := S2x1024x512) ![1, 0, 0] S1x1024x512.size inb_S2x1024x512_S1x1024x512_1_0_0) (fun _ => rfl)).squeeze S1024x512 squeezes_S1x1024x512_S1024x512).view.set]{fullShare} g9) ∗ mPt c scT0 f)

set_option backward.proofsInPublic true in
/-- One trip: thirty-two tokens dequantised into table 0, its contents found by the run. -/
def tTrip1 (v72 : IVec S8x128 32) (w0 w1 : BitVec 32) (k : Fin k0_t1_loop.trips) (g2 : HbBuf (F := F) c arg2) (g9 : HbBuf (F := F) c scX) (f : HbBuf (F := F) c scT0) :
    { f' : HbBuf (F := F) c scT0 //
      tPts1 c arg2 g2 g9 f
      ⊢ wp frame (wpE (defs₀ (F := F)) Variants.none (c : Thread nD τ) none) Set.univ
        (k0_t1_body (F := F) hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 v72 w0 w1 k ())
        (fun _ => tPts1 c arg2 g2 g9 f') } := by
  refine ⟨?_, ?run⟩
  case run =>
    iintro ⟨H2, H9, H11⟩
    sl_unfold [k0_t1_body]
    sl_exec
    sl_step
    isplitl [H2]; · iexact H2
    isplitl [H9]; · iexact H9
    iexact H11

/-- Table 0 before trip `n`. -/
def tFill1 (v72 : IVec S8x128 32) (w0 w1 : BitVec 32) (g2 : HbBuf (F := F) c arg2) (g9 : HbBuf (F := F) c scX) (f : HbBuf (F := F) c scT0) : ℕ → HbBuf (F := F) c scT0
  | 0 => f
  | n + 1 => if h : n < k0_t1_loop.trips then (tTrip1 c arg2 harg2 arg4 harg4 arg5 harg5 arg6 harg6 arg7 harg7 v72 w0 w1 ⟨n, h⟩ g2 g9 (tFill1 v72 w0 w1 g2 g9 f n)).1
    else tFill1 v72 w0 w1 g2 g9 f n

set_option warn.classDefReducibility false in
@[sl_loop] def inv1 (v72 : IVec S8x128 32) (g2 : HbBuf (F := F) c arg2) (g9 : HbBuf (F := F) c scX) (f : HbBuf (F := F) c scT0) :
    LoopInvTy_k0_t1 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 v72 w0 w1 where
  inv n _ := tPts1 c arg2 g2 g9 (tFill1 c arg2 harg2 arg4 harg4 arg5 harg5 arg6 harg6 arg7 harg7 v72 w0 w1 g2 g9 f n)
  step t _ := by
    have e : tFill1 c arg2 harg2 arg4 harg4 arg5 harg5 arg6 harg6 arg7 harg7 v72 w0 w1 g2 g9 f (t.val + 1)
        = (tTrip1 c arg2 harg2 arg4 harg4 arg5 harg5 arg6 harg6 arg7 harg7 v72 w0 w1 t g2 g9 (tFill1 c arg2 harg2 arg4 harg4 arg5 harg5 arg6 harg6 arg7 harg7 v72 w0 w1 g2 g9 f t.val)).1 := by
      rw [tFill1, dif_pos t.isLt]
    rw [e]
    exact (tTrip1 c arg2 harg2 arg4 harg4 arg5 harg5 arg6 harg6 arg7 harg7 v72 w0 w1 t g2 g9 _).2

/-- What a trip of the loop that fills table 1 holds: the scales, the codes and the table. -/
abbrev tPts2 (g2 : HbBuf (F := F) c arg2) (g9 : HbBuf (F := F) c scX) (f : HbBuf (F := F) c scT1) : sProp 𝕄 :=
  iprop(mPt c arg2 g2 ∗ (scX.view.loc (c : Thread nD τ) ↦[Finset.univ]{fullShare} g9) ∗ mPt c scT1 f)

set_option backward.proofsInPublic true in
/-- One trip: thirty-two tokens dequantised into table 1, its contents found by the run. -/
def tTrip2 (v72 : IVec S8x128 32) (w0 w1 : BitVec 32) (k : Fin k0_t2_loop.trips) (g2 : HbBuf (F := F) c arg2) (g9 : HbBuf (F := F) c scX) (f : HbBuf (F := F) c scT1) :
    { f' : HbBuf (F := F) c scT1 //
      tPts2 c arg2 g2 g9 f
      ⊢ wp frame (wpE (defs₀ (F := F)) Variants.none (c : Thread nD τ) none) Set.univ
        (k0_t2_body (F := F) hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 v72 w0 w1 k ())
        (fun _ => tPts2 c arg2 g2 g9 f') } := by
  refine ⟨?_, ?run⟩
  case run =>
    iintro ⟨H2, H9, H11⟩
    sl_unfold [k0_t2_body]
    sl_exec
    sl_step
    isplitl [H2]; · iexact H2
    isplitl [H9]; · iexact H9
    iexact H11

/-- Table 1 before trip `n`. -/
def tFill2 (v72 : IVec S8x128 32) (w0 w1 : BitVec 32) (g2 : HbBuf (F := F) c arg2) (g9 : HbBuf (F := F) c scX) (f : HbBuf (F := F) c scT1) : ℕ → HbBuf (F := F) c scT1
  | 0 => f
  | n + 1 => if h : n < k0_t2_loop.trips then (tTrip2 c arg2 harg2 arg4 harg4 arg5 harg5 arg6 harg6 arg7 harg7 v72 w0 w1 ⟨n, h⟩ g2 g9 (tFill2 v72 w0 w1 g2 g9 f n)).1
    else tFill2 v72 w0 w1 g2 g9 f n

set_option warn.classDefReducibility false in
@[sl_loop] def inv2 (v72 : IVec S8x128 32) (g2 : HbBuf (F := F) c arg2) (g9 : HbBuf (F := F) c scX) (f : HbBuf (F := F) c scT1) :
    LoopInvTy_k0_t2 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 v72 w0 w1 where
  inv n _ := tPts2 c arg2 g2 g9 (tFill2 c arg2 harg2 arg4 harg4 arg5 harg5 arg6 harg6 arg7 harg7 v72 w0 w1 g2 g9 f n)
  step t _ := by
    have e : tFill2 c arg2 harg2 arg4 harg4 arg5 harg5 arg6 harg6 arg7 harg7 v72 w0 w1 g2 g9 f (t.val + 1)
        = (tTrip2 c arg2 harg2 arg4 harg4 arg5 harg5 arg6 harg6 arg7 harg7 v72 w0 w1 t g2 g9 (tFill2 c arg2 harg2 arg4 harg4 arg5 harg5 arg6 harg6 arg7 harg7 v72 w0 w1 g2 g9 f t.val)).1 := by
      rw [tFill2, dif_pos t.isLt]
    rw [e]
    exact (tTrip2 c arg2 harg2 arg4 harg4 arg5 harg5 arg6 harg6 arg7 harg7 v72 w0 w1 t g2 g9 _).2

variable (f8 : HbBuf (F := F) c scIdx)

set_option warn.classDefReducibility false in
@[sl_loop] def inv3 (fT : HbBuf (F := F) c scT0) (f : HbBuf (F := F) c scL0) :
    LoopInvTy_k0_t3 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL0 c k0_off13 k0_off15 k0_off13_inb k0_off15_inb f8 fT f n
  step t _ := gStep scT0 scL0 c k0_off13 k0_off15 k0_off13_inb k0_off15_inb f8 fT f t

set_option warn.classDefReducibility false in
@[sl_loop] def inv4 (fT : HbBuf (F := F) c scT0) (f : HbBuf (F := F) c scL1) :
    LoopInvTy_k0_t4 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL1 c k0_off18 k0_off20 k0_off18_inb k0_off20_inb f8 fT f n
  step t _ := gStep scT0 scL1 c k0_off18 k0_off20 k0_off18_inb k0_off20_inb f8 fT f t

set_option warn.classDefReducibility false in
@[sl_loop] def inv5 (fT : HbBuf (F := F) c scT0) (f : HbBuf (F := F) c scL2) :
    LoopInvTy_k0_t5 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL2 c k0_off23 k0_off25 k0_off23_inb k0_off25_inb f8 fT f n
  step t _ := gStep scT0 scL2 c k0_off23 k0_off25 k0_off23_inb k0_off25_inb f8 fT f t

set_option warn.classDefReducibility false in
@[sl_loop] def inv6 (fT : HbBuf (F := F) c scT0) (f : HbBuf (F := F) c scL3) :
    LoopInvTy_k0_t6 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL3 c k0_off28 k0_off30 k0_off28_inb k0_off30_inb f8 fT f n
  step t _ := gStep scT0 scL3 c k0_off28 k0_off30 k0_off28_inb k0_off30_inb f8 fT f t

set_option warn.classDefReducibility false in
@[sl_loop] def inv7 (fT : HbBuf (F := F) c scT0) (f : HbBuf (F := F) c scL0) :
    LoopInvTy_k0_t7 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL0 c k0_off33 k0_off35 k0_off33_inb k0_off35_inb f8 fT f n
  step t _ := gStep scT0 scL0 c k0_off33 k0_off35 k0_off33_inb k0_off35_inb f8 fT f t

set_option warn.classDefReducibility false in
@[sl_loop] def inv8 (fT : HbBuf (F := F) c scT0) (f : HbBuf (F := F) c scL1) :
    LoopInvTy_k0_t8 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL1 c k0_off38 k0_off40 k0_off38_inb k0_off40_inb f8 fT f n
  step t _ := gStep scT0 scL1 c k0_off38 k0_off40 k0_off38_inb k0_off40_inb f8 fT f t

set_option warn.classDefReducibility false in
@[sl_loop] def inv9 (fT : HbBuf (F := F) c scT0) (f : HbBuf (F := F) c scL2) :
    LoopInvTy_k0_t9 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL2 c k0_off43 k0_off45 k0_off43_inb k0_off45_inb f8 fT f n
  step t _ := gStep scT0 scL2 c k0_off43 k0_off45 k0_off43_inb k0_off45_inb f8 fT f t

set_option warn.classDefReducibility false in
@[sl_loop] def inv10 (fT : HbBuf (F := F) c scT0) (f : HbBuf (F := F) c scL3) :
    LoopInvTy_k0_t10 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL3 c k0_off48 k0_off50 k0_off48_inb k0_off50_inb f8 fT f n
  step t _ := gStep scT0 scL3 c k0_off48 k0_off50 k0_off48_inb k0_off50_inb f8 fT f t

set_option warn.classDefReducibility false in
@[sl_loop] def inv11 (fT : HbBuf (F := F) c scT0) (f : HbBuf (F := F) c scL0) :
    LoopInvTy_k0_t11 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL0 c k0_off53 k0_off55 k0_off53_inb k0_off55_inb f8 fT f n
  step t _ := gStep scT0 scL0 c k0_off53 k0_off55 k0_off53_inb k0_off55_inb f8 fT f t

set_option warn.classDefReducibility false in
@[sl_loop] def inv12 (fT : HbBuf (F := F) c scT0) (f : HbBuf (F := F) c scL1) :
    LoopInvTy_k0_t12 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL1 c k0_off58 k0_off60 k0_off58_inb k0_off60_inb f8 fT f n
  step t _ := gStep scT0 scL1 c k0_off58 k0_off60 k0_off58_inb k0_off60_inb f8 fT f t

set_option warn.classDefReducibility false in
@[sl_loop] def inv13 (fT : HbBuf (F := F) c scT0) (f : HbBuf (F := F) c scL2) :
    LoopInvTy_k0_t13 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL2 c k0_off63 k0_off65 k0_off63_inb k0_off65_inb f8 fT f n
  step t _ := gStep scT0 scL2 c k0_off63 k0_off65 k0_off63_inb k0_off65_inb f8 fT f t

set_option warn.classDefReducibility false in
@[sl_loop] def inv14 (fT : HbBuf (F := F) c scT0) (f : HbBuf (F := F) c scL3) :
    LoopInvTy_k0_t14 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL3 c k0_off68 k0_off70 k0_off68_inb k0_off70_inb f8 fT f n
  step t _ := gStep scT0 scL3 c k0_off68 k0_off70 k0_off68_inb k0_off70_inb f8 fT f t

set_option warn.classDefReducibility false in
@[sl_loop] def inv15 (fT : HbBuf (F := F) c scT0) (f : HbBuf (F := F) c scL0) :
    LoopInvTy_k0_t15 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL0 c k0_off73 k0_off75 k0_off73_inb k0_off75_inb f8 fT f n
  step t _ := gStep scT0 scL0 c k0_off73 k0_off75 k0_off73_inb k0_off75_inb f8 fT f t

set_option warn.classDefReducibility false in
@[sl_loop] def inv16 (fT : HbBuf (F := F) c scT0) (f : HbBuf (F := F) c scL1) :
    LoopInvTy_k0_t16 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL1 c k0_off78 k0_off80 k0_off78_inb k0_off80_inb f8 fT f n
  step t _ := gStep scT0 scL1 c k0_off78 k0_off80 k0_off78_inb k0_off80_inb f8 fT f t

set_option warn.classDefReducibility false in
@[sl_loop] def inv17 (fT : HbBuf (F := F) c scT0) (f : HbBuf (F := F) c scL2) :
    LoopInvTy_k0_t17 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL2 c k0_off83 k0_off85 k0_off83_inb k0_off85_inb f8 fT f n
  step t _ := gStep scT0 scL2 c k0_off83 k0_off85 k0_off83_inb k0_off85_inb f8 fT f t

set_option warn.classDefReducibility false in
@[sl_loop] def inv18 (fT : HbBuf (F := F) c scT0) (f : HbBuf (F := F) c scL3) :
    LoopInvTy_k0_t18 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT0 scL3 c k0_off88 k0_off90 k0_off88_inb k0_off90_inb f8 fT f n
  step t _ := gStep scT0 scL3 c k0_off88 k0_off90 k0_off88_inb k0_off90_inb f8 fT f t

set_option warn.classDefReducibility false in
@[sl_loop] def inv19 (fT : HbBuf (F := F) c scT1) (f : HbBuf (F := F) c scL0) :
    LoopInvTy_k0_t19 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL0 c k0_off93 k0_off95 k0_off93_inb k0_off95_inb f8 fT f n
  step t _ := gStep scT1 scL0 c k0_off93 k0_off95 k0_off93_inb k0_off95_inb f8 fT f t

set_option warn.classDefReducibility false in
@[sl_loop] def inv20 (fT : HbBuf (F := F) c scT1) (f : HbBuf (F := F) c scL1) :
    LoopInvTy_k0_t20 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL1 c k0_off98 k0_off100 k0_off98_inb k0_off100_inb f8 fT f n
  step t _ := gStep scT1 scL1 c k0_off98 k0_off100 k0_off98_inb k0_off100_inb f8 fT f t

set_option warn.classDefReducibility false in
@[sl_loop] def inv21 (fT : HbBuf (F := F) c scT1) (f : HbBuf (F := F) c scL2) :
    LoopInvTy_k0_t21 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL2 c k0_off103 k0_off105 k0_off103_inb k0_off105_inb f8 fT f n
  step t _ := gStep scT1 scL2 c k0_off103 k0_off105 k0_off103_inb k0_off105_inb f8 fT f t

set_option warn.classDefReducibility false in
@[sl_loop] def inv22 (fT : HbBuf (F := F) c scT1) (f : HbBuf (F := F) c scL3) :
    LoopInvTy_k0_t22 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL3 c k0_off108 k0_off110 k0_off108_inb k0_off110_inb f8 fT f n
  step t _ := gStep scT1 scL3 c k0_off108 k0_off110 k0_off108_inb k0_off110_inb f8 fT f t

set_option warn.classDefReducibility false in
@[sl_loop] def inv23 (fT : HbBuf (F := F) c scT1) (f : HbBuf (F := F) c scL0) :
    LoopInvTy_k0_t23 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL0 c k0_off113 k0_off115 k0_off113_inb k0_off115_inb f8 fT f n
  step t _ := gStep scT1 scL0 c k0_off113 k0_off115 k0_off113_inb k0_off115_inb f8 fT f t

set_option warn.classDefReducibility false in
@[sl_loop] def inv24 (fT : HbBuf (F := F) c scT1) (f : HbBuf (F := F) c scL1) :
    LoopInvTy_k0_t24 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL1 c k0_off118 k0_off120 k0_off118_inb k0_off120_inb f8 fT f n
  step t _ := gStep scT1 scL1 c k0_off118 k0_off120 k0_off118_inb k0_off120_inb f8 fT f t

set_option warn.classDefReducibility false in
@[sl_loop] def inv25 (fT : HbBuf (F := F) c scT1) (f : HbBuf (F := F) c scL2) :
    LoopInvTy_k0_t25 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL2 c k0_off123 k0_off125 k0_off123_inb k0_off125_inb f8 fT f n
  step t _ := gStep scT1 scL2 c k0_off123 k0_off125 k0_off123_inb k0_off125_inb f8 fT f t

set_option warn.classDefReducibility false in
@[sl_loop] def inv26 (fT : HbBuf (F := F) c scT1) (f : HbBuf (F := F) c scL3) :
    LoopInvTy_k0_t26 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL3 c k0_off128 k0_off130 k0_off128_inb k0_off130_inb f8 fT f n
  step t _ := gStep scT1 scL3 c k0_off128 k0_off130 k0_off128_inb k0_off130_inb f8 fT f t

set_option warn.classDefReducibility false in
@[sl_loop] def inv27 (fT : HbBuf (F := F) c scT1) (f : HbBuf (F := F) c scL0) :
    LoopInvTy_k0_t27 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL0 c k0_off133 k0_off135 k0_off133_inb k0_off135_inb f8 fT f n
  step t _ := gStep scT1 scL0 c k0_off133 k0_off135 k0_off133_inb k0_off135_inb f8 fT f t

set_option warn.classDefReducibility false in
@[sl_loop] def inv28 (fT : HbBuf (F := F) c scT1) (f : HbBuf (F := F) c scL1) :
    LoopInvTy_k0_t28 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL1 c k0_off138 k0_off140 k0_off138_inb k0_off140_inb f8 fT f n
  step t _ := gStep scT1 scL1 c k0_off138 k0_off140 k0_off138_inb k0_off140_inb f8 fT f t

set_option warn.classDefReducibility false in
@[sl_loop] def inv29 (fT : HbBuf (F := F) c scT1) (f : HbBuf (F := F) c scL2) :
    LoopInvTy_k0_t29 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL2 c k0_off143 k0_off145 k0_off143_inb k0_off145_inb f8 fT f n
  step t _ := gStep scT1 scL2 c k0_off143 k0_off145 k0_off143_inb k0_off145_inb f8 fT f t

set_option warn.classDefReducibility false in
@[sl_loop] def inv30 (fT : HbBuf (F := F) c scT1) (f : HbBuf (F := F) c scL3) :
    LoopInvTy_k0_t30 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL3 c k0_off148 k0_off150 k0_off148_inb k0_off150_inb f8 fT f n
  step t _ := gStep scT1 scL3 c k0_off148 k0_off150 k0_off148_inb k0_off150_inb f8 fT f t

set_option warn.classDefReducibility false in
@[sl_loop] def inv31 (fT : HbBuf (F := F) c scT1) (f : HbBuf (F := F) c scL0) :
    LoopInvTy_k0_t31 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL0 c k0_off153 k0_off155 k0_off153_inb k0_off155_inb f8 fT f n
  step t _ := gStep scT1 scL0 c k0_off153 k0_off155 k0_off153_inb k0_off155_inb f8 fT f t

set_option warn.classDefReducibility false in
@[sl_loop] def inv32 (fT : HbBuf (F := F) c scT1) (f : HbBuf (F := F) c scL1) :
    LoopInvTy_k0_t32 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL1 c k0_off158 k0_off160 k0_off158_inb k0_off160_inb f8 fT f n
  step t _ := gStep scT1 scL1 c k0_off158 k0_off160 k0_off158_inb k0_off160_inb f8 fT f t

set_option warn.classDefReducibility false in
@[sl_loop] def inv33 (fT : HbBuf (F := F) c scT1) (f : HbBuf (F := F) c scL2) :
    LoopInvTy_k0_t33 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL2 c k0_off163 k0_off165 k0_off163_inb k0_off165_inb f8 fT f n
  step t _ := gStep scT1 scL2 c k0_off163 k0_off165 k0_off163_inb k0_off165_inb f8 fT f t

set_option warn.classDefReducibility false in
@[sl_loop] def inv34 (fT : HbBuf (F := F) c scT1) (f : HbBuf (F := F) c scL3) :
    LoopInvTy_k0_t34 (F := F) Unit ℕ (Pipeline.UD sig nD τ) ℕ Variants.none c none Set.univ hbN (Memref.isWhole_whole _) hbX (Memref.isWhole_whole _) arg2 harg2 hbW (Memref.isWhole_whole _) arg4 harg4 arg5 harg5 arg6 harg6 arg7 harg7
    scIdx (Memref.isWhole_whole _) scX (Memref.isWhole_whole _) scW (Memref.isWhole_whole _) scT0 (Memref.isWhole_whole _) scT1 (Memref.isWhole_whole _)
    scL0 (Memref.isWhole_whole _) scL1 (Memref.isWhole_whole _) scL2 (Memref.isWhole_whole _) scL3 (Memref.isWhole_whole _) cc0_scratch9 w0 w1 where
  inv n _ := gInv scT1 scL3 c k0_off168 k0_off170 k0_off168_inb k0_off170_inb f8 fT f n
  step t _ := gStep scT1 scL3 c k0_off168 k0_off170 k0_off168_inb k0_off170_inb f8 fT f t
end Inst

end Cert.Kernel.Hand
end
-- ==== Proof.BCanon.lean ====
module

public import proofs.«01_k».proof.Proof.BLoops
public import Idealize.ShloMosaic.Lib.ValueIdxCore
public import Idealize.ShloMosaic.Lib.Writes

/-! What the loops and the copies leave, in closed form.

Every buffer the body fills is read back as one function of what the operands hold: the two copied operands
are read as the operands themselves, a table as its rows, a left operand as the pairs of table rows its trips
wrote. None of these mentions what the buffer held before. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx

variable {F : FTy → Type} [BitOps F]

variable {sp : Space}

/-! ## The copied operands -/

section Copies
variable {sig' : RefSig} {κ κ' : Kind} {sp sp' : Space} {s s' : Shape} {e : EltTy} {Val : EltTy → Type}

/-- A slot copied whole from one array into the same slot of another is one piece of the source. -/
theorem slot_write (M : Memref sig' κ sp s e) (N : Memref sig' κ' sp' s e) (r : Rect s) (h h' : ∀ a, r.stride a = 1)
    (q q' : r.shape.Squeezes s') (g : M.view.ty.Contents Val) (f : N.view.ty.Contents Val) :
    View.write Val ((M.slice r h).squeeze s' q).view g
        (ReadAs.same.apply (View.read Val ((N.slice r h').squeeze s' q').view f)) Finset.univ
      = M.view.writes Val g [⟨r, fun x => N.view.read Val f (r.emb x)⟩] := by
  refine (View.write_reshape_univ (v := (M.slice r h).view) (h := _) g _).trans ?_
  refine congrArg (fun w => (M.view.slice r).write Val g w Finset.univ) (funext fun x => ?_)
  show N.view.read Val f (r.emb _) = _
  congr 2
  exact Equiv.apply_symm_apply _ x

/-- Pieces cut from one function and covering the shape leave that function. -/
theorem read_writes_eq_fn (v : View sig' κ sp s e) (g : v.ty.Contents Val) (G : s.Idx → Val e) (L : List (View.Piece Val s e))
    (hG : ∀ p ∈ L, ∀ x : p.1.shape.Idx, p.2 x = G (p.1.emb x)) (hc : ∀ y, ∃ p ∈ L, y ∈ p.1.set) :
    v.read Val (v.writes Val g L) = G :=
  funext fun y => View.read_writes_apply_of_pieces v g G L hG y (hc y)
end Copies

/-- The index buffer after its copy reads as the copied array. -/
theorem idx_read (c : Dev nD) (f0 : HbBuf (F := F) c hbN) :
    scIdx.view.read (Elt F) (scIdx.view.writes (Elt F) scIdx.view.junk [⟨Rect.whole S2x8x256, ReadAs.same.apply (View.read (Elt F) hbN.view f0)⟩])
      = hbN.view.read (Elt F) f0 := by
  refine read_writes_eq_fn _ _ _ _ ?_ ?_
  · intro p hp x
    obtain rfl := List.mem_singleton.mp hp
    show View.read (Elt F) hbN.view f0 x = _
    congr 1
    exact funext fun a => Fin.ext (by show (x a).val = 0 + 1 * (x a).val; omega)
  · intro y
    exact ⟨_, List.mem_singleton.mpr rfl, by rw [Rect.set_whole]; exact Finset.mem_univ y⟩

/-- Slab `n` of a rank-3 shape holds the indices whose first coordinate is `n`. -/
theorem mem_slab {A B C n : ℕ} (h : ∀ a, (![n, 0, 0] : Fin 3 → ℕ) a + (⟨3, ![1, B, C]⟩ : Shape).size a ≤ (⟨3, ![A, B, C]⟩ : Shape).size a)
    (y : (⟨3, ![A, B, C]⟩ : Shape).Idx) (hy : (y 0).val = n) :
    y ∈ (Rect.unit (s := (⟨3, ![A, B, C]⟩ : Shape)) ![n, 0, 0] (⟨3, ![1, B, C]⟩ : Shape).size h).set := by
  refine Rect.mem_set_unit.mpr fun a => ?_
  have h1 : (y 1).val < B := (y 1).isLt
  have h2 : (y 2).val < C := (y 2).isLt
  match a with
  | ⟨0, _⟩ => exact ⟨le_of_eq hy.symm, by show (y 0).val < n + 1; omega⟩
  | ⟨1, _⟩ => exact ⟨Nat.zero_le _, by show (y 1).val < 0 + B; omega⟩
  | ⟨2, _⟩ => exact ⟨Nat.zero_le _, by show (y 2).val < 0 + C; omega⟩

/-- Slot `n` of the codes. -/
abbrev xSl (M : Memref sig .tc sp S2x1024x512 .fp8e4m3) (n : ℕ) (h : ∀ a, (![n, 0, 0] : Fin 3 → ℕ) a + S1x1024x512.size a ≤ S2x1024x512.size a) :
    Memref sig .tc sp S1024x512 .fp8e4m3 :=
  (M.slice (Rect.unit (s := S2x1024x512) ![n, 0, 0] S1x1024x512.size h) (fun _ => rfl)).squeeze S1024x512 squeezes_S1x1024x512_S1024x512

/-- The codes after slot `n` is copied. -/
abbrev xCp (c : Dev nD) (f1 : HbBuf (F := F) c hbX) (n : ℕ) (h : ∀ a, (![n, 0, 0] : Fin 3 → ℕ) a + S1x1024x512.size a ≤ S2x1024x512.size a)
    (g : HbBuf (F := F) c scX) : HbBuf (F := F) c scX :=
  View.write (Elt F) (xSl scX n h).view g (ReadAs.same.apply (View.read (Elt F) (xSl hbX n h).view f1)) Finset.univ

/-- The codes after their two copies. -/
abbrev xBuf (c : Dev nD) (f1 : HbBuf (F := F) c hbX) (g9 : HbBuf (F := F) c scX) : HbBuf (F := F) c scX :=
  xCp c f1 1 inb_S2x1024x512_S1x1024x512_1_0_0 (xCp c f1 0 inb_S2x1024x512_S1x1024x512_0_0_0 g9)

/-- They read as the copied array. -/
theorem x_read (c : Dev nD) (f1 : HbBuf (F := F) c hbX) (g9 : HbBuf (F := F) c scX) :
    scX.view.read (Elt F) (xBuf c f1 g9) = hbX.view.read (Elt F) f1 := by
  unfold xBuf xCp xSl
  rw [slot_write scX hbX, slot_write scX hbX, ← View.writes_append]
  refine read_writes_eq_fn _ _ _ _ ?_ ?_
  · intro p hp x
    fin_cases hp <;> rfl
  · intro y
    have h0 : (y 0).val < 2 := (y 0).isLt
    by_cases hy : (y 0).val = 0
    · exact ⟨_, List.mem_append_right _ (List.mem_singleton.mpr rfl), mem_slab inb_S2x1024x512_S1x1024x512_0_0_0 y hy⟩
    · exact ⟨_, List.mem_append_left _ (List.mem_singleton.mpr rfl), mem_slab inb_S2x1024x512_S1x1024x512_1_0_0 y (by omega)⟩

/-- Slot `n` of the weights. -/
abbrev wSl (M : Memref sig .tc sp S8x512x640 .fp8e4m3) (n : ℕ) (h : ∀ a, (![n, 0, 0] : Fin 3 → ℕ) a + S1x512x640.size a ≤ S8x512x640.size a) :
    Memref sig .tc sp S512x640 .fp8e4m3 :=
  (M.slice (Rect.unit (s := S8x512x640) ![n, 0, 0] S1x512x640.size h) (fun _ => rfl)).squeeze S512x640 squeezes_S1x512x640_S512x640

/-- The weights after slot `n` is copied. -/
abbrev wCp (c : Dev nD) (f3 : HbBuf (F := F) c hbW) (n : ℕ) (h : ∀ a, (![n, 0, 0] : Fin 3 → ℕ) a + S1x512x640.size a ≤ S8x512x640.size a)
    (g : HbBuf (F := F) c scW) : HbBuf (F := F) c scW :=
  View.write (Elt F) (wSl scW n h).view g (ReadAs.same.apply (View.read (Elt F) (wSl hbW n h).view f3)) Finset.univ

/-- The weights after their eight copies. -/
abbrev wBuf (c : Dev nD) (f3 : HbBuf (F := F) c hbW) (g : HbBuf (F := F) c scW) : HbBuf (F := F) c scW :=
  wCp c f3 7 inb_S8x512x640_S1x512x640_7_0_0 (wCp c f3 6 inb_S8x512x640_S1x512x640_6_0_0 (wCp c f3 5 inb_S8x512x640_S1x512x640_5_0_0
    (wCp c f3 4 inb_S8x512x640_S1x512x640_4_0_0 (wCp c f3 3 inb_S8x512x640_S1x512x640_3_0_0 (wCp c f3 2 inb_S8x512x640_S1x512x640_2_0_0
      (wCp c f3 1 inb_S8x512x640_S1x512x640_1_0_0 (wCp c f3 0 inb_S8x512x640_S1x512x640_0_0_0 g)))))))

/-- They read as the copied array. -/
theorem w_read (c : Dev nD) (f3 : HbBuf (F := F) c hbW) (g : HbBuf (F := F) c scW) :
    scW.view.read (Elt F) (wBuf c f3 g) = hbW.view.read (Elt F) f3 := by
  have e : ∀ n h g, wCp c f3 n h g = scW.view.writes (Elt F) g [⟨Rect.unit (s := S8x512x640) ![n, 0, 0] S1x512x640.size h, fun x => hbW.view.read (Elt F) f3 ((Rect.unit (s := S8x512x640) ![n, 0, 0] S1x512x640.size h).emb x)⟩] :=
    fun n h g => slot_write scW hbW _ _ _ _ _ _ _
  unfold wBuf
  simp only [e, ← View.writes_append]
  refine read_writes_eq_fn _ _ _ _ ?_ ?_
  · intro p hp x
    fin_cases hp <;> rfl
  · intro y
    have h0 : (y 0).val < 8 := (y 0).isLt
    simp only [List.cons_append, List.nil_append, List.exists_mem_cons_iff]
    have : (y 0).val = 0 ∨ (y 0).val = 1 ∨ (y 0).val = 2 ∨ (y 0).val = 3 ∨ (y 0).val = 4 ∨ (y 0).val = 5 ∨ (y 0).val = 6 ∨ (y 0).val = 7 := by omega
    rcases this with h | h | h | h | h | h | h | h <;> simp only [mem_slab _ y h, true_or, or_true]

end Cert.Kernel.Hand
-- ==== Proof.BTab.lean ====
module

public import proofs.«01_k».proof.Proof.BCanon

/-! The tables and the left operands, in closed form.

Row `8 + 4 r + c` of a table is chunk `c` of token `r`, dequantised; rows 0 to 7 are zero. A table's loop writes
sixteen strided pieces a trip; together they are this one function. A gather loop writes a pair of table rows a
trip; read back by chunk they are the rows its words name. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx

variable {F : FTy → Type} [BitOps F]

/-! ## The tables -/

/-- The row numbers the token scales are fetched at start from. -/
abbrev rowIota : IVec S8x128 32 := iota .tc S8x128 32 [0] iota_S8x128_d0_w32

/-- Eight tokens of a trip, from the scales' row and the thirty-two tokens' codes of one chunk. -/
def tabPay (k : Fin k0_t1_loop.trips) (q : Fin 4) (row : Vec F S1x128 .f32) (cod : Vec F S1x32x128 .fp8e4m3) : FVec F S8x128 .f32 :=
  match q with
  | 0 => k0_pay8 (k0_pay2 rowIota 0#32 1#32 k row) cod
  | 1 => k0_pay9 (k0_pay3 rowIota 0#32 1#32 k row) cod
  | 2 => k0_pay10 (k0_pay5 (k0_pay1 row) (k0_pay4 rowIota 0#32 1#32 k)) (k0_pay7 cod)
  | 3 => k0_pay11 (k0_pay6 rowIota (Scalar.muli (Scf.iv 0#32 1#32 k) 32#32) (Scalar.muli (Scalar.shrsi (Scf.iv 0#32 1#32 k) 2#32) 128#32) (k0_pay1 row)) (k0_pay7 cod)

/-- The strided rectangle they go to. -/
abbrev tRect (k : Fin k0_t1_loop.trips) (q c : Fin 4) : Rect S4104x128 :=
  ⟨⟨k0_off3 k (BitVec.ofNat 32 (8 * q.val)) (BitVec.ofNat 32 c.val), S8x128.size, ![4, 1], k0_off3_inb k q c⟩, spos_4_1⟩

/-- One piece of a trip. -/
abbrev tPiece (row : Fin k0_t1_loop.trips → Vec F S1x128 .f32) (cod : Fin k0_t1_loop.trips → Fin 4 → Vec F S1x32x128 .fp8e4m3)
    (k : Fin k0_t1_loop.trips) (q c : Fin 4) : View.Piece (Elt F) S4104x128 .f32 := ⟨tRect k q c, tabPay k q (row k) (cod k c)⟩

/-- The order of a trip's sixteen pieces (eight tokens, chunk), the last written first. -/
abbrev tOrder : List (Fin 4 × Fin 4) :=
  [(3, 3), (2, 3), (1, 3), (0, 3), (3, 2), (2, 2), (1, 2), (0, 2), (3, 1), (2, 1), (1, 1), (0, 1), (3, 0), (2, 0), (1, 0), (0, 0)]

/-- A trip's pieces. -/
abbrev tPieces (row : Fin k0_t1_loop.trips → Vec F S1x128 .f32) (cod : Fin k0_t1_loop.trips → Fin 4 → Vec F S1x32x128 .fp8e4m3)
    (k : Fin k0_t1_loop.trips) : List (View.Piece (Elt F) S4104x128 .f32) :=
  tOrder.map fun p => tPiece row cod k p.1 p.2

/-- The eight zero rows. -/
abbrev zPiece : View.Piece (Elt F) S4104x128 .f32 := ⟨Rect.unit ![0, 0] S8x128.size inb_S4104x128_S8x128_0_0, k0_pay55⟩

/-- The pieces written before trip `n`. -/
def tAll (row : Fin k0_t1_loop.trips → Vec F S1x128 .f32) (cod : Fin k0_t1_loop.trips → Fin 4 → Vec F S1x32x128 .fp8e4m3) :
    ℕ → List (View.Piece (Elt F) S4104x128 .f32)
  | 0 => [zPiece]
  | n + 1 => if h : n < k0_t1_loop.trips then tPieces row cod ⟨n, h⟩ ++ tAll row cod n else tAll row cod n

/-- The table: zero rows, then token by token its four chunks. -/
def tabG (row : Fin k0_t1_loop.trips → Vec F S1x128 .f32) (cod : Fin k0_t1_loop.trips → Fin 4 → Vec F S1x32x128 .fp8e4m3) :
    S4104x128.Idx → F .f32 := fun y =>
  if h : (y 0).val < 8 then k0_pay55 (ix2 (n0 := 8) (n1 := 128) ⟨(y 0).val, h⟩ (y 1))
  else tabPay ⟨((y 0).val - 8) / 128, by have : (y 0).val < 4104 := (y 0).isLt; show _ < 32; omega⟩ ⟨((y 0).val - 8) / 4 % 32 / 8, by omega⟩
    (row ⟨((y 0).val - 8) / 128, by have : (y 0).val < 4104 := (y 0).isLt; show _ < 32; omega⟩)
    (cod ⟨((y 0).val - 8) / 128, by have : (y 0).val < 4104 := (y 0).isLt; show _ < 32; omega⟩ ⟨((y 0).val - 8) % 4, by omega⟩)
    (ix2 (n0 := 8) (n1 := 128) ⟨((y 0).val - 8) / 4 % 8, by omega⟩ (y 1))

theorem off3_eq : ∀ (t : Fin k0_t1_loop.trips) (q c : Fin 4),
    k0_off3 t (BitVec.ofNat 32 (8 * q.val)) (BitVec.ofNat 32 c.val) = ![8 + 4 * (32 * t.val + 8 * q.val) + c.val, 0] := by decide

theorem tRect_emb0 (k : Fin k0_t1_loop.trips) (q c : Fin 4) (x : (tRect k q c).shape.Idx) :
    ((tRect k q c).emb x 0).val = 8 + 4 * (32 * k.val + 8 * q.val) + c.val + 4 * (x 0).val := by
  show k0_off3 k (BitVec.ofNat 32 (8 * q.val)) (BitVec.ofNat 32 c.val) 0 + 4 * (x 0).val = _
  rw [off3_eq]; rfl

theorem tRect_emb1 (k : Fin k0_t1_loop.trips) (q c : Fin 4) (x : (tRect k q c).shape.Idx) :
    ((tRect k q c).emb x 1).val = (x 1).val := by
  show k0_off3 k (BitVec.ofNat 32 (8 * q.val)) (BitVec.ofNat 32 c.val) 1 + 1 * (x 1).val = _
  rw [off3_eq]; show 0 + 1 * (x 1).val = _; omega

/-- Each piece of a trip is a piece of the table. -/
theorem tPiece_eq (row : Fin k0_t1_loop.trips → Vec F S1x128 .f32) (cod : Fin k0_t1_loop.trips → Fin 4 → Vec F S1x32x128 .fp8e4m3)
    (k : Fin k0_t1_loop.trips) (q c : Fin 4) (x : (tRect k q c).shape.Idx) :
    tabPay k q (row k) (cod k c) x = tabG row cod ((tRect k q c).emb x) := by
  have h0 := tRect_emb0 k q c x
  have h1 := tRect_emb1 k q c x
  have hx : (x 0).val < 8 := (x 0).isLt
  have hc := c.isLt
  have hq := q.isLt
  unfold tabG
  rw [dif_neg (by omega)]
  have ek : (⟨(((tRect k q c).emb x 0).val - 8) / 128, by have : ((tRect k q c).emb x 0).val < 4104 := ((tRect k q c).emb x 0).isLt; show _ < 32; omega⟩ : Fin k0_t1_loop.trips) = k :=
    Fin.ext (by show (((tRect k q c).emb x 0).val - 8) / 128 = k.val; omega)
  have eq' : (⟨(((tRect k q c).emb x 0).val - 8) / 4 % 32 / 8, by omega⟩ : Fin 4) = q := Fin.ext (by show (((tRect k q c).emb x 0).val - 8) / 4 % 32 / 8 = q.val; omega)
  have ec : (⟨(((tRect k q c).emb x 0).val - 8) % 4, by omega⟩ : Fin 4) = c := Fin.ext (by show (((tRect k q c).emb x 0).val - 8) % 4 = c.val; omega)
  rw [ek, eq', ec]
  congr 1
  funext a
  match a with
  | ⟨0, _⟩ => exact Fin.ext (by show (x 0).val = (((tRect k q c).emb x 0).val - 8) / 4 % 8; omega)
  | ⟨1, _⟩ => exact Fin.ext h1.symm

theorem mem_tPieces (row : Fin k0_t1_loop.trips → Vec F S1x128 .f32) (cod : Fin k0_t1_loop.trips → Fin 4 → Vec F S1x32x128 .fp8e4m3)
    (k : Fin k0_t1_loop.trips) (p : View.Piece (Elt F) S4104x128 .f32) : p ∈ tPieces row cod k ↔ ∃ q c, p = tPiece row cod k q c := by
  have hall : ∀ p : Fin 4 × Fin 4, p ∈ tOrder := by decide
  constructor
  · intro h
    obtain ⟨⟨q, c⟩, -, rfl⟩ := List.mem_map.mp h
    exact ⟨q, c, rfl⟩
  · rintro ⟨q, c, rfl⟩
    exact List.mem_map.mpr ⟨(q, c), hall _, rfl⟩

theorem mem_tAll (row : Fin k0_t1_loop.trips → Vec F S1x128 .f32) (cod : Fin k0_t1_loop.trips → Fin 4 → Vec F S1x32x128 .fp8e4m3)
    (p : View.Piece (Elt F) S4104x128 .f32) : ∀ n ≤ 32, p ∈ tAll row cod n ↔ p = zPiece ∨ ∃ k : Fin k0_t1_loop.trips, k.val < n ∧ p ∈ tPieces row cod k
  | 0, _ => by simp [tAll]
  | n + 1, hn => by
    have hn' : n < k0_t1_loop.trips := hn
    rw [tAll, dif_pos hn', List.mem_append, mem_tAll row cod p n (by omega)]
    constructor
    · rintro (h | h | ⟨k, hk, h⟩)
      · exact .inr ⟨⟨n, hn'⟩, Nat.lt_succ_self n, h⟩
      · exact .inl h
      · exact .inr ⟨k, by omega, h⟩
    · rintro (h | ⟨k, hk, h⟩)
      · exact .inr (.inl h)
      · by_cases e : k.val = n
        · left; rwa [show (⟨n, hn'⟩ : Fin k0_t1_loop.trips) = k from Fin.ext e.symm]
        · exact .inr (.inr ⟨k, by omega, h⟩)

/-- All thirty-two trips' pieces, over anything, leave the table. -/
theorem tAll_read {sig' : RefSig} {κ : Kind} {sp : Space} (v : View sig' κ sp S4104x128 .f32) (g : v.ty.Contents (Elt F))
    (row : Fin k0_t1_loop.trips → Vec F S1x128 .f32) (cod : Fin k0_t1_loop.trips → Fin 4 → Vec F S1x32x128 .fp8e4m3) :
    v.read (Elt F) (v.writes (Elt F) g (tAll row cod 32)) = tabG row cod := by
  refine read_writes_eq_fn _ _ _ _ ?_ ?_
  · intro p hp x
    rcases (mem_tAll row cod p 32 le_rfl).mp hp with rfl | ⟨k, -, hk⟩
    · have h0 : ((zPiece (F := F)).1.emb x 0).val = (x 0).val := by show 0 + 1 * (x 0).val = _; omega
      have h1 : ((zPiece (F := F)).1.emb x 1).val = (x 1).val := by show 0 + 1 * (x 1).val = _; omega
      have hx : (x 0).val < 8 := (x 0).isLt
      unfold tabG
      rw [dif_pos (by omega)]
      show k0_pay55 x = _
      congr 1
      funext a
      match a with
      | ⟨0, _⟩ => exact Fin.ext h0.symm
      | ⟨1, _⟩ => exact Fin.ext h1.symm
    · obtain ⟨q, c, rfl⟩ := (mem_tPieces row cod k p).mp hk
      exact tPiece_eq row cod k q c x
  · intro y
    have hy : (y 0).val < 4104 := (y 0).isLt
    have hy1 : (y 1).val < 128 := (y 1).isLt
    by_cases h : (y 0).val < 8
    · refine ⟨_, (mem_tAll row cod _ 32 le_rfl).mpr (.inl rfl), (Rect.mem_set_unit (inb := inb_S4104x128_S8x128_0_0)).mpr fun a => ?_⟩
      match a with
      | ⟨0, _⟩ => exact ⟨Nat.zero_le _, by show (y 0).val < 0 + 8; omega⟩
      | ⟨1, _⟩ => exact ⟨Nat.zero_le _, by show (y 1).val < 0 + 128; omega⟩
    · let k : Fin k0_t1_loop.trips := ⟨((y 0).val - 8) / 128, by show _ < 32; omega⟩
      let q : Fin 4 := ⟨((y 0).val - 8) / 4 % 32 / 8, by omega⟩
      let c : Fin 4 := ⟨((y 0).val - 8) % 4, by omega⟩
      refine ⟨tPiece row cod k q c, (mem_tAll row cod _ 32 le_rfl).mpr (.inr ⟨k, ?_, (mem_tPieces row cod k _).mpr ⟨q, c, rfl⟩⟩), ?_⟩
      · show ((y 0).val - 8) / 128 < 32; omega
      · refine LoadRect.mem_set _ |>.mpr fun a => ?_
        match a with
        | ⟨0, _⟩ =>
          refine ⟨((y 0).val - 8) / 4 % 8, by show _ < 8; omega, ?_⟩
          show (y 0).val = k0_off3 k (BitVec.ofNat 32 (8 * q.val)) (BitVec.ofNat 32 c.val) 0 + 4 * _
          rw [off3_eq]
          show (y 0).val = 8 + 4 * (32 * (((y 0).val - 8) / 128) + 8 * (((y 0).val - 8) / 4 % 32 / 8)) + ((y 0).val - 8) % 4 + 4 * (((y 0).val - 8) / 4 % 8)
          omega
        | ⟨1, _⟩ =>
          refine ⟨(y 1).val, hy1, ?_⟩
          show (y 1).val = k0_off3 k (BitVec.ofNat 32 (8 * q.val)) (BitVec.ofNat 32 c.val) 1 + 1 * _
          rw [off3_eq]; show (y 1).val = 0 + 1 * (y 1).val; omega

section Fill
variable (c : Dev nD) (arg2 : Memref sig .tc .vmem S2x1024 .f32) (harg2 : arg2.IsWhole) (arg4 : Memref sig .tc .vmem S640 .f32) (harg4 : arg4.IsWhole) (arg5 : Memref sig .tc .vmem S640 .f32) (harg5 : arg5.IsWhole) (arg6 : Memref sig .tc .vmem S2x256x640 .fp8e4m3) (harg6 : arg6.IsWhole) (arg7 : Memref sig .tc .vmem S2x256 .f32) (harg7 : arg7.IsWhole)

/-- What a load of a rectangle reads of a function of the shape. -/
abbrev ld {s : Shape} {α : Type} (X : s.Idx → α) (r : LoadRect s) : r.shape.Idx → α := fun j => X (r.idx j)

/-- The scales' row and the codes' chunks that a trip of table 0 reads. -/
abbrev row1 (sx : S2x1024.Idx → F .f32) (k : Fin k0_t1_loop.trips) : Vec F S1x128 .f32 :=
  ld sx (Rect.unit (s := S2x1024) (k0_off1 k) S1x128.size (k0_off1_inb k)).toLoadRect
abbrev cod1 (X : S2x1024x512.Idx → F .fp8e4m3) (k : Fin k0_t1_loop.trips) (c : Fin 4) : Vec F S1x32x128 .fp8e4m3 :=
  match c with
  | 0 => ld X (Rect.unit (s := S2x1024x512) (k0_off2 k) S1x32x128.size (k0_off2_inb k)).toLoadRect
  | 1 => ld X (Rect.unit (s := S2x1024x512) (k0_off4 k) S1x32x128.size (k0_off4_inb k)).toLoadRect
  | 2 => ld X (Rect.unit (s := S2x1024x512) (k0_off5 k) S1x32x128.size (k0_off5_inb k)).toLoadRect
  | 3 => ld X (Rect.unit (s := S2x1024x512) (k0_off6 k) S1x32x128.size (k0_off6_inb k)).toLoadRect

/-- The same for table 1. -/
abbrev row2 (sx : S2x1024.Idx → F .f32) (k : Fin k0_t1_loop.trips) : Vec F S1x128 .f32 :=
  ld sx (Rect.unit (s := S2x1024) (k0_off7 k) S1x128.size (k0_off7_inb k)).toLoadRect
abbrev cod2 (X : S2x1024x512.Idx → F .fp8e4m3) (k : Fin k0_t1_loop.trips) (c : Fin 4) : Vec F S1x32x128 .fp8e4m3 :=
  match c with
  | 0 => ld X (Rect.unit (s := S2x1024x512) (k0_off8 k) S1x32x128.size (k0_off8_inb k)).toLoadRect
  | 1 => ld X (Rect.unit (s := S2x1024x512) (k0_off10 k) S1x32x128.size (k0_off10_inb k)).toLoadRect
  | 2 => ld X (Rect.unit (s := S2x1024x512) (k0_off11 k) S1x32x128.size (k0_off11_inb k)).toLoadRect
  | 3 => ld X (Rect.unit (s := S2x1024x512) (k0_off12 k) S1x32x128.size (k0_off12_inb k)).toLoadRect

theorem tTrip1_eq (k : Fin k0_t1_loop.trips) (g2 : HbBuf (F := F) c arg2) (g9 : HbBuf (F := F) c scX) (f : HbBuf (F := F) c scT0) :
    (tTrip1 c arg2 harg2 arg4 harg4 arg5 harg5 arg6 harg6 arg7 harg7 rowIota 0#32 1#32 k g2 g9 f).1
      = scT0.view.writes (Elt F) f (tPieces (row1 (arg2.view.read (Elt F) g2)) (cod1 (scX.view.read (Elt F) g9)) k) := rfl

theorem tTrip2_eq (k : Fin k0_t1_loop.trips) (g2 : HbBuf (F := F) c arg2) (g9 : HbBuf (F := F) c scX) (f : HbBuf (F := F) c scT1) :
    (tTrip2 c arg2 harg2 arg4 harg4 arg5 harg5 arg6 harg6 arg7 harg7 rowIota 0#32 1#32 k g2 g9 f).1
      = scT1.view.writes (Elt F) f (tPieces (row2 (arg2.view.read (Elt F) g2)) (cod2 (scX.view.read (Elt F) g9)) k) := rfl

theorem tFill1_eq (g2 : HbBuf (F := F) c arg2) (g9 : HbBuf (F := F) c scX) (g : HbBuf (F := F) c scT0) : ∀ n ≤ 32,
    tFill1 c arg2 harg2 arg4 harg4 arg5 harg5 arg6 harg6 arg7 harg7 rowIota 0#32 1#32 g2 g9 (scT0.view.writes (Elt F) g [zPiece]) n
      = scT0.view.writes (Elt F) g (tAll (row1 (arg2.view.read (Elt F) g2)) (cod1 (scX.view.read (Elt F) g9)) n)
  | 0, _ => rfl
  | n + 1, hn => by
    have hn' : n < k0_t1_loop.trips := hn
    rw [tFill1, tAll, dif_pos hn', dif_pos hn', tTrip1_eq, tFill1_eq g2 g9 g n (by omega), ← View.writes_append]

theorem tFill2_eq (g2 : HbBuf (F := F) c arg2) (g9 : HbBuf (F := F) c scX) (g : HbBuf (F := F) c scT1) : ∀ n ≤ 32,
    tFill2 c arg2 harg2 arg4 harg4 arg5 harg5 arg6 harg6 arg7 harg7 rowIota 0#32 1#32 g2 g9 (scT1.view.writes (Elt F) g [zPiece]) n
      = scT1.view.writes (Elt F) g (tAll (row2 (arg2.view.read (Elt F) g2)) (cod2 (scX.view.read (Elt F) g9)) n)
  | 0, _ => rfl
  | n + 1, hn => by
    have hn' : n < k0_t2_loop.trips := hn
    have hn'' : n < k0_t1_loop.trips := hn
    rw [tFill2, tAll, dif_pos hn', dif_pos hn'', tTrip2_eq, tFill2_eq g2 g9 g n (by omega), ← View.writes_append]

/-- Table 0 after its loop, over anything. -/
theorem t1_read (g2 : HbBuf (F := F) c arg2) (f1 : HbBuf (F := F) c hbX) (g9 : HbBuf (F := F) c scX) (g : HbBuf (F := F) c scT0) :
    scT0.view.read (Elt F) (tFill1 c arg2 harg2 arg4 harg4 arg5 harg5 arg6 harg6 arg7 harg7 rowIota 0#32 1#32 g2 (xBuf c f1 g9) (scT0.view.writes (Elt F) g [zPiece]) 32)
      = tabG (row1 (arg2.view.read (Elt F) g2)) (cod1 (hbX.view.read (Elt F) f1)) := by
  rw [tFill1_eq _ _ _ _ _ _ _ _ _ _ _ _ _ _ 32 le_rfl, tAll_read, x_read]

/-- Table 1 after its loop, over anything. -/
theorem t2_read (g2 : HbBuf (F := F) c arg2) (f1 : HbBuf (F := F) c hbX) (g9 : HbBuf (F := F) c scX) (g : HbBuf (F := F) c scT1) :
    scT1.view.read (Elt F) (tFill2 c arg2 harg2 arg4 harg4 arg5 harg5 arg6 harg6 arg7 harg7 rowIota 0#32 1#32 g2 (xBuf c f1 g9) (scT1.view.writes (Elt F) g [zPiece]) 32)
      = tabG (row2 (arg2.view.read (Elt F) g2)) (cod2 (hbX.view.read (Elt F) f1)) := by
  rw [tFill2_eq _ _ _ _ _ _ _ _ _ _ _ _ _ _ 32 le_rfl, tAll_read, x_read]

end Fill

/-! ## The left operands -/

section Lhs
variable (tab : Memref sig .tc .vmem S4104x128 .f32) (lhs : Memref sig .tc .vmem S288x128 .i32) (c : Dev nD)

/-- The table rows a neighbour's word names. -/
def rowsOf (T : S4104x128.Idx → F .f32) (v : BitVec 32) : Vec F S4x128 .f32 :=
  if h : k0_chk1 v then ld T (Rect.unit (s := S4104x128) (k0_off14 v) S4x128.size (k0_off14_inb v h)).toLoadRect
  else ld T (Rect.unit (s := S4104x128) ![0, 0] S4x128.size (by decide)).toLoadRect

theorem tabRow_eq (fT : HbBuf (F := F) c tab) (v : BitVec 32) : tabRow tab c fT v = rowsOf (tab.view.read (Elt F) fT) v := rfl

/-- The word of a function of the index array's shape at an offset. -/
abbrev wordAt (N : S2x8x256.Idx → BitVec 32) (o : Fin 3 → ℕ) (h : ∀ a, o a + S1x1x1.size a ≤ S2x8x256.size a) : BitVec 32 :=
  ld N (Rect.unit (s := S2x8x256) o S1x1x1.size h).toLoadRect (Shape.Idx.first (numel1_S1x1x1.symm ▸ Nat.one_pos))

/-- Chunk `q` of the sixty-four pairs of rows a gather loop writes. -/
def chunkG (T : S4104x128.Idx → F .f32) (N : S2x8x256.Idx → BitVec 32) (pA pB : Fin k0_t3_loop.trips → Fin 3 → ℕ)
    (hpA : ∀ t a, pA t a + S1x1x1.size a ≤ S2x8x256.size a) (hpB : ∀ t a, pB t a + S1x1x1.size a ≤ S2x8x256.size a) (q : Fin 4) :
    Vec F S64x128 .i32 := fun x =>
  k0_pay59 (rowsOf T (wordAt N (pA (x 0)) (hpA _))) (rowsOf T (wordAt N (pB (x 0)) (hpB _))) (ix2 (n0 := 4) (n1 := 128) q (x 1))

theorem off17_eq : ∀ t : Fin k0_t3_loop.trips, k0_off17 t = ![t.val, 0] := by decide

theorem gRect_emb0 (t : Fin k0_t3_loop.trips) (x : (gRect t).shape.Idx) : ((gRect t).emb x 0).val = t.val + 72 * (x 0).val := by
  show k0_off17 t 0 + 72 * (x 0).val = _
  rw [off17_eq]; rfl

/-- The left operand before trip `n`, at a row an earlier trip wrote. -/
theorem gFill_emb (pA pB : Fin k0_t3_loop.trips → Fin 3 → ℕ) (hpA : ∀ t a, pA t a + S1x1x1.size a ≤ S2x8x256.size a) (hpB : ∀ t a, pB t a + S1x1x1.size a ≤ S2x8x256.size a)
    (f8 : HbBuf (F := F) c scIdx) (fT : HbBuf (F := F) c tab) (f : HbBuf (F := F) c lhs) :
    ∀ n ≤ 64, ∀ t : Fin k0_t3_loop.trips, t.val < n → ∀ x : (gRect t).shape.Idx,
      lhs.view.read (Elt F) (gFill tab lhs c pA pB hpA hpB f8 fT f n) ((gRect t).emb x)
        = k0_pay59 (tabRow tab c fT (idxW c f8 (pA t) (hpA _))) (tabRow tab c fT (idxW c f8 (pB t) (hpB _))) x
  | 0, _, t, h, x => absurd h (Nat.not_lt_zero _)
  | n + 1, hn, t, h, x => by
    have hn' : n < k0_t3_loop.trips := hn
    rw [gFill, dif_pos hn']
    by_cases e : t.val = n
    · obtain rfl : t = ⟨n, hn'⟩ := Fin.ext e
      exact View.read_writes_cons_emb _ _ _ _ _ x
    · rw [View.read_writes_cons_miss]
      · exact gFill_emb pA pB hpA hpB f8 fT f n (by omega) t (by omega) x
      · intro hm
        obtain ⟨x', hx'⟩ := LoadRect.exists_idx_of_mem _ hm
        have h0 : ((gRect ⟨n, hn'⟩).emb x' 0).val = ((gRect t).emb x 0).val := congrArg (fun y => (y 0).val) hx'
        rw [gRect_emb0, gRect_emb0] at h0
        have := t.isLt
        have h64 : t.val < 64 := t.isLt
        have hnn : n < 64 := hn'
        change n + 72 * (x' 0).val = t.val + 72 * (x 0).val at h0
        omega

/-- A chunk's rows read back after a whole gather loop. -/
theorem chunk_read (o : ℕ) (q : Fin 4) (ho : o = 72 * q.val) (inb : ∀ a, (![o, 0] : Fin 2 → ℕ) a + S64x128.size a ≤ S288x128.size a)
    (pA pB : Fin k0_t3_loop.trips → Fin 3 → ℕ) (hpA : ∀ t a, pA t a + S1x1x1.size a ≤ S2x8x256.size a) (hpB : ∀ t a, pB t a + S1x1x1.size a ≤ S2x8x256.size a)
    (f8 : HbBuf (F := F) c scIdx) (fT : HbBuf (F := F) c tab) (f : HbBuf (F := F) c lhs) :
    lhs.view.readAt (Elt F) (Rect.unit (s := S288x128) ![o, 0] S64x128.size inb).toLoadRect (gFill tab lhs c pA pB hpA hpB f8 fT f 64)
      = chunkG (tab.view.read (Elt F) fT) (scIdx.view.read (Elt F) f8) pA pB hpA hpB q := by
  funext x
  have h := gFill_emb tab lhs c pA pB hpA hpB f8 fT f 64 le_rfl (x 0) (x 0).isLt (ix2 (n0 := 4) (n1 := 128) q (x 1))
  rw [View.readAt_apply]
  refine Eq.trans (congrArg _ ?_) h
  funext a
  have e17 := off17_eq (x 0)
  match a with
  | ⟨0, _⟩ =>
    refine Fin.ext ?_
    show o + 1 * (x 0).val = k0_off17 (x 0) 0 + 72 * q.val
    rw [e17]
    show o + 1 * (x 0).val = (x 0).val + 72 * q.val
    omega
  | ⟨1, _⟩ =>
    refine Fin.ext ?_
    show 0 + 1 * (x 1).val = k0_off17 (x 0) 1 + 1 * (x 1).val
    rw [e17]; rfl

end Lhs
end Cert.Kernel.Hand
-- ==== Proof.BRun.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp
public import proofs.«01_k».proof.Proof.BLoops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-- The index buffer's contents once the copy of the neighbour table has landed. -/
abbrev idxBuf (c : Dev nD) (f0 : HbBuf (F := F) c hbN) : HbBuf (F := F) c scIdx :=
  scIdx.view.writes (Elt F) scIdx.view.junk [⟨Rect.whole S2x8x256, ReadAs.same.apply (View.read (Elt F) hbN.view f0)⟩]

set_option backward.proofsInPublic true in
set_option maxHeartbeats 0 in
/-- The body run on whole staging memrefs, every scratch buffer at given contents, the cells at zero: it ends with the
    two results written with the pieces the run finds, the operands as they were and the cells at zero again. -/
noncomputable def kernelRun (c : Dev nD) (arg2 : Memref sig .tc .vmem S2x1024 .f32) (harg2 : arg2.IsWhole) (arg4 : Memref sig .tc .vmem S640 .f32) (harg4 : arg4.IsWhole) (arg5 : Memref sig .tc .vmem S640 .f32) (harg5 : arg5.IsWhole) (arg6 : Memref sig .tc .vmem S2x256x640 .fp8e4m3) (harg6 : arg6.IsWhole) (arg7 : Memref sig .tc .vmem S2x256 .f32) (harg7 : arg7.IsWhole)
   (f0 : HbBuf (F := F) c hbN) (f1 : HbBuf (F := F) c hbX) (f3 : HbBuf (F := F) c hbW)
   (g2 : HbBuf (F := F) c arg2) (g4 : HbBuf (F := F) c arg4) (g5 : HbBuf (F := F) c arg5)
   (g9 : HbBuf (F := F) c scX) (g10 : HbBuf (F := F) c scW)
   (g11 : HbBuf (F := F) c scT0) (g12 : HbBuf (F := F) c scT1) (g13 : HbBuf (F := F) c scL0)
   (g14 : HbBuf (F := F) c scL1) (g15 : HbBuf (F := F) c scL2) (g16 : HbBuf (F := F) c scL3)
   (hI : IdxOK c (idxBuf c f0)) :
   { L : List (View.Piece (Elt F) S2x256x640 .fp8e4m3) × List (View.Piece (Elt F) S2x256 .f32) //
   ∀ (W : Waits sig Unit) (g6 : HbBuf (F := F) c arg6) (g7 : HbBuf (F := F) c arg7) (g8 : HbBuf (F := F) c scIdx) (K : PUnit → sProp 𝕄),
   iprop(hbPt c hbN f0 ∗ hbPt c hbX f1 ∗ mPt c arg2 g2 ∗ hbPt c hbW f3 ∗ mPt c arg4 g4 ∗ mPt c arg5 g5 ∗ mPt c arg6 g6 ∗ mPt c arg7 g7
     ∗ mPt c scIdx g8 ∗ hbPt c scX g9 ∗ hbPt c scW g10 ∗ mPt c scT0 g11 ∗ mPt c scT1 g12 ∗ mPt c scL0 g13 ∗ mPt c scL1 g14 ∗ mPt c scL2 g15 ∗ mPt c scL3 g16
     ∗ semVal ((c : Thread nD τ), SemLoc.dma 5) 0 ∗ semVal ((c : Thread nD τ), SemLoc.dma 6) 0 ∗ semVal ((c : Thread nD τ), SemLoc.dma 7) 0
     ∗ semVal ((c : Thread nD τ), SemLoc.dma 8) 0 ∗ semVal ((c : Thread nD τ), SemLoc.dma 9) 0 ∗ semVal ((c : Thread nD τ), SemLoc.dma 10) 0
     ∗ semVal ((c : Thread nD τ), SemLoc.dma 11) 0 ∗ semVal ((c : Thread nD τ), SemLoc.dma 12) 0 ∗ semVal ((c : Thread nD τ), SemLoc.dma 13) 0
     ∗ semVal ((c : Thread nD τ), SemLoc.dma 14) 0 ∗ semVal ((c : Thread nD τ), SemLoc.dma 15) 0
     ∗ owes (c : Thread nD τ) 0 W
     ∗ (iprop(hbPt c hbN f0 ∗ hbPt c hbX f1 ∗ mPt c arg2 g2 ∗ hbPt c hbW f3 ∗ mPt c arg4 g4 ∗ mPt c arg5 g5
         ∗ mPt c arg6 (arg6.view.writes (Elt F) g6 L.1) ∗ mPt c arg7 (arg7.view.writes (Elt F) g7 L.2)
         ∗ (∃ f, mPt c scIdx f) ∗ (∃ f, hbPt c scX f) ∗ (∃ f, hbPt c scW f) ∗ (∃ f, mPt c scT0 f) ∗ (∃ f, mPt c scT1 f)
         ∗ (∃ f, mPt c scL0 f) ∗ (∃ f, mPt c scL1 f) ∗ (∃ f, mPt c scL2 f) ∗ (∃ f, mPt c scL3 f)
         ∗ semVal ((c : Thread nD τ), SemLoc.dma 5) 0 ∗ semVal ((c : Thread nD τ), SemLoc.dma 6) 0 ∗ semVal ((c : Thread nD τ), SemLoc.dma 7) 0
         ∗ semVal ((c : Thread nD τ), SemLoc.dma 8) 0 ∗ semVal ((c : Thread nD τ), SemLoc.dma 9) 0 ∗ semVal ((c : Thread nD τ), SemLoc.dma 10) 0
         ∗ semVal ((c : Thread nD τ), SemLoc.dma 11) 0 ∗ semVal ((c : Thread nD τ), SemLoc.dma 12) 0 ∗ semVal ((c : Thread nD τ), SemLoc.dma 13) 0
         ∗ semVal ((c : Thread nD τ), SemLoc.dma 14) 0 ∗ semVal ((c : Thread nD τ), SemLoc.dma 15) 0
         ∗ (∃ W', owes (c : Thread nD τ) 0 W')) -∗ K ⟨⟩))
   ⊢ wp frame (wpE (defs₀ (F := F)) Variants.none c none) Set.univ
     (cc0__body hbN (Memref.isWhole_whole _) hbX (Memref.isWhole_whole _) arg2 harg2 hbW (Memref.isWhole_whole _) arg4 harg4 arg5 harg5 arg6 harg6 arg7 harg7
       scIdx (Memref.isWhole_whole _) scX (Memref.isWhole_whole _) scW (Memref.isWhole_whole _) scT0 (Memref.isWhole_whole _) scT1 (Memref.isWhole_whole _)
       scL0 (Memref.isWhole_whole _) scL1 (Memref.isWhole_whole _) scL2 (Memref.isWhole_whole _) scL3 (Memref.isWhole_whole _) cc0_scratch9) K } := by
  refine ⟨(?_, ?_), fun W g6 g7 g8 K => ?run⟩
  case run =>
    simp only [cc0__body_eq_skeleton]; unfold cc0__body_skel
    iintro ⟨Hh0, Hh1, H2, Hh3, H4, H5, H6, H7, H8, H9, H10, H11, H12, H13, H14, H15, H16, Hq0, Hq1, Hq2, Hq3, Hq4, Hq5, Hq6, Hq7, Hq8, Hq9, Hq10, HW, Hk⟩
    set_option sl_exec.dmaWindow true in sl_exec
    sl_step
    iapply Hk
    isplitl [Hh0]; · iexact Hh0
    isplitl [Hh1]; · iexact Hh1
    isplitl [H2]; · iexact H2
    isplitl [Hh3]; · iexact Hh3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    iexists _; iexact HW

end Cert.Kernel.Hand
end
-- ==== Proof.BClosed.lean ====
module

public import proofs.«01_k».proof.Proof.BTab
public import proofs.«01_k».proof.Proof.BRun

/-! What the body writes to the two results, in closed form.

The run of the body names every value it reads; here each read of a buffer the body filled is replaced by its
closed form, so that the pieces of the two results are functions of what the six operands hold. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.ValueIdx

variable {F : FTy → Type} [BitOps F]

/-- The place of a pair's word in a row of the index array: `t0 + 2 t + d`. -/
def gPos (t0 d : BitVec 32) (t : Fin k0_t3_loop.trips) : ℕ :=
  (Scalar.indexCast (Scalar.addi (Scalar.addi t0 (Scalar.muli 2#32 (Scf.iv 0#32 1#32 t))) d)).toNat

/-- The first token of a half. -/
abbrev half (s : Fin 2) : BitVec 32 := match s with | 0 => 0#32 | 1 => 128#32

theorem gPos_eq : ∀ (s d : Fin 2) (t : Fin k0_t3_loop.trips), gPos (half s) (BitVec.ofNat 32 d.val) t = 128 * s.val + 2 * t.val + d.val := by decide

/-- The offset of a pair's word. -/
abbrev gOff (b : Fin 2) (s : Fin 2) (k : Fin 8) (d : Fin 2) (t : Fin k0_t3_loop.trips) : Fin 3 → ℕ :=
  ![b.val, k.val, gPos (half s) (BitVec.ofNat 32 d.val) t]

theorem gOff_inb (b s : Fin 2) (k : Fin 8) (d : Fin 2) (t : Fin k0_t3_loop.trips) (a : Fin 3) : gOff b s k d t a + S1x1x1.size a ≤ S2x8x256.size a := by
  have e := gPos_eq s d t
  have ht : t.val < 64 := t.isLt
  match a with
  | ⟨0, _⟩ => show b.val + 1 ≤ 2; omega
  | ⟨1, _⟩ => show k.val + 1 ≤ 8; omega
  | ⟨2, _⟩ => show gPos (half s) (BitVec.ofNat 32 d.val) t + 1 ≤ 256; omega

/-- The left operand of tap `k` for one batch and half: chunk `q`. -/
abbrev lhsG (T : S4104x128.Idx → F .f32) (N : S2x8x256.Idx → BitVec 32) (b s : Fin 2) (k : Fin 8) (q : Fin 4) : Vec F S64x128 .i32 :=
  chunkG T N (gOff b s k 0) (gOff b s k 1) (gOff_inb b s k 0) (gOff_inb b s k 1) q

theorem wG_inb (k : Fin 8) : ∀ a, (![k.val, 0, 0] : Fin 3 → ℕ) a + S1x512x640.size a ≤ S8x512x640.size a := by
  revert k; decide

/-- The weights of tap `k`. -/
abbrev wG (W : S8x512x640.Idx → F .fp8e4m3) (k : Fin 8) : Vec F S1x512x640 .fp8e4m3 :=
  ld W (Rect.unit (s := S8x512x640) ![k.val, 0, 0] S1x512x640.size (wG_inb k)).toLoadRect

/-- The sum of the first seven taps' products. -/
def acc7 (L : Fin 8 → Fin 4 → Vec F S64x128 .i32) (w : Fin 8 → Vec F S1x512x640 .fp8e4m3) : FVec F S128x640 .f32 :=
  k0_pay72 (k0_pay70 (k0_pay68 (k0_pay66 (k0_pay64 (k0_pay62 (k0_pay60 (L 0 0) (L 0 1) (L 0 2) (L 0 3) (w 0))
    (L 1 0) (L 1 1) (L 1 2) (L 1 3) (w 1))
    (L 2 0) (L 2 1) (L 2 2) (L 2 3) (w 2))
    (L 3 0) (L 3 1) (L 3 2) (L 3 3) (w 3))
    (L 4 0) (L 4 1) (L 4 2) (L 4 3) (w 4))
    (L 5 0) (L 5 1) (L 5 2) (L 5 3) (w 5))
    (L 6 0) (L 6 1) (L 6 2) (L 6 3) (w 6)

/-- A row of the output channels' constants. -/
abbrev chan (x : S640.Idx → F .f32) : FVec F S1x640 .f32 :=
  shapeCast S1x640 (ld x (Rect.unit (s := S640) ![0] S640.size inb_S640_S640_0).toLoadRect) shapeCasts_S640_S1x640

/-- The block's outputs before quantisation, the counts of reached exponents and which rows are zero. -/
def blkY (L : Fin 8 → Fin 4 → Vec F S64x128 .i32) (w : Fin 8 → Vec F S1x512x640 .fp8e4m3) (sw bi : S640.Idx → F .f32) : FVec F S128x640 .f32 :=
  k0_pay74 (chan sw) (chan bi) (acc7 L w) (L 7 0) (L 7 1) (L 7 2) (L 7 3) (w 7)
def blkS (L : Fin 8 → Fin 4 → Vec F S64x128 .i32) (w : Fin 8 → Vec F S1x512x640 .fp8e4m3) (sw bi : S640.Idx → F .f32) : IVec S128 32 :=
  k0_pay77 (chan sw) (chan bi) (acc7 L w) (L 7 0) (L 7 1) (L 7 2) (L 7 3) (w 7)
def blkZ (L : Fin 8 → Fin 4 → Vec F S64x128 .i32) (w : Fin 8 → Vec F S1x512x640 .fp8e4m3) (sw bi : S640.Idx → F .f32) : IVec S128x1 1 :=
  k0_pay76 (chan sw) (chan bi) (acc7 L w) (L 7 0) (L 7 1) (L 7 2) (L 7 3) (w 7)

/-- A block's codes and scales. -/
def blkC (L : Fin 8 → Fin 4 → Vec F S64x128 .i32) (w : Fin 8 → Vec F S1x512x640 .fp8e4m3) (sw bi : S640.Idx → F .f32) : FVec F S1x128x640 .fp8e4m3 :=
  k0_pay79 (blkY L w sw bi) (blkZ L w sw bi) (blkS L w sw bi)
def blkE (L : Fin 8 → Fin 4 → Vec F S64x128 .i32) (w : Fin 8 → Vec F S1x512x640 .fp8e4m3) (sw bi : S640.Idx → F .f32) : FVec F S1x128 .f32 :=
  k0_pay80 (blkZ L w sw bi) (blkS L w sw bi)

section Pieces
variable (N : S2x8x256.Idx → BitVec 32) (X : S2x1024x512.Idx → F .fp8e4m3) (sx : S2x1024.Idx → F .f32) (W : S8x512x640.Idx → F .fp8e4m3) (sw bi : S640.Idx → F .f32)

/-- The two tables. -/
abbrev tabOf (b : Fin 2) : S4104x128.Idx → F .f32 := match b with
  | 0 => tabG (row1 sx) (cod1 X)
  | 1 => tabG (row2 sx) (cod2 X)

/-- The left operands of one batch and half. -/
abbrev lhsOf (b s : Fin 2) : Fin 8 → Fin 4 → Vec F S64x128 .i32 := lhsG (tabOf X sx b) N b s

/-- The pieces of the codes, the last written first. -/
def codeL : List (View.Piece (Elt F) S2x256x640 .fp8e4m3) :=
  [⟨Rect.unit ![1, 128, 0] S1x128x640.size inb_S2x256x640_S1x128x640_1_128_0, blkC (lhsOf N X sx 1 1) (wG W) sw bi⟩,
   ⟨Rect.unit ![1, 0, 0] S1x128x640.size inb_S2x256x640_S1x128x640_1_0_0, blkC (lhsOf N X sx 1 0) (wG W) sw bi⟩,
   ⟨Rect.unit ![0, 128, 0] S1x128x640.size inb_S2x256x640_S1x128x640_0_128_0, blkC (lhsOf N X sx 0 1) (wG W) sw bi⟩,
   ⟨Rect.unit ![0, 0, 0] S1x128x640.size inb_S2x256x640_S1x128x640_0_0_0, blkC (lhsOf N X sx 0 0) (wG W) sw bi⟩]

/-- The pieces of the scales. -/
def scaleL : List (View.Piece (Elt F) S2x256 .f32) :=
  [⟨Rect.unit ![1, 128] S1x128.size inb_S2x256_S1x128_1_128, blkE (lhsOf N X sx 1 1) (wG W) sw bi⟩,
   ⟨Rect.unit ![1, 0] S1x128.size inb_S2x256_S1x128_1_0, blkE (lhsOf N X sx 1 0) (wG W) sw bi⟩,
   ⟨Rect.unit ![0, 128] S1x128.size inb_S2x256_S1x128_0_128, blkE (lhsOf N X sx 0 1) (wG W) sw bi⟩,
   ⟨Rect.unit ![0, 0] S1x128.size inb_S2x256_S1x128_0_0, blkE (lhsOf N X sx 0 0) (wG W) sw bi⟩]
end Pieces

section Reads
variable (tab : Memref sig .tc .vmem S4104x128 .f32) (lhs : Memref sig .tc .vmem S288x128 .i32) (c : Dev nD)
  (pA pB : Fin k0_t3_loop.trips → Fin 3 → ℕ) (hpA : ∀ t a, pA t a + S1x1x1.size a ≤ S2x8x256.size a) (hpB : ∀ t a, pB t a + S1x1x1.size a ≤ S2x8x256.size a)
  (fT : HbBuf (F := F) c tab) (f : HbBuf (F := F) c lhs) (T : S4104x128.Idx → F .f32) (f0 : HbBuf (F := F) c hbN)

/-- A chunk read back after a gather loop, the index buffer and the table in closed form. -/
theorem raw_read (o : ℕ) (q : Fin 4) (ho : o = 72 * q.val) (inb : ∀ a, (![o, 0] : Fin 2 → ℕ) a + S64x128.size a ≤ S288x128.size a)
    (n : ℕ) (hn : n = 64) (hT : tab.view.read (Elt F) fT = T) :
    lhs.view.readAt (Elt F) (Rect.unit (s := S288x128) ![o, 0] S64x128.size inb).toLoadRect (gFill tab lhs c pA pB hpA hpB (idxBuf c f0) fT f n)
      = chunkG T (hbN.view.read (Elt F) f0) pA pB hpA hpB q := by
  subst hn hT
  exact (chunk_read tab lhs c o q ho inb pA pB hpA hpB _ fT f).trans (by rw [idx_read])

/-- The weights of a tap read back. -/
theorem wraw_read (f3 : HbBuf (F := F) c hbW) (g : HbBuf (F := F) c scW) (r : LoadRect S8x512x640) :
    scW.view.readAt (Elt F) r (wBuf c f3 g) = ld (hbW.view.read (Elt F) f3) r := by
  funext j; rw [View.readAt_apply, w_read]
end Reads

/-- A block's codes and scales from any values that equal its operands. -/
theorem blk_congr {L : Fin 8 → Fin 4 → Vec F S64x128 .i32} {w : Fin 8 → Vec F S1x512x640 .fp8e4m3} {sw bi : S640.Idx → F .f32}
    {c00 c01 c02 c03 c10 c11 c12 c13 c20 c21 c22 c23 c30 c31 c32 c33 c40 c41 c42 c43 c50 c51 c52 c53 c60 c61 c62 c63 c70 c71 c72 c73 : Vec F S64x128 .i32} {w0 w1 w2 w3 w4 w5 w6 w7 : Vec F S1x512x640 .fp8e4m3}
    {A : FVec F S1x128x640 .fp8e4m3} {E : FVec F S1x128 .f32}
    (h00 : c00 = L 0 0) (h01 : c01 = L 0 1) (h02 : c02 = L 0 2) (h03 : c03 = L 0 3) (g0 : w0 = w 0)
    (h10 : c10 = L 1 0) (h11 : c11 = L 1 1) (h12 : c12 = L 1 2) (h13 : c13 = L 1 3) (g1 : w1 = w 1)
    (h20 : c20 = L 2 0) (h21 : c21 = L 2 1) (h22 : c22 = L 2 2) (h23 : c23 = L 2 3) (g2 : w2 = w 2)
    (h30 : c30 = L 3 0) (h31 : c31 = L 3 1) (h32 : c32 = L 3 2) (h33 : c33 = L 3 3) (g3 : w3 = w 3)
    (h40 : c40 = L 4 0) (h41 : c41 = L 4 1) (h42 : c42 = L 4 2) (h43 : c43 = L 4 3) (g4 : w4 = w 4)
    (h50 : c50 = L 5 0) (h51 : c51 = L 5 1) (h52 : c52 = L 5 2) (h53 : c53 = L 5 3) (g5 : w5 = w 5)
    (h60 : c60 = L 6 0) (h61 : c61 = L 6 1) (h62 : c62 = L 6 2) (h63 : c63 = L 6 3) (g6 : w6 = w 6)
    (h70 : c70 = L 7 0) (h71 : c71 = L 7 1) (h72 : c72 = L 7 2) (h73 : c73 = L 7 3) (g7 : w7 = w 7)
    (hA : A = k0_pay79 (k0_pay74 (chan sw) (chan bi) (k0_pay72 (k0_pay70 (k0_pay68 (k0_pay66 (k0_pay64 (k0_pay62 (k0_pay60 c00 c01 c02 c03 w0) c10 c11 c12 c13 w1) c20 c21 c22 c23 w2) c30 c31 c32 c33 w3) c40 c41 c42 c43 w4) c50 c51 c52 c53 w5) c60 c61 c62 c63 w6) c70 c71 c72 c73 w7) (k0_pay76 (chan sw) (chan bi) (k0_pay72 (k0_pay70 (k0_pay68 (k0_pay66 (k0_pay64 (k0_pay62 (k0_pay60 c00 c01 c02 c03 w0) c10 c11 c12 c13 w1) c20 c21 c22 c23 w2) c30 c31 c32 c33 w3) c40 c41 c42 c43 w4) c50 c51 c52 c53 w5) c60 c61 c62 c63 w6) c70 c71 c72 c73 w7)
      (k0_pay77 (chan sw) (chan bi) (k0_pay72 (k0_pay70 (k0_pay68 (k0_pay66 (k0_pay64 (k0_pay62 (k0_pay60 c00 c01 c02 c03 w0) c10 c11 c12 c13 w1) c20 c21 c22 c23 w2) c30 c31 c32 c33 w3) c40 c41 c42 c43 w4) c50 c51 c52 c53 w5) c60 c61 c62 c63 w6) c70 c71 c72 c73 w7))
    (hE : E = k0_pay80 (k0_pay76 (chan sw) (chan bi) (k0_pay72 (k0_pay70 (k0_pay68 (k0_pay66 (k0_pay64 (k0_pay62 (k0_pay60 c00 c01 c02 c03 w0) c10 c11 c12 c13 w1) c20 c21 c22 c23 w2) c30 c31 c32 c33 w3) c40 c41 c42 c43 w4) c50 c51 c52 c53 w5) c60 c61 c62 c63 w6) c70 c71 c72 c73 w7)
      (k0_pay77 (chan sw) (chan bi) (k0_pay72 (k0_pay70 (k0_pay68 (k0_pay66 (k0_pay64 (k0_pay62 (k0_pay60 c00 c01 c02 c03 w0) c10 c11 c12 c13 w1) c20 c21 c22 c23 w2) c30 c31 c32 c33 w3) c40 c41 c42 c43 w4) c50 c51 c52 c53 w5) c60 c61 c62 c63 w6) c70 c71 c72 c73 w7)) :
    A = blkC L w sw bi ∧ E = blkE L w sw bi := by
  subst_vars
  exact ⟨rfl, rfl⟩

section Run
variable (c : Dev nD) (arg2 : Memref sig .tc .vmem S2x1024 .f32) (harg2 : arg2.IsWhole) (arg4 : Memref sig .tc .vmem S640 .f32) (harg4 : arg4.IsWhole) (arg5 : Memref sig .tc .vmem S640 .f32) (harg5 : arg5.IsWhole) (arg6 : Memref sig .tc .vmem S2x256x640 .fp8e4m3) (harg6 : arg6.IsWhole) (arg7 : Memref sig .tc .vmem S2x256 .f32) (harg7 : arg7.IsWhole)
    (f0 : HbBuf (F := F) c hbN) (f1 : HbBuf (F := F) c hbX) (f3 : HbBuf (F := F) c hbW)
    (g2 : HbBuf (F := F) c arg2) (g4 : HbBuf (F := F) c arg4) (g5 : HbBuf (F := F) c arg5)
    (g9 : HbBuf (F := F) c scX) (g10 : HbBuf (F := F) c scW)
    (g11 : HbBuf (F := F) c scT0) (g12 : HbBuf (F := F) c scT1) (g13 : HbBuf (F := F) c scL0)
    (g14 : HbBuf (F := F) c scL1) (g15 : HbBuf (F := F) c scL2) (g16 : HbBuf (F := F) c scL3)
    (hI : IdxOK c (idxBuf c f0))

set_option maxHeartbeats 0 in
/-- Block 0 in closed form. -/
theorem block0_eq :
    k0_pay79 (kernelRun.sl.r_7 c arg2 harg2 arg4 harg4 arg5 harg5 arg6 harg6 arg7 harg7 f0 f1 f3 g2 g4 g5 g9 g10 g11 g13 g14 g15 g16) (kernelRun.sl.r_8 c arg2 harg2 arg4 harg4 arg5 harg5 arg6 harg6 arg7 harg7 f0 f1 f3 g2 g4 g5 g9 g10 g11 g13 g14 g15 g16) (kernelRun.sl.r_9 c arg2 harg2 arg4 harg4 arg5 harg5 arg6 harg6 arg7 harg7 f0 f1 f3 g2 g4 g5 g9 g10 g11 g13 g14 g15 g16)
      = blkC (lhsOf (hbN.view.read (Elt F) f0) (hbX.view.read (Elt F) f1) (arg2.view.read (Elt F) g2) 0 0) (wG (hbW.view.read (Elt F) f3))
          (arg4.view.read (Elt F) g4) (arg5.view.read (Elt F) g5)
    ∧ k0_pay80 (kernelRun.sl.r_8 c arg2 harg2 arg4 harg4 arg5 harg5 arg6 harg6 arg7 harg7 f0 f1 f3 g2 g4 g5 g9 g10 g11 g13 g14 g15 g16) (kernelRun.sl.r_9 c arg2 harg2 arg4 harg4 arg5 harg5 arg6 harg6 arg7 harg7 f0 f1 f3 g2 g4 g5 g9 g10 g11 g13 g14 g15 g16)
      = blkE (lhsOf (hbN.view.read (Elt F) f0) (hbX.view.read (Elt F) f1) (arg2.view.read (Elt F) g2) 0 0) (wG (hbW.view.read (Elt F) f3))
          (arg4.view.read (Elt F) g4) (arg5.view.read (Elt F) g5) := by
  have h1 := t1_read c arg2 harg2 arg4 harg4 arg5 harg5 arg6 harg6 arg7 harg7 g2 f1 g9 g11
  have a0 := fun lhs pA pB hpA hpB (f : HbBuf (F := F) c lhs) n hn => raw_read scT0 lhs c pA pB hpA hpB _ f _ f0 0 0 rfl inb_S288x128_S64x128_0_0 n hn h1
  have a1 := fun lhs pA pB hpA hpB (f : HbBuf (F := F) c lhs) n hn => raw_read scT0 lhs c pA pB hpA hpB _ f _ f0 72 1 rfl inb_S288x128_S64x128_72_0 n hn h1
  have a2 := fun lhs pA pB hpA hpB (f : HbBuf (F := F) c lhs) n hn => raw_read scT0 lhs c pA pB hpA hpB _ f _ f0 144 2 rfl inb_S288x128_S64x128_144_0 n hn h1
  have a3 := fun lhs pA pB hpA hpB (f : HbBuf (F := F) c lhs) n hn => raw_read scT0 lhs c pA pB hpA hpB _ f _ f0 216 3 rfl inb_S288x128_S64x128_216_0 n hn h1
  have hw := wraw_read (F := F) c f3 g10
  apply blk_congr
  case hA => exact rfl
  case hE => exact rfl
  iterate 8
    · exact a0 _ _ _ _ _ _ _ rfl
    · exact a1 _ _ _ _ _ _ _ rfl
    · exact a2 _ _ _ _ _ _ _ rfl
    · exact a3 _ _ _ _ _ _ _ rfl
    · exact hw _

set_option maxHeartbeats 0 in
/-- Block 1 in closed form. -/
theorem block1_eq :
    k0_pay101 (kernelRun.sl.r_17 c arg2 harg2 arg4 harg4 arg5 harg5 arg6 harg6 arg7 harg7 f0 f1 f3 g2 g4 g5 g9 g10 g11 g13 g14 g15 g16) (kernelRun.sl.r_18 c arg2 harg2 arg4 harg4 arg5 harg5 arg6 harg6 arg7 harg7 f0 f1 f3 g2 g4 g5 g9 g10 g11 g13 g14 g15 g16) (kernelRun.sl.r_19 c arg2 harg2 arg4 harg4 arg5 harg5 arg6 harg6 arg7 harg7 f0 f1 f3 g2 g4 g5 g9 g10 g11 g13 g14 g15 g16)
      = blkC (lhsOf (hbN.view.read (Elt F) f0) (hbX.view.read (Elt F) f1) (arg2.view.read (Elt F) g2) 0 1) (wG (hbW.view.read (Elt F) f3))
          (arg4.view.read (Elt F) g4) (arg5.view.read (Elt F) g5)
    ∧ k0_pay102 (kernelRun.sl.r_18 c arg2 harg2 arg4 harg4 arg5 harg5 arg6 harg6 arg7 harg7 f0 f1 f3 g2 g4 g5 g9 g10 g11 g13 g14 g15 g16) (kernelRun.sl.r_19 c arg2 harg2 arg4 harg4 arg5 harg5 arg6 harg6 arg7 harg7 f0 f1 f3 g2 g4 g5 g9 g10 g11 g13 g14 g15 g16)
      = blkE (lhsOf (hbN.view.read (Elt F) f0) (hbX.view.read (Elt F) f1) (arg2.view.read (Elt F) g2) 0 1) (wG (hbW.view.read (Elt F) f3))
          (arg4.view.read (Elt F) g4) (arg5.view.read (Elt F) g5) := by
  have h1 := t1_read c arg2 harg2 arg4 harg4 arg5 harg5 arg6 harg6 arg7 harg7 g2 f1 g9 g11
  have a0 := fun lhs pA pB hpA hpB (f : HbBuf (F := F) c lhs) n hn => raw_read scT0 lhs c pA pB hpA hpB _ f _ f0 0 0 rfl inb_S288x128_S64x128_0_0 n hn h1
  have a1 := fun lhs pA pB hpA hpB (f : HbBuf (F := F) c lhs) n hn => raw_read scT0 lhs c pA pB hpA hpB _ f _ f0 72 1 rfl inb_S288x128_S64x128_72_0 n hn h1
  have a2 := fun lhs pA pB hpA hpB (f : HbBuf (F := F) c lhs) n hn => raw_read scT0 lhs c pA pB hpA hpB _ f _ f0 144 2 rfl inb_S288x128_S64x128_144_0 n hn h1
  have a3 := fun lhs pA pB hpA hpB (f : HbBuf (F := F) c lhs) n hn => raw_read scT0 lhs c pA pB hpA hpB _ f _ f0 216 3 rfl inb_S288x128_S64x128_216_0 n hn h1
  have hw := wraw_read (F := F) c f3 g10
  apply blk_congr
  case hA => exact rfl
  case hE => exact rfl
  iterate 8
    · exact a0 _ _ _ _ _ _ _ rfl
    · exact a1 _ _ _ _ _ _ _ rfl
    · exact a2 _ _ _ _ _ _ _ rfl
    · exact a3 _ _ _ _ _ _ _ rfl
    · exact hw _

set_option maxHeartbeats 0 in
/-- Block 2 in closed form. -/
theorem block2_eq :
    k0_pay123 (kernelRun.sl.r_27 c arg2 harg2 arg4 harg4 arg5 harg5 arg6 harg6 arg7 harg7 f0 f1 f3 g2 g4 g5 g9 g10 g11 g12 g13 g14 g15 g16) (kernelRun.sl.r_28 c arg2 harg2 arg4 harg4 arg5 harg5 arg6 harg6 arg7 harg7 f0 f1 f3 g2 g4 g5 g9 g10 g11 g12 g13 g14 g15 g16) (kernelRun.sl.r_29 c arg2 harg2 arg4 harg4 arg5 harg5 arg6 harg6 arg7 harg7 f0 f1 f3 g2 g4 g5 g9 g10 g11 g12 g13 g14 g15 g16)
      = blkC (lhsOf (hbN.view.read (Elt F) f0) (hbX.view.read (Elt F) f1) (arg2.view.read (Elt F) g2) 1 0) (wG (hbW.view.read (Elt F) f3))
          (arg4.view.read (Elt F) g4) (arg5.view.read (Elt F) g5)
    ∧ k0_pay124 (kernelRun.sl.r_28 c arg2 harg2 arg4 harg4 arg5 harg5 arg6 harg6 arg7 harg7 f0 f1 f3 g2 g4 g5 g9 g10 g11 g12 g13 g14 g15 g16) (kernelRun.sl.r_29 c arg2 harg2 arg4 harg4 arg5 harg5 arg6 harg6 arg7 harg7 f0 f1 f3 g2 g4 g5 g9 g10 g11 g12 g13 g14 g15 g16)
      = blkE (lhsOf (hbN.view.read (Elt F) f0) (hbX.view.read (Elt F) f1) (arg2.view.read (Elt F) g2) 1 0) (wG (hbW.view.read (Elt F) f3))
          (arg4.view.read (Elt F) g4) (arg5.view.read (Elt F) g5) := by
  have h2 := t2_read c arg2 harg2 arg4 harg4 arg5 harg5 arg6 harg6 arg7 harg7 g2 f1 g9 g12
  have b0 := fun lhs pA pB hpA hpB (f : HbBuf (F := F) c lhs) n hn => raw_read scT1 lhs c pA pB hpA hpB _ f _ f0 0 0 rfl inb_S288x128_S64x128_0_0 n hn h2
  have b1 := fun lhs pA pB hpA hpB (f : HbBuf (F := F) c lhs) n hn => raw_read scT1 lhs c pA pB hpA hpB _ f _ f0 72 1 rfl inb_S288x128_S64x128_72_0 n hn h2
  have b2 := fun lhs pA pB hpA hpB (f : HbBuf (F := F) c lhs) n hn => raw_read scT1 lhs c pA pB hpA hpB _ f _ f0 144 2 rfl inb_S288x128_S64x128_144_0 n hn h2
  have b3 := fun lhs pA pB hpA hpB (f : HbBuf (F := F) c lhs) n hn => raw_read scT1 lhs c pA pB hpA hpB _ f _ f0 216 3 rfl inb_S288x128_S64x128_216_0 n hn h2
  have hw := wraw_read (F := F) c f3 g10
  apply blk_congr
  case hA => exact rfl
  case hE => exact rfl
  iterate 8
    · exact b0 _ _ _ _ _ _ _ rfl
    · exact b1 _ _ _ _ _ _ _ rfl
    · exact b2 _ _ _ _ _ _ _ rfl
    · exact b3 _ _ _ _ _ _ _ rfl
    · exact hw _

set_option maxHeartbeats 0 in
/-- Block 3 in closed form. -/
theorem block3_eq :
    k0_pay145 (kernelRun.sl.r_37 c arg2 harg2 arg4 harg4 arg5 harg5 arg6 harg6 arg7 harg7 f0 f1 f3 g2 g4 g5 g9 g10 g11 g12 g13 g14 g15 g16) (kernelRun.sl.r_38 c arg2 harg2 arg4 harg4 arg5 harg5 arg6 harg6 arg7 harg7 f0 f1 f3 g2 g4 g5 g9 g10 g11 g12 g13 g14 g15 g16) (kernelRun.sl.r_39 c arg2 harg2 arg4 harg4 arg5 harg5 arg6 harg6 arg7 harg7 f0 f1 f3 g2 g4 g5 g9 g10 g11 g12 g13 g14 g15 g16)
      = blkC (lhsOf (hbN.view.read (Elt F) f0) (hbX.view.read (Elt F) f1) (arg2.view.read (Elt F) g2) 1 1) (wG (hbW.view.read (Elt F) f3))
          (arg4.view.read (Elt F) g4) (arg5.view.read (Elt F) g5)
    ∧ kernelRun.sl.r_40 c arg2 harg2 arg4 harg4 arg5 harg5 arg6 harg6 arg7 harg7 f0 f1 f3 g2 g4 g5 g9 g10 g11 g12 g13 g14 g15 g16
      = blkE (lhsOf (hbN.view.read (Elt F) f0) (hbX.view.read (Elt F) f1) (arg2.view.read (Elt F) g2) 1 1) (wG (hbW.view.read (Elt F) f3))
          (arg4.view.read (Elt F) g4) (arg5.view.read (Elt F) g5) := by
  have h2 := t2_read c arg2 harg2 arg4 harg4 arg5 harg5 arg6 harg6 arg7 harg7 g2 f1 g9 g12
  have b0 := fun lhs pA pB hpA hpB (f : HbBuf (F := F) c lhs) n hn => raw_read scT1 lhs c pA pB hpA hpB _ f _ f0 0 0 rfl inb_S288x128_S64x128_0_0 n hn h2
  have b1 := fun lhs pA pB hpA hpB (f : HbBuf (F := F) c lhs) n hn => raw_read scT1 lhs c pA pB hpA hpB _ f _ f0 72 1 rfl inb_S288x128_S64x128_72_0 n hn h2
  have b2 := fun lhs pA pB hpA hpB (f : HbBuf (F := F) c lhs) n hn => raw_read scT1 lhs c pA pB hpA hpB _ f _ f0 144 2 rfl inb_S288x128_S64x128_144_0 n hn h2
  have b3 := fun lhs pA pB hpA hpB (f : HbBuf (F := F) c lhs) n hn => raw_read scT1 lhs c pA pB hpA hpB _ f _ f0 216 3 rfl inb_S288x128_S64x128_216_0 n hn h2
  have hw := wraw_read (F := F) c f3 g10
  apply blk_congr
  case hA => exact rfl
  case hE => exact rfl
  iterate 8
    · exact b0 _ _ _ _ _ _ _ rfl
    · exact b1 _ _ _ _ _ _ _ rfl
    · exact b2 _ _ _ _ _ _ _ rfl
    · exact b3 _ _ _ _ _ _ _ rfl
    · exact hw _

set_option maxHeartbeats 0 in
/-- What the body writes: the pieces of the codes and of the scales, functions of the operands alone. -/
theorem run_eq : (kernelRun c arg2 harg2 arg4 harg4 arg5 harg5 arg6 harg6 arg7 harg7 f0 f1 f3 g2 g4 g5 g9 g10 g11 g12 g13 g14 g15 g16 hI).1
      = (codeL (hbN.view.read (Elt F) f0) (hbX.view.read (Elt F) f1) (arg2.view.read (Elt F) g2) (hbW.view.read (Elt F) f3)
          (arg4.view.read (Elt F) g4) (arg5.view.read (Elt F) g5),
         scaleL (hbN.view.read (Elt F) f0) (hbX.view.read (Elt F) f1) (arg2.view.read (Elt F) g2) (hbW.view.read (Elt F) f3)
          (arg4.view.read (Elt F) g4) (arg5.view.read (Elt F) g5)) := by
  have e0 := block0_eq c arg2 harg2 arg4 harg4 arg5 harg5 arg6 harg6 arg7 harg7 f0 f1 f3 g2 g4 g5 g9 g10 g11 g13 g14 g15 g16
  have e1 := block1_eq c arg2 harg2 arg4 harg4 arg5 harg5 arg6 harg6 arg7 harg7 f0 f1 f3 g2 g4 g5 g9 g10 g11 g13 g14 g15 g16
  have e2 := block2_eq c arg2 harg2 arg4 harg4 arg5 harg5 arg6 harg6 arg7 harg7 f0 f1 f3 g2 g4 g5 g9 g10 g11 g12 g13 g14 g15 g16
  have e3 := block3_eq c arg2 harg2 arg4 harg4 arg5 harg5 arg6 harg6 arg7 harg7 f0 f1 f3 g2 g4 g5 g9 g10 g11 g12 g13 g14 g15 g16
  unfold codeL scaleL
  rw [← e0.1, ← e1.1, ← e2.1, ← e3.1, ← e0.2, ← e1.2, ← e2.2, ← e3.2]
  delta kernelRun
  rfl

end Run
end Cert.Kernel.Hand
-- ==== Proof.BFrame.lean ====
module

public import proofs.«01_k».proof.Proof.BClosed
public import proofs.«01_k».proof.Proof.Gen.Kernel.Frame
public import Idealize.ShloMosaic.Lib.Pipeline.FrameBody
public import Idealize.ShloMosaic.Lib.Ring

/-! The frame run: under in-range indices every execution ends, nothing faults, the arguments end unchanged, every
semaphore is at zero and the two results hold the pieces of the body's closed form. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The operands -/

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The eleven cells of the body's own copies. -/
abbrev osem0 : Fin 11 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15] : Fin 11 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) := by
  rw [Pipeline.ownSems0_eq_of_list c osem0 [0, 1, 2, 3, 4, 5, 6, 7, 8, 9, 10] (by decide) (by decide)]; rfl

/-- The operands left in HBM, which the body's copies read. -/
def H0 : Finset (Ref sig .tc) := {main_v0, main_arg0, main_arg3}
theorem H0_sub : H0 ⊆ Pipeline.restRefs sig spec0 := by decide
theorem hbmPts0_eq (c : Dev nD) :
    (bigSep H0 (fun b => ((c : Thread nD τ).loc b) ↦{fullShare} V m c b) : sProp 𝕄)
      = iprop(hbPt c hbN (V m c main_v0) ∗ hbPt c hbX (V m c main_arg0) ∗ hbPt c hbW (V m c main_arg3)) := by
  rw [BI.bigSep_eq_bigSepL_of_eq [main_v0, main_arg0, main_arg3] (by decide) (by decide)]; rfl

theorem PhiD0_eq (c : Dev nD) :
    (Pipeline.ΦD osem0 spec0 H0 (V m) c : sProp 𝕄)
      = iprop(iprop((∃ f, hbPt c scX f) ∗ (∃ f, hbPt c scW f) ∗ (∃ d, owns (c : Thread nD τ) scT0 fullShare d) ∗ (∃ d, owns (c : Thread nD τ) scT1 fullShare d) ∗ (∃ d, owns (c : Thread nD τ) scL0 fullShare d) ∗ (∃ d, owns (c : Thread nD τ) scL1 fullShare d) ∗ (∃ d, owns (c : Thread nD τ) scL2 fullShare d) ∗ (∃ d, owns (c : Thread nD τ) scL3 fullShare d) ∗ (∃ d, owns (c : Thread nD τ) scIdx fullShare d))
          ∗ (∃ r, prngReg c r)
          ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0)
          ∗ iprop(hbPt c hbN (V m c main_v0) ∗ hbPt c hbX (V m c main_arg0) ∗ hbPt c hbW (V m c main_arg3))) := by
  rw [Pipeline.ΦD_eq, scopedRest0_eq, ownSems00_eq, hbmPts0_eq]
  simp only [scT0, scT1, scL0, scL1, scL2, scL3, scIdx, owns_whole]; try rfl

/-! ## What the results hold -/

section Cover
variable (N : S2x8x256.Idx → BitVec 32) (X : S2x1024x512.Idx → F .fp8e4m3) (sx : S2x1024.Idx → F .f32) (W : S8x512x640.Idx → F .fp8e4m3) (sw bi : S640.Idx → F .f32)
theorem cover_codes (y : S2x256x640.Idx) : ∃ pc ∈ codeL N X sx W sw bi, y ∈ pc.1.set :=
  View.cover_of_tiledL (codeL N X sx W sw bi) S1x128x640.size (by sl_kernel_rfl) y
theorem cover_scales (y : S2x256.Idx) : ∃ pc ∈ scaleL N X sx W sw bi, y ∈ pc.1.set :=
  View.cover_of_tiledL (scaleL N X sx W sw bi) S1x128.size (by sl_kernel_rfl) y

abbrev VO3 : View sig .tc .vmem S2x256x640 .fp8e4m3 := (win0_3.stage 0).view
abbrev VO4 : View sig .tc .vmem S2x256 .f32 := (win0_4.stage 0).view
/-- The two results, from what the operands hold. -/
def codesOf : S2x256x640.Idx → F .fp8e4m3 := VO3.read (Elt F) (VO3.writes (Elt F) VO3.junk (codeL N X sx W sw bi))
def scalesOf : S2x256.Idx → F .f32 := VO4.read (Elt F) (VO4.writes (Elt F) VO4.junk (scaleL N X sx W sw bi))
end Cover

def outC (c : Dev nD) (t : Fin cfg0.N) : S2x256x640.Idx → F .fp8e4m3 :=
  codesOf (hbN.view.read (Elt F) (V m c main_v0)) (hbX.view.read (Elt F) (V m c main_arg0)) (iblk m c 0 t) (hbW.view.read (Elt F) (V m c main_arg3)) (iblk m c 1 t) (iblk m c 2 t)
def outE (c : Dev nD) (t : Fin cfg0.N) : S2x256.Idx → F .f32 :=
  scalesOf (hbN.view.read (Elt F) (V m c main_v0)) (hbX.view.read (Elt F) (V m c main_arg0)) (iblk m c 0 t) (hbW.view.read (Elt F) (V m c main_arg3)) (iblk m c 1 t) (iblk m c 2 t)

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outC m c t
    | ⟨4, _⟩ => outE m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outC m c t := by dsimp only [dats]
theorem after0_4 (c : Dev nD) (t : Fin cfg0.N) : (dats m 0 c).after 4 t = outE m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t))

variable (hN : ∀ c : Dev nD, IdxOK c (idxBuf (F := F) c (V m c main_v0)))
include hN

set_option maxHeartbeats 0 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after0_0 m c), before0_1_of m (dats m 0 c) (A_eq m c 1) (after0_1 m c), before0_2_of m (dats m 0 c) (A_eq m c 2) (after0_2 m c)]
  rw [show (dats m 0 c).Φ t.succ = (dats m 0 c).Φ t.castSucc from rfl, after0_0, after0_1, after0_2, after0_3, after0_4]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outC outE codesOf scalesOf
  unfold owns
  iintro ⟨⟨⟨⟨%g9, H9⟩, ⟨%g10, H10⟩, ⟨%d11, %g11, -, H11⟩, ⟨%d12, %g12, -, H12⟩, ⟨%d13, %g13, -, H13⟩, ⟨%d14, %g14, -, H14⟩, ⟨%d15, %g15, -, H15⟩, ⟨%d16, %g16, -, H16⟩, ⟨%d8, %g8, -, H8⟩⟩, Hg,
    ⟨Hq0, Hq1, Hq2, Hq3, Hq4, Hq5, Hq6, Hq7, Hq8, Hq9, Hq10⟩, ⟨Hh0, Hh1, Hh3⟩⟩, ⟨%W, -, HW⟩, ⟨%d2, %g2, %e2, H2⟩, ⟨%d4, %g4, %e4, H4⟩, ⟨%d5, %g5, %e5, H5⟩, ⟨%d6, %g6, -, H6⟩, ⟨%d7, %g7, -, H7⟩⟩
  rw [← e2, ← e4, ← e5]
  have hr := run_eq c (st0_0 t) (hstage0_0 0) (st0_1 t) (hstage0_1 0) (st0_2 t) (hstage0_2 0) (st0_3 t) (hstage0_3 0) (st0_4 t) (hstage0_4 0)
    (V m c main_v0) (V m c main_arg0) (V m c main_arg3) g2 g4 g5 g9 g10 g11 g12 g13 g14 g15 g16 (hN c)
  iapply ((kernelRun c (st0_0 t) (hstage0_0 0) (st0_1 t) (hstage0_1 0) (st0_2 t) (hstage0_2 0) (st0_3 t) (hstage0_3 0) (st0_4 t) (hstage0_4 0)
    (V m c main_v0) (V m c main_arg0) (V m c main_arg3) g2 g4 g5 g9 g10 g11 g12 g13 g14 g15 g16 (hN c)).2 W g6 g7 g8 _)
  rw [hr]
  isplitl [Hh0]; · iexact Hh0
  isplitl [Hh1]; · iexact Hh1
  isplitl [H2]; · iexact H2
  isplitl [Hh3]; · iexact Hh3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [HW]; · iexact HW
  iintro ⟨Hh0, Hh1, H2, Hh3, H4, H5, H6, H7, H8, H9, H10, H11, H12, H13, H14, H15, H16, Hq0, Hq1, Hq2, Hq3, Hq4, Hq5, Hq6, Hq7, Hq8, Hq9, Hq10, ⟨%W', HW'⟩⟩
  isplitl [H8 H9 H10 H11 H12 H13 H14 H15 H16 Hg Hq0 Hq1 Hq2 Hq3 Hq4 Hq5 Hq6 Hq7 Hq8 Hq9 Hq10 Hh0 Hh1 Hh3]
  · isplitl [H8 H9 H10 H11 H12 H13 H14 H15 H16]
    · isplitl [H9]; · iexact H9
      isplitl [H10]; · iexact H10
      isplitl [H11]
      · icases H11 with ⟨%f, H⟩; iexists _, f; isplitr; swap; · iexact H
        ipureintro; rfl
      isplitl [H12]
      · icases H12 with ⟨%f, H⟩; iexists _, f; isplitr; swap; · iexact H
        ipureintro; rfl
      isplitl [H13]
      · icases H13 with ⟨%f, H⟩; iexists _, f; isplitr; swap; · iexact H
        ipureintro; rfl
      isplitl [H14]
      · icases H14 with ⟨%f, H⟩; iexists _, f; isplitr; swap; · iexact H
        ipureintro; rfl
      isplitl [H15]
      · icases H15 with ⟨%f, H⟩; iexists _, f; isplitr; swap; · iexact H
        ipureintro; rfl
      isplitl [H16]
      · icases H16 with ⟨%f, H⟩; iexists _, f; isplitr; swap; · iexact H
        ipureintro; rfl
      icases H8 with ⟨%f, H⟩; iexists _, f; isplitr; swap; · iexact H
      ipureintro; rfl
    isplitl [Hg]; · iexact Hg
    isplitl [Hq0 Hq1 Hq2 Hq3 Hq4 Hq5 Hq6 Hq7 Hq8 Hq9 Hq10]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      iexact Hq10
    isplitl [Hh0]; · iexact Hh0
    isplitl [Hh1]; · iexact Hh1
    iexact Hh3
  isplitl [HW']
  · iexists W'; isplitr; · ipureintro; exact fun _ _ => Or.inl trivial
    iexact HW'
  isplitl [H2]
  · iexists _; isplitr; swap; · iexact H2
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; exact View.read_writes_of_cover _ _ _ _ _ (cover_codes _ _ _ _ _ _)
  iexists _; isplitr; swap; · iexact H7
  ipureintro; exact View.read_writes_of_cover _ _ _ _ _ (cover_scales _ _ _ _ _ _)

omit hN in
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m hN c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hN c).loose) (hshare := fun c => (dats m 0 c).share_full fun _ => rfl)
    (howed := fun _ _ => rfl) (V := V m) (hmain := hmainD m Variants.none) (hA := A_eq m)
    (hin := fun _ => .rfl) (hout := fun _ => .rfl)

omit hN in
/-- The arguments read off the frame run's post. -/
theorem args_of {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).1 0).trans (((dats m 0 c).arrAt_in 0 rfl _).trans ((A_eq m c 0).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 1).trans (((dats m 0 c).arrAt_in 1 rfl _).trans ((A_eq m c 1).trans (V_main_arg4 m c))),
    ((h c).1 2).trans (((dats m 0 c).arrAt_in 2 rfl _).trans ((A_eq m c 2).trans (V_main_arg5 m c)))⟩

/-- The frame. -/
theorem frameRun : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_of m h.1 c, h.2⟩) (run_main m ρ hN)

end Cert.Kernel.Hand
end
-- ==== Proof.BIdx.lean ====
module

public import proofs.«01_k».proof.Proof.BFrame
public import proofs.«01_k».proof.Pre_in_range

/-! The precondition at the index buffer: a neighbour in range names a row of the table. -/

@[expose] public section

noncomputable section

namespace Cert.Kernel.Hand

open Cert.Kernel Cert.Kernel.Gen
open Idealize.ShloMosaic Idealize.ShloMosaic.TcCoe Idealize.ShloMosaic.Tactic

variable {F : FTy → Type} [BitOps F]
variable (m : (ℓ : Loc nD τ sig) → Buf (Elt F) ℓ)

/-- The index array the region finds: the neighbours transposed. -/
theorem V_main_v0 (c : Dev nD) : V m c main_v0 = transpose S2x8x256 [0, 2, 1] (m ((c : Thread nD τ).loc main_arg2)) transposes_S2x256x8_S2x8x256_0_2_1 :=
  rfl

/-- A word between −1 and 1023: −1, or a number below 1024. -/
theorem word_range (v : BitVec 32) (h : IntOp.andi (IntOp.cmpi .sge v 4294967295#32) (IntOp.cmpi .slt v 1024#32) = 1#1) :
    v = 4294967295#32 ∨ v.toNat < 1024 := by
  have h' : BitVec.ofBool ((4294967295#32).sle v) &&& BitVec.ofBool (v.slt 1024#32) = 1#1 := h
  have h1 : (4294967295#32).sle v = true ∧ v.slt 1024#32 = true := by
    cases ha : (4294967295#32).sle v <;> cases hb : v.slt 1024#32 <;> rw [ha, hb] at h' <;> first | exact ⟨rfl, rfl⟩ | exact absurd h' (by decide)
  rw [BitVec.sle_iff_toInt_le, BitVec.slt_iff_toInt_lt] at h1
  have e1 : (4294967295#32).toInt = -1 := by decide
  have e2 : (1024#32).toInt = 1024 := by decide
  rw [e1, e2, BitVec.toInt_eq_toNat_cond] at h1
  have hl := v.isLt
  by_cases hc : 2 * v.toNat < 2 ^ 32
  · right; rw [if_pos hc] at h1; omega
  · left; rw [if_neg hc] at h1
    apply BitVec.eq_of_toNat_eq
    show v.toNat = 4294967295
    omega

/-- The first of a neighbour's four rows. -/
theorem off14_eq (v : BitVec 32) (h : v = 4294967295#32 ∨ v.toNat < 1024) :
    k0_off14 v 0 = (if v = 4294967295#32 then 4 else 4 * v.toNat + 8) ∧ k0_off14 v 1 = 0 := by
  rcases h with rfl | h
  · decide
  · have hne : v ≠ 4294967295#32 := fun e => by rw [e] at h; exact absurd h (by decide)
    rw [if_neg hne]
    refine ⟨?_, rfl⟩
    show (v * 4#32 + 8#32).toNat = _
    rw [BitVec.toNat_add, BitVec.toNat_mul]
    show (v.toNat * 4 % 2 ^ 32 + 8) % 2 ^ 32 = _
    omega

/-- Such a word names four rows of the table. -/
theorem chk_of_range (v : BitVec 32) (h : v = 4294967295#32 ∨ v.toNat < 1024) : k0_chk1 v := by
  have e := off14_eq v h
  intro a
  match a with
  | ⟨0, _⟩ =>
    show k0_off14 v 0 + 4 ≤ 4104
    rw [e.1]; split
    · omega
    · have := h.resolve_left ‹_›; omega
  | ⟨1, _⟩ =>
    show k0_off14 v 1 + 128 ≤ 128
    rw [e.2]

/-- The precondition at one neighbour. -/
theorem range_of_pre [hP : Cert.Pre_in_range.Facts] (a0 a1) (a2 : IVec S2x256x8 32) (a3 a4 a5)
    (h : Cert.Pre_in_range.fn (F := F) a0 a1 a2 a3 a4 a5 = fun _ => 1#1) (i : S2x256x8.Idx) : a2 i = 4294967295#32 ∨ (a2 i).toNat < 1024 :=
  word_range _ (congrFun h i)

/-- Every word of the index buffer names rows of the table, once every word of the array does. -/
theorem idxOK_of_all (c : Dev nD) (f0 : HbBuf (F := F) c hbN)
    (h : ∀ y, (hbN.view.read (Elt F) f0 y : BitVec 32) = 4294967295#32 ∨ (hbN.view.read (Elt F) f0 y : BitVec 32).toNat < 1024) : IdxOK c (idxBuf c f0) := by
  intro o ho
  refine chk_of_range _ ?_
  have e := congrFun (idx_read c f0) ((Rect.unit (s := S2x8x256) o S1x1x1.size ho).toLoadRect.idx (Shape.Idx.first (numel1_S1x1x1.symm ▸ Nat.one_pos)))
  have e' : idxW c (idxBuf c f0) o ho = hbN.view.read (Elt F) f0 ((Rect.unit (s := S2x8x256) o S1x1x1.size ho).toLoadRect.idx (Shape.Idx.first (numel1_S1x1x1.symm ▸ Nat.one_pos))) := e
  rw [e']
  exact h _

/-- The precondition gives it of the array the region finds. -/
theorem idxOK_of_pre [hP : Cert.Pre_in_range.Facts] (c : Dev nD) (a0 a1 a3 a4 a5)
    (h : Cert.Pre_in_range.fn (F := F) a0 a1 (m ((c : Thread nD τ).loc main_arg2)) a3 a4 a5 = fun _ => 1#1) : IdxOK c (idxBuf (F := F) c (V m c main_v0)) := by
  apply idxOK_of_all
  intro y
  rw [V_main_v0]
  exact range_of_pre a0 a1 _ a3 a4 a5 h (fun a => _)

end Cert.Kernel.Hand
end
-- ==== Proof.Claims.lean ====
module

public import proofs.«01_k».proof.Defs
public import proofs.«01_k».proof.Proof.KIdx
public import proofs.«01_k».proof.Proof.BIdx
public import proofs.«01_k».proof.Proof.Gen.Pre_in_range
public import proofs.«01_k».proof.Proof.Gen.ReferenceIdeal.Frame
public import Idealize.ShloMosaic.Lib.Bf16Pair
public import Idealize.ShloMosaic.Lib.Bf16PairInverse

/-! The frames of the three programs and the statement that the ideal program is the kernel's. -/

@[expose] public section

noncomputable section

namespace Cert.Proof

open Idealize.ShloMosaic

/-- The kernel on bits: in-range neighbours, it ends, its arguments unchanged and every semaphore at zero. -/
theorem frame_kernel : Cert.quiescent_Kernel (hKernel := Cert.Kernel.Gen.facts) (hPre_in_range := Cert.Pre_in_range.Gen.facts) :=
  letI := Cert.Kernel.Gen.facts
  letI := Cert.Pre_in_range.Gen.facts
  fun m g hp => Cert.Kernel.Hand.frameRun m g fun c => Cert.Kernel.Hand.idxOK_of_pre m c _ _ _ _ _ (hp c)

/-- The same of the kernel over the extended reals. -/
theorem frame_kernelIdeal : Cert.quiescent_KernelIdeal (hKernelIdeal := Cert.KernelIdeal.Gen.facts) (hPre_in_range := Cert.Pre_in_range.Gen.facts) :=
  letI := Cert.KernelIdeal.Gen.facts
  letI := Cert.Pre_in_range.Gen.facts
  fun m g hp => Cert.KernelIdeal.Hand.frameRun m g fun c => Cert.KernelIdeal.Hand.idxOK_of_pre m c _ _ _ _ _ (hp c)

/-- The reference runs from every memory. -/
theorem frame_reference : Cert.quiescent_ReferenceIdeal (hReferenceIdeal := Cert.ReferenceIdeal.Gen.facts) :=
  fun m g _ => Cert.ReferenceIdeal.Gen.frame m g

/-- Each rewrite of the ideal pass is sound: the words of bf16 pairs and their rows. -/
theorem preserves : Cert.preserves_Kernel_KernelIdeal :=
  ⟨IdealRules.bf16_pair.bufferStatement _ _, IdealRules.bf16_pair.packStatement _, IdealRules.bf16_pair.statement _ _,
    IdealRules.bf16_pair.statement _ _, IdealRules.bf16_pair.statement _ _⟩

end Cert.Proof

end
-- ==== Proof.Spec.lean ====
module

public import Idealize.ShloMosaic.Lib.Pointwise

/-! What the layer computes, element by element, over plain functions into the extended reals: both programs are
    shown to end at these values. -/

@[expose] public section

noncomputable section

namespace Cert.Layer

open Idealize.ShloMosaic

/-- The channels of the token a neighbour word names, dequantised; zero when the word names none. -/
def tok (X : Fin 2 → Fin 1024 → Fin 512 → EReal) (sx : Fin 2 → Fin 1024 → EReal) (b : Fin 2) (v : BitVec 32) (j : Fin 512) : EReal :=
  if h : v.toNat < 1024 then X b ⟨v.toNat, h⟩ j * sx b ⟨v.toNat, h⟩ else 0

/-- One output channel of one window before it is quantised. -/
def yS (X : Fin 2 → Fin 1024 → Fin 512 → EReal) (sx : Fin 2 → Fin 1024 → EReal) (N : Fin 2 → Fin 256 → Fin 8 → BitVec 32)
    (W : Fin 8 → Fin 512 → Fin 640 → EReal) (sw bi : Fin 640 → EReal) (b : Fin 2) (t : Fin 256) (n : Fin 640) : EReal :=
  max ((∑ k : Fin 8, ∑ x : Fin 512, tok X sx b (N b t k) x * W k x n) * sw n + bi n) 0

/-- The reciprocal of the largest code, as the programs hold it. -/
def rcp448 : EReal := Ideal.ofBits .f32 0x3B124925#32

/-- The largest channel of a window. -/
def top (y : Fin 640 → EReal) : EReal := Finset.univ.fold max ⊥ y

/-- How many of the powers `2^(e-127)`, `e = 1 … 252`, are no larger than `s`. -/
def steps (s : EReal) : ℕ := (Finset.univ.filter fun e : Fin 252 => (((2 : ℝ) ^ ((e.val : ℤ) - 126) : ℝ) : EReal) ≤ s).card

/-- The exponent a window is quantised with: the least from -126 up that keeps its largest channel below the largest
    code, at most 126; and 0 for a window of zeros. -/
def expo (a : EReal) : ℤ := if a = 0 then 0 else (steps (a * rcp448) : ℤ) - 126

/-- The scale a window is stored with. -/
def scale (y : Fin 640 → EReal) : EReal := (((2 : ℝ) ^ expo (top y) : ℝ) : EReal)

/-- The code a channel is stored as. -/
def code (y : Fin 640 → EReal) (n : Fin 640) : EReal := min (y n * (((2 : ℝ) ^ (-expo (top y)) : ℝ) : EReal)) (Ideal.ofBits .f32 0x43E00000#32)

theorem yS_nonneg (X : Fin 2 → Fin 1024 → Fin 512 → EReal) (sx : Fin 2 → Fin 1024 → EReal) (N : Fin 2 → Fin 256 → Fin 8 → BitVec 32)
    (W : Fin 8 → Fin 512 → Fin 640 → EReal) (sw bi : Fin 640 → EReal) (b : Fin 2) (t : Fin 256) (n : Fin 640) : 0 ≤ yS X sx N W sw bi b t n :=
  le_max_right _ _

end Cert.Layer
-- ==== Proof.Quant.lean ====
module

public import proofs.«01_k».proof.Proof.Spec
public import Idealize.ShloMosaic.Lib.IndicatorCount

/-! The exponent arithmetic of the two programs: the kernel counts the powers of two below the scaled maximum and
    builds the power from its exponent field; the reference takes the least exponent that is large enough. -/

@[expose] public section

set_option maxRecDepth 16384

noncomputable section

namespace Cert.Layer

open Idealize.ShloMosaic

/-- The power of two whose exponent field is `e`. -/
def pw (e : ℤ) : EReal := (((2 : ℝ) ^ e : ℝ) : EReal)

theorem pw_le {a b : ℤ} (h : a ≤ b) : pw a ≤ pw b :=
  EReal.coe_le_coe_iff.mpr (zpow_le_zpow_right₀ (by norm_num) h)

theorem pw_nonneg (a : ℤ) : 0 ≤ pw a :=
  EReal.coe_nonneg.mpr (by positivity)

/-- The fields of a word that holds `e` in its exponent bits. -/
theorem fields : ∀ e : Fin 256,
    ((BitVec.ofNat 32 e.val <<< (23 : ℕ)).extractLsb' 31 1 = 0#1) ∧ ((BitVec.ofNat 32 e.val <<< (23 : ℕ)).extractLsb' 23 8).toNat = e.val
      ∧ ((BitVec.ofNat 32 e.val <<< (23 : ℕ)).extractLsb' 0 23).toNat = 0 := by
  decide

/-- A word that holds `e` in its exponent bits denotes `2^(e-127)`. -/
theorem ofBits_field (e : ℕ) (h1 : 1 ≤ e) (h2 : e ≤ 254) :
    Ideal.ofBits .f32 (IntOp.shli .vector (BitVec.ofNat 32 e) 23#32) = pw ((e : ℤ) - 127) := by
  obtain ⟨a, b, c⟩ := fields ⟨e, by omega⟩
  have hs : IntOp.shli .vector (BitVec.ofNat 32 e) 23#32 = BitVec.ofNat 32 e <<< (23 : ℕ) := by
    unfold IntOp.shli; simp
  rw [hs]
  simp only at a b c
  unfold Ideal.ofBits Ideal.ieee pw
  simp only [show 8 + 23 = 31 from rfl, a, b, c]
  rw [if_neg (by norm_num; omega), if_neg (by omega)]
  refine congrArg Real.toEReal ?_
  rw [show ((e : ℤ) - (2 ^ (8 - 1) - 1) - (23 : ℕ)) = ((e : ℤ) - 127) - 23 by norm_num, zpow_sub₀ (by norm_num) _ 23]
  simp only [show ((0#1 : BitVec 1) == 1#1) = false from rfl]
  norm_num
  ring

theorem rcp448_pos : 0 < rcp448 := by
  have h : rcp448 = (((8388608 + 1198373 : ℕ) * (2 : ℝ) ^ ((118 : ℤ) - 127 - 23) : ℝ) : EReal) := by
    unfold rcp448 Ideal.ofBits Ideal.ieee
    simp only [show (BitVec.extractLsb' (8 + 23) 1 0x3B124925#32) = 0#1 by decide, show (BitVec.extractLsb' 23 8 0x3B124925#32).toNat = 118 by decide,
      show (BitVec.extractLsb' 0 23 0x3B124925#32).toNat = 1198373 by decide]
    rw [if_neg (by norm_num), if_neg (by norm_num)]
    refine congrArg Real.toEReal ?_
    simp only [show ((0#1 : BitVec 1) == 1#1) = false from rfl]
    norm_num
  rw [h]
  exact EReal.coe_pos.mpr (by positivity)

theorem steps_le (s : EReal) : steps s ≤ 252 := by
  unfold steps
  exact (Finset.card_le_univ _).trans (by simp)

/-- The powers no larger than `s` are the first `steps s`. -/
theorem pw_le_iff (s : EReal) (j : ℕ) (hj : j < 252) : pw ((j : ℤ) - 126) ≤ s ↔ j < steps s := by
  classical
  have hex : ∃ K : ℕ, K ≤ 252 ∧ ∀ i : ℕ, i < 252 → (pw ((i : ℤ) - 126) ≤ s ↔ i < K) := by
    by_cases hall : ∀ i : ℕ, i < 252 → pw ((i : ℤ) - 126) ≤ s
    · exact ⟨252, le_refl _, fun i hi => ⟨fun _ => hi, fun _ => hall i hi⟩⟩
    · push Not at hall
      obtain ⟨i0, h0, h0s⟩ := hall
      have hx : ∃ i : ℕ, i < 252 ∧ s < pw ((i : ℤ) - 126) := ⟨i0, h0, h0s⟩
      refine ⟨Nat.find hx, (Nat.find_spec hx).1.le, fun i hi => ⟨fun h => ?_, fun h => ?_⟩⟩
      · by_contra hn
        exact absurd ((pw_le (by omega : ((Nat.find hx : ℕ) : ℤ) - 126 ≤ (i : ℤ) - 126)).trans h) (not_le.mpr (Nat.find_spec hx).2)
      · by_contra hn
        exact Nat.find_min hx h ⟨hi, not_le.mp hn⟩
  obtain ⟨K, hK, hKi⟩ := hex
  have : steps s = K := by
    unfold steps
    rw [← Nat.card_Iio K, ← Finset.card_map Fin.valEmbedding]
    congr 1
    ext i
    simp only [Finset.mem_map, Finset.mem_filter, Finset.mem_univ, true_and, Finset.mem_Iio, Fin.valEmbedding_apply]
    constructor
    · rintro ⟨a, ha, rfl⟩
      exact (hKi a.val a.isLt).mp ha
    · intro hi
      exact ⟨⟨i, by omega⟩, (hKi i (by omega)).mpr hi, rfl⟩
  rw [this]
  exact hKi j hj

/-- The kernel's count of the exponent fields whose power is no larger than `s`. -/
theorem count_eq (s : EReal) :
    (Finset.fold IntOp.addi (0#32) (fun x : Fin 256 => BitVec.setWidth 32 (IntOp.andi (IntOp.andi (IntOp.cmpi .sgt (BitVec.ofNat 32 x.val) 0#32)
        (IntOp.cmpi .sle (BitVec.ofNat 32 x.val) 252#32)) (BitVec.ofBool (decide (Ideal.ofBits FTy.f32 (IntOp.shli ArithUnit.vector (BitVec.ofNat 32 x.val) 23#32) ≤ s))))) Finset.univ)
      = BitVec.ofNat 32 (steps s) := by
  classical
  rw [IndicatorCount.fold_addi_setWidth_eq_card]
  congr 1
  have hr : ∀ x : Fin 256, IntOp.andi (IntOp.cmpi .sgt (BitVec.ofNat 32 x.val) 0#32) (IntOp.cmpi .sle (BitVec.ofNat 32 x.val) 252#32)
      = BitVec.ofBool (decide (1 ≤ x.val ∧ x.val ≤ 252)) := by decide
  have hp : ∀ x : Fin 256, IntOp.andi (IntOp.andi (IntOp.cmpi .sgt (BitVec.ofNat 32 x.val) 0#32) (IntOp.cmpi .sle (BitVec.ofNat 32 x.val) 252#32))
      (BitVec.ofBool (decide (Ideal.ofBits FTy.f32 (IntOp.shli ArithUnit.vector (BitVec.ofNat 32 x.val) 23#32) ≤ s))) = 1#1
        ↔ 1 ≤ x.val ∧ x.val - 1 < steps s := by
    intro x
    rw [hr x]
    by_cases hx : 1 ≤ x.val ∧ x.val ≤ 252
    · rw [ofBits_field x.val hx.1 (by omega), ← pw_le_iff s (x.val - 1) (by omega), show ((x.val - 1 : ℕ) : ℤ) - 126 = (x.val : ℤ) - 127 by omega]
      by_cases hy : pw ((x.val : ℤ) - 127) ≤ s <;> simp [hx, hy, IntOp.andi]
    · have := steps_le s
      rw [show decide (1 ≤ x.val ∧ x.val ≤ 252) = false by simpa using hx]
      constructor
      · intro h
        exfalso
        revert h
        generalize decide (Ideal.ofBits FTy.f32 (IntOp.shli ArithUnit.vector (BitVec.ofNat 32 x.val) 23#32) ≤ s) = q
        cases q <;> decide
      · rintro ⟨h1, h2⟩
        omega
  rw [← Finset.card_map Fin.valEmbedding, show (steps s : ℕ) = (Finset.Ico 1 (steps s + 1)).card by simp]
  congr 1
  ext i
  have := steps_le s
  simp only [Finset.mem_map, Finset.mem_filter, Finset.mem_univ, true_and, Finset.mem_Ico, Fin.valEmbedding_apply]
  constructor
  · rintro ⟨a, ha, rfl⟩
    have := (hp a).mp ha
    omega
  · rintro hi
    exact ⟨⟨i, by omega⟩, (hp ⟨i, by omega⟩).mpr ⟨hi.1, by simp only; omega⟩, rfl⟩

/-- The kernel's test for a window of zeros. -/
theorem scaled_eq_zero (a : EReal) : a * rcp448 = 0 ↔ a = 0 := by
  rw [mul_eq_zero]
  exact or_iff_left rcp448_pos.ne'

theorem word_up : ∀ k : Fin 253, IntOp.addi (IntOp.subi (BitVec.ofNat 32 k.val) 126#32) 127#32 = BitVec.ofNat 32 (k.val + 1) := by
  decide

theorem word_down : ∀ k : Fin 253, IntOp.addi (IntOp.subi 0#32 (IntOp.subi (BitVec.ofNat 32 k.val) 126#32)) 127#32 = BitVec.ofNat 32 (253 - k.val) := by
  decide

theorem zero_up (w : BitVec 32) : IntOp.addi (Scalar.select (BitVec.ofBool true) 0#32 w) 127#32 = BitVec.ofNat 32 127 := by
  rw [show Scalar.select (BitVec.ofBool true) 0#32 w = 0#32 from rfl]; decide

theorem zero_down (w : BitVec 32) : IntOp.addi (IntOp.subi 0#32 (Scalar.select (BitVec.ofBool true) 0#32 w)) 127#32 = BitVec.ofNat 32 127 := by
  rw [show Scalar.select (BitVec.ofBool true) 0#32 w = 0#32 from rfl]; decide

theorem sel_false (a w : BitVec 32) : Scalar.select (BitVec.ofBool false) a w = w := rfl

/-- The kernel's stored scale is the layer's. -/
theorem scale_word (a : EReal) :
    Ideal.ofBits .f32 (IntOp.shli .vector (IntOp.addi (Scalar.select (BitVec.ofBool (decide (a * rcp448 = 0))) 0#32
      (IntOp.subi (BitVec.ofNat 32 (steps (a * rcp448))) 126#32)) 127#32) 23#32) = pw (expo a) := by
  unfold expo
  by_cases h : a = 0
  · rw [show decide (a * rcp448 = 0) = true by simpa using (scaled_eq_zero a).mpr h, if_pos h]
    refine (congrArg (fun w => Ideal.ofBits .f32 (IntOp.shli .vector w 23#32)) (zero_up _)).trans (ofBits_field 127 (by norm_num) (by norm_num))
  · rw [show decide (a * rcp448 = 0) = false by simpa using (scaled_eq_zero a).not.mpr h, if_neg h, sel_false]
    have hs := steps_le (a * rcp448)
    refine (congrArg (fun w => Ideal.ofBits .f32 (IntOp.shli .vector w 23#32)) (word_up ⟨steps (a * rcp448), by omega⟩)).trans ?_
    rw [ofBits_field _ (by simp only; omega) (by simp only; omega)]
    refine congrArg pw ?_
    simp only
    omega

/-- The factor the kernel multiplies a channel by. -/
theorem factor_word (a : EReal) :
    Ideal.ofBits .f32 (IntOp.shli .vector (IntOp.addi (IntOp.subi 0#32 (Scalar.select (BitVec.ofBool (decide (a * rcp448 = 0))) 0#32
      (IntOp.subi (BitVec.ofNat 32 (steps (a * rcp448))) 126#32))) 127#32) 23#32) = pw (-expo a) := by
  unfold expo
  by_cases h : a = 0
  · rw [show decide (a * rcp448 = 0) = true by simpa using (scaled_eq_zero a).mpr h, if_pos h]
    refine (congrArg (fun w => Ideal.ofBits .f32 (IntOp.shli .vector w 23#32)) (zero_down _)).trans (ofBits_field 127 (by norm_num) (by norm_num))
  · rw [show decide (a * rcp448 = 0) = false by simpa using (scaled_eq_zero a).not.mpr h, if_neg h, sel_false]
    have hs := steps_le (a * rcp448)
    refine (congrArg (fun w => Ideal.ofBits .f32 (IntOp.shli .vector w 23#32)) (word_down ⟨steps (a * rcp448), by omega⟩)).trans ?_
    rw [ofBits_field _ (by simp only; omega) (by simp only; omega)]
    refine congrArg pw ?_
    simp only
    omega

/-! The reference's exponent. -/

theorem sub126 : ∀ x : Fin 256, (IntOp.subi (BitVec.ofNat 32 x.val) 126#32).toInt = (x.val : ℤ) - 126 := by decide

theorem exp2_int (z : ℤ) : (FloatOps.exp2 (F := Ideal) (φ := .f32) (((z : ℝ) : EReal) : EReal) : EReal) = pw z :=
  congrArg Real.toEReal (Real.rpow_intCast 2 z)

theorem cap126 : Ideal.ofBits .f32 0x42FC0000#32 = (((126 : ℤ) : ℝ) : EReal) := by
  unfold Ideal.ofBits Ideal.ieee
  simp only [show (BitVec.extractLsb' (8 + 23) 1 0x42FC0000#32) = 0#1 by decide, show (BitVec.extractLsb' 23 8 0x42FC0000#32).toNat = 133 by decide,
    show (BitVec.extractLsb' 0 23 0x42FC0000#32).toNat = 8126464 by decide]
  rw [if_neg (by norm_num), if_neg (by norm_num)]
  refine congrArg Real.toEReal ?_
  simp only [show ((0#1 : BitVec 1) == 1#1) = false from rfl]
  norm_num

theorem inf32 : Ideal.ofBits .f32 0x7F800000#32 = ⊤ := by
  unfold Ideal.ofBits Ideal.ieee
  simp only [show (BitVec.extractLsb' (8 + 23) 1 0x7F800000#32) = 0#1 by decide, show (BitVec.extractLsb' 23 8 0x7F800000#32).toNat = 255 by decide,
    show (BitVec.extractLsb' 0 23 0x7F800000#32).toNat = 0 by decide]
  rfl

theorem ninf32 : Ideal.ofBits .f32 0xFF800000#32 = ⊥ := by
  unfold Ideal.ofBits Ideal.ieee
  simp only [show (BitVec.extractLsb' (8 + 23) 1 0xFF800000#32) = 1#1 by decide, show (BitVec.extractLsb' 23 8 0xFF800000#32).toNat = 255 by decide,
    show (BitVec.extractLsb' 0 23 0xFF800000#32).toNat = 0 by decide]
  rfl

theorem n448_neg : Ideal.ofBits .f32 0xC3E00000#32 ≤ 0 := by
  have h : Ideal.ofBits .f32 0xC3E00000#32 = ((-448 : ℝ) : EReal) := by
    unfold Ideal.ofBits Ideal.ieee
    simp only [show (BitVec.extractLsb' (8 + 23) 1 0xC3E00000#32) = 1#1 by decide, show (BitVec.extractLsb' 23 8 0xC3E00000#32).toNat = 135 by decide,
      show (BitVec.extractLsb' 0 23 0xC3E00000#32).toNat = 6291456 by decide]
    rw [if_neg (by norm_num), if_neg (by norm_num)]
    refine congrArg Real.toEReal ?_
    simp only [show ((1#1 : BitVec 1) == 1#1) = true from rfl]
    norm_num
  rw [h]
  exact EReal.coe_nonpos.mpr (by norm_num)

/-- The reference's exponent, as its program spells it, is the layer's. -/
theorem expo_ref (a : EReal) :
    (if a = 0 then (0 : EReal) else min (Finset.univ.fold min (Ideal.ofBits .f32 0x7F800000#32) (fun x : Fin 256 =>
        if a * Ideal.ofBits .f32 0x3B124925#32 < (FloatOps.exp2 (F := Ideal) (φ := .f32) (FloatOps.sitofp (F := Ideal) .f32 (IntOp.subi (BitVec.ofNat 32 x.val) 126#32)) : EReal)
        then (FloatOps.sitofp (F := Ideal) .f32 (IntOp.subi (BitVec.ofNat 32 x.val) 126#32) : EReal) else (((126#32 : BitVec 32).toInt : ℝ) : EReal)))
      (Ideal.ofBits .f32 0x42FC0000#32)) = ((expo a : ℝ) : EReal) := by
  unfold expo
  by_cases h : a = 0
  · rw [if_pos h, if_pos h]; norm_num
  rw [if_neg h, if_neg h]
  change min _ _ = _
  have hs : ∀ x : Fin 256, (FloatOps.sitofp (F := Ideal) .f32 (IntOp.subi (BitVec.ofNat 32 x.val) 126#32) : EReal) = ((((x.val : ℤ) - 126 : ℤ) : ℝ) : EReal) := fun x => by
    rw [← sub126 x]; rfl
  have hK := steps_le (a * rcp448)
  have hpw := pw_le_iff (a * rcp448)
  rw [show Ideal.ofBits .f32 0x3B124925#32 = rcp448 from rfl, cap126, inf32]
  simp only [hs, exp2_int]
  rw [show ((126#32 : BitVec 32).toInt) = 126 by decide]
  generalize a * rcp448 = s at *
  apply le_antisymm
  · by_cases hc : steps s = 252
    · refine (min_le_right _ _).trans ?_
      rw [hc]; norm_num
    · refine (min_le_left _ _).trans (Finset.fold_min_le _ |>.mpr (Or.inr ⟨⟨steps s, by omega⟩, Finset.mem_univ _, ?_⟩))
      rw [if_pos]
      exact not_le.mp fun hle => absurd ((hpw (steps s) (by omega)).mp hle) (lt_irrefl _)
  · have hcap : (((steps s : ℤ) - 126 : ℤ) : ℝ) ≤ ((126 : ℤ) : ℝ) := by
      exact_mod_cast (by omega : (steps s : ℤ) - 126 ≤ 126)
    refine le_min (Finset.le_fold_min _ |>.mpr ⟨le_top, fun x _ => ?_⟩) (EReal.coe_le_coe_iff.mpr hcap)
    split
    · rename_i hx
      refine EReal.coe_le_coe_iff.mpr ?_
      have : steps s ≤ x.val := by
        by_contra hlt
        have := (hpw x.val (by omega)).mpr (by omega)
        exact absurd this (not_le.mpr hx)
      exact_mod_cast (by omega : (steps s : ℤ) - 126 ≤ (x.val : ℤ) - 126)
    · exact EReal.coe_le_coe_iff.mpr hcap

/-- A nonnegative channel is its own magnitude. -/
theorem abs_of_nonneg {y : EReal} (h : 0 ≤ y) : max y (-y) = y :=
  max_eq_left ((EReal.neg_le_neg_iff.mpr h).trans (by simpa using h))

/-- A nonnegative channel never meets the lower bound of the codes. -/
theorem code_ref {y : EReal} (h : 0 ≤ y) (e : ℤ) :
    min (Ideal.ofBits .f32 0x43E00000#32) (max (Ideal.ofBits .f32 0xC3E00000#32) (y * pw (-e))) = min (y * pw (-e)) (Ideal.ofBits .f32 0x43E00000#32) := by
  rw [max_eq_right (n448_neg.trans (mul_nonneg h (pw_nonneg _))), min_comm]

end Cert.Layer
-- ==== Proof.KElem.lean ====
module

public import proofs.«01_k».proof.Proof.KIdx
public import proofs.«01_k».proof.Proof.Quant
public import Idealize.ShloMosaic.Lib.Pointwise
public import Idealize.ShloMosaic.Lib.Pointwise.IndexBridge

/-! The kernel's tables and left operands, element by element: an element of a table is a code times its token's scale,
    and an element of a left operand is that of the token the neighbour word names. -/

@[expose] public section

set_option maxRecDepth 16384

noncomputable section

namespace Cert.KernelIdeal.Val

open Cert.KernelIdeal Cert.KernelIdeal.Gen Cert.KernelIdeal.Hand Cert.Layer
open Idealize.ShloMosaic Idealize.ShloMosaic.TcCoe Idealize.ShloMosaic.Tactic

/-! ## A rectangle's elements -/

theorem ld2 {α : Type} {n0 n1 m0 m1 : ℕ} (X : Shape.Idx ⟨2, ![n0, n1]⟩ → α) (off : Fin 2 → ℕ) (inb) (p : Fin m0) (x : Fin m1) (i : Fin n0) (j : Fin n1)
    (h0 : off 0 + p.val = i.val) (h1 : off 1 + x.val = j.val) :
    ld X (Rect.unit (s := ⟨2, ![n0, n1]⟩) off ![m0, m1] inb).toLoadRect (ix2 p x) = X (ix2 i j) := by
  refine congrArg X (funext fun a => Fin.ext ?_)
  match a with
  | ⟨0, _⟩ => show off 0 + 1 * p.val = i.val; omega
  | ⟨1, _⟩ => show off 1 + 1 * x.val = j.val; omega

theorem ld3 {α : Type} {n0 n1 n2 m0 m1 m2 : ℕ} (X : Shape.Idx ⟨3, ![n0, n1, n2]⟩ → α) (off : Fin 3 → ℕ) (inb) (p : Fin m0) (x : Fin m1) (y : Fin m2)
    (i : Fin n0) (j : Fin n1) (k : Fin n2) (h0 : off 0 + p.val = i.val) (h1 : off 1 + x.val = j.val) (h2 : off 2 + y.val = k.val) :
    ld X (Rect.unit (s := ⟨3, ![n0, n1, n2]⟩) off ![m0, m1, m2] inb).toLoadRect (ix3 p x y) = X (ix3 i j k) := by
  refine congrArg X (funext fun a => Fin.ext ?_)
  match a with
  | ⟨0, _⟩ => show off 0 + 1 * p.val = i.val; omega
  | ⟨1, _⟩ => show off 1 + 1 * x.val = j.val; omega
  | ⟨2, _⟩ => show off 2 + 1 * y.val = k.val; omega

/-! ## The tables -/

/-- The offset of a trip's token group. -/
def groupWord : Fin 4 → BitVec 32
  | 0 => 0#32
  | 1 => 8#32
  | 2 => 16#32
  | 3 => 24#32

/-- The lane of the scales' row that a trip's token reads its scale from. -/
theorem lane_eq : ∀ (k : Fin 32) (q : Fin 4) (p : Fin 8),
    (Scalar.select
        (IntOp.cmpi CmpIPredicate.slt (IntOp.addi (BitVec.ofNat 32 p.val) (Scalar.addi (Scalar.subi (Scalar.muli (Scf.iv 0#32 1#32 k.val) 32#32)
          (Scalar.muli (Scalar.shrsi (Scf.iv 0#32 1#32 k.val) 2#32) 128#32)) (groupWord q))) 0#32)
        (IntOp.addi (IntOp.addi (BitVec.ofNat 32 p.val) (Scalar.addi (Scalar.subi (Scalar.muli (Scf.iv 0#32 1#32 k.val) 32#32)
          (Scalar.muli (Scalar.shrsi (Scf.iv 0#32 1#32 k.val) 2#32) 128#32)) (groupWord q))) 128#32)
        (IntOp.addi (BitVec.ofNat 32 p.val) (Scalar.addi (Scalar.subi (Scalar.muli (Scf.iv 0#32 1#32 k.val) 32#32)
          (Scalar.muli (Scalar.shrsi (Scf.iv 0#32 1#32 k.val) 2#32) 128#32)) (groupWord q)))).toNat % 128
      = (32 * k.val + 8 * q.val + p.val) % 128 := by
  decide +kernel

/-- One element of the eight tokens a trip writes. -/
theorem tabPay_at (k : Fin k0_t1_loop.trips) (q : Fin 4) (row : Vec Ideal S1x128 .f32) (cod : Vec Ideal S1x32x128 .fp8e4m3) (p : Fin 8) (l : Fin 128) :
    tabPay k q row cod (ix2 p l) = cod (ix3 0 ⟨8 * q.val + p.val, by omega⟩ l) * row (ix2 0 ⟨(32 * k.val + 8 * q.val + p.val) % 128, Nat.mod_lt _ (by norm_num)⟩) := by
  match q with
  | 0 =>
    have e := lane_eq k 0 p
    simp only [groupWord] at e
    unfold tabPay
    pointwise [k0_pay9, k0_pay8, k0_pay3, k0_pay2]
    exact congrArg₂ (· * ·) (congrArg (fun z => cod (ix3 0 z l)) (Fin.ext (by simp))) (congrArg (fun z => row (ix2 0 z)) (Fin.ext e))
  | 1 =>
    have e := lane_eq k 1 p
    simp only [groupWord] at e
    unfold tabPay
    pointwise [k0_pay10, k0_pay8, k0_pay4, k0_pay2]
    exact congrArg₂ (· * ·) (congrArg (fun z => cod (ix3 0 z l)) (Fin.ext (by simp))) (congrArg (fun z => row (ix2 0 z)) (Fin.ext e))
  | 2 =>
    have e := lane_eq k 2 p
    simp only [groupWord] at e
    unfold tabPay
    pointwise [k0_pay11, k0_pay8, k0_pay6, k0_pay5, k0_pay2]
    exact congrArg₂ (· * ·) (congrArg (fun z => cod (ix3 0 z l)) (Fin.ext (by simp))) (congrArg (fun z => row (ix2 0 z)) (Fin.ext e))
  | 3 =>
    have e := lane_eq k 3 p
    simp only [groupWord] at e
    unfold tabPay
    pointwise [k0_pay12, k0_pay8, k0_pay7, k0_pay2]
    exact congrArg₂ (· * ·) (congrArg (fun z => cod (ix3 0 z l)) (Fin.ext (by simp))) (congrArg (fun z => row (ix2 0 z)) (Fin.ext e))

/-- The first eight rows of a table are zero. -/
theorem tabG_zero (row : Fin k0_t1_loop.trips → Vec Ideal S1x128 .f32) (cod : Fin k0_t1_loop.trips → Fin 4 → Vec Ideal S1x32x128 .fp8e4m3)
    (i : Fin 4104) (l : Fin 128) (hi : i.val < 8) : tabG row cod (ix2 i l) = 0 := by
  unfold tabG
  rw [dif_pos (show (ix2 (n0 := 4104) (n1 := 128) i l 0).val < 8 from hi)]
  have h : ∀ j, k0_pay56 (F := Ideal) j = 0 := fun j => by
    idx_vars j
    pointwise [k0_pay56]
  exact h _

/-- Row `8 + 4 r + c` of a table is chunk `c` of token `r`. -/
theorem tabG_tok (row : Fin k0_t1_loop.trips → Vec Ideal S1x128 .f32) (cod : Fin k0_t1_loop.trips → Fin 4 → Vec Ideal S1x32x128 .fp8e4m3)
    (i : Fin 4104) (r : Fin 1024) (c : Fin 4) (l : Fin 128) (hi : i.val = 8 + 4 * r.val + c.val) (k : Fin k0_t1_loop.trips) (hk : k.val = r.val / 32) :
    tabG row cod (ix2 i l) = cod k c (ix3 0 ⟨r.val % 32, Nat.mod_lt _ (by norm_num)⟩ l) * row k (ix2 0 ⟨r.val % 128, Nat.mod_lt _ (by norm_num)⟩) := by
  have key : ∀ (k' : Fin k0_t1_loop.trips) (q : Fin 4) (c' : Fin 4) (p : Fin 8), k'.val = r.val / 32 → q.val = r.val % 32 / 8 → c'.val = c.val → p.val = r.val % 8 →
      tabPay k' q (row k') (cod k' c') (ix2 p l) = cod k c (ix3 0 ⟨r.val % 32, Nat.mod_lt _ (by norm_num)⟩ l) * row k (ix2 0 ⟨r.val % 128, Nat.mod_lt _ (by norm_num)⟩) := by
    intro k' q c' p h1 h2 h3 h4
    obtain rfl : k' = k := Fin.ext (h1.trans hk.symm)
    obtain rfl : c' = c := Fin.ext h3
    rw [tabPay_at]
    exact congrArg₂ (· * ·) (congrArg (fun z => cod k' c' (ix3 0 z l)) (Fin.ext (by simp only; omega))) (congrArg (fun z => row k' (ix2 0 z)) (Fin.ext (by simp only; omega)))
  unfold tabG
  have hv : (ix2 (n0 := 4104) (n1 := 128) i l 0).val = 8 + 4 * r.val + c.val := hi
  rw [dif_neg (by rw [hv]; omega)]
  exact key _ _ _ _ (by simp only [hv]; omega) (by simp only [hv]; omega) (by simp only [hv]; omega) (by simp only [hv]; omega)

section Operands
variable (X : S2x1024x512.Idx → EReal) (sx : S2x1024.Idx → EReal) (N : S2x8x256.Idx → BitVec 32)

theorem row1_at (k : Fin k0_t1_loop.trips) (x : Fin 128) (j : Fin 1024) (hj : j.val = 128 * (k.val / 4) + x.val) :
    row1 (F := Ideal) sx k (ix2 0 x) = sx (ix2 0 j) := by
  have h : ∀ k : Fin k0_t1_loop.trips, k0_off1 k = ![0, 128 * (k.val / 4)] := by decide
  exact ld2 sx _ _ _ _ _ _ (by rw [h]; rfl) (by rw [h]; exact hj.symm)

theorem row2_at (k : Fin k0_t1_loop.trips) (x : Fin 128) (j : Fin 1024) (hj : j.val = 128 * (k.val / 4) + x.val) :
    row2 (F := Ideal) sx k (ix2 0 x) = sx (ix2 1 j) := by
  have h : ∀ k : Fin k0_t1_loop.trips, k0_off7 k = ![1, 128 * (k.val / 4)] := by decide
  exact ld2 sx _ _ _ _ _ _ (by rw [h]; rfl) (by rw [h]; exact hj.symm)

theorem cod1_at (k : Fin k0_t1_loop.trips) (c : Fin 4) (r : Fin 32) (l : Fin 128) (i : Fin 1024) (j : Fin 512) (hi : i.val = 32 * k.val + r.val) (hj : j.val = 128 * c.val + l.val) :
    cod1 (F := Ideal) X k c (ix3 0 r l) = X (ix3 0 i j) := by
  have h2 : ∀ k : Fin k0_t1_loop.trips, k0_off2 k = ![0, 32 * k.val, 0] := by decide
  have h4 : ∀ k : Fin k0_t1_loop.trips, k0_off4 k = ![0, 32 * k.val, 128] := by decide
  have h5 : ∀ k : Fin k0_t1_loop.trips, k0_off5 k = ![0, 32 * k.val, 256] := by decide
  have h6 : ∀ k : Fin k0_t1_loop.trips, k0_off6 k = ![0, 32 * k.val, 384] := by decide
  match c with
  | 0 => exact ld3 X _ _ _ _ _ _ _ _ (by rw [h2]; rfl) (by rw [h2]; exact hi.symm) (by rw [h2]; exact hj.symm)
  | 1 => exact ld3 X _ _ _ _ _ _ _ _ (by rw [h4]; rfl) (by rw [h4]; exact hi.symm) (by rw [h4]; exact hj.symm)
  | 2 => exact ld3 X _ _ _ _ _ _ _ _ (by rw [h5]; rfl) (by rw [h5]; exact hi.symm) (by rw [h5]; exact hj.symm)
  | 3 => exact ld3 X _ _ _ _ _ _ _ _ (by rw [h6]; rfl) (by rw [h6]; exact hi.symm) (by rw [h6]; exact hj.symm)

theorem cod2_at (k : Fin k0_t1_loop.trips) (c : Fin 4) (r : Fin 32) (l : Fin 128) (i : Fin 1024) (j : Fin 512) (hi : i.val = 32 * k.val + r.val) (hj : j.val = 128 * c.val + l.val) :
    cod2 (F := Ideal) X k c (ix3 0 r l) = X (ix3 1 i j) := by
  have h2 : ∀ k : Fin k0_t1_loop.trips, k0_off8 k = ![1, 32 * k.val, 0] := by decide
  have h4 : ∀ k : Fin k0_t1_loop.trips, k0_off10 k = ![1, 32 * k.val, 128] := by decide
  have h5 : ∀ k : Fin k0_t1_loop.trips, k0_off11 k = ![1, 32 * k.val, 256] := by decide
  have h6 : ∀ k : Fin k0_t1_loop.trips, k0_off12 k = ![1, 32 * k.val, 384] := by decide
  match c with
  | 0 => exact ld3 X _ _ _ _ _ _ _ _ (by rw [h2]; rfl) (by rw [h2]; exact hi.symm) (by rw [h2]; exact hj.symm)
  | 1 => exact ld3 X _ _ _ _ _ _ _ _ (by rw [h4]; rfl) (by rw [h4]; exact hi.symm) (by rw [h4]; exact hj.symm)
  | 2 => exact ld3 X _ _ _ _ _ _ _ _ (by rw [h5]; rfl) (by rw [h5]; exact hi.symm) (by rw [h5]; exact hj.symm)
  | 3 => exact ld3 X _ _ _ _ _ _ _ _ (by rw [h6]; rfl) (by rw [h6]; exact hi.symm) (by rw [h6]; exact hj.symm)

/-- One element of a batch's table, at a token's row. -/
theorem tab_tok (b : Fin 2) (i : Fin 4104) (r : Fin 1024) (c : Fin 4) (l : Fin 128) (j : Fin 512) (hi : i.val = 8 + 4 * r.val + c.val) (hj : j.val = 128 * c.val + l.val) :
    tabOf (F := Ideal) X sx b (ix2 i l) = X (ix3 b r j) * sx (ix2 b r) := by
  have hk : r.val / 32 < 32 := by omega
  match b with
  | 0 =>
    refine (tabG_tok _ _ i r c l hi ⟨r.val / 32, hk⟩ rfl).trans ?_
    exact congrArg₂ (· * ·) (cod1_at X _ _ _ _ _ _ (by simp only; omega) hj) (row1_at sx _ _ _ (by simp only; omega))
  | 1 =>
    refine (tabG_tok _ _ i r c l hi ⟨r.val / 32, hk⟩ rfl).trans ?_
    exact congrArg₂ (· * ·) (cod2_at X _ _ _ _ _ _ (by simp only; omega) hj) (row2_at sx _ _ _ (by simp only; omega))

theorem tab_zero (b : Fin 2) (i : Fin 4104) (l : Fin 128) (hi : i.val < 8) : tabOf (F := Ideal) X sx b (ix2 i l) = 0 :=
  match b with
  | 0 => tabG_zero _ _ i l hi
  | 1 => tabG_zero _ _ i l hi

/-- The four rows a neighbour word names are the token's channels. -/
theorem rows_at (b : Fin 2) (v : BitVec 32) (hv : v = 4294967295#32 ∨ v.toNat < 1024) (q : Fin 4) (l : Fin 128) (j : Fin 512) (hj : j.val = 128 * q.val + l.val) :
    rowsOf (F := Ideal) (tabOf X sx b) v (ix2 q l) = tok (fun b r j => X (ix3 b r j)) (fun b r => sx (ix2 b r)) b v j := by
  have ho := off14_eq v hv
  unfold rowsOf
  rw [dif_pos (chk_of_range v hv)]
  unfold tok
  by_cases h : v.toNat < 1024
  · have hne : v ≠ 4294967295#32 := fun e => by rw [e] at h; exact absurd h (by decide)
    rw [if_neg hne] at ho
    rw [dif_pos h]
    refine (ld2 _ _ _ _ _ ⟨4 * v.toNat + 8 + q.val, by omega⟩ l (by rw [ho.1]) (by rw [ho.2]; omega)).trans ?_
    exact tab_tok X sx b _ ⟨v.toNat, h⟩ q l j (by simp only; omega) hj
  · rw [if_pos (hv.resolve_right h)] at ho
    rw [dif_neg h]
    refine (ld2 _ _ _ _ _ ⟨4 + q.val, by omega⟩ l (by rw [ho.1]) (by rw [ho.2]; omega)).trans ?_
    exact tab_zero X sx b _ l (by simp only; omega)

/-- The word at an offset. -/
theorem wordAt_at (o : Fin 3 → ℕ) (h) (i : Fin 2) (j : Fin 8) (t : Fin 256) (h0 : o 0 = i.val) (h1 : o 1 = j.val) (h2 : o 2 = t.val) : wordAt N o h = N (ix3 i j t) := by
  refine congrArg N (funext fun a => Fin.ext ?_)
  match a with
  | ⟨0, _⟩ => show o 0 + 1 * 0 = i.val; omega
  | ⟨1, _⟩ => show o 1 + 1 * 0 = j.val; omega
  | ⟨2, _⟩ => show o 2 + 1 * 0 = t.val; omega

/-- One element of a left operand. -/
theorem lhs_at (hN : ∀ y, N y = 4294967295#32 ∨ (N y).toNat < 1024) (b s : Fin 2) (k : Fin 8) (q : Fin 4) (t : Fin 64) (d : Fin 2) (l : Fin 128)
    (i : Fin 256) (hi : i.val = 128 * s.val + (2 * t.val + d.val)) (j : Fin 512) (hj : j.val = 128 * q.val + l.val) :
    lhsOf (F := Ideal) N X sx b s k q (ix3 t d l) = tok (fun b r j => X (ix3 b r j)) (fun b r => sx (ix2 b r)) b (N (ix3 b k i)) j := by
  have e : lhsOf (F := Ideal) N X sx b s k q (ix3 t d l)
      = k0_pay60 (rowsOf (tabOf X sx b) (wordAt N (gOff b s k 0 t) (gOff_inb b s k 0 t))) (rowsOf (tabOf X sx b) (wordAt N (gOff b s k 1 t) (gOff_inb b s k 1 t))) (ix3 q d l) := rfl
  rw [e]
  generalize hA : wordAt N (gOff b s k 0 t) (gOff_inb b s k 0 t) = vA
  generalize hB : wordAt N (gOff b s k 1 t) (gOff_inb b s k 1 t) = vB
  have e60 : k0_pay60 (rowsOf (F := Ideal) (tabOf X sx b) vA) (rowsOf (tabOf X sx b) vB) (ix3 q d l)
      = if d.val % 2 = 0 then (rowsOf (F := Ideal) (tabOf X sx b) vA (ix2 q l) : EReal) else (rowsOf (F := Ideal) (tabOf X sx b) vB (ix2 q l) : EReal) := by
    pointwise [k0_pay60]
  rw [e60]
  have hw : (if d.val % 2 = 0 then vA else vB) = N (ix3 b k i) := by
    match d with
    | 0 => rw [if_pos (by decide), ← hA]; exact wordAt_at N _ _ _ _ _ rfl rfl ((gPos_eq s 0 t).trans (by rw [hi]; simp <;> omega))
    | 1 => rw [if_neg (by decide), ← hB]; exact wordAt_at N _ _ _ _ _ rfl rfl ((gPos_eq s 1 t).trans (by rw [hi]; simp <;> omega))
  rw [← rows_at X sx b _ (hN _) q l j hj, ← hw]
  split <;> rfl

end Operands

end Cert.KernelIdeal.Val
-- ==== Proof.KBlk.lean ====
module

public import proofs.«01_k».proof.Proof.KElem

/-! A block of the kernel, element by element: its channels before they are quantised are the layer's, so its codes and
    scales are. -/

@[expose] public section

set_option maxRecDepth 16384

noncomputable section

namespace Cert.KernelIdeal.Val

open Cert.KernelIdeal Cert.KernelIdeal.Gen Cert.KernelIdeal.Hand Cert.Layer
open Idealize.ShloMosaic Idealize.ShloMosaic.TcCoe Idealize.ShloMosaic.Tactic

/-- Four chunks of 64 pairs of rows hold the rows of `R`. -/
abbrev Holds (L : Fin 4 → Vec Ideal S64x2x128 .bf16) (R : Fin 128 → Fin 512 → EReal) : Prop :=
  ∀ (q : Fin 4) (t : Fin 64) (d : Fin 2) (l : Fin 128) (p : Fin 128) (x : Fin 512), p.val = 2 * t.val + d.val → x.val = 128 * q.val + l.val → L q (ix3 t d l) = R p x

/-- The chunks side by side, two rows a pair: an element of the whole left operand. -/
theorem pick {L : Fin 4 → Vec Ideal S64x2x128 .bf16} {R : Fin 128 → Fin 512 → EReal} (hL : Holds L R) (p : Fin 128) (x : Fin 512) (hp : p.val / 2 < 64) (z0 z1 : Fin 2) (h0 : z0.val = 0) (h1 : z1.val = 1) :
    ((if h : x.val < 128 then (if p.val % 2 = 0 then L 0 (ix3 ⟨p.val / 2, hp⟩ z0 ⟨x.val, h⟩) else L 0 (ix3 ⟨p.val / 2, hp⟩ z1 ⟨x.val, h⟩))
      else if h' : x.val - 128 < 128 then (if p.val % 2 = 0 then L 1 (ix3 ⟨p.val / 2, hp⟩ z0 ⟨x.val - 128, h'⟩) else L 1 (ix3 ⟨p.val / 2, hp⟩ z1 ⟨x.val - 128, h'⟩))
      else if h'' : x.val - 128 - 128 < 128 then (if p.val % 2 = 0 then L 2 (ix3 ⟨p.val / 2, hp⟩ z0 ⟨x.val - 128 - 128, h''⟩) else L 2 (ix3 ⟨p.val / 2, hp⟩ z1 ⟨x.val - 128 - 128, h''⟩))
      else (if p.val % 2 = 0 then L 3 (ix3 ⟨p.val / 2, hp⟩ z0 ⟨x.val - 128 - 128 - 128, by omega⟩) else L 3 (ix3 ⟨p.val / 2, hp⟩ z1 ⟨x.val - 128 - 128 - 128, by omega⟩))) : EReal) = R p x := by
  split_ifs
  all_goals exact hL _ _ _ _ _ _ (by simp only [h0, h1]; omega) (by simp <;> omega)

/-- The first tap's product. -/
theorem tap0 {L : Fin 4 → Vec Ideal S64x2x128 .bf16} {R : Fin 128 → Fin 512 → EReal} (hL : Holds L R) (w : Vec Ideal S1x512x640 .fp8e4m3) (p : Fin 128) (n : Fin 640) :
    k0_pay61 (L 0) (L 1) (L 2) (L 3) w (ix2 p n) = ∑ x : Fin 512, R p x * w (ix3 0 x n) := by
  pointwise [k0_pay61]
  exact Finset.sum_congr rfl fun x _ => congrArg (fun z => z * (w (ix3 0 x n) : EReal)) (pick hL p x (by omega) 0 1 rfl rfl)

section Taps
variable {L : Fin 4 → Vec Ideal S64x2x128 .bf16} {R : Fin 128 → Fin 512 → EReal} (hL : Holds L R) (A : FVec Ideal S128x640 .f32) (w : Vec Ideal S1x512x640 .fp8e4m3) (p : Fin 128) (n : Fin 640)
include hL

theorem tap1 : k0_pay63 A (L 0) (L 1) (L 2) (L 3) w (ix2 p n) = (A (ix2 p n) : EReal) + ∑ x : Fin 512, R p x * w (ix3 0 x n) := by
  pointwise [k0_pay63]
  exact congrArg (fun z => (A (ix2 p n) : EReal) + z) (Finset.sum_congr rfl fun x _ => congrArg (fun z => z * (w (ix3 0 x n) : EReal)) (pick hL p x (by omega) 0 1 rfl rfl))

theorem tap2 : k0_pay65 A (L 0) (L 1) (L 2) (L 3) w (ix2 p n) = (A (ix2 p n) : EReal) + ∑ x : Fin 512, R p x * w (ix3 0 x n) := tap1 hL A w p n
theorem tap3 : k0_pay67 A (L 0) (L 1) (L 2) (L 3) w (ix2 p n) = (A (ix2 p n) : EReal) + ∑ x : Fin 512, R p x * w (ix3 0 x n) := tap1 hL A w p n
theorem tap4 : k0_pay69 A (L 0) (L 1) (L 2) (L 3) w (ix2 p n) = (A (ix2 p n) : EReal) + ∑ x : Fin 512, R p x * w (ix3 0 x n) := tap1 hL A w p n
theorem tap5 : k0_pay71 A (L 0) (L 1) (L 2) (L 3) w (ix2 p n) = (A (ix2 p n) : EReal) + ∑ x : Fin 512, R p x * w (ix3 0 x n) := tap1 hL A w p n
theorem tap6 : k0_pay73 A (L 0) (L 1) (L 2) (L 3) w (ix2 p n) = (A (ix2 p n) : EReal) + ∑ x : Fin 512, R p x * w (ix3 0 x n) := tap1 hL A w p n

/-- The last tap's product, scaled, with its bias, and cut below at zero. -/
theorem tap7 (sw bi : S640.Idx → EReal) :
    k0_pay75 (chan (F := Ideal) sw) (chan (F := Ideal) bi) A (L 0) (L 1) (L 2) (L 3) w (ix2 p n)
      = max (((A (ix2 p n) : EReal) + ∑ x : Fin 512, R p x * w (ix3 0 x n)) * sw (ix1 n) + bi (ix1 n)) 0 := by
  unfold k0_pay75
  pointwise [chan]
  have e : ∀ z : S640.Idx → EReal, ld z (Rect.unit (s := S640) ![0] ![640] inb_S640_S640_0).toLoadRect (ix1 n) = z (ix1 n) := fun z => by
    refine congrArg z (funext fun a => Fin.ext ?_)
    match a with
    | ⟨0, _⟩ => show 0 + 1 * n.val = n.val; omega
  refine congrArg₂ max (congrArg₂ (· + ·) (congrArg₂ (· * ·) ?_ (e sw)) (e bi)) rfl
  exact congrArg (fun z => (A (ix2 p n) : EReal) + z) (Finset.sum_congr rfl fun x _ => congrArg (fun z => z * (w (ix3 0 x n) : EReal)) (pick hL p x (by omega) 0 1 rfl rfl))
end Taps

section Block
variable {L : Fin 8 → Fin 4 → Vec Ideal S64x2x128 .bf16} {R : Fin 8 → Fin 128 → Fin 512 → EReal} (hL : ∀ k, Holds (L k) (R k)) (w : Fin 8 → Vec Ideal S1x512x640 .fp8e4m3)
  (sw bi : S640.Idx → EReal) (p : Fin 128) (n : Fin 640)
include hL

/-- A channel of a block before it is quantised. -/
theorem blkY_at : blkY (F := Ideal) L w sw bi (ix2 p n) = max ((∑ k : Fin 8, ∑ x : Fin 512, R k p x * w k (ix3 0 x n)) * sw (ix1 n) + bi (ix1 n)) 0 := by
  unfold blkY acc7
  rw [tap7 (hL 7), tap6 (hL 6), tap5 (hL 5), tap4 (hL 4), tap3 (hL 3), tap2 (hL 2), tap1 (hL 1), tap0 (hL 0), Fin.sum_univ_eight]

omit hL in
theorem blkS_at : blkS (F := Ideal) L w sw bi (ix2 p 0) = top (fun n => blkY (F := Ideal) L w sw bi (ix2 p n)) * rcp448 := by
  unfold blkS blkY k0_pay76
  generalize k0_pay75 (chan (F := Ideal) sw) (chan (F := Ideal) bi) (acc7 L w) (L 7 0) (L 7 1) (L 7 2) (L 7 3) (w 7) = Y
  pointwise
  rw [ninf32]
  rfl

omit hL in
theorem blkZ_at : blkZ (F := Ideal) L w sw bi (ix2 p 0) = BitVec.ofBool (decide (top (fun n => blkY (F := Ideal) L w sw bi (ix2 p n)) * rcp448 = 0)) := by
  rw [← blkS_at]
  unfold blkZ blkS k0_pay77
  generalize k0_pay76 (chan (F := Ideal) sw) (chan (F := Ideal) bi) (acc7 L w) (L 7 0) (L 7 1) (L 7 2) (L 7 3) (w 7) = S
  pointwise

omit hL in
theorem blkC_at : blkC (F := Ideal) L w sw bi (ix3 0 p n) = code (fun n => blkY (F := Ideal) L w sw bi (ix2 p n)) n := by
  unfold blkC
  have e := factor_word (top (fun n => blkY (F := Ideal) L w sw bi (ix2 p n)))
  rw [← blkZ_at, ← count_eq, ← blkS_at] at e
  pointwise [k0_pay82, k0_pay81, k0_pay78, k0_pay79, k0_pay80]
  exact congrArg (fun z => min ((blkY (F := Ideal) L w sw bi (ix2 p n) : EReal) * z) (Ideal.ofBits .f32 0x43E00000#32)) e

omit hL in
theorem blkE_at : blkE (F := Ideal) L w sw bi (ix2 0 p) = scale (fun n => blkY (F := Ideal) L w sw bi (ix2 p n)) := by
  unfold blkE
  have e := scale_word (top (fun n => blkY (F := Ideal) L w sw bi (ix2 p n)))
  rw [← blkZ_at, ← count_eq, ← blkS_at] at e
  pointwise [k0_pay83, k0_pay81, k0_pay78, k0_pay79, k0_pay80]
  exact e
end Block

section Layer
variable (N : S2x8x256.Idx → BitVec 32) (X : S2x1024x512.Idx → EReal) (sx : S2x1024.Idx → EReal) (W : S8x512x640.Idx → EReal) (sw bi : S640.Idx → EReal)
  (hN : ∀ y, N y = 4294967295#32 ∨ (N y).toNat < 1024)

/-- The layer's channels on the kernel's operands. -/
abbrev layerY (b : Fin 2) (t : Fin 256) (n : Fin 640) : EReal :=
  yS (fun b r j => X (ix3 b r j)) (fun b r => sx (ix2 b r)) (fun b t k => N (ix3 b k t)) (fun k x n => W (ix3 k x n)) (fun n => sw (ix1 n)) (fun n => bi (ix1 n)) b t n

include hN in
/-- A block's channels are the layer's. -/
theorem blkY_layer (b s : Fin 2) (p : Fin 128) (i : Fin 256) (hi : i.val = 128 * s.val + p.val) :
    (fun n => (blkY (F := Ideal) (lhsOf N X sx b s) (wG W) sw bi (ix2 p n) : EReal)) = layerY N X sx W sw bi b i := by
  funext n
  rw [blkY_at (R := fun k p x => tok (fun b r j => X (ix3 b r j)) (fun b r => sx (ix2 b r)) b (N (ix3 b k ⟨128 * s.val + p.val, by omega⟩)) x)
    (fun k q t d l p x hp hx => lhs_at X sx N hN b s k q t d l _ (by simp only [hp]) x hx)]
  have ei : i = (⟨128 * s.val + p.val, by have := s.isLt; have := p.isLt; omega⟩ : Fin 256) := Fin.ext hi
  rw [ei]
  unfold layerY yS
  refine congrArg₂ max (congrArg₂ (· + ·) (congrArg₂ (· * ·) (Finset.sum_congr rfl fun k _ => Finset.sum_congr rfl fun x _ => congrArg₂ (· * ·) rfl ?_) rfl) rfl) rfl
  exact ld3 W _ _ _ _ _ _ _ _ (by simp) (by simp) (by simp)

include hN in
theorem blkC_layer (b s : Fin 2) (p : Fin 128) (n : Fin 640) (i : Fin 256) (hi : i.val = 128 * s.val + p.val) :
    blkC (F := Ideal) (lhsOf N X sx b s) (wG W) sw bi (ix3 0 p n) = code (layerY N X sx W sw bi b i) n :=
  (blkC_at _ _ _ _ _).trans (congrArg (fun y => code y n) (blkY_layer N X sx W sw bi hN b s p i hi))

include hN in
theorem blkE_layer (b s : Fin 2) (p : Fin 128) (i : Fin 256) (hi : i.val = 128 * s.val + p.val) :
    blkE (F := Ideal) (lhsOf N X sx b s) (wG W) sw bi (ix2 0 p) = scale (layerY N X sx W sw bi b i) :=
  (blkE_at _ _ _ _).trans (congrArg scale (blkY_layer N X sx W sw bi hN b s p i hi))
end Layer

end Cert.KernelIdeal.Val
-- ==== Proof.Final.lean ====
module

public import proofs.«01_k».proof.Proof.Spec
public import Idealize.ShloMosaic.Lib.Pointwise

/-! The two results as functions of the six arguments. -/

@[expose] public section

noncomputable section

namespace Cert.Layer

open Idealize.ShloMosaic

section
variable (X : Shape.Idx ⟨3, ![2, 1024, 512]⟩ → EReal) (sx : Shape.Idx ⟨2, ![2, 1024]⟩ → EReal) (N : Shape.Idx ⟨3, ![2, 256, 8]⟩ → BitVec 32)
  (W : Shape.Idx ⟨3, ![8, 512, 640]⟩ → EReal) (sw bi : Shape.Idx ⟨1, ![640]⟩ → EReal)

/-- The layer's channels on the argument arrays. -/
abbrev layer (b : Fin 2) (t : Fin 256) (n : Fin 640) : EReal :=
  yS (fun b r j => X (ix3 b r j)) (fun b r => sx (ix2 b r)) (fun b t k => N (ix3 b t k)) (fun k x n => W (ix3 k x n)) (fun n => sw (ix1 n)) (fun n => bi (ix1 n)) b t n

/-- The first result: the codes. -/
def codes : Shape.Idx ⟨3, ![2, 256, 640]⟩ → EReal := fun y => code (layer X sx N W sw bi (y 0) (y 1)) (y 2)

/-- The second result: the scales. -/
def scales : Shape.Idx ⟨2, ![2, 256]⟩ → EReal := fun y => scale (layer X sx N W sw bi (y 0) (y 1))
end

end Cert.Layer
-- ==== Proof.KVal.lean ====
module

public import proofs.«01_k».proof.Proof.KBlk
public import proofs.«01_k».proof.Proof.Final

/-! The kernel's run: its two results end at the layer's codes and scales of its arguments. -/

@[expose] public section

set_option maxRecDepth 16384

noncomputable section

namespace Cert.KernelIdeal.Val

open Cert.KernelIdeal Cert.KernelIdeal.Gen Cert.KernelIdeal.Hand Cert.Layer
open Idealize.ShloMosaic Idealize.ShloMosaic.TcCoe Idealize.ShloMosaic.Tactic
open Idealize.SL.Sem
open Idealize.ShloMosaic.Pipeline (Dat)

section Whole
variable (N : S2x256x8.Idx → BitVec 32) (X : S2x1024x512.Idx → EReal) (sx : S2x1024.Idx → EReal) (W : S8x512x640.Idx → EReal) (sw bi : S640.Idx → EReal)
  (hN : ∀ y, N y = 4294967295#32 ∨ (N y).toNat < 1024)

/-- The index array the body reads. -/
abbrev NT : S2x8x256.Idx → BitVec 32 := transpose S2x8x256 [0, 2, 1] N transposes_S2x256x8_S2x8x256_0_2_1

theorem layerY_eq (b : Fin 2) (t : Fin 256) : layerY (NT N) X sx W sw bi b t = layer X sx N W sw bi b t := by
  have e : ∀ (b : Fin 2) (t : Fin 256) (k : Fin 8), NT N (ix3 b k t) = N (ix3 b t k) := fun b t k => by
    unfold NT
    pointwise
  funext n
  unfold layerY layer
  simp only [e]

include hN in
theorem codes_piece (b s : Fin 2) (off : Fin 3 → ℕ) (inb) (h0 : off 0 = b.val) (h1 : off 1 = 128 * s.val) (h2 : off 2 = 0) (x : S1x128x640.Idx) :
    blkC (F := Ideal) (lhsOf (NT N) X sx b s) (wG W) sw bi x = codes X sx N W sw bi ((Rect.unit (s := S2x256x640) off S1x128x640.size inb).emb x) := by
  have e0 : (Rect.unit (s := S2x256x640) off S1x128x640.size inb).emb x 0 = b := Fin.ext (by
    show off 0 + 1 * (x 0).val = b.val
    have : (x 0).val < 1 := (x 0).isLt
    omega)
  have e1 : ((Rect.unit (s := S2x256x640) off S1x128x640.size inb).emb x 1).val = 128 * s.val + (x 1).val := by
    show off 1 + 1 * (x 1).val = _
    omega
  have e2 : (Rect.unit (s := S2x256x640) off S1x128x640.size inb).emb x 2 = x 2 := Fin.ext (by
    show off 2 + 1 * (x 2).val = (x 2).val
    omega)
  unfold codes
  rw [e0, e2]
  refine Eq.trans ?_ ((blkC_layer (NT N) X sx W sw bi (fun y => hN _) b s (x 1) (x 2) _ e1).trans (congrArg (fun L => code L (x 2)) (layerY_eq N X sx W sw bi b _)))
  refine congrArg (blkC (F := Ideal) (lhsOf (NT N) X sx b s) (wG W) sw bi) (funext fun a => ?_)
  match a with
  | ⟨0, _⟩ => exact Subsingleton.elim (α := Fin 1) _ _
  | ⟨1, _⟩ => rfl
  | ⟨2, _⟩ => rfl

include hN in
theorem scales_piece (b s : Fin 2) (off : Fin 2 → ℕ) (inb) (h0 : off 0 = b.val) (h1 : off 1 = 128 * s.val) (x : S1x128.Idx) :
    blkE (F := Ideal) (lhsOf (NT N) X sx b s) (wG W) sw bi x = scales X sx N W sw bi ((Rect.unit (s := S2x256) off S1x128.size inb).emb x) := by
  have e0 : (Rect.unit (s := S2x256) off S1x128.size inb).emb x 0 = b := Fin.ext (by
    show off 0 + 1 * (x 0).val = b.val
    have : (x 0).val < 1 := (x 0).isLt
    omega)
  have e1 : ((Rect.unit (s := S2x256) off S1x128.size inb).emb x 1).val = 128 * s.val + (x 1).val := by
    show off 1 + 1 * (x 1).val = _
    omega
  unfold scales
  rw [e0]
  refine Eq.trans ?_ ((blkE_layer (NT N) X sx W sw bi (fun y => hN _) b s (x 1) _ e1).trans (congrArg scale (layerY_eq N X sx W sw bi b _)))
  refine congrArg (blkE (F := Ideal) (lhsOf (NT N) X sx b s) (wG W) sw bi) (funext fun a => ?_)
  match a with
  | ⟨0, _⟩ => exact Subsingleton.elim (α := Fin 1) _ _
  | ⟨1, _⟩ => rfl

include hN in
/-- The codes the body leaves. -/
theorem codesOf_eq : codesOf (F := Ideal) (NT N) X sx W sw bi = codes X sx N W sw bi := by
  unfold codesOf
  refine read_writes_eq_fn _ _ _ _ ?_ (cover_codes _ _ _ _ _ _)
  intro p hp
  simp only [codeL, List.mem_cons, List.not_mem_nil, or_false] at hp
  rcases hp with rfl | rfl | rfl | rfl <;> intro x
  · exact codes_piece N X sx W sw bi hN 1 1 ![1, 128, 0] inb_S2x256x640_S1x128x640_1_128_0 rfl rfl rfl x
  · exact codes_piece N X sx W sw bi hN 1 0 ![1, 0, 0] inb_S2x256x640_S1x128x640_1_0_0 rfl rfl rfl x
  · exact codes_piece N X sx W sw bi hN 0 1 ![0, 128, 0] inb_S2x256x640_S1x128x640_0_128_0 rfl rfl rfl x
  · exact codes_piece N X sx W sw bi hN 0 0 ![0, 0, 0] inb_S2x256x640_S1x128x640_0_0_0 rfl rfl rfl x

include hN in
/-- The scales the body leaves. -/
theorem scalesOf_eq : scalesOf (F := Ideal) (NT N) X sx W sw bi = scales X sx N W sw bi := by
  unfold scalesOf
  refine read_writes_eq_fn _ _ _ _ ?_ (cover_scales _ _ _ _ _ _)
  intro p hp
  simp only [scaleL, List.mem_cons, List.not_mem_nil, or_false] at hp
  rcases hp with rfl | rfl | rfl | rfl <;> intro x
  · exact scales_piece N X sx W sw bi hN 1 1 ![1, 128] inb_S2x256_S1x128_1_128 rfl rfl x
  · exact scales_piece N X sx W sw bi hN 1 0 ![1, 0] inb_S2x256_S1x128_1_0 rfl rfl x
  · exact scales_piece N X sx W sw bi hN 0 1 ![0, 128] inb_S2x256_S1x128_0_128 rfl rfl x
  · exact scales_piece N X sx W sw bi hN 0 0 ![0, 0] inb_S2x256_S1x128_0_0 rfl rfl x
end Whole

section Run
variable (m : (ℓ : Loc nD τ sig) → Buf (Elt Ideal) ℓ) (ρ : Dev nD → PrngReg) (c : Dev nD) (t : Fin cfg0.N)

/-- Each window's one block is its whole array. -/
theorem iblk0_eq : iblk m c 0 t = V m c main_arg1 := by
  funext j
  refine congrArg (V m c main_arg1) (funext fun a => Fin.ext ?_)
  match a with
  | ⟨0, _⟩ => show _ = (j 0).val; exact (by rfl : _ = 0 + 1 * (j 0).val).trans (by omega)
  | ⟨1, _⟩ => show _ = (j 1).val; exact (by rfl : _ = 0 + 1 * (j 1).val).trans (by omega)

theorem iblk1_eq : iblk m c 1 t = V m c main_arg4 := by
  funext j
  refine congrArg (V m c main_arg4) (funext fun a => Fin.ext ?_)
  match a with
  | ⟨0, _⟩ => show _ = (j 0).val; exact (by rfl : _ = 0 + 1 * (j 0).val).trans (by omega)

theorem iblk2_eq : iblk m c 2 t = V m c main_arg5 := by
  funext j
  refine congrArg (V m c main_arg5) (funext fun a => Fin.ext ?_)
  match a with
  | ⟨0, _⟩ => show _ = (j 0).val; exact (by rfl : _ = 0 + 1 * (j 0).val).trans (by omega)

theorem emb3_eq (y : S2x256x640.Idx) : ((cfg0.win 3).blk t).view.emb y = y := funext fun a => Fin.ext (by
  match a with
  | ⟨0, _⟩ => show _ = (y 0).val; exact (by rfl : _ = 0 + 1 * (y 0).val).trans (by omega)
  | ⟨1, _⟩ => show _ = (y 1).val; exact (by rfl : _ = 0 + 1 * (y 1).val).trans (by omega)
  | ⟨2, _⟩ => show _ = (y 2).val; exact (by rfl : _ = 0 + 1 * (y 2).val).trans (by omega))

theorem emb4_eq (y : S2x256.Idx) : ((cfg0.win 4).blk t).view.emb y = y := funext fun a => Fin.ext (by
  match a with
  | ⟨0, _⟩ => show _ = (y 0).val; exact (by rfl : _ = 0 + 1 * (y 0).val).trans (by omega)
  | ⟨1, _⟩ => show _ = (y 1).val; exact (by rfl : _ = 0 + 1 * (y 1).val).trans (by omega))

/-- The results' values as functions of the arguments. -/
abbrev outCodes : S2x256x640.Idx → EReal :=
  codes (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))
abbrev outScales : S2x256.Idx → EReal :=
  scales (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

variable (hN : ∀ (c : Dev nD) (y : S2x256x8.Idx), (m ((c : Thread nD τ).loc main_arg2) y : BitVec 32) = 4294967295#32 ∨ (m ((c : Thread nD τ).loc main_arg2) y : BitVec 32).toNat < 1024)
include hN

theorem outC_eq : outC m c t = outCodes m c := by
  unfold outC
  rw [iblk0_eq, iblk1_eq, iblk2_eq, V_main_v0, V_main_arg0, V_main_arg1, V_main_arg3, V_main_arg4, V_main_arg5]
  exact codesOf_eq _ _ _ _ _ _ (hN c)

theorem outE_eq : outE m c t = outScales m c := by
  unfold outE
  rw [iblk0_eq, iblk1_eq, iblk2_eq, V_main_v0, V_main_arg0, V_main_arg1, V_main_arg3, V_main_arg4, V_main_arg5]
  exact scalesOf_eq _ _ _ _ _ _ (hN c)

/-- What the point writes back is its block of the layer's values. -/
theorem flushed3_eq : (dats m 0 c).flushed 3 t = ((cfg0.win 3).blk t).view.read (Elt Ideal) (outCodes m c) := by
  have h : (dats m 0 c).after 3 t = outCodes m c := (after0_3 m c t).trans (outC_eq m c t hN)
  unfold Dat.flushed
  rw [h]
  funext y
  show outCodes m c y = outCodes m c (((cfg0.win 3).blk t).view.emb y)
  rw [emb3_eq]

theorem flushed4_eq : (dats m 0 c).flushed 4 t = ((cfg0.win 4).blk t).view.read (Elt Ideal) (outScales m c) := by
  have h : (dats m 0 c).after 4 t = outScales m c := (after0_4 m c t).trans (outE_eq m c t hN)
  unfold Dat.flushed
  rw [h]
  funext y
  show outScales m c y = outScales m c (((cfg0.win 4).blk t).view.emb y)
  rw [emb4_eq]

omit hN in
/-- Every index of a result array is in the one point's block. -/
theorem covered3 (i : S2x256x640.Idx) : ∃ t : Fin cfg0.N, (cfg0.win 3).flush t = true ∧ i ∈ ((cfg0.win 3).blk t).view.set :=
  ⟨(⟨0, by decide⟩ : Fin cfg0.N), by decide +kernel, by
    have h := ((cfg0.win 3).blk (⟨0, by decide⟩ : Fin cfg0.N)).view.emb_mem_set i; rwa [emb3_eq] at h⟩

omit hN in
theorem covered4 (i : S2x256.Idx) : ∃ t : Fin cfg0.N, (cfg0.win 4).flush t = true ∧ i ∈ ((cfg0.win 4).blk t).view.set :=
  ⟨(⟨0, by decide⟩ : Fin cfg0.N), by decide +kernel, by
    have h := ((cfg0.win 4).blk (⟨0, by decide⟩ : Fin cfg0.N)).view.emb_mem_set i; rwa [emb4_eq] at h⟩

theorem final3 : (dats m 0 c).arrAt 3 cfg0.N = outCodes m c :=
  (dats m 0 c).arrAt_eq_of_cover 3 (outCodes m c) (fun t _ => flushed3_eq m c t hN) covered3

theorem final4 : (dats m 0 c).arrAt 4 cfg0.N = outScales m c :=
  (dats m 0 c).arrAt_eq_of_cover 4 (outScales m c) (fun t _ => flushed4_eq m c t hN) covered4

/-- The kernel's run, its results at the layer's values. -/
theorem run : θ_run defs (onTc (τ := τ) (main (F := Ideal))) ⟨m, fun _ => 0, ρ⟩ (fun r => ∀ c : Dev nD,
      r.2.mem ((c.tc : Thread nD τ).loc main_v1_0) = outCodes m c
      ∧ r.2.mem ((c.tc : Thread nD τ).loc main_v1_1) = outScales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨((h.1 c).1 3).trans (final3 m c hN), ((h.1 c).1 4).trans (final4 m c hN), args_of m h.1 c⟩)
    (run_main m ρ fun c => idxOK_of_all c _ fun y => by
      rw [V_main_v0]
      exact hN c _)
end Run

end Cert.KernelIdeal.Val
-- ==== Proof.RVal.lean ====
module

public import proofs.«01_k».proof.Proof.Gen.ReferenceIdeal.Frame
public import proofs.«01_k».proof.Proof.Quant
public import Idealize.ShloMosaic.Lib.Pointwise
public import Idealize.ShloMosaic.Lib.Pointwise.IndexBridge
public import Idealize.ShloMosaic.Lib.Routing.Ops
public import Idealize.ShloMosaic.Lib.Routing.OpsSet

/-! The reference, element by element: the rows it gathers, the operands of its region, and the channels, codes and
    scales its region stores. -/

@[expose] public section

set_option maxRecDepth 16384

noncomputable section

namespace Cert.ReferenceIdeal.Val

open Cert.ReferenceIdeal Cert.ReferenceIdeal.Gen Cert.Layer
open Idealize.ShloMosaic Idealize.ShloMosaic.TcCoe Idealize.ShloMosaic.Tactic

/-! ## The region's payloads -/

section Pay
variable (v0 : Vec Ideal S512x4096 .fp8e4m3) (v3 : Vec Ideal S512x4096 .f32) (v7 : Vec Ideal S512x4096 .i32) (v13 : Vec Ideal S4096x640 .fp8e4m3) (v17 v21 : Vec Ideal S1x640 .f32)
  (p : Fin 512) (n : Fin 640)

/-- A channel before it is quantised. -/
theorem pay4_at : k0_pay4 v0 v3 v7 v13 v17 v21 (ix2 p n)
    = max ((∑ x : Fin 4096, Scalar.select (IntOp.cmpi .ne (v7 (ix2 p x)) 0#32) ((v0 (ix2 p x) : EReal) * v3 (ix2 p x) * v13 (ix2 x n)) 0) * v17 (ix2 0 n) + v21 (ix2 0 n)) 0 := by
  unfold k0_pay4
  pointwise

theorem pay4_nonneg : (0 : EReal) ≤ k0_pay4 v0 v3 v7 v13 v17 v21 (ix2 p n) := by
  rw [pay4_at]; exact le_max_right _ _

/-- The largest channel. -/
theorem pay5_at : k0_pay5 v0 v3 v7 v13 v17 v21 (ix2 p 0) = top (fun n => k0_pay4 v0 v3 v7 v13 v17 v21 (ix2 p n)) := by
  have h := pay4_nonneg v0 v3 v7 v13 v17 v21 p
  unfold k0_pay5
  generalize k0_pay4 v0 v3 v7 v13 v17 v21 = Y at h ⊢
  pointwise
  rw [ninf32]
  unfold top
  exact congrArg (fun f => Finset.fold max ⊥ f Finset.univ) (funext fun x => abs_of_nonneg (h x))

/-- The stored scale. -/
theorem pay3_at : k0_pay3 (k0_pay5 v0 v3 v7 v13 v17 v21) k0_pay6 (k0_pay7 v0 v3 v7 v13 v17 v21) k0_pay8 (ix2 p 0)
    = scale (fun n => k0_pay4 v0 v3 v7 v13 v17 v21 (ix2 p n)) := by
  unfold scale
  rw [← pay5_at]
  unfold k0_pay7
  generalize k0_pay5 v0 v3 v7 v13 v17 v21 = A
  pointwise [k0_pay3, k0_pay1, k0_pay6, k0_pay8]
  exact (congrArg (FloatOps.exp2 (F := Ideal) (φ := .f32)) (expo_ref (A (ix2 p 0)))).trans (exp2_int _)

/-- The stored code. -/
theorem pay2_at : k0_pay2 (k0_pay4 v0 v3 v7 v13 v17 v21) (k0_pay5 v0 v3 v7 v13 v17 v21) k0_pay6 (k0_pay7 v0 v3 v7 v13 v17 v21) k0_pay8 (ix2 p n)
    = code (fun n => k0_pay4 v0 v3 v7 v13 v17 v21 (ix2 p n)) n := by
  have h := pay4_nonneg v0 v3 v7 v13 v17 v21 p n
  unfold code
  rw [← pay5_at]
  unfold k0_pay7
  generalize k0_pay5 v0 v3 v7 v13 v17 v21 = A
  generalize k0_pay4 v0 v3 v7 v13 v17 v21 = Y at h ⊢
  pointwise [k0_pay2, k0_pay1, k0_pay6, k0_pay8]
  refine Eq.trans ?_ (code_ref h (expo (A (ix2 p 0))))
  refine congrArg (fun z => min (Ideal.ofBits .f32 0x43E00000#32) (max (Ideal.ofBits .f32 0xC3E00000#32) ((Y (ix2 p n) : EReal) * z))) ?_
  refine (congrArg (fun z : EReal => (FloatOps.exp2 (F := Ideal) (φ := .f32) (0 - z) : EReal)) (expo_ref (A (ix2 p 0)))).trans ?_
  refine Eq.trans ?_ (exp2_int (-expo (A (ix2 p 0))))
  refine congrArg (FloatOps.exp2 (F := Ideal) (φ := .f32)) ?_
  rw [zero_sub]; push_cast; rfl
end Pay

/-! ## The rows gathered -/

section Gather
variable (X : S2x1024x512.Idx → EReal) (sx : S2x1024.Idx → EReal) (N : S2x256x8.Idx → BitVec 32)

/-- The row of the flattened tokens each neighbour reads. -/
abbrev flatIx : S4096.Idx → BitVec 32 :=
  shapeCast S4096 (addi (maxsi N (broadcastInDim S2x256x8 ![] bcast_S_S2x256x8 (constantI S_ 32 0#32)))
    (broadcastInDim S2x256x8 ![0, 1, 2] bcast_S2x1x1_S2x256x8_0_1_2 (muli (broadcastInDim S2x1x1 ![0] bcast_S2_S2x1x1_0 (iotaInDim S2 32 0)) (broadcastInDim S2x1x1 ![] bcast_S_S2x1x1 (constantI S_ 32 1024#32)))))
    shapeCasts_S2x256x8_S4096

theorem flatIx_at (b : Fin 2) (t : Fin 256) (k : Fin 8) (j : Fin 4096) (hj : j.val = 2048 * b.val + 8 * t.val + k.val) :
    flatIx N (ix1 j) = IntOp.addi (IntOp.maxsi (N (ix3 b t k)) 0#32) (BitVec.ofNat 32 (1024 * b.val)) := by
  have ej : j = (⟨2048 * b.val + 8 * t.val + k.val, by have := b.isLt; have := t.isLt; have := k.isLt; omega⟩ : Fin 4096) := Fin.ext hj
  rw [ej]
  unfold flatIx
  pointwise
  have h : ∀ b : Fin 2, IntOp.muli (BitVec.ofNat 32 b.val) 1024#32 = BitVec.ofNat 32 (1024 * b.val) := by decide
  rw [h]

/-- The row a neighbour that is present reads; an absent one reads the batch's first. -/
theorem row_word (b : Fin 2) (v : BitVec 32) (hv : v = 4294967295#32 ∨ v.toNat < 1024) :
    IntOp.addi (IntOp.maxsi v 0#32) (BitVec.ofNat 32 (1024 * b.val)) = BitVec.ofNat 32 (1024 * b.val + if v.toNat < 1024 then v.toNat else 0) := by
  rcases hv with rfl | h
  · revert b; decide
  · have hm : IntOp.maxsi v 0#32 = v := by
      unfold IntOp.maxsi
      split
      · rfl
      · rename_i hs
        rw [BitVec.slt_iff_toInt_lt, BitVec.toInt_eq_toNat_cond v, if_pos (by omega)] at hs
        apply BitVec.eq_of_toNat_eq
        simp at hs
        simp [hs]
    rw [hm, if_pos h]
    apply BitVec.eq_of_toNat_eq
    show (v + BitVec.ofNat 32 (1024 * b.val)).toNat = _
    rw [BitVec.toNat_add, BitVec.toNat_ofNat, BitVec.toNat_ofNat]
    omega

theorem take_at (b : Fin 2) (t : Fin 256) (k : Fin 8) (j : Fin 4096) (x : Fin 512) (hj : j.val = 2048 * b.val + 8 * t.val + k.val) (v : BitVec 32) (hN : N (ix3 b t k) = v)
    (hv : v = 4294967295#32 ∨ v.toNat < 1024) (r : Fin 1024) (hr : r.val = if v.toNat < 1024 then v.toNat else 0) :
    Host.gather gather_S2048x512_S4096x1_S4096x512_1_0_n_n_0_1_1512 (shapeCast S2048x512 X shapeCasts_S2x1024x512_S2048x512)
      (broadcastInDim S4096x1 ![0] bcast_S4096_S4096x1_0 (flatIx N)) (ix2 j x) = X (ix3 b r x) := by
  rw [ix2_eq_valueIdx]
  refine (Routing.gather_row _ rfl rfl rfl rfl rfl _ _ j x ⟨1024 * b.val + r.val, by omega⟩ ?_ (by norm_num)).trans ?_
  · rw [← ix2_eq_valueIdx]
    have e : broadcastInDim S4096x1 ![0] bcast_S4096_S4096x1_0 (flatIx N) (ix2 j 0) = flatIx N (ix1 j) := by
      generalize flatIx N = g
      pointwise
    rw [e, flatIx_at N b t k j hj, hN, row_word b v hv, ← hr]
  · rw [← ix2_eq_valueIdx]
    pointwise

theorem take0_at (b : Fin 2) (t : Fin 256) (k : Fin 8) (j : Fin 4096) (hj : j.val = 2048 * b.val + 8 * t.val + k.val) (v : BitVec 32) (hN : N (ix3 b t k) = v)
    (hv : v = 4294967295#32 ∨ v.toNat < 1024) (r : Fin 1024) (hr : r.val = if v.toNat < 1024 then v.toNat else 0) :
    Host.gather gather_S2048_S4096x1_S4096_n_0_n_n_0_1_1 (shapeCast S2048 sx shapeCasts_S2x1024_S2048)
      (broadcastInDim S4096x1 ![0] bcast_S4096_S4096x1_0 (flatIx N)) (ix1 j) = sx (ix2 b r) := by
  rw [ix1_eq_valueIdx]
  refine (Routing.gather_take1 _ rfl rfl rfl rfl _ _ j ⟨1024 * b.val + r.val, by omega⟩ ?_ (by norm_num)).trans ?_
  · rw [← ix2_eq_valueIdx]
    have e : broadcastInDim S4096x1 ![0] bcast_S4096_S4096x1_0 (flatIx N) (ix2 j 0) = flatIx N (ix1 j) := by
      generalize flatIx N = g
      pointwise
    rw [e, flatIx_at N b t k j hj, hN, row_word b v hv, ← hr]
  · rw [← ix1_eq_valueIdx]
    pointwise
end Gather

end Cert.ReferenceIdeal.Val
-- ==== Proof.RLayer.lean ====
module

public import proofs.«01_k».proof.Proof.RVal
public import proofs.«01_k».proof.Proof.Final

/-! The reference's operands of its region, and its channels: the layer's. -/

@[expose] public section

set_option maxRecDepth 16384

noncomputable section

namespace Cert.ReferenceIdeal.Val

open Cert.ReferenceIdeal Cert.ReferenceIdeal.Gen Cert.Layer
open Idealize.ShloMosaic Idealize.ShloMosaic.TcCoe Idealize.ShloMosaic.Tactic

variable (X : S2x1024x512.Idx → EReal) (sx : S2x1024.Idx → EReal) (N : S2x256x8.Idx → BitVec 32) (W : S8x512x640.Idx → EReal) (sw bi : S640.Idx → EReal)

/-- The codes of the tokens each window reads, tap by tap. -/
abbrev opX : S512x4096.Idx → EReal :=
  shapeCast S512x4096 (Host.gather gather_S2048x512_S4096x1_S4096x512_1_0_n_n_0_1_1512 (shapeCast S2048x512 X shapeCasts_S2x1024x512_S2048x512)
    (broadcastInDim S4096x1 ![0] bcast_S4096_S4096x1_0 (flatIx N))) shapeCasts_S4096x512_S512x4096
/-- Their scales. -/
abbrev opS : S512x4096.Idx → EReal :=
  shapeCast S512x4096 (broadcastInDim S4096x512 ![0, 1] bcast_S4096x1_S4096x512_0_1 (broadcastInDim S4096x1 ![0] bcast_S4096_S4096x1_0
    (Host.gather gather_S2048_S4096x1_S4096_n_0_n_n_0_1_1 (shapeCast S2048 sx shapeCasts_S2x1024_S2048) (broadcastInDim S4096x1 ![0] bcast_S4096_S4096x1_0 (flatIx N)))))
    shapeCasts_S4096x512_S512x4096
/-- Which are present. -/
abbrev opP : S512x4096.Idx → BitVec 32 :=
  shapeCast S512x4096 (broadcastInDim S4096x512 ![0, 1] bcast_S4096x1_S4096x512_0_1 (shapeCast S4096x1
    (extui 32 (cmpi .sge N (broadcastInDim S2x256x8 ![] bcast_S_S2x256x8 (constantI S_ 32 0#32))) natLt_1_32) shapeCasts_S2x256x8_S4096x1)) shapeCasts_S4096x512_S512x4096
/-- The weights, the taps one after another. -/
abbrev opW : S4096x640.Idx → EReal := shapeCast S4096x640 W shapeCasts_S8x512x640_S4096x640
/-- A row of one number a channel. -/
abbrev opC (z : S640.Idx → EReal) : S1x640.Idx → EReal := shapeCast S1x640 z shapeCasts_S640_S1x640

section At
variable (b : Fin 2) (t : Fin 256) (k : Fin 8) (x : Fin 512) (p : Fin 512) (i : Fin 4096) (hp : p.val = 256 * b.val + t.val) (hi : i.val = 512 * k.val + x.val)
include hp hi

theorem cast_at {α : Type} (g : S4096x512.Idx → α) (j : Fin 4096) (hj : j.val = 2048 * b.val + 8 * t.val + k.val) :
    shapeCast S512x4096 g shapeCasts_S4096x512_S512x4096 (ix2 p i) = g (ix2 j x) := by
  pointwise
  exact congrArg₂ (fun u v => g (ix2 u v)) (Fin.ext (by simp only; omega)) (Fin.ext (by simp only; omega))

theorem opX_at (hv : N (ix3 b t k) = 4294967295#32 ∨ (N (ix3 b t k)).toNat < 1024) (r : Fin 1024)
    (hr : r.val = if (N (ix3 b t k)).toNat < 1024 then (N (ix3 b t k)).toNat else 0) : opX X N (ix2 p i) = X (ix3 b r x) := by
  have hj : 2048 * b.val + 8 * t.val + k.val < 4096 := by omega
  exact (cast_at b t k x p i hp hi _ ⟨_, hj⟩ rfl).trans (take_at X N b t k _ x rfl _ rfl hv r hr)

theorem opS_at (hv : N (ix3 b t k) = 4294967295#32 ∨ (N (ix3 b t k)).toNat < 1024) (r : Fin 1024)
    (hr : r.val = if (N (ix3 b t k)).toNat < 1024 then (N (ix3 b t k)).toNat else 0) : opS sx N (ix2 p i) = sx (ix2 b r) := by
  have hj : 2048 * b.val + 8 * t.val + k.val < 4096 := by omega
  refine (cast_at b t k x p i hp hi _ ⟨_, hj⟩ rfl).trans (Eq.trans ?_ (take0_at sx N b t k ⟨_, hj⟩ rfl _ rfl hv r hr))
  generalize Host.gather gather_S2048_S4096x1_S4096_n_0_n_n_0_1_1 (shapeCast S2048 sx shapeCasts_S2x1024_S2048) (broadcastInDim S4096x1 ![0] bcast_S4096_S4096x1_0 (flatIx N)) = g
  pointwise

theorem opP_at : opP N (ix2 p i) = BitVec.setWidth 32 (IntOp.cmpi .sge (N (ix3 b t k)) 0#32) := by
  have hj : 2048 * b.val + 8 * t.val + k.val < 4096 := by omega
  refine (cast_at b t k x p i hp hi _ ⟨_, hj⟩ rfl).trans ?_
  pointwise

omit hp in
theorem opW_at (n : Fin 640) : opW W (ix2 i n) = W (ix3 k x n) := by
  unfold opW
  pointwise
  exact congrArg₂ (fun u v => W (ix3 u v n)) (Fin.ext (by simp only; omega)) (Fin.ext (by simp only; omega))
end At

theorem opC_at (z : S640.Idx → EReal) (n : Fin 640) : opC z (ix2 0 n) = z (ix1 n) := by
  unfold opC
  pointwise

/-- An absent neighbour's products are dropped. -/
theorem present (v : BitVec 32) (hv : v = 4294967295#32 ∨ v.toNat < 1024) (a : EReal) :
    Scalar.select (IntOp.cmpi .ne (BitVec.setWidth 32 (IntOp.cmpi .sge v 0#32)) 0#32) a 0 = if v.toNat < 1024 then a else 0 := by
  rcases hv with rfl | h
  · rfl
  · rw [if_pos h]
    have e : IntOp.cmpi .sge v 0#32 = 1#1 := by
      show BitVec.ofBool ((0#32).sle v) = 1#1
      rw [show (0#32).sle v = true from BitVec.sle_iff_toInt_le.mpr (by rw [BitVec.toInt_eq_toNat_cond v, if_pos (by omega)]; simp)]
      rfl
    rw [e]
    rfl

/-- A channel of the reference before it is quantised. -/
theorem refY (hN : ∀ y, N y = 4294967295#32 ∨ (N y).toNat < 1024) (b : Fin 2) (t : Fin 256) (p : Fin 512) (hp : p.val = 256 * b.val + t.val) (n : Fin 640) :
    k0_pay4 (F := Ideal) (opX X N) (opS sx N) (opP N) (opW W) (opC sw) (opC bi) (ix2 p n) = layer X sx N W sw bi b t n := by
  rw [pay4_at, opC_at, opC_at]
  unfold layer yS
  refine congrArg₂ max (congrArg₂ (· + ·) (congrArg₂ (· * ·) ?_ rfl) rfl) rfl
  rw [← (finProdFinEquiv (m := 8) (n := 512)).sum_comp, Fintype.sum_prod_type]
  refine Finset.sum_congr rfl fun k _ => Finset.sum_congr rfl fun x _ => ?_
  have hi : (finProdFinEquiv (m := 8) (n := 512) (k, x)).val = 512 * k.val + x.val := by
    show x.val + 512 * k.val = _
    omega
  have hr : (if (N (ix3 b t k)).toNat < 1024 then (N (ix3 b t k)).toNat else 0) < 1024 := by split <;> omega
  rw [opP_at N b t k x p _ hp hi, opX_at X N b t k x p _ hp hi (hN _) ⟨_, hr⟩ rfl, opS_at sx N b t k x p _ hp hi (hN _) ⟨_, hr⟩ rfl, opW_at W k x _ hi n, present _ (hN _)]
  unfold tok
  split
  · rename_i h
    simp only [h, if_true]
  · rw [zero_mul]

end Cert.ReferenceIdeal.Val
-- ==== Proof.RRun.lean ====
module

public import proofs.«01_k».proof.Proof.RLayer
public import proofs.«01_k».proof.Proof.Gen.ReferenceIdeal.Frame
public import Idealize.ShloMosaic.Lib.Pipeline.Value

/-! The reference's run: its two results end at the layer's codes and scales of its arguments. -/

@[expose] public section

set_option maxRecDepth 16384

noncomputable section

namespace Cert.ReferenceIdeal.Val

open Cert.ReferenceIdeal Cert.ReferenceIdeal.Gen Cert.Layer
open Idealize.ShloMosaic Idealize.ShloMosaic.TcCoe Idealize.ShloMosaic.Tactic
open Idealize.SL.Sem
open Idealize.ShloMosaic.Pipeline (Dat)

/-! ## What the body leaves -/

section Body
variable (x0 : Vec Ideal S512x4096 .fp8e4m3) (x1 : Vec Ideal S512x4096 .f32) (x2 : Vec Ideal S512x4096 .i32) (x3 : Vec Ideal S4096x640 .fp8e4m3) (x4 x5 : Vec Ideal S1x640 .f32)

theorem zero2 : (![0, 0] : Fin 2 → ℕ) = fun _ => 0 := by
  funext a
  match a with
  | ⟨0, _⟩ => rfl
  | ⟨1, _⟩ => rfl

theorem out6_eq : out0_6 x0 x1 x2 x3 x4 x5
    = k0_pay2 (k0_pay4 x0 x1 x2 x3 x4 x5) (k0_pay5 x0 x1 x2 x3 x4 x5) k0_pay6 (k0_pay7 x0 x1 x2 x3 x4 x5) k0_pay8 := by
  unfold_out out0_6
  unfold r0_0 r0_1 r0_2 r0_3
  rw [View.canon_unit_zero zero2]
  simp only [View.ld_unit_zero (S := S512x4096) zero2, View.ld_unit_zero (S := S4096x640) zero2, View.ld_unit_zero (S := S1x640) zero2]

theorem out7_eq : out0_7 x0 x1 x2 x3 x4 x5
    = k0_pay3 (k0_pay5 x0 x1 x2 x3 x4 x5) k0_pay6 (k0_pay7 x0 x1 x2 x3 x4 x5) k0_pay8 := by
  unfold_out out0_7
  unfold r0_0 r0_1 r0_2 r0_4
  rw [View.canon_unit_zero zero2]
  simp only [View.ld_unit_zero (S := S512x4096) zero2, View.ld_unit_zero (S := S4096x640) zero2, View.ld_unit_zero (S := S1x640) zero2]
end Body

section Run
variable (m : (ℓ : Loc nD τ sig) → Buf (Elt Ideal) ℓ) (ρ : Dev nD → PrngReg) (c : Dev nD) (t : Fin cfg0.N)

/-- The arguments. -/
abbrev aX : S2x1024x512.Idx → EReal := m ((c : Thread nD τ).loc main_arg0)
abbrev aS : S2x1024.Idx → EReal := m ((c : Thread nD τ).loc main_arg1)
abbrev aN : S2x256x8.Idx → BitVec 32 := m ((c : Thread nD τ).loc main_arg2)
abbrev aW : S8x512x640.Idx → EReal := m ((c : Thread nD τ).loc main_arg3)
abbrev aR : S640.Idx → EReal := m ((c : Thread nD τ).loc main_arg4)
abbrev aB : S640.Idx → EReal := m ((c : Thread nD τ).loc main_arg5)

/-! ## The region's operands -/

theorem v20_eq : V m c main_v20 = opX (aX m c) (aN m c) := rfl
theorem v21_eq : V m c main_v21 = opS (aS m c) (aN m c) := rfl
theorem v22_eq : V m c main_v22 = opP (aN m c) := rfl
theorem v23_eq : V m c main_v23 = opW (aW m c) := rfl
theorem v24_eq : V m c main_v24 = opC (aR m c) := rfl
theorem v25_eq : V m c main_v25 = opC (aB m c) := rfl

theorem iblk0_eq : iblk m c 0 t = opX (aX m c) (aN m c) := by
  rw [← v20_eq]
  funext j
  refine congrArg (V m c main_v20) (funext fun a => Fin.ext ?_)
  match a with
  | ⟨0, _⟩ => show _ = (j 0).val; exact (by rfl : _ = 0 + 1 * (j 0).val).trans (by omega)
  | ⟨1, _⟩ => show _ = (j 1).val; exact (by rfl : _ = 0 + 1 * (j 1).val).trans (by omega)

theorem iblk1_eq : iblk m c 1 t = opS (aS m c) (aN m c) := by
  rw [← v21_eq]
  funext j
  refine congrArg (V m c main_v21) (funext fun a => Fin.ext ?_)
  match a with
  | ⟨0, _⟩ => show _ = (j 0).val; exact (by rfl : _ = 0 + 1 * (j 0).val).trans (by omega)
  | ⟨1, _⟩ => show _ = (j 1).val; exact (by rfl : _ = 0 + 1 * (j 1).val).trans (by omega)

theorem iblk2_eq : iblk m c 2 t = opP (aN m c) := by
  rw [← v22_eq]
  funext j
  refine congrArg (V m c main_v22) (funext fun a => Fin.ext ?_)
  match a with
  | ⟨0, _⟩ => show _ = (j 0).val; exact (by rfl : _ = 0 + 1 * (j 0).val).trans (by omega)
  | ⟨1, _⟩ => show _ = (j 1).val; exact (by rfl : _ = 0 + 1 * (j 1).val).trans (by omega)

theorem iblk3_eq : iblk m c 3 t = opW (aW m c) := by
  rw [← v23_eq]
  funext j
  refine congrArg (V m c main_v23) (funext fun a => Fin.ext ?_)
  match a with
  | ⟨0, _⟩ => show _ = (j 0).val; exact (by rfl : _ = 0 + 1 * (j 0).val).trans (by omega)
  | ⟨1, _⟩ => show _ = (j 1).val; exact (by rfl : _ = 0 + 1 * (j 1).val).trans (by omega)

theorem iblk4_eq : iblk m c 4 t = opC (aR m c) := by
  rw [← v24_eq]
  funext j
  refine congrArg (V m c main_v24) (funext fun a => Fin.ext ?_)
  match a with
  | ⟨0, _⟩ => show _ = (j 0).val; exact (by rfl : _ = 0 + 1 * (j 0).val).trans (by omega)
  | ⟨1, _⟩ => show _ = (j 1).val; exact (by rfl : _ = 0 + 1 * (j 1).val).trans (by omega)

theorem iblk5_eq : iblk m c 5 t = opC (aB m c) := by
  rw [← v25_eq]
  funext j
  refine congrArg (V m c main_v25) (funext fun a => Fin.ext ?_)
  match a with
  | ⟨0, _⟩ => show _ = (j 0).val; exact (by rfl : _ = 0 + 1 * (j 0).val).trans (by omega)
  | ⟨1, _⟩ => show _ = (j 1).val; exact (by rfl : _ = 0 + 1 * (j 1).val).trans (by omega)

/-! ## The region's results -/

/-- The region's results as functions of its operands, the rows one after another. -/
abbrev regC : S512x640.Idx → EReal :=
  out0_6 (F := Ideal) (opX (aX m c) (aN m c)) (opS (aS m c) (aN m c)) (opP (aN m c)) (opW (aW m c)) (opC (aR m c)) (opC (aB m c))
abbrev regE : S512x1.Idx → EReal :=
  out0_7 (F := Ideal) (opX (aX m c) (aN m c)) (opS (aS m c) (aN m c)) (opP (aN m c)) (opW (aW m c)) (opC (aR m c)) (opC (aB m c))

theorem emb6_eq (y : S512x640.Idx) : ((cfg0.win 6).blk t).view.emb y = y := funext fun a => Fin.ext (by
  match a with
  | ⟨0, _⟩ => show _ = (y 0).val; exact (by rfl : _ = 0 + 1 * (y 0).val).trans (by omega)
  | ⟨1, _⟩ => show _ = (y 1).val; exact (by rfl : _ = 0 + 1 * (y 1).val).trans (by omega))

theorem emb7_eq (y : S512x1.Idx) : ((cfg0.win 7).blk t).view.emb y = y := funext fun a => Fin.ext (by
  match a with
  | ⟨0, _⟩ => show _ = (y 0).val; exact (by rfl : _ = 0 + 1 * (y 0).val).trans (by omega)
  | ⟨1, _⟩ => show _ = (y 1).val; exact (by rfl : _ = 0 + 1 * (y 1).val).trans (by omega))

/-- Cutting the point's block out of an array and reading the array through the block's view give the same. -/
theorem cut6_eq (G : S512x640.Idx → EReal) : (cfg0.win 6).cut (cfg0.grid.coords t) G = ((cfg0.win 6).blk t).view.read (Elt Ideal) G := by
  funext y
  show G y = G (((cfg0.win 6).blk t).view.emb y)
  rw [emb6_eq]

theorem flushed6_eq : (dats m 0 c).flushed 6 t = ((cfg0.win 6).blk t).view.read (Elt Ideal) (regC m c) := by
  have h : (dats m 0 c).after 6 t = regC m c := by
    rw [after0_6, iblk0_eq, iblk1_eq, iblk2_eq, iblk3_eq, iblk4_eq, iblk5_eq]
  unfold Dat.flushed
  rw [h]
  exact cut6_eq t _

/-- Cutting the point's block out of an array and reading the array through the block's view give the same. -/
theorem cut7_eq (G : S512x1.Idx → EReal) : (cfg0.win 7).cut (cfg0.grid.coords t) G = ((cfg0.win 7).blk t).view.read (Elt Ideal) G := by
  funext y
  show G y = G (((cfg0.win 7).blk t).view.emb y)
  rw [emb7_eq]

theorem flushed7_eq : (dats m 0 c).flushed 7 t = ((cfg0.win 7).blk t).view.read (Elt Ideal) (regE m c) := by
  have h : (dats m 0 c).after 7 t = regE m c := by
    rw [after0_7, iblk0_eq, iblk1_eq, iblk2_eq, iblk3_eq, iblk4_eq, iblk5_eq]
  unfold Dat.flushed
  rw [h]
  exact cut7_eq t _

theorem covered6 (i : S512x640.Idx) : ∃ t : Fin cfg0.N, (cfg0.win 6).flush t = true ∧ i ∈ ((cfg0.win 6).blk t).view.set :=
  ⟨(⟨0, by decide⟩ : Fin cfg0.N), by decide +kernel, by
    have h := ((cfg0.win 6).blk (⟨0, by decide⟩ : Fin cfg0.N)).view.emb_mem_set i; rwa [emb6_eq] at h⟩

theorem covered7 (i : S512x1.Idx) : ∃ t : Fin cfg0.N, (cfg0.win 7).flush t = true ∧ i ∈ ((cfg0.win 7).blk t).view.set :=
  ⟨(⟨0, by decide⟩ : Fin cfg0.N), by decide +kernel, by
    have h := ((cfg0.win 7).blk (⟨0, by decide⟩ : Fin cfg0.N)).view.emb_mem_set i; rwa [emb7_eq] at h⟩

theorem final6 : (dats m 0 c).arrAt 6 cfg0.N = regC m c :=
  (dats m 0 c).arrAt_eq_of_cover 6 (regC m c) (fun t _ => flushed6_eq m c t) covered6

theorem final7 : (dats m 0 c).arrAt 7 cfg0.N = regE m c :=
  (dats m 0 c).arrAt_eq_of_cover 7 (regE m c) (fun t _ => flushed7_eq m c t) covered7

/-! ## The lines after the region -/

theorem arrs_inj : Function.Injective (Pipeline.arrRef spec0) := by
  have h : ∀ a b : Fin 8, Pipeline.arrRef spec0 a = Pipeline.arrRef spec0 b → a = b := by decide
  exact fun a b => h a b

theorem tail27 (U : Valuation τ sig (Elt Ideal)) : StableHlo.after (List.flatten [hostOps1]) U (Proc.devRef .tc main_v27)
    = shapeCast S2x256x640 (U (Proc.devRef .tc main_v26_0) : S512x640.Idx → EReal) shapeCasts_S512x640_S2x256x640 := rfl
theorem tail28 (U : Valuation τ sig (Elt Ideal)) : StableHlo.after (List.flatten [hostOps1]) U (Proc.devRef .tc main_v28)
    = shapeCast S2x256 (U (Proc.devRef .tc main_v26_1) : S512x1.Idx → EReal) shapeCasts_S512x1_S2x256 := rfl

theorem end27 : Pipeline.afterTail₀ cfgs (dats m) 0 (V0 m) [hostOps1] c main_v27 = shapeCast S2x256x640 (regC m c) shapeCasts_S512x640_S2x256x640 := by
  unfold Pipeline.afterTail₀
  refine (tail27 _).trans ?_
  refine congrArg (fun z : S512x640.Idx → EReal => shapeCast S2x256x640 z shapeCasts_S512x640_S2x256x640) ?_
  exact (Pipeline.withArrays_arr spec0 arrs_inj c (V0 m c) _ 6).trans (final6 m c)

theorem end28 : Pipeline.afterTail₀ cfgs (dats m) 0 (V0 m) [hostOps1] c main_v28 = shapeCast S2x256 (regE m c) shapeCasts_S512x1_S2x256 := by
  unfold Pipeline.afterTail₀
  refine (tail28 _).trans ?_
  refine congrArg (fun z : S512x1.Idx → EReal => shapeCast S2x256 z shapeCasts_S512x1_S2x256) ?_
  exact (Pipeline.withArrays_arr spec0 arrs_inj c (V0 m c) _ 7).trans (final7 m c)

/-! ## The results -/

theorem rows27 (g : S512x640.Idx → EReal) (b : Fin 2) (t : Fin 256) (n : Fin 640) (p : Fin 512) (hp : p.val = 256 * b.val + t.val) :
    shapeCast S2x256x640 g shapeCasts_S512x640_S2x256x640 (ix3 b t n) = g (ix2 p n) := by
  pointwise
  exact congrArg₂ (fun u v => g (ix2 u v)) (Fin.ext (by simp only <;> omega)) (Fin.ext (by simp only <;> omega))

theorem rows28 (g : S512x1.Idx → EReal) (b : Fin 2) (t : Fin 256) (p : Fin 512) (hp : p.val = 256 * b.val + t.val) :
    shapeCast S2x256 g shapeCasts_S512x1_S2x256 (ix2 b t) = g (ix2 p 0) := by
  pointwise
  exact congrArg₂ (fun u v => g (ix2 u v)) (Fin.ext (by simp only <;> omega)) (Subsingleton.elim _ _)

variable (hN : ∀ (c : Dev nD) (y : S2x256x8.Idx), aN m c y = 4294967295#32 ∨ (aN m c y).toNat < 1024)
include hN

theorem regC_eq : shapeCast S2x256x640 (regC m c) shapeCasts_S512x640_S2x256x640 = codes (aX m c) (aS m c) (aN m c) (aW m c) (aR m c) (aB m c) := by
  funext y
  idx_vars y
  rename' y0 => b, y1 => t, y2 => n
  have hp : 256 * b.val + t.val < 512 := by omega
  rw [rows27 _ b t n ⟨_, hp⟩ rfl, regC, out6_eq, pay2_at]
  exact congrArg (fun L => code L n) (funext fun n => refY _ _ _ _ _ _ (hN c) b t ⟨_, hp⟩ rfl n)

theorem regE_eq : shapeCast S2x256 (regE m c) shapeCasts_S512x1_S2x256 = scales (aX m c) (aS m c) (aN m c) (aW m c) (aR m c) (aB m c) := by
  funext y
  idx_vars y
  rename' y0 => b, y1 => t
  have hp : 256 * b.val + t.val < 512 := by omega
  rw [rows28 _ b t ⟨_, hp⟩ rfl, regE, out7_eq, pay3_at]
  exact congrArg scale (funext fun n => refY _ _ _ _ _ _ (hN c) b t ⟨_, hp⟩ rfl n)

/-- The reference's run, its results at the layer's values. -/
theorem run : θ_run defs (onTc (τ := τ) (main (F := Ideal))) ⟨m, fun _ => 0, ρ⟩ (fun r => ∀ c : Dev nD,
      r.2.mem ((c.tc : Thread nD τ).loc main_v27) = codes (aX m c) (aS m c) (aN m c) (aW m c) (aR m c) (aB m c)
      ∧ r.2.mem ((c.tc : Thread nD τ).loc main_v28) = scales (aX m c) (aS m c) (aN m c) (aW m c) (aR m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨((h.2 c).2 main_v27 (Pipeline.mem_restRefs_of main_v27 (by decide) (by decide))).trans ((end27 m c).trans (regC_eq m c hN)),
        ((h.2 c).2 main_v28 (Pipeline.mem_restRefs_of main_v28 (by decide) (by decide))).trans ((end28 m c).trans (regE_eq m c hN)), h.1 c⟩)
    (θ_run_and (unchanged m ρ) (run_main m ρ))
end Run

end Cert.ReferenceIdeal.Val
-- ==== Proof.Algebraic.lean ====
module

public import proofs.«01_k».proof.Proof.Claims
public import proofs.«01_k».proof.Proof.KVal
public import proofs.«01_k».proof.Proof.RRun

/-! Over the extended reals the kernel and the reference compute the same two results. -/

@[expose] public section

noncomputable section

namespace Cert.Proof

open Idealize.ShloMosaic Idealize.SL.Sem

/-- The reference runs from every memory, in particular from the precondition's. -/
theorem frame_reference_pre : Cert.quiescent_ReferenceIdeal_pre_in_range (hReferenceIdeal := Cert.ReferenceIdeal.Gen.facts) (hPre_in_range := Cert.Pre_in_range.Gen.facts) :=
  fun m g _ => Cert.ReferenceIdeal.Gen.frame m g

/-- Both results of both programs are the layer's codes and scales of the six arguments. -/
theorem algebraic : Cert.algebraic_KernelIdeal_ReferenceIdeal (hKernelIdeal := Cert.KernelIdeal.Gen.facts) (hReferenceIdeal := Cert.ReferenceIdeal.Gen.facts)
    (hPre_in_range := Cert.Pre_in_range.Gen.facts) :=
  letI := Cert.KernelIdeal.Gen.facts
  letI := Cert.ReferenceIdeal.Gen.facts
  letI := Cert.Pre_in_range.Gen.facts
  fun m g m' g' hp hm => by
    have hN := fun (c : Dev Cert.KernelIdeal.nD) => Cert.KernelIdeal.Hand.range_of_pre (F := Ideal) _ _ _ _ _ _ (hp c)
    refine ⟨Cert.KernelIdeal.Val.outCodes m, Cert.KernelIdeal.Val.outScales m, Cert.KernelIdeal.Val.run m g hN, ?_⟩
    refine (θ_run _ _ _).mono (fun r h c => ?_) (Cert.ReferenceIdeal.Val.run m' g' fun c y => ?_)
    · obtain ⟨e0, e1, e2, e3, e4, e5⟩ := hm c
      obtain ⟨h0, h1, ha⟩ := h c
      refine ⟨h0.trans ?_, h1.trans ?_, ha⟩
      · show Cert.Layer.codes _ _ _ _ _ _ = Cert.Layer.codes _ _ _ _ _ _
        exact congr (congr (congr (congr (congr (congrArg Cert.Layer.codes e0) e1) e2) e3) e4) e5
      · show Cert.Layer.scales _ _ _ _ _ _ = Cert.Layer.scales _ _ _ _ _ _
        exact congr (congr (congr (congr (congr (congrArg Cert.Layer.scales e0) e1) e2) e3) e4) e5
    · rw [show Cert.ReferenceIdeal.Val.aN m' c = _ from (hm c).2.2.1]
      exact hN c y

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Claims
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_in_range.Gen.facts,
  frame_kernel, frame_kernelIdeal, frame_reference, frame_reference_pre, preserves, algebraic⟩

end Cert.Proof

end
